-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_starting : Cert.Pre_starting.Facts] (m : (ℓ : Loc Cert.Kernel4.nD Cert.Kernel4.τ Cert.Kernel4.sig) → Buf (Elt Bits) ℓ) : Prop :=
  ∀ c : Dev Cert.Kernel4.nD,
    (Cert.Pre_starting.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))) = (fun _ => 1#1)

def Pre_Kernel4Ideal [hPre_starting : Cert.Pre_starting.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_starting.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Kernel4Ideal_routed [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routed [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gate_finite [hPre_gate_finite : Cert.Pre_gate_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gate_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).1 = (fun _ => 1#1)
    ∧ (Cert.Pre_gate_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gate_finite [hPre_gate_finite : Cert.Pre_gate_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gate_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).1 = (fun _ => 1#1)
    ∧ (Cert.Pre_gate_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] [hPre_starting : Cert.Pre_starting.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_starting : Cert.Pre_starting.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_routed [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_routed m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_routed [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routed m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_gate_finite [hKernel5Ideal : Cert.Kernel5Ideal.Facts] [hPre_gate_finite : Cert.Pre_gate_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gate_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_gate_finite [hReference5Ideal : Cert.Reference5Ideal.Facts] [hPre_gate_finite : Cert.Pre_gate_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gate_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v34_0)) (v1 : (c : Dev Cert.Kernel3Ideal.nD) → Buf (Elt Ideal) ((c.tc : Thread Cert.Kernel3Ideal.nD Cert.Kernel3Ideal.τ).loc Cert.Kernel3Ideal.main_v34_1)) (v2 : (c : Dev Cert.Kernel3Ideal.nD) → Buf (Elt Ideal) ((c.tc : Thread Cert.Kernel3Ideal.nD Cert.Kernel3Ideal.τ).loc Cert.Kernel3Ideal.main_v34_2)) (v3 : (c : Dev Cert.Kernel3Ideal.nD) → Buf (Elt Ideal) ((c.tc : Thread Cert.Kernel3Ideal.nD Cert.Kernel3Ideal.τ).loc Cert.Kernel3Ideal.main_v34_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34_0) = v0 c
          ∧ r.2.mem ((c.tc : Thread Cert.Kernel3Ideal.nD Cert.Kernel3Ideal.τ).loc Cert.Kernel3Ideal.main_v34_1) = v1 c
          ∧ r.2.mem ((c.tc : Thread Cert.Kernel3Ideal.nD Cert.Kernel3Ideal.τ).loc Cert.Kernel3Ideal.main_v34_2) = v2 c
          ∧ r.2.mem ((c.tc : Thread Cert.Kernel3Ideal.nD Cert.Kernel3Ideal.τ).loc Cert.Kernel3Ideal.main_v34_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_v114) = v1 c
          ∧ r.2.mem ((c.tc : Thread Cert.Reference3Ideal.nD Cert.Reference3Ideal.τ).loc Cert.Reference3Ideal.main_v115) = v2 c
          ∧ r.2.mem ((c.tc : Thread Cert.Reference3Ideal.nD Cert.Reference3Ideal.τ).loc Cert.Reference3Ideal.main_v10) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_routed [hKernel4Ideal : Cert.Kernel4Ideal.Facts] [hReference4Ideal : Cert.Reference4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_routed m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_gate_finite [hKernel5Ideal : Cert.Kernel5Ideal.Facts] [hReference5Ideal : Cert.Reference5Ideal.Facts] [hPre_gate_finite : Cert.Pre_gate_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gate_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v72) = v0 c
          ∧ r.2.mem ((c.tc : Thread Cert.Reference5Ideal.nD Cert.Reference5Ideal.τ).loc Cert.Reference5Ideal.main_v91) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_starting : Cert.Pre_starting.Facts) (hPre_routed : Cert.Pre_routed.Facts) (hPre_gate_finite : Cert.Pre_gate_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_starting := hPre_starting)
    ∧ quiescent_Kernel4Ideal (hKernel4Ideal := hKernel4Ideal) (hPre_starting := hPre_starting)
    ∧ quiescent_Kernel4Ideal_pre_routed (hKernel4Ideal := hKernel4Ideal) (hPre_routed := hPre_routed)
    ∧ quiescent_Reference4Ideal (hReference4Ideal := hReference4Ideal)
    ∧ quiescent_Reference4Ideal_pre_routed (hReference4Ideal := hReference4Ideal) (hPre_routed := hPre_routed)
    ∧ quiescent_Kernel5 (hKernel5 := hKernel5)
    ∧ quiescent_Kernel5Ideal (hKernel5Ideal := hKernel5Ideal)
    ∧ quiescent_Kernel5Ideal_pre_gate_finite (hKernel5Ideal := hKernel5Ideal) (hPre_gate_finite := hPre_gate_finite)
    ∧ quiescent_Reference5Ideal (hReference5Ideal := hReference5Ideal)
    ∧ quiescent_Reference5Ideal_pre_gate_finite (hReference5Ideal := hReference5Ideal) (hPre_gate_finite := hPre_gate_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_routed (hKernel4Ideal := hKernel4Ideal) (hReference4Ideal := hReference4Ideal) (hPre_routed := hPre_routed)
    ∧ preserves_Kernel5_Kernel5Ideal
    ∧ algebraic_Kernel5Ideal_Reference5Ideal_pre_gate_finite (hKernel5Ideal := hKernel5Ideal) (hReference5Ideal := hReference5Ideal) (hPre_gate_finite := hPre_gate_finite)
-- ==== Pre_finite.lean ====
abbrev S4x8192x768 : Shape := ⟨3, ![4, 8192, 768]⟩
abbrev S4x256x768 : Shape := ⟨3, ![4, 256, 768]⟩
abbrev S64 : Shape := ⟨1, ![64]⟩
abbrev S128 : Shape := ⟨1, ![128]⟩
abbrev S_ : Shape := ⟨0, ![]⟩

class Facts : Prop where
  bcast_S_S4x8192x768 : S_.BroadcastsInDim S4x8192x768 (![] : Fin 0 → Fin S4x8192x768.rank)
  bcast_S_S4x256x768 : S_.BroadcastsInDim S4x256x768 (![] : Fin 0 → Fin S4x256x768.rank)
  bcast_S_S64 : S_.BroadcastsInDim S64 (![] : Fin 0 → Fin S64.rank)

variable [Facts]

def fn_part1 {F : FTy → Type} [FloatOps F] (main_arg8 : FVec F S64 .f32) (main_v2 : IVec S4x8192x768 1) (main_v5 : IVec S4x256x768 1) (main_v8 : IVec S4x8192x768 1) (main_v11 : IVec S64 1) (main_v14 : IVec S64 1) (main_v17 : IVec S64 1) : IVec S4x8192x768 1 × IVec S4x256x768 1 × IVec S4x8192x768 1 × IVec S64 1 × IVec S64 1 × IVec S64 1 × IVec S64 1 :=
  let main_v18 : FVec F S64 .f32 := Host.absf main_arg8
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S4x8192x768 .f32) (main_arg1 : FVec F S4x256x768 .f32) (main_arg2 : FVec F S4x8192x768 .f32) (main_arg3 : FVec F S4x256x768 .f32) (main_arg4 : FVec F S4x8192x768 .f32) (main_arg5 : FVec F S64 .f32) (main_arg6 : FVec F S64 .f32) (main_arg7 : FVec F S64 .f32) (main_arg8 : FVec F S64 .f32) (main_arg9 : FVec F S128 .f32) : IVec S4x8192x768 1 × IVec S4x256x768 1 × IVec S4x8192x768 1 × IVec S64 1 × IVec S64 1 × IVec S64 1 × IVec S64 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_v3 : FVec F S4x256x768 .f32 := Host.absf main_arg3
  let main_cst_0 : FVec F S_ .f32 := constant S_ .f32 0x7F800000#32
  let main_v4 : FVec F S4x256x768 .f32 := broadcastInDim S4x256x768 ![] bcast_S_S4x256x768 main_cst_0
  let main_v5 : IVec S4x256x768 1 := cmpf .olt main_v3 main_v4
  let main_v6 : FVec F S4x8192x768 .f32 := Host.absf main_arg4
  let main_cst_1 : FVec F S_ .f32 := constant S_ .f32 0x7F800000#32
  let main_v7 : FVec F S4x8192x768 .f32 := broadcastInDim S4x8192x768 ![] bcast_S_S4x8192x768 main_cst_1
  let main_v8 : IVec S4x8192x768 1 := cmpf .olt main_v6 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg6
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg7
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg8 main_v2 main_v5 main_v8 main_v11 main_v14 main_v17
-- ==== Pre_gate_finite.lean ====
abbrev S4x8192x768 : Shape := ⟨3, ![4, 8192, 768]⟩
abbrev S4x8192x512 : Shape := ⟨3, ![4, 8192, 512]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S4x8192x1024 : Shape := ⟨3, ![4, 8192, 1024]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S4x8192x768 .f32) (main_arg1 : FVec F S4x8192x512 .f32) (main_arg2 : FVec F S256 .f32) (main_arg3 : FVec F S256 .f32) (main_arg4 : FVec F S4x128x128 .f32) (main_arg5 : FVec F S4x128 .f32) (main_arg6 : FVec F S1024x1024 .f32) (main_arg7 : FVec F S4x8192x1024 .f32) (main_arg8 : FVec F S4x1x1024 .f32) (main_arg9 : FVec F S1024 .f32) (main_arg10 : FVec F S1024 .f32) (main_arg11 : FVec F S4x1x1024 .f32) (main_arg12 : FVec F S4x1x1024 .f32) (main_arg13 : FVec F S1024x16 .f32) : IVec S256 1 × IVec S256 1 :=
  let main_v0 : FVec F S256 .f32 := Host.absf main_arg2
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S256 .f32 := Host.absf main_arg3
  let main_cst_0 : FVec F S_ .f32 := constant S_ .f32 0x7F800000#32
  let main_v4 : FVec F S256 .f32 := broadcastInDim S256 ![] bcast_S_S256 main_cst_0
  let main_v5 : IVec S256 1 := cmpf .olt main_v3 main_v4
  (main_v2, main_v5)
-- ==== Pre_routed.lean ====
abbrev S4x8192x1024 : Shape := ⟨3, ![4, 8192, 1024]⟩
abbrev S4x16x8192 : Shape := ⟨3, ![4, 16, 8192]⟩
abbrev S4x16x1024 : Shape := ⟨3, ![4, 16, 1024]⟩
abbrev S4x16x128 : Shape := ⟨3, ![4, 16, 128]⟩
abbrev S16x1024x2048 : Shape := ⟨3, ![16, 1024, 2048]⟩
abbrev S16x2048x1024 : Shape := ⟨3, ![16, 2048, 1024]⟩
abbrev S4x16x64 : Shape := ⟨3, ![4, 16, 64]⟩
abbrev S4x16x64x1 : Shape := ⟨4, ![4, 16, 64, 1]⟩
abbrev S4x16x64x128 : Shape := ⟨4, ![4, 16, 64, 128]⟩
abbrev S4x16x1024x8192 : Shape := ⟨4, ![4, 16, 1024, 8192]⟩
abbrev S_ : Shape := ⟨0, ![]⟩
abbrev S4x16x1x8192 : Shape := ⟨4, ![4, 16, 1, 8192]⟩
abbrev S4x16x1024x1 : Shape := ⟨4, ![4, 16, 1024, 1]⟩

class Facts : Prop where
  slices_S4x16x128_S4x16x64_0_0_0 : S4x16x128.Slices ![0, 0, 0] S4x16x64
  bcast_S4x16x64_S4x16x64x1_0_1_2 : S4x16x64.BroadcastsInDim S4x16x64x1 (![0, 1, 2] : Fin 3 → Fin S4x16x64x1.rank)
  bcast_S4x16x64x1_S4x16x64x128_0_1_2_3 : S4x16x64x1.BroadcastsInDim S4x16x64x128 (![0, 1, 2, 3] : Fin 4 → Fin S4x16x64x128.rank)
  shapeCasts_S4x16x64x128_S4x16x8192 : S4x16x64x128.ShapeCasts S4x16x8192
  bcast_S_S4x16x128 : S_.BroadcastsInDim S4x16x128 (![] : Fin 0 → Fin S4x16x128.rank)
  bcast_S_S4x16x8192 : S_.BroadcastsInDim S4x16x8192 (![] : Fin 0 → Fin S4x16x8192.rank)
  bcast_S4x16x8192_S4x16x1x8192_0_1_3 : S4x16x8192.BroadcastsInDim S4x16x1x8192 (![0, 1, 3] : Fin 3 → Fin S4x16x1x8192.rank)
  bcast_S4x16x1x8192_S4x16x1024x8192_0_1_2_3 : S4x16x1x8192.BroadcastsInDim S4x16x1024x8192 (![0, 1, 2, 3] : Fin 4 → Fin S4x16x1024x8192.rank)
  bcast_S4x16x1024_S4x16x1024x1_0_1_2 : S4x16x1024.BroadcastsInDim S4x16x1024x1 (![0, 1, 2] : Fin 3 → Fin S4x16x1024x1.rank)
  bcast_S4x16x1024x1_S4x16x1024x8192_0_1_2_3 : S4x16x1024x1.BroadcastsInDim S4x16x1024x8192 (![0, 1, 2, 3] : Fin 4 → Fin S4x16x1024x8192.rank)
  bcast_S_S4x16x1024 : S_.BroadcastsInDim S4x16x1024 (![] : Fin 0 → Fin S4x16x1024.rank)

variable [Facts]

def fn_part1 {F : FTy → Type} [FloatOps F] (main_arg2 : IVec S4x16x1024 32) (main_v5 : IVec S4x16x1024x8192 32) (main_v7 : IVec S4x16x128 1) (main_v15 : IVec S4x16x8192 1) (main_v18 : IVec S4x16x1024x8192 1) (main_v20 : IVec S4x16x1024x8192 32) : IVec S4x16x128 1 × IVec S4x16x8192 1 × IVec S4x16x1024x8192 1 × IVec S4x16x1024 1 :=
  let main_v21 : IVec S4x16x1024x8192 1 := cmpi .eq main_v20 main_v5
  let main_v22 : IVec S4x16x1024x8192 1 := cmpi .eq main_v18 main_v21
  let main_c_2 : IVec S_ 32 := constantI S_ 32 0#32
  let main_v23 : IVec S4x16x1024 32 := broadcastInDim S4x16x1024 ![] bcast_S_S4x16x1024 main_c_2
  let main_v24 : IVec S4x16x1024 1 := cmpi .sge main_arg2 main_v23
  let main_c_3 : IVec S_ 32 := constantI S_ 32 8192#32
  let main_v25 : IVec S4x16x1024 32 := broadcastInDim S4x16x1024 ![] bcast_S_S4x16x1024 main_c_3
  let main_v26 : IVec S4x16x1024 1 := cmpi .slt main_arg2 main_v25
  let main_v27 : IVec S4x16x1024 1 := andi main_v24 main_v26
  (main_v7, main_v15, main_v22, main_v27)

def fn {F : FTy → Type} [FloatOps F] (main_arg0 : FVec F S4x8192x1024 .f32) (main_arg1 : FVec F S4x16x8192 .f32) (main_arg2 : IVec S4x16x1024 32) (main_arg3 : IVec S4x16x8192 32) (main_arg4 : IVec S4x16x128 32) (main_arg5 : FVec F S16x1024x2048 .f32) (main_arg6 : FVec F S16x1024x2048 .f32) (main_arg7 : FVec F S16x2048x1024 .f32) : IVec S4x16x128 1 × IVec S4x16x8192 1 × IVec S4x16x1024x8192 1 × IVec S4x16x1024 1 :=
  let main_v0 : IVec S4x16x64 32 := (extractStridedSlice S4x16x64 ![0, 0, 0] · slices_S4x16x128_S4x16x64_0_0_0) main_arg4
  let main_v1 : IVec S4x16x64x1 32 := broadcastInDim S4x16x64x1 ![0, 1, 2] bcast_S4x16x64_S4x16x64x1_0_1_2 main_v0
  let main_v2 : IVec S4x16x64x128 32 := broadcastInDim S4x16x64x128 ![0, 1, 2, 3] bcast_S4x16x64x1_S4x16x64x128_0_1_2_3 main_v1
  let main_v3 : IVec S4x16x8192 32 := shapeCast S4x16x8192 main_v2 shapeCasts_S4x16x64x128_S4x16x8192
  let main_v4 : IVec S4x16x1024x8192 32 := iotaInDim S4x16x1024x8192 32 2
  let main_v5 : IVec S4x16x1024x8192 32 := iotaInDim S4x16x1024x8192 32 3
  let main_c : IVec S_ 32 := constantI S_ 32 0#32
  let main_v6 : IVec S4x16x128 32 := broadcastInDim S4x16x128 ![] bcast_S_S4x16x128 main_c
  let main_v7 : IVec S4x16x128 1 := cmpi .sge main_arg4 main_v6
  let main_c_0 : IVec S_ 32 := constantI S_ 32 0#32
  let main_v8 : IVec S4x16x8192 32 := broadcastInDim S4x16x8192 ![] bcast_S_S4x16x8192 main_c_0
  let main_v9 : IVec S4x16x8192 1 := cmpi .slt main_arg3 main_v8
  let main_v10 : IVec S4x16x8192 1 := cmpi .sge main_arg3 main_v3
  let main_v11 : IVec S4x16x8192 32 := subi main_arg3 main_v3
  let main_c_1 : IVec S_ 32 := constantI S_ 32 128#32
  let main_v12 : IVec S4x16x8192 32 := broadcastInDim S4x16x8192 ![] bcast_S_S4x16x8192 main_c_1
  let main_v13 : IVec S4x16x8192 1 := cmpi .slt main_v11 main_v12
  let main_v14 : IVec S4x16x8192 1 := andi main_v10 main_v13
  let main_v15 : IVec S4x16x8192 1 := ori main_v9 main_v14
  let main_v16 : IVec S4x16x1x8192 32 := broadcastInDim S4x16x1x8192 ![0, 1, 3] bcast_S4x16x8192_S4x16x1x8192_0_1_3 main_arg3
  let main_v17 : IVec S4x16x1024x8192 32 := broadcastInDim S4x16x1024x8192 ![0, 1, 2, 3] bcast_S4x16x1x8192_S4x16x1024x8192_0_1_2_3 main_v16
  let main_v18 : IVec S4x16x1024x8192 1 := cmpi .eq main_v17 main_v4
  let main_v19 : IVec S4x16x1024x1 32 := broadcastInDim S4x16x1024x1 ![0, 1, 2] bcast_S4x16x1024_S4x16x1024x1_0_1_2 main_arg2
  let main_v20 : IVec S4x16x1024x8192 32 := broadcastInDim S4x16x1024x8192 ![0, 1, 2, 3] bcast_S4x16x1024x1_S4x16x1024x8192_0_1_2_3 main_v19
  fn_part1 (F := F) main_arg2 main_v5 main_v7 main_v15 main_v18 main_v20
-- ==== Pre_starting.lean ====
abbrev S4x8192x1024 : Shape := ⟨3, ![4, 8192, 1024]⟩
abbrev S4x16x8192 : Shape := ⟨3, ![4, 16, 8192]⟩
abbrev S4x16x1024 : Shape := ⟨3, ![4, 16, 1024]⟩
abbrev S4x16x128 : Shape := ⟨3, ![4, 16, 128]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S4x16x128 : S_.BroadcastsInDim S4x16x128 (![] : Fin 0 → Fin S4x16x128.rank)

variable [Facts]

def fn {F : FTy → Type} [FloatOps F] (main_arg0 : FVec F S4x8192x1024 .f32) (main_arg1 : FVec F S4x16x8192 .f32) (main_arg2 : IVec S4x16x1024 32) (main_arg3 : IVec S4x16x8192 32) (main_arg4 : IVec S4x16x128 32) (main_arg5 : FVec F S16x1024x2048 .f32) (main_arg6 : FVec F S16x1024x2048 .f32) (main_arg7 : FVec F S16x2048x1024 .f32) : IVec S4x16x128 1 :=
  let main_c : IVec S_ 32 := constantI S_ 32 0#32
  let main_v0 : IVec S4x16x128 32 := broadcastInDim S4x16x128 ![] bcast_S_S4x16x128 main_c
  let main_v1 : IVec S4x16x128 1 := cmpi .sge main_arg4 main_v0
  main_v1
-- ==== Kernel.lean ====
abbrev S4x8192x768 : Shape := ⟨3, ![4, 8192, 768]⟩
abbrev S4x256x768 : Shape := ⟨3, ![4, 256, 768]⟩
abbrev S64 : Shape := ⟨1, ![64]⟩
abbrev S128 : Shape := ⟨1, ![128]⟩
abbrev S4x8448x768 : Shape := ⟨3, ![4, 8448, 768]⟩
abbrev S_ : Shape := ⟨0, ![]⟩
abbrev S1 : Shape := ⟨1, ![1]⟩
abbrev S1x128 : Shape := ⟨2, ![1, 128]⟩
abbrev S1x512x128 : Shape := ⟨3, ![1, 512, 128]⟩
abbrev S1x8448x128 : Shape := ⟨3, ![1, 8448, 128]⟩
abbrev S512x128 : Shape := ⟨2, ![512, 128]⟩
abbrev S1x1408x128 : Shape := ⟨3, ![1, 1408, 128]⟩
abbrev S1408x128 : Shape := ⟨2, ![1408, 128]⟩
abbrev S512x1408 : Shape := ⟨2, ![512, 1408]⟩
abbrev S512 : Shape := ⟨1, ![512]⟩
abbrev S512x1 : Shape := ⟨2, ![512, 1]⟩

abbrev nBuf : Space → Nat
  | .hbm => 30
  | .vmem => 9
  | .smem => 1
  | _ => 0

abbrev bufTy : (tb : Table) → Fin (tcTables nBuf tb) → BufTy
  | .hbm, ⟨0, _⟩ => ⟨S4x8192x768, .f32⟩
  | .hbm, ⟨1, _⟩ => ⟨S4x256x768, .f32⟩
  | .hbm, ⟨2, _⟩ => ⟨S4x8192x768, .f32⟩
  | .hbm, ⟨3, _⟩ => ⟨S4x256x768, .f32⟩
  | .hbm, ⟨4, _⟩ => ⟨S4x8192x768, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S4x256x768, .bf16⟩
  | .hbm, ⟨11, _⟩ => ⟨S4x8192x768, .bf16⟩
  | .hbm, ⟨12, _⟩ => ⟨S4x8448x768, .bf16⟩
  | .hbm, ⟨13, _⟩ => ⟨S4x256x768, .bf16⟩
  | .hbm, ⟨14, _⟩ => ⟨S4x8192x768, .bf16⟩
  | .hbm, ⟨15, _⟩ => ⟨S4x8448x768, .bf16⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1x128, .f32⟩
  | .hbm, ⟨29, _⟩ => ⟨S4x8192x768, .bf16⟩
  | .local _ .vmem, ⟨0, _⟩ => ⟨S1x512x128, .f32⟩
  | .local _ .vmem, ⟨1, _⟩ => ⟨S1x512x128, .f32⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .smem, ⟨0, _⟩ => ⟨S1, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 6, 16], ![false, false, false]⟩

def k0_mult1 : BitVec 32 :=
  let c0_i32 : BitVec 32 := 0#32
  let c1408_i32 : BitVec 32 := 1408#32
  let v15 : BitVec 32 := Scalar.muli c0_i32 c1408_i32
  v15
def k0_off1 (c0_i32 : BitVec 32) : Fin 3 → Nat :=
  let c0_4 : Index := 0#32
  let c1408_i32 : BitVec 32 := 1408#32
  let v15 : BitVec 32 := Scalar.muli c0_i32 c1408_i32
  let v16 : BitVec 32 := v15
  let v17 : Index := Scalar.indexCast v16
  let c0_5 : Index := 0#32
  ![0, v17.toNat, 0]
def k0_mult2 : BitVec 32 :=
  let c0_i32 : BitVec 32 := 0#32
  let c1408_i32_6 : BitVec 32 := 1408#32
  let v20 : BitVec 32 := Scalar.muli c0_i32 c1408_i32_6
  v20
def k0_mult3 : BitVec 32 :=
  let c0_i32 : BitVec 32 := 0#32
  let c1408_i32_10 : BitVec 32 := 1408#32
  let v26 : BitVec 32 := Scalar.muli c0_i32 c1408_i32_10
  v26
def k0_mult4 : BitVec 32 :=
  let c1_i32 : BitVec 32 := 1#32
  let c1408_i32_18 : BitVec 32 := 1408#32
  let v208 : BitVec 32 := Scalar.muli c1_i32 c1408_i32_18
  v208
def k0_mult5 : BitVec 32 :=
  let c1_i32 : BitVec 32 := 1#32
  let c1408_i32_21 : BitVec 32 := 1408#32
  let v213 : BitVec 32 := Scalar.muli c1_i32 c1408_i32_21
  v213
def k0_mult6 : BitVec 32 :=
  let c1_i32 : BitVec 32 := 1#32
  let c1408_i32_25 : BitVec 32 := 1408#32
  let v219 : BitVec 32 := Scalar.muli c1_i32 c1408_i32_25
  v219
def k0_mult7 : BitVec 32 :=
  let c2_i32 : BitVec 32 := 2#32
  let c1408_i32_33 : BitVec 32 := 1408#32
  let v401 : BitVec 32 := Scalar.muli c2_i32 c1408_i32_33
  v401
def k0_mult8 : BitVec 32 :=
  let c2_i32 : BitVec 32 := 2#32
  let c1408_i32_36 : BitVec 32 := 1408#32
  let v406 : BitVec 32 := Scalar.muli c2_i32 c1408_i32_36
  v406
def k0_mult9 : BitVec 32 :=
  let c2_i32 : BitVec 32 := 2#32
  let c1408_i32_40 : BitVec 32 := 1408#32
  let v412 : BitVec 32 := Scalar.muli c2_i32 c1408_i32_40
  v412
def k0_mult10 : BitVec 32 :=
  let c3_i32 : BitVec 32 := 3#32
  let c1408_i32_48 : BitVec 32 := 1408#32
  let v594 : BitVec 32 := Scalar.muli c3_i32 c1408_i32_48
  v594
def k0_mult11 : BitVec 32 :=
  let c3_i32 : BitVec 32 := 3#32
  let c1408_i32_51 : BitVec 32 := 1408#32
  let v599 : BitVec 32 := Scalar.muli c3_i32 c1408_i32_51
  v599
def k0_mult12 : BitVec 32 :=
  let c3_i32 : BitVec 32 := 3#32
  let c1408_i32_55 : BitVec 32 := 1408#32
  let v605 : BitVec 32 := Scalar.muli c3_i32 c1408_i32_55
  v605
def k0_mult13 : BitVec 32 :=
  let c4_i32 : BitVec 32 := 4#32
  let c1408_i32_63 : BitVec 32 := 1408#32
  let v787 : BitVec 32 := Scalar.muli c4_i32 c1408_i32_63
  v787
def k0_mult14 : BitVec 32 :=
  let c4_i32 : BitVec 32 := 4#32
  let c1408_i32_66 : BitVec 32 := 1408#32
  let v792 : BitVec 32 := Scalar.muli c4_i32 c1408_i32_66
  v792
def k0_mult15 : BitVec 32 :=
  let c4_i32 : BitVec 32 := 4#32
  let c1408_i32_70 : BitVec 32 := 1408#32
  let v798 : BitVec 32 := Scalar.muli c4_i32 c1408_i32_70
  v798
def k0_mult16 : BitVec 32 :=
  let c5_i32 : BitVec 32 := 5#32
  let c1408_i32_78 : BitVec 32 := 1408#32
  let v980 : BitVec 32 := Scalar.muli c5_i32 c1408_i32_78
  v980
def k0_mult17 : BitVec 32 :=
  let c5_i32 : BitVec 32 := 5#32
  let c1408_i32_81 : BitVec 32 := 1408#32
  let v985 : BitVec 32 := Scalar.muli c5_i32 c1408_i32_81
  v985
def k0_mult18 : BitVec 32 :=
  let c5_i32 : BitVec 32 := 5#32
  let c1408_i32_85 : BitVec 32 := 1408#32
  let v991 : BitVec 32 := Scalar.muli c5_i32 c1408_i32_85
  v991
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S4x8192x768 : Shape := ⟨3, ![4, 8192, 768]⟩
abbrev S4x256x768 : Shape := ⟨3, ![4, 256, 768]⟩
abbrev S64 : Shape := ⟨1, ![64]⟩
abbrev S128 : Shape := ⟨1, ![128]⟩
abbrev S_ : Shape := ⟨0, ![]⟩
abbrev S4x256x6x2x64 : Shape := ⟨5, ![4, 256, 6, 2, 64]⟩
abbrev S4x6x2x256x64 : Shape := ⟨5, ![4, 6, 2, 256, 64]⟩
abbrev S4x8192x6x2x64 : Shape := ⟨5, ![4, 8192, 6, 2, 64]⟩
abbrev S4x6x2x8192x64 : Shape := ⟨5, ![4, 6, 2, 8192, 64]⟩
abbrev S4x6x2x8448x64 : Shape := ⟨5, ![4, 6, 2, 8448, 64]⟩
abbrev S4x256x6x128 : Shape := ⟨4, ![4, 256, 6, 128]⟩
abbrev S4x6x256x128 : Shape := ⟨4, ![4, 6, 256, 128]⟩
abbrev S4x8192x6x128 : Shape := ⟨4, ![4, 8192, 6, 128]⟩
abbrev S4x6x8192x128 : Shape := ⟨4, ![4, 6, 8192, 128]⟩
abbrev S4x6x8448x128 : Shape := ⟨4, ![4, 6, 8448, 128]⟩
abbrev S4x6x2x8192x8448 : Shape := ⟨5, ![4, 6, 2, 8192, 8448]⟩
abbrev S4x6x2x8192 : Shape := ⟨4, ![4, 6, 2, 8192]⟩
abbrev S4x6x2x8192x1 : Shape := ⟨5, ![4, 6, 2, 8192, 1]⟩
abbrev S4x6x1x8192x8448 : Shape := ⟨5, ![4, 6, 1, 8192, 8448]⟩
abbrev S4x6x8192x8448 : Shape := ⟨4, ![4, 6, 8192, 8448]⟩
abbrev S4x8192x6 : Shape := ⟨3, ![4, 8192, 6]⟩
abbrev S4x8192x6x1 : Shape := ⟨4, ![4, 8192, 6, 1]⟩
abbrev S1x1x1x128 : Shape := ⟨4, ![1, 1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x256x768, .f32⟩
  | .hbm, ⟨2, _⟩ => ⟨S4x8192x768, .f32⟩
  | .hbm, ⟨3, _⟩ => ⟨S4x256x768, .f32⟩
  | .hbm, ⟨4, _⟩ => ⟨S4x8192x768, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x256x6x2x64, .f32⟩
  | .hbm, ⟨22, _⟩ => ⟨S4x6x2x256x64, .f32⟩
  | .hbm, ⟨23, _⟩ => ⟨S4x8192x6x2x64, .f32⟩
  | .hbm, ⟨24, _⟩ => ⟨S4x6x2x8192x64, .f32⟩
  | .hbm, ⟨25, _⟩ => ⟨S4x6x2x8448x64, .f32⟩
  | .hbm, ⟨26, _⟩ => ⟨S4x256x6x128, .f32⟩
  | .hbm, ⟨27, _⟩ => ⟨S4x6x256x128, .f32⟩
  | .hbm, ⟨28, _⟩ => ⟨S4x8192x6x128, .f32⟩
  | .hbm, ⟨29, _⟩ => ⟨S4x6x8192x128, .f32⟩
  | .hbm, ⟨30, _⟩ => ⟨S4x6x8448x128, .f32⟩
  | .hbm, ⟨31, _⟩ => ⟨S4x8192x6x2x64, .f32⟩
  | .hbm, ⟨32, _⟩ => ⟨S4x6x2x8192x64, .f32⟩
  | .hbm, ⟨33, _⟩ => ⟨S4x6x2x8192x8448, .f32⟩
  | .hbm, ⟨34, _⟩ => ⟨S_, .f32⟩
  | .hbm, ⟨35, _⟩ => ⟨S4x6x2x8192x8448, .f32⟩
  | .hbm, ⟨36, _⟩ => ⟨S4x6x2x8192x8448, .f32⟩
  | .hbm, ⟨37, _⟩ => ⟨S_, .f32⟩
  | .hbm, ⟨38, _⟩ => ⟨S4x6x2x8192, .f32⟩
  | .hbm, ⟨39, _⟩ => ⟨S_, .f32⟩
  | .hbm, ⟨40, _⟩ => ⟨S4x6x2x8192, .f32⟩
  | .hbm, ⟨41, _⟩ => ⟨S4x6x2x8192, .f32⟩
  | .hbm, ⟨42, _⟩ => ⟨S4x6x2x8192x1, .f32⟩
  | .hbm, ⟨43, _⟩ => ⟨S4x6x2x8192x8448, .f32⟩
  | .hbm, ⟨44, _⟩ => ⟨S4x6x2x8192x8448, .f32⟩
  | .hbm, ⟨45, _⟩ => ⟨S4x6x2x8192x8448, .f32⟩
  | .hbm, ⟨46, _⟩ => ⟨S_, .f32⟩
  | .hbm, ⟨47, _⟩ => ⟨S4x6x2x8192, .f32⟩
  | .hbm, ⟨48, _⟩ => ⟨S4x6x2x8192x1, .f32⟩
  | .hbm, ⟨49, _⟩ => ⟨S4x6x2x8192x8448, .f32⟩
  | .hbm, ⟨50, _⟩ => ⟨S4x6x2x8192x8448, .f32⟩
  | .hbm, ⟨51, _⟩ => ⟨S4x6x1x8192x8448, .f32⟩
  | .hbm, ⟨52, _⟩ => ⟨S4x6x8192x8448, .f32⟩
  | .hbm, ⟨53, _⟩ => ⟨S4x6x1x8192x8448, .f32⟩
  | .hbm, ⟨54, _⟩ => ⟨S4x6x8192x8448, .f32⟩
  | .hbm, ⟨55, _⟩ => ⟨S4x6x8192x8448, .f32⟩
  | .hbm, ⟨56, _⟩ => ⟨S4x6x8192x8448, .f32⟩
  | .hbm, ⟨57, _⟩ => ⟨S4x6x8192x8448, .f32⟩
  | .hbm, ⟨58, _⟩ => ⟨S4x6x8192x128, .f32⟩
  | .hbm, ⟨59, _⟩ => ⟨S4x8192x6x128, .f32⟩
  | .hbm, ⟨60, _⟩ => ⟨S4x8192x6x128, .f32⟩
  | .hbm, ⟨61, _⟩ => ⟨S_, .f32⟩
  | .hbm, ⟨62, _⟩ => ⟨S4x8192x6, .f32⟩
  | .hbm, ⟨63, _⟩ => ⟨S4x8192x6x1, .f32⟩
  | .hbm, ⟨64, _⟩ => ⟨S_, .f32⟩
  | .hbm, ⟨65, _⟩ => ⟨S4x8192x6x1, .f32⟩
  | .hbm, ⟨66, _⟩ => ⟨S4x8192x6x1, .f32⟩
  | .hbm, ⟨67, _⟩ => ⟨S_, .f32⟩
  | .hbm, ⟨68, _⟩ => ⟨S4x8192x6x1, .f32⟩
  | .hbm, ⟨69, _⟩ => ⟨S4x8192x6x1, .f32⟩
  | .hbm, ⟨70, _⟩ => ⟨S4x8192x6x1, .f32⟩
  | .hbm, ⟨71, _⟩ => ⟨S4x8192x6x128, .f32⟩
  | .hbm, ⟨72, _⟩ => ⟨S4x8192x6x128, .f32⟩
  | .hbm, ⟨73, _⟩ => ⟨S1x1x1x128, .f32⟩
  | .hbm, ⟨74, _⟩ => ⟨S4x8192x6x128, .f32⟩
  | .hbm, ⟨75, _⟩ => ⟨S4x8192x6x128, .f32⟩
  | .hbm, ⟨76, _⟩ => ⟨S_, .f32⟩
  | .hbm, ⟨77, _⟩ => ⟨S4x8192x6x128, .f32⟩
  | .hbm, ⟨78, _⟩ => ⟨S4x8192x6x128, .f32⟩
  | .hbm, ⟨79, _⟩ => ⟨S4x8192x768, .f32⟩
  | .hbm, ⟨80, _⟩ => ⟨S4x8192x768, .bf16⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024x3456 : Shape := ⟨2, ![1024, 3456]⟩
abbrev S4x8192x768 : Shape := ⟨3, ![4, 8192, 768]⟩
abbrev S4x8192x2688 : Shape := ⟨3, ![4, 8192, 2688]⟩
abbrev S1x512x1024 : Shape := ⟨3, ![1, 512, 1024]⟩
abbrev S1x1x1024 : Shape := ⟨3, ![1, 1, 1024]⟩
abbrev S1x512x768 : Shape := ⟨3, ![1, 512, 768]⟩
abbrev S1x512x2688 : Shape := ⟨3, ![1, 512, 2688]⟩
abbrev S512x1024 : Shape := ⟨2, ![512, 1024]⟩
abbrev S1x1024 : Shape := ⟨2, ![1, 1024]⟩
abbrev S512x3456 : Shape := ⟨2, ![512, 3456]⟩
abbrev S512x768 : Shape := ⟨2, ![512, 768]⟩
abbrev S512x2688 : Shape := ⟨2, ![512, 2688]⟩

abbrev nBuf : Space → Nat
  | .hbm => 7
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3456, .f32⟩
  | .hbm, ⟨4, _⟩ => ⟨S1024x3456, .bf16⟩
  | .hbm, ⟨5, _⟩ => ⟨S4x8192x768, .f32⟩
  | .hbm, ⟨6, _⟩ => ⟨S4x8192x2688, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3456, .bf16⟩
  | .local _ .vmem, ⟨7, _⟩ => ⟨S1x512x768, .f32⟩
  | .local _ .vmem, ⟨8, _⟩ => ⟨S1x512x768, .f32⟩
  | .local _ .vmem, ⟨9, _⟩ => ⟨S1x512x2688, .f32⟩
  | .local _ .vmem, ⟨10, _⟩ => ⟨S1x512x2688, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x8192x1024 : Shape := ⟨3, ![4, 8192, 1024]⟩
abbrev S4x1x1024 : Shape := ⟨3, ![4, 1, 1024]⟩
abbrev S1024x3456 : Shape := ⟨2, ![1024, 3456]⟩
abbrev S_ : Shape := ⟨0, ![]⟩
abbrev S4x8192x3456 : Shape := ⟨3, ![4, 8192, 3456]⟩
abbrev S4x8192x768 : Shape := ⟨3, ![4, 8192, 768]⟩
abbrev S4x8192x2688 : Shape := ⟨3, ![4, 8192, 2688]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x3456, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x3456, .f32⟩
  | .hbm, ⟨12, _⟩ => ⟨S4x8192x768, .f32⟩
  | .hbm, ⟨13, _⟩ => ⟨S4x8192x2688, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1x1024 : Shape := ⟨3, ![4, 1, 1024]⟩
abbrev S1024x2816 : Shape := ⟨2, ![1024, 2816]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x128 : Shape := ⟨2, ![8192, 128]⟩
abbrev S4x8192x768 : Shape := ⟨3, ![4, 8192, 768]⟩
abbrev S4x8192x512 : Shape := ⟨3, ![4, 8192, 512]⟩
abbrev S1x512x1024 : Shape := ⟨3, ![1, 512, 1024]⟩
abbrev S1x1x1024 : Shape := ⟨3, ![1, 1, 1024]⟩
abbrev S512x128 : Shape := ⟨2, ![512, 128]⟩
abbrev S1x512x768 : Shape := ⟨3, ![1, 512, 768]⟩
abbrev S1x512x512 : Shape := ⟨3, ![1, 512, 512]⟩
abbrev S512x1024 : Shape := ⟨2, ![512, 1024]⟩
abbrev S1x1024 : Shape := ⟨2, ![1, 1024]⟩
abbrev S512x2816 : Shape := ⟨2, ![512, 2816]⟩
abbrev S1x512x128 : Shape := ⟨3, ![1, 512, 128]⟩
abbrev S512x768 : Shape := ⟨2, ![512, 768]⟩
abbrev S512x512 : Shape := ⟨2, ![512, 512]⟩

abbrev nBuf : Space → Nat
  | .hbm => 46
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2816, .f32⟩
  | .hbm, ⟨4, _⟩ => ⟨S1024x2816, .bf16⟩
  | .hbm, ⟨5, _⟩ => ⟨S128, .i32⟩
  | .hbm, ⟨6, _⟩ => ⟨S128x64, .i32⟩
  | .hbm, ⟨7, _⟩ => ⟨S8192, .i32⟩
  | .hbm, ⟨8, _⟩ => ⟨S8192, .f32⟩
  | .hbm, ⟨9, _⟩ => ⟨S64, .i32⟩
  | .hbm, ⟨10, _⟩ => ⟨S1x64, .i32⟩
  | .hbm, ⟨11, _⟩ => ⟨S128x64, .i32⟩
  | .hbm, ⟨12, _⟩ => ⟨S8192, .i32⟩
  | .hbm, ⟨13, _⟩ => ⟨S8192, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S8192x1, .f32⟩
  | .hbm, ⟨29, _⟩ => ⟨S1x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x1, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x64, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S4x8192x768, .f32⟩
  | .hbm, ⟨43, _⟩ => ⟨S4x8192x768, .bf16⟩
  | .hbm, ⟨44, _⟩ => ⟨S4x8192x768, .bf16⟩
  | .hbm, ⟨45, _⟩ => ⟨S4x8192x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2816, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x512, .f32⟩
  | .local _ .vmem, ⟨18, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x8192x1024 : Shape := ⟨3, ![4, 8192, 1024]⟩
abbrev S4x1x1024 : Shape := ⟨3, ![4, 1, 1024]⟩
abbrev S1024x2816 : Shape := ⟨2, ![1024, 2816]⟩
abbrev S_ : Shape := ⟨0, ![]⟩
abbrev S4x8192x2816 : Shape := ⟨3, ![4, 8192, 2816]⟩
abbrev S4x8192x768 : Shape := ⟨3, ![4, 8192, 768]⟩
abbrev S4x8192x512 : Shape := ⟨3, ![4, 8192, 512]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S4x8192x6x2x64 : Shape := ⟨5, ![4, 8192, 6, 2, 64]⟩
abbrev S4x8192x6x2x32 : Shape := ⟨5, ![4, 8192, 6, 2, 32]⟩
abbrev S4x8192x6x2x16 : Shape := ⟨5, ![4, 8192, 6, 2, 16]⟩
abbrev S1x8192x1x1x16 : Shape := ⟨5, ![1, 8192, 1, 1, 16]⟩

abbrev nBuf : Space → Nat
  | .hbm => 125
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024x2816, .f32⟩
  | .hbm, ⟨4, _⟩ => ⟨S_, .f32⟩
  | .hbm, ⟨5, _⟩ => ⟨S4x1x1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x2816, .f32⟩
  | .hbm, ⟨12, _⟩ => ⟨S4x8192x768, .f32⟩
  | .hbm, ⟨13, _⟩ => ⟨S4x8192x768, .f32⟩
  | .hbm, ⟨14, _⟩ => ⟨S4x8192x768, .f32⟩
  | .hbm, ⟨15, _⟩ => ⟨S4x8192x512, .f32⟩
  | .hbm, ⟨16, _⟩ => ⟨S128, .i32⟩
  | .hbm, ⟨17, _⟩ => ⟨S128x64, .i32⟩
  | .hbm, ⟨18, _⟩ => ⟨S8192, .i32⟩
  | .hbm, ⟨19, _⟩ => ⟨S8192, .f32⟩
  | .hbm, ⟨20, _⟩ => ⟨S64, .i32⟩
  | .hbm, ⟨21, _⟩ => ⟨S1x64, .i32⟩
  | .hbm, ⟨22, _⟩ => ⟨S128x64, .i32⟩
  | .hbm, ⟨23, _⟩ => ⟨S8192, .i32⟩
  | .hbm, ⟨24, _⟩ => ⟨S8192, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8192x1, .f32⟩
  | .hbm, ⟨40, _⟩ => ⟨S1x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x1, .f32⟩
  | .hbm, ⟨45, _⟩ => ⟨S1x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S4x8192x6x2x64, .f32⟩
  | .hbm, ⟨54, _⟩ => ⟨S4x8192x6x2x32, .f32⟩
  | .hbm, ⟨55, _⟩ => ⟨S4x8192x6x2x16, .f32⟩
  | .hbm, ⟨56, _⟩ => ⟨S4x8192x6x2x16, .f32⟩
  | .hbm, ⟨57, _⟩ => ⟨S1x8192x1x1x16, .f32⟩
  | .hbm, ⟨58, _⟩ => ⟨S1x8192x1x1x16, .f32⟩
  | .hbm, ⟨59, _⟩ => ⟨S4x8192x6x2x16, .f32⟩
  | .hbm, ⟨60, _⟩ => ⟨S4x8192x6x2x16, .f32⟩
  | .hbm, ⟨61, _⟩ => ⟨S4x8192x6x2x16, .f32⟩
  | .hbm, ⟨62, _⟩ => ⟨S4x8192x6x2x16, .f32⟩
  | .hbm, ⟨63, _⟩ => ⟨S4x8192x6x2x16, .f32⟩
  | .hbm, ⟨64, _⟩ => ⟨S4x8192x6x2x16, .f32⟩
  | .hbm, ⟨65, _⟩ => ⟨S4x8192x6x2x16, .f32⟩
  | .hbm, ⟨66, _⟩ => ⟨S4x8192x6x2x16, .f32⟩
  | .hbm, ⟨67, _⟩ => ⟨S4x8192x6x2x16, .f32⟩
  | .hbm, ⟨68, _⟩ => ⟨S4x8192x6x2x16, .f32⟩
  | .hbm, ⟨69, _⟩ => ⟨S4x8192x6x2x32, .f32⟩
  | .hbm, ⟨70, _⟩ => ⟨S4x8192x6x2x32, .f32⟩
  | .hbm, ⟨71, _⟩ => ⟨S4x8192x6x2x16, .f32⟩
  | .hbm, ⟨72, _⟩ => ⟨S4x8192x6x2x16, .f32⟩
  | .hbm, ⟨73, _⟩ => ⟨S1x8192x1x1x16, .f32⟩
  | .hbm, ⟨74, _⟩ => ⟨S1x8192x1x1x16, .f32⟩
  | .hbm, ⟨75, _⟩ => ⟨S4x8192x6x2x16, .f32⟩
  | .hbm, ⟨76, _⟩ => ⟨S4x8192x6x2x16, .f32⟩
  | .hbm, ⟨77, _⟩ => ⟨S4x8192x6x2x16, .f32⟩
  | .hbm, ⟨78, _⟩ => ⟨S4x8192x6x2x16, .f32⟩
  | .hbm, ⟨79, _⟩ => ⟨S4x8192x6x2x16, .f32⟩
  | .hbm, ⟨80, _⟩ => ⟨S4x8192x6x2x16, .f32⟩
  | .hbm, ⟨81, _⟩ => ⟨S4x8192x6x2x16, .f32⟩
  | .hbm, ⟨82, _⟩ => ⟨S4x8192x6x2x16, .f32⟩
  | .hbm, ⟨83, _⟩ => ⟨S4x8192x6x2x16, .f32⟩
  | .hbm, ⟨84, _⟩ => ⟨S4x8192x6x2x16, .f32⟩
  | .hbm, ⟨85, _⟩ => ⟨S4x8192x6x2x32, .f32⟩
  | .hbm, ⟨86, _⟩ => ⟨S4x8192x6x2x64, .f32⟩
  | .hbm, ⟨87, _⟩ => ⟨S4x8192x768, .f32⟩
  | .hbm, ⟨88, _⟩ => ⟨S4x8192x6x2x64, .f32⟩
  | .hbm, ⟨89, _⟩ => ⟨S4x8192x6x2x32, .f32⟩
  | .hbm, ⟨90, _⟩ => ⟨S4x8192x6x2x16, .f32⟩
  | .hbm, ⟨91, _⟩ => ⟨S4x8192x6x2x16, .f32⟩
  | .hbm, ⟨92, _⟩ => ⟨S1x8192x1x1x16, .f32⟩
  | .hbm, ⟨93, _⟩ => ⟨S1x8192x1x1x16, .f32⟩
  | .hbm, ⟨94, _⟩ => ⟨S4x8192x6x2x16, .f32⟩
  | .hbm, ⟨95, _⟩ => ⟨S4x8192x6x2x16, .f32⟩
  | .hbm, ⟨96, _⟩ => ⟨S4x8192x6x2x16, .f32⟩
  | .hbm, ⟨97, _⟩ => ⟨S4x8192x6x2x16, .f32⟩
  | .hbm, ⟨98, _⟩ => ⟨S4x8192x6x2x16, .f32⟩
  | .hbm, ⟨99, _⟩ => ⟨S4x8192x6x2x16, .f32⟩
  | .hbm, ⟨100, _⟩ => ⟨S4x8192x6x2x16, .f32⟩
  | .hbm, ⟨101, _⟩ => ⟨S4x8192x6x2x16, .f32⟩
  | .hbm, ⟨102, _⟩ => ⟨S4x8192x6x2x16, .f32⟩
  | .hbm, ⟨103, _⟩ => ⟨S4x8192x6x2x16, .f32⟩
  | .hbm, ⟨104, _⟩ => ⟨S4x8192x6x2x32, .f32⟩
  | .hbm, ⟨105, _⟩ => ⟨S4x8192x6x2x32, .f32⟩
  | .hbm, ⟨106, _⟩ => ⟨S4x8192x6x2x16, .f32⟩
  | .hbm, ⟨107, _⟩ => ⟨S4x8192x6x2x16, .f32⟩
  | .hbm, ⟨108, _⟩ => ⟨S1x8192x1x1x16, .f32⟩
  | .hbm, ⟨109, _⟩ => ⟨S1x8192x1x1x16, .f32⟩
  | .hbm, ⟨110, _⟩ => ⟨S4x8192x6x2x16, .f32⟩
  | .hbm, ⟨111, _⟩ => ⟨S4x8192x6x2x16, .f32⟩
  | .hbm, ⟨112, _⟩ => ⟨S4x8192x6x2x16, .f32⟩
  | .hbm, ⟨113, _⟩ => ⟨S4x8192x6x2x16, .f32⟩
  | .hbm, ⟨114, _⟩ => ⟨S4x8192x6x2x16, .f32⟩
  | .hbm, ⟨115, _⟩ => ⟨S4x8192x6x2x16, .f32⟩
  | .hbm, ⟨116, _⟩ => ⟨S4x8192x6x2x16, .f32⟩
  | .hbm, ⟨117, _⟩ => ⟨S4x8192x6x2x16, .f32⟩
  | .hbm, ⟨118, _⟩ => ⟨S4x8192x6x2x16, .f32⟩
  | .hbm, ⟨119, _⟩ => ⟨S4x8192x6x2x16, .f32⟩
  | .hbm, ⟨120, _⟩ => ⟨S4x8192x6x2x32, .f32⟩
  | .hbm, ⟨121, _⟩ => ⟨S4x8192x6x2x64, .f32⟩
  | .hbm, ⟨122, _⟩ => ⟨S4x8192x768, .f32⟩
  | .hbm, ⟨123, _⟩ => ⟨S4x8192x768, .bf16⟩
  | .hbm, ⟨124, _⟩ => ⟨S4x8192x768, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x16x8192 : Shape := ⟨3, ![4, 16, 8192]⟩
abbrev S4x16x1024 : Shape := ⟨3, ![4, 16, 1024]⟩
abbrev S4x16x128 : Shape := ⟨3, ![4, 16, 128]⟩
abbrev S16x1024x2048 : Shape := ⟨3, ![16, 1024, 2048]⟩
abbrev S16x2048x1024 : Shape := ⟨3, ![16, 2048, 1024]⟩
abbrev S8192 : Shape := ⟨1, ![8192]⟩
abbrev S64x1x8192 : Shape := ⟨3, ![64, 1, 8192]⟩
abbrev S4x16x1024x1024 : Shape := ⟨4, ![4, 16, 1024, 1024]⟩
abbrev S1x1x4096 : Shape := ⟨3, ![1, 1, 4096]⟩
abbrev S1x4096x1024 : Shape := ⟨3, ![1, 4096, 1024]⟩
abbrev S1x1024x2048 : Shape := ⟨3, ![1, 1024, 2048]⟩
abbrev S1x2048x1024 : Shape := ⟨3, ![1, 2048, 1024]⟩
abbrev S1x1x1024x1024 : Shape := ⟨4, ![1, 1, 1024, 1024]⟩
abbrev S1024x1024 : Shape := ⟨2, ![1024, 1024]⟩
abbrev S1024x128 : Shape := ⟨2, ![1024, 128]⟩
abbrev S1 : Shape := ⟨1, ![1]⟩
abbrev S136x128 : Shape := ⟨2, ![136, 128]⟩
abbrev S1x1x128 : Shape := ⟨3, ![1, 1, 128]⟩
abbrev S1x128 : Shape := ⟨2, ![1, 128]⟩
abbrev S136x1024 : Shape := ⟨2, ![136, 1024]⟩
abbrev S1x128x1024 : Shape := ⟨3, ![1, 128, 1024]⟩
abbrev S128x1024 : Shape := ⟨2, ![128, 1024]⟩
abbrev S136 : Shape := ⟨1, ![136]⟩
abbrev S136x1 : Shape := ⟨2, ![136, 1]⟩
abbrev S512x1024 : Shape := ⟨2, ![512, 1024]⟩
abbrev S1024x2048 : Shape := ⟨2, ![1024, 2048]⟩
abbrev S512x2048 : Shape := ⟨2, ![512, 2048]⟩
abbrev S2048x1024 : Shape := ⟨2, ![2048, 1024]⟩
abbrev S512x1 : Shape := ⟨2, ![512, 1]⟩
abbrev S1x1x512x1024 : Shape := ⟨4, ![1, 1, 512, 1024]⟩

abbrev nBuf : Space → Nat
  | .hbm => 15
  | .vmem => 16
  | .smem => 1
  | _ => 0

abbrev bufTy : (tb : Table) → Fin (tcTables nBuf tb) → BufTy
  | .hbm, ⟨0, _⟩ => ⟨S4x8192x1024, .f32⟩
  | .hbm, ⟨1, _⟩ => ⟨S4x16x8192, .f32⟩
  | .hbm, ⟨2, _⟩ => ⟨S4x16x1024, .i32⟩
  | .hbm, ⟨3, _⟩ => ⟨S4x16x8192, .i32⟩
  | .hbm, ⟨4, _⟩ => ⟨S4x16x128, .i32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S4x8192x1024, .bf16⟩
  | .hbm, ⟨9, _⟩ => ⟨S16x1024x2048, .bf16⟩
  | .hbm, ⟨10, _⟩ => ⟨S16x1024x2048, .bf16⟩
  | .hbm, ⟨11, _⟩ => ⟨S16x2048x1024, .bf16⟩
  | .hbm, ⟨12, _⟩ => ⟨S64x1x8192, .i32⟩
  | .hbm, ⟨13, _⟩ => ⟨S64x1x8192, .f32⟩
  | .hbm, ⟨14, _⟩ => ⟨S4x16x1024x1024, .bf16⟩
  | .local _ .vmem, ⟨0, _⟩ => ⟨S1x1x4096, .i32⟩
  | .local _ .vmem, ⟨1, _⟩ => ⟨S1x1x4096, .i32⟩
  | .local _ .vmem, ⟨2, _⟩ => ⟨S1x1x4096, .f32⟩
  | .local _ .vmem, ⟨3, _⟩ => ⟨S1x1x4096, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1x1x1024x1024, .bf16⟩
  | .local _ .vmem, ⟨13, _⟩ => ⟨S1x1x1024x1024, .bf16⟩
  | .local _ .vmem, ⟨14, _⟩ => ⟨S1024x1024, .f32⟩
  | .local _ .vmem, ⟨15, _⟩ => ⟨S1024x128, .f32⟩
  | .local _ .smem, ⟨0, _⟩ => ⟨S8192, .i32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 2], ![false, false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c16_i32 : BitVec 32 := 16#32
  let v3 : BitVec 32 := Scalar.muli arg1 c16_i32
  let arg0 : BitVec 32 := BitVec.ofNat 32 (i 0).val
  let v4 : BitVec 32 := Scalar.addi v3 arg0
  let c128_i32 : BitVec 32 := 128#32
  let v5 : BitVec 32 := Scalar.muli v4 c128_i32
  let arg2 : BitVec 32 := BitVec.ofNat 32 (i 2).val
  let c32_i32 : BitVec 32 := 32#32
  let v6 : BitVec 32 := Scalar.muli arg2 c32_i32
  let v7 : BitVec 32 := Scalar.addi v5 v6
  let c0_i32_1 : BitVec 32 := 0#32
  let v8 : BitVec 32 := Scalar.addi v7 c0_i32_1
  let v9 : Index := Scalar.indexCast v8
  ![v9.toNat]
def k0_mult1 (v10 : BitVec 32) : BitVec 32 :=
  let c3_i32 : BitVec 32 := 3#32
  let v11 : BitVec 32 := Scalar.shrui v10 c3_i32
  let c3_i32_2 : BitVec 32 := 3#32
  let v12 : BitVec 32 := Scalar.shli v11 c3_i32_2
  let c888_i32 : BitVec 32 := 888#32
  let v13 : BitVec 32 := Scalar.minsi v12 c888_i32
  v13

def k0_off2 (v10 : BitVec 32) : Fin 2 → Nat :=
  let c0_i32_5 : BitVec 32 := 0#32
  let c3_i32 : BitVec 32 := 3#32
  let v11 : BitVec 32 := Scalar.shrui v10 c3_i32
  let c3_i32_2 : BitVec 32 := 3#32
  let v12 : BitVec 32 := Scalar.shli v11 c3_i32_2
  let c888_i32 : BitVec 32 := 888#32
  let v13 : BitVec 32 := Scalar.minsi v12 c888_i32
  let v14 : BitVec 32 := v13
  let v22 : BitVec 32 := Scalar.addi c0_i32_5 v14
  let v23 : Index := Scalar.indexCast v22
  let c0_6 : Index := 0#32
  ![v23.toNat, 0]
def k0_off3 (v10 : BitVec 32) : Fin 2 → Nat :=
  let c0_i32_18 : BitVec 32 := 0#32
  let c3_i32 : BitVec 32 := 3#32
  let v11 : BitVec 32 := Scalar.shrui v10 c3_i32
  let c3_i32_2 : BitVec 32 := 3#32
  let v12 : BitVec 32 := Scalar.shli v11 c3_i32_2
  let c888_i32 : BitVec 32 := 888#32
  let v13 : BitVec 32 := Scalar.minsi v12 c888_i32
  let v14 : BitVec 32 := v13
  let v45 : BitVec 32 := Scalar.addi c0_i32_18 v14
  let v46 : Index := Scalar.indexCast v45
  let c0_19 : Index := 0#32
  ![v46.toNat, 0]

def k0_chk1 (v10 : BitVec 32) : Prop :=
  (8 ∣ (k0_mult1 v10).toNat) ∧
  (∀ a, (k0_off2 v10) a + S136x1024.size a ≤ S1024x1024.size a) ∧
  (∀ a, (k0_off3 v10) a + S136x128.size a ≤ S1024x128.size a)
theorem k0_mult1_dvd : ∀ (v10 : BitVec 32) (k0_hw1 : k0_chk1 v10), 8 ∣ (k0_mult1 v10).toNat := fun v10 k0_hw1 => k0_hw1.1
theorem k0_off2_inb : ∀ (v10 : BitVec 32) (k0_hw1 : k0_chk1 v10), ∀ a, (k0_off2 v10) a + S136x1024.size a ≤ S1024x1024.size a := fun v10 k0_hw1 => k0_hw1.2.1
theorem k0_off3_inb : ∀ (v10 : BitVec 32) (k0_hw1 : k0_chk1 v10), ∀ a, (k0_off3 v10) a + S136x128.size a ≤ S1024x128.size a := fun v10 k0_hw1 => k0_hw1.2.2

def k0_off4 (i : grid0.Coords) : Fin 1 → Nat :=
  let arg1 : BitVec 32 := BitVec.ofNat 32 (i 1).val
  let c16_i32_21 : BitVec 32 := 16#32
  let v55 : BitVec 32 := Scalar.muli arg1 c16_i32_21
  let arg0 : BitVec 32 := BitVec.ofNat 32 (i 0).val
  let v56 : BitVec 32 := Scalar.addi v55 arg0
  let c128_i32_22 : BitVec 32 := 128#32
  let v57 : BitVec 32 := Scalar.muli v56 c128_i32_22
  let arg2 : BitVec 32 := BitVec.ofNat 32 (i 2).val
  let c32_i32_23 : BitVec 32 := 32#32
  let v58 : BitVec 32 := Scalar.muli arg2 c32_i32_23
  let v59 : BitVec 32 := Scalar.addi v57 v58
  let c1_i32 : BitVec 32 := 1#32
  let v60 : BitVec 32 := Scalar.addi v59 c1_i32
  let v61 : Index := Scalar.indexCast v60
  ![v61.toNat]
def k0_mult2 (v62 : BitVec 32) : BitVec 32 :=
  let c3_i32_24 : BitVec 32 := 3#32
  let v63 : BitVec 32 := Scalar.shrui v62 c3_i32_24
  let c3_i32_25 : BitVec 32 := 3#32
  let v64 : BitVec 32 := Scalar.shli v63 c3_i32_25
  let c888_i32_26 : BitVec 32 := 888#32
  let v65 : BitVec 32 := Scalar.minsi v64 c888_i32_26
  v65

def k0_off5 (v62 : BitVec 32) : Fin 2 → Nat :=
  let c0_i32_29 : BitVec 32 := 0#32
  let c3_i32_24 : BitVec 32 := 3#32
  let v63 : BitVec 32 := Scalar.shrui v62 c3_i32_24
  let c3_i32_25 : BitVec 32 := 3#32
  let v64 : BitVec 32 := Scalar.shli v63 c3_i32_25
  let c888_i32_26 : BitVec 32 := 888#32
  let v65 : BitVec 32 := Scalar.minsi v64 c888_i32_26
  let v66 : BitVec 32 := v65
  let v74 : BitVec 32 := Scalar.addi c0_i32_29 v66
  let v75 : Index := Scalar.indexCast v74
  let c0_30 : Index := 0#32
  ![v75.toNat, 0]
def k0_off6 (v62 : BitVec 32) : Fin 2 → Nat :=
  let c0_i32_43 : BitVec 32 := 0#32
  let c3_i32_24 : BitVec 32 := 3#32
  let v63 : BitVec 32 := Scalar.shrui v62 c3_i32_24
  let c3_i32_25 : BitVec 32 := 3#32
  let v64 : BitVec 32 := Scalar.shli v63 c3_i32_25
  let c888_i32_26 : BitVec 32 := 888#32
  let v65 : BitVec 32 := Scalar.minsi v64 c888_i32_26
  let v66 : BitVec 32 := v65
  let v97 : BitVec 32 := Scalar.addi c0_i32_43 v66
  let v98 : Index := Scalar.indexCast v97
  let c0_44 : Index := 0#32
  ![v98.toNat, 0]

def k0_chk2 (v62 : BitVec 32) : Prop :=
  (8 ∣ (k0_mult2 v62).toNat) ∧
  (∀ a, (k0_off5 v62) a + S136x1024.size a ≤ S1024x1024.size a) ∧
  (∀ a, (k0_off6 v62) a + S136x128.size a ≤ S1024x128.size a)
theorem k0_mult2_dvd : ∀ (v62 : BitVec 32) (k0_hw2 : k0_chk2 v62), 8 ∣ (k0_mult2 v62).toNat := fun v62 k0_hw2 => k0_hw2.1
theorem k0_off5_inb : ∀ (v62 : BitVec 32) (k0_hw2 : k0_chk2 v62), ∀ a, (k0_off5 v62) a + S136x1024.size a ≤ S1024x1024.size a := fun v62 k0_hw2 => k0_hw2.2.1
theorem k0_off6_inb : ∀ (v62 : BitVec 32) (k0_hw2 : k0_chk2 v62), ∀ a, (k0_off6 v62) a + S136x128.size a ≤ S1024x128.size a := fun v62 k0_hw2 => k0_hw2.2.2

def k0_off7 (i : grid0.Coords) : Fin 1 → Nat :=
  let arg1 : BitVec 32 := BitVec.ofNat 32 (i 1).val
  let c16_i32_46 : BitVec 32 := 16#32
  let v107 : BitVec 32 := Scalar.muli arg1 c16_i32_46
  let arg0 : BitVec 32 := BitVec.ofNat 32 (i 0).val
  let v108 : BitVec 32 := Scalar.addi v107 arg0
  let c128_i32_47 : BitVec 32 := 128#32
  let v109 : BitVec 32 := Scalar.muli v108 c128_i32_47
  let arg2 : BitVec 32 := BitVec.ofNat 32 (i 2).val
  let c32_i32_48 : BitVec 32 := 32#32
  let v110 : BitVec 32 := Scalar.muli arg2 c32_i32_48
  let v111 : BitVec 32 := Scalar.addi v109 v110
  let c2_i32 : BitVec 32 := 2#32
  let v112 : BitVec 32 := Scalar.addi v111 c2_i32
  let v113 : Index := Scalar.indexCast v112
  ![v113.toNat]
def k0_mult3 (v114 : BitVec 32) : BitVec 32 :=
  let c3_i32_49 : BitVec 32 := 3#32
  let v115 : BitVec 32 := Scalar.shrui v114 c3_i32_49
  let c3_i32_50 : BitVec 32 := 3#32
  let v116 : BitVec 32 := Scalar.shli v115 c3_i32_50
  let c888_i32_51 : BitVec 32 := 888#32
  let v117 : BitVec 32 := Scalar.minsi v116 c888_i32_51
  v117

def k0_off8 (v114 : BitVec 32) : Fin 2 → Nat :=
  let c0_i32_54 : BitVec 32 := 0#32
  let c3_i32_49 : BitVec 32 := 3#32
  let v115 : BitVec 32 := Scalar.shrui v114 c3_i32_49
  let c3_i32_50 : BitVec 32 := 3#32
  let v116 : BitVec 32 := Scalar.shli v115 c3_i32_50
  let c888_i32_51 : BitVec 32 := 888#32
  let v117 : BitVec 32 := Scalar.minsi v116 c888_i32_51
  let v118 : BitVec 32 := v117
  let v126 : BitVec 32 := Scalar.addi c0_i32_54 v118
  let v127 : Index := Scalar.indexCast v126
  let c0_55 : Index := 0#32
  ![v127.toNat, 0]
def k0_off9 (v114 : BitVec 32) : Fin 2 → Nat :=
  let c0_i32_68 : BitVec 32 := 0#32
  let c3_i32_49 : BitVec 32 := 3#32
  let v115 : BitVec 32 := Scalar.shrui v114 c3_i32_49
  let c3_i32_50 : BitVec 32 := 3#32
  let v116 : BitVec 32 := Scalar.shli v115 c3_i32_50
  let c888_i32_51 : BitVec 32 := 888#32
  let v117 : BitVec 32 := Scalar.minsi v116 c888_i32_51
  let v118 : BitVec 32 := v117
  let v149 : BitVec 32 := Scalar.addi c0_i32_68 v118
  let v150 : Index := Scalar.indexCast v149
  let c0_69 : Index := 0#32
  ![v150.toNat, 0]

def k0_chk3 (v114 : BitVec 32) : Prop :=
  (8 ∣ (k0_mult3 v114).toNat) ∧
  (∀ a, (k0_off8 v114) a + S136x1024.size a ≤ S1024x1024.size a) ∧
  (∀ a, (k0_off9 v114) a + S136x128.size a ≤ S1024x128.size a)
theorem k0_mult3_dvd : ∀ (v114 : BitVec 32) (k0_hw3 : k0_chk3 v114), 8 ∣ (k0_mult3 v114).toNat := fun v114 k0_hw3 => k0_hw3.1
theorem k0_off8_inb : ∀ (v114 : BitVec 32) (k0_hw3 : k0_chk3 v114), ∀ a, (k0_off8 v114) a + S136x1024.size a ≤ S1024x1024.size a := fun v114 k0_hw3 => k0_hw3.2.1
theorem k0_off9_inb : ∀ (v114 : BitVec 32) (k0_hw3 : k0_chk3 v114), ∀ a, (k0_off9 v114) a + S136x128.size a ≤ S1024x128.size a := fun v114 k0_hw3 => k0_hw3.2.2

def k0_off10 (i : grid0.Coords) : Fin 1 → Nat :=
  let arg1 : BitVec 32 := BitVec.ofNat 32 (i 1).val
  let c16_i32_71 : BitVec 32 := 16#32
  let v159 : BitVec 32 := Scalar.muli arg1 c16_i32_71
  let arg0 : BitVec 32 := BitVec.ofNat 32 (i 0).val
  let v160 : BitVec 32 := Scalar.addi v159 arg0
  let c128_i32_72 : BitVec 32 := 128#32
  let v161 : BitVec 32 := Scalar.muli v160 c128_i32_72
  let arg2 : BitVec 32 := BitVec.ofNat 32 (i 2).val
  let c32_i32_73 : BitVec 32 := 32#32
  let v162 : BitVec 32 := Scalar.muli arg2 c32_i32_73
  let v163 : BitVec 32 := Scalar.addi v161 v162
  let c3_i32_74 : BitVec 32 := 3#32
  let v164 : BitVec 32 := Scalar.addi v163 c3_i32_74
  let v165 : Index := Scalar.indexCast v164
  ![v165.toNat]
def k0_mult4 (v166 : BitVec 32) : BitVec 32 :=
  let c3_i32_75 : BitVec 32 := 3#32
  let v167 : BitVec 32 := Scalar.shrui v166 c3_i32_75
  let c3_i32_76 : BitVec 32 := 3#32
  let v168 : BitVec 32 := Scalar.shli v167 c3_i32_76
  let c888_i32_77 : BitVec 32 := 888#32
  let v169 : BitVec 32 := Scalar.minsi v168 c888_i32_77
  v169

def k0_off11 (v166 : BitVec 32) : Fin 2 → Nat :=
  let c0_i32_80 : BitVec 32 := 0#32
  let c3_i32_75 : BitVec 32 := 3#32
  let v167 : BitVec 32 := Scalar.shrui v166 c3_i32_75
  let c3_i32_76 : BitVec 32 := 3#32
  let v168 : BitVec 32 := Scalar.shli v167 c3_i32_76
  let c888_i32_77 : BitVec 32 := 888#32
  let v169 : BitVec 32 := Scalar.minsi v168 c888_i32_77
  let v170 : BitVec 32 := v169
  let v178 : BitVec 32 := Scalar.addi c0_i32_80 v170
  let v179 : Index := Scalar.indexCast v178
  let c0_81 : Index := 0#32
  ![v179.toNat, 0]
def k0_off12 (v166 : BitVec 32) : Fin 2 → Nat :=
  let c0_i32_94 : BitVec 32 := 0#32
  let c3_i32_75 : BitVec 32 := 3#32
  let v167 : BitVec 32 := Scalar.shrui v166 c3_i32_75
  let c3_i32_76 : BitVec 32 := 3#32
  let v168 : BitVec 32 := Scalar.shli v167 c3_i32_76
  let c888_i32_77 : BitVec 32 := 888#32
  let v169 : BitVec 32 := Scalar.minsi v168 c888_i32_77
  let v170 : BitVec 32 := v169
  let v201 : BitVec 32 := Scalar.addi c0_i32_94 v170
  let v202 : Index := Scalar.indexCast v201
  let c0_95 : Index := 0#32
  ![v202.toNat, 0]

def k0_chk4 (v166 : BitVec 32) : Prop :=
  (8 ∣ (k0_mult4 v166).toNat) ∧
  (∀ a, (k0_off11 v166) a + S136x1024.size a ≤ S1024x1024.size a) ∧
  (∀ a, (k0_off12 v166) a + S136x128.size a ≤ S1024x128.size a)
theorem k0_mult4_dvd : ∀ (v166 : BitVec 32) (k0_hw4 : k0_chk4 v166), 8 ∣ (k0_mult4 v166).toNat := fun v166 k0_hw4 => k0_hw4.1
theorem k0_off11_inb : ∀ (v166 : BitVec 32) (k0_hw4 : k0_chk4 v166), ∀ a, (k0_off11 v166) a + S136x1024.size a ≤ S1024x1024.size a := fun v166 k0_hw4 => k0_hw4.2.1
theorem k0_off12_inb : ∀ (v166 : BitVec 32) (k0_hw4 : k0_chk4 v166), ∀ a, (k0_off12 v166) a + S136x128.size a ≤ S1024x128.size a := fun v166 k0_hw4 => k0_hw4.2.2

def k0_off13 (i : grid0.Coords) : Fin 1 → Nat :=
  let arg1 : BitVec 32 := BitVec.ofNat 32 (i 1).val
  let c16_i32_97 : BitVec 32 := 16#32
  let v211 : BitVec 32 := Scalar.muli arg1 c16_i32_97
  let arg0 : BitVec 32 := BitVec.ofNat 32 (i 0).val
  let v212 : BitVec 32 := Scalar.addi v211 arg0
  let c128_i32_98 : BitVec 32 := 128#32
  let v213 : BitVec 32 := Scalar.muli v212 c128_i32_98
  let arg2 : BitVec 32 := BitVec.ofNat 32 (i 2).val
  let c32_i32_99 : BitVec 32 := 32#32
  let v214 : BitVec 32 := Scalar.muli arg2 c32_i32_99
  let v215 : BitVec 32 := Scalar.addi v213 v214
  let c4_i32 : BitVec 32 := 4#32
  let v216 : BitVec 32 := Scalar.addi v215 c4_i32
  let v217 : Index := Scalar.indexCast v216
  ![v217.toNat]
def k0_mult5 (v218 : BitVec 32) : BitVec 32 :=
  let c3_i32_100 : BitVec 32 := 3#32
  let v219 : BitVec 32 := Scalar.shrui v218 c3_i32_100
  let c3_i32_101 : BitVec 32 := 3#32
  let v220 : BitVec 32 := Scalar.shli v219 c3_i32_101
  let c888_i32_102 : BitVec 32 := 888#32
  let v221 : BitVec 32 := Scalar.minsi v220 c888_i32_102
  v221

def k0_off14 (v218 : BitVec 32) : Fin 2 → Nat :=
  let c0_i32_105 : BitVec 32 := 0#32
  let c3_i32_100 : BitVec 32 := 3#32
  let v219 : BitVec 32 := Scalar.shrui v218 c3_i32_100
  let c3_i32_101 : BitVec 32 := 3#32
  let v220 : BitVec 32 := Scalar.shli v219 c3_i32_101
  let c888_i32_102 : BitVec 32 := 888#32
  let v221 : BitVec 32 := Scalar.minsi v220 c888_i32_102
  let v222 : BitVec 32 := v221
  let v230 : BitVec 32 := Scalar.addi c0_i32_105 v222
  let v231 : Index := Scalar.indexCast v230
  let c0_106 : Index := 0#32
  ![v231.toNat, 0]
def k0_off15 (v218 : BitVec 32) : Fin 2 → Nat :=
  let c0_i32_119 : BitVec 32 := 0#32
  let c3_i32_100 : BitVec 32 := 3#32
  let v219 : BitVec 32 := Scalar.shrui v218 c3_i32_100
  let c3_i32_101 : BitVec 32 := 3#32
  let v220 : BitVec 32 := Scalar.shli v219 c3_i32_101
  let c888_i32_102 : BitVec 32 := 888#32
  let v221 : BitVec 32 := Scalar.minsi v220 c888_i32_102
  let v222 : BitVec 32 := v221
  let v253 : BitVec 32 := Scalar.addi c0_i32_119 v222
  let v254 : Index := Scalar.indexCast v253
  let c0_120 : Index := 0#32
  ![v254.toNat, 0]

def k0_chk5 (v218 : BitVec 32) : Prop :=
  (8 ∣ (k0_mult5 v218).toNat) ∧
  (∀ a, (k0_off14 v218) a + S136x1024.size a ≤ S1024x1024.size a) ∧
  (∀ a, (k0_off15 v218) a + S136x128.size a ≤ S1024x128.size a)
theorem k0_mult5_dvd : ∀ (v218 : BitVec 32) (k0_hw5 : k0_chk5 v218), 8 ∣ (k0_mult5 v218).toNat := fun v218 k0_hw5 => k0_hw5.1
theorem k0_off14_inb : ∀ (v218 : BitVec 32) (k0_hw5 : k0_chk5 v218), ∀ a, (k0_off14 v218) a + S136x1024.size a ≤ S1024x1024.size a := fun v218 k0_hw5 => k0_hw5.2.1
theorem k0_off15_inb : ∀ (v218 : BitVec 32) (k0_hw5 : k0_chk5 v218), ∀ a, (k0_off15 v218) a + S136x128.size a ≤ S1024x128.size a := fun v218 k0_hw5 => k0_hw5.2.2

def k0_off16 (i : grid0.Coords) : Fin 1 → Nat :=
  let arg1 : BitVec 32 := BitVec.ofNat 32 (i 1).val
  let c16_i32_122 : BitVec 32 := 16#32
  let v263 : BitVec 32 := Scalar.muli arg1 c16_i32_122
  let arg0 : BitVec 32 := BitVec.ofNat 32 (i 0).val
  let v264 : BitVec 32 := Scalar.addi v263 arg0
  let c128_i32_123 : BitVec 32 := 128#32
  let v265 : BitVec 32 := Scalar.muli v264 c128_i32_123
  let arg2 : BitVec 32 := BitVec.ofNat 32 (i 2).val
  let c32_i32_124 : BitVec 32 := 32#32
  let v266 : BitVec 32 := Scalar.muli arg2 c32_i32_124
  let v267 : BitVec 32 := Scalar.addi v265 v266
  let c5_i32 : BitVec 32 := 5#32
  let v268 : BitVec 32 := Scalar.addi v267 c5_i32
  let v269 : Index := Scalar.indexCast v268
  ![v269.toNat]
def k0_mult6 (v270 : BitVec 32) : BitVec 32 :=
  let c3_i32_125 : BitVec 32 := 3#32
  let v271 : BitVec 32 := Scalar.shrui v270 c3_i32_125
  let c3_i32_126 : BitVec 32 := 3#32
  let v272 : BitVec 32 := Scalar.shli v271 c3_i32_126
  let c888_i32_127 : BitVec 32 := 888#32
  let v273 : BitVec 32 := Scalar.minsi v272 c888_i32_127
  v273

def k0_off17 (v270 : BitVec 32) : Fin 2 → Nat :=
  let c0_i32_130 : BitVec 32 := 0#32
  let c3_i32_125 : BitVec 32 := 3#32
  let v271 : BitVec 32 := Scalar.shrui v270 c3_i32_125
  let c3_i32_126 : BitVec 32 := 3#32
  let v272 : BitVec 32 := Scalar.shli v271 c3_i32_126
  let c888_i32_127 : BitVec 32 := 888#32
  let v273 : BitVec 32 := Scalar.minsi v272 c888_i32_127
  let v274 : BitVec 32 := v273
  let v282 : BitVec 32 := Scalar.addi c0_i32_130 v274
  let v283 : Index := Scalar.indexCast v282
  let c0_131 : Index := 0#32
  ![v283.toNat, 0]
def k0_off18 (v270 : BitVec 32) : Fin 2 → Nat :=
  let c0_i32_144 : BitVec 32 := 0#32
  let c3_i32_125 : BitVec 32 := 3#32
  let v271 : BitVec 32 := Scalar.shrui v270 c3_i32_125
  let c3_i32_126 : BitVec 32 := 3#32
  let v272 : BitVec 32 := Scalar.shli v271 c3_i32_126
  let c888_i32_127 : BitVec 32 := 888#32
  let v273 : BitVec 32 := Scalar.minsi v272 c888_i32_127
  let v274 : BitVec 32 := v273
  let v305 : BitVec 32 := Scalar.addi c0_i32_144 v274
  let v306 : Index := Scalar.indexCast v305
  let c0_145 : Index := 0#32
  ![v306.toNat, 0]

def k0_chk6 (v270 : BitVec 32) : Prop :=
  (8 ∣ (k0_mult6 v270).toNat) ∧
  (∀ a, (k0_off17 v270) a + S136x1024.size a ≤ S1024x1024.size a) ∧
  (∀ a, (k0_off18 v270) a + S136x128.size a ≤ S1024x128.size a)
theorem k0_mult6_dvd : ∀ (v270 : BitVec 32) (k0_hw6 : k0_chk6 v270), 8 ∣ (k0_mult6 v270).toNat := fun v270 k0_hw6 => k0_hw6.1
theorem k0_off17_inb : ∀ (v270 : BitVec 32) (k0_hw6 : k0_chk6 v270), ∀ a, (k0_off17 v270) a + S136x1024.size a ≤ S1024x1024.size a := fun v270 k0_hw6 => k0_hw6.2.1
theorem k0_off18_inb : ∀ (v270 : BitVec 32) (k0_hw6 : k0_chk6 v270), ∀ a, (k0_off18 v270) a + S136x128.size a ≤ S1024x128.size a := fun v270 k0_hw6 => k0_hw6.2.2

def k0_off19 (i : grid0.Coords) : Fin 1 → Nat :=
  let arg1 : BitVec 32 := BitVec.ofNat 32 (i 1).val
  let c16_i32_147 : BitVec 32 := 16#32
  let v315 : BitVec 32 := Scalar.muli arg1 c16_i32_147
  let arg0 : BitVec 32 := BitVec.ofNat 32 (i 0).val
  let v316 : BitVec 32 := Scalar.addi v315 arg0
  let c128_i32_148 : BitVec 32 := 128#32
  let v317 : BitVec 32 := Scalar.muli v316 c128_i32_148
  let arg2 : BitVec 32 := BitVec.ofNat 32 (i 2).val
  let c32_i32_149 : BitVec 32 := 32#32
  let v318 : BitVec 32 := Scalar.muli arg2 c32_i32_149
  let v319 : BitVec 32 := Scalar.addi v317 v318
  let c6_i32 : BitVec 32 := 6#32
  let v320 : BitVec 32 := Scalar.addi v319 c6_i32
  let v321 : Index := Scalar.indexCast v320
  ![v321.toNat]
def k0_mult7 (v322 : BitVec 32) : BitVec 32 :=
  let c3_i32_150 : BitVec 32 := 3#32
  let v323 : BitVec 32 := Scalar.shrui v322 c3_i32_150
  let c3_i32_151 : BitVec 32 := 3#32
  let v324 : BitVec 32 := Scalar.shli v323 c3_i32_151
  let c888_i32_152 : BitVec 32 := 888#32
  let v325 : BitVec 32 := Scalar.minsi v324 c888_i32_152
  v325

def k0_off20 (v322 : BitVec 32) : Fin 2 → Nat :=
  let c0_i32_155 : BitVec 32 := 0#32
  let c3_i32_150 : BitVec 32 := 3#32
  let v323 : BitVec 32 := Scalar.shrui v322 c3_i32_150
  let c3_i32_151 : BitVec 32 := 3#32
  let v324 : BitVec 32 := Scalar.shli v323 c3_i32_151
  let c888_i32_152 : BitVec 32 := 888#32
  let v325 : BitVec 32 := Scalar.minsi v324 c888_i32_152
  let v326 : BitVec 32 := v325
  let v334 : BitVec 32 := Scalar.addi c0_i32_155 v326
  let v335 : Index := Scalar.indexCast v334
  let c0_156 : Index := 0#32
  ![v335.toNat, 0]
def k0_off21 (v322 : BitVec 32) : Fin 2 → Nat :=
  let c0_i32_169 : BitVec 32 := 0#32
  let c3_i32_150 : BitVec 32 := 3#32
  let v323 : BitVec 32 := Scalar.shrui v322 c3_i32_150
  let c3_i32_151 : BitVec 32 := 3#32
  let v324 : BitVec 32 := Scalar.shli v323 c3_i32_151
  let c888_i32_152 : BitVec 32 := 888#32
  let v325 : BitVec 32 := Scalar.minsi v324 c888_i32_152
  let v326 : BitVec 32 := v325
  let v357 : BitVec 32 := Scalar.addi c0_i32_169 v326
  let v358 : Index := Scalar.indexCast v357
  let c0_170 : Index := 0#32
  ![v358.toNat, 0]

def k0_chk7 (v322 : BitVec 32) : Prop :=
  (8 ∣ (k0_mult7 v322).toNat) ∧
  (∀ a, (k0_off20 v322) a + S136x1024.size a ≤ S1024x1024.size a) ∧
  (∀ a, (k0_off21 v322) a + S136x128.size a ≤ S1024x128.size a)
theorem k0_mult7_dvd : ∀ (v322 : BitVec 32) (k0_hw7 : k0_chk7 v322), 8 ∣ (k0_mult7 v322).toNat := fun v322 k0_hw7 => k0_hw7.1
theorem k0_off20_inb : ∀ (v322 : BitVec 32) (k0_hw7 : k0_chk7 v322), ∀ a, (k0_off20 v322) a + S136x1024.size a ≤ S1024x1024.size a := fun v322 k0_hw7 => k0_hw7.2.1
theorem k0_off21_inb : ∀ (v322 : BitVec 32) (k0_hw7 : k0_chk7 v322), ∀ a, (k0_off21 v322) a + S136x128.size a ≤ S1024x128.size a := fun v322 k0_hw7 => k0_hw7.2.2

def k0_off22 (i : grid0.Coords) : Fin 1 → Nat :=
  let arg1 : BitVec 32 := BitVec.ofNat 32 (i 1).val
  let c16_i32_172 : BitVec 32 := 16#32
  let v367 : BitVec 32 := Scalar.muli arg1 c16_i32_172
  let arg0 : BitVec 32 := BitVec.ofNat 32 (i 0).val
  let v368 : BitVec 32 := Scalar.addi v367 arg0
  let c128_i32_173 : BitVec 32 := 128#32
  let v369 : BitVec 32 := Scalar.muli v368 c128_i32_173
  let arg2 : BitVec 32 := BitVec.ofNat 32 (i 2).val
  let c32_i32_174 : BitVec 32 := 32#32
  let v370 : BitVec 32 := Scalar.muli arg2 c32_i32_174
  let v371 : BitVec 32 := Scalar.addi v369 v370
  let c7_i32 : BitVec 32 := 7#32
  let v372 : BitVec 32 := Scalar.addi v371 c7_i32
  let v373 : Index := Scalar.indexCast v372
  ![v373.toNat]
def k0_mult8 (v374 : BitVec 32) : BitVec 32 :=
  let c3_i32_175 : BitVec 32 := 3#32
  let v375 : BitVec 32 := Scalar.shrui v374 c3_i32_175
  let c3_i32_176 : BitVec 32 := 3#32
  let v376 : BitVec 32 := Scalar.shli v375 c3_i32_176
  let c888_i32_177 : BitVec 32 := 888#32
  let v377 : BitVec 32 := Scalar.minsi v376 c888_i32_177
  v377

def k0_off23 (v374 : BitVec 32) : Fin 2 → Nat :=
  let c0_i32_180 : BitVec 32 := 0#32
  let c3_i32_175 : BitVec 32 := 3#32
  let v375 : BitVec 32 := Scalar.shrui v374 c3_i32_175
  let c3_i32_176 : BitVec 32 := 3#32
  let v376 : BitVec 32 := Scalar.shli v375 c3_i32_176
  let c888_i32_177 : BitVec 32 := 888#32
  let v377 : BitVec 32 := Scalar.minsi v376 c888_i32_177
  let v378 : BitVec 32 := v377
  let v386 : BitVec 32 := Scalar.addi c0_i32_180 v378
  let v387 : Index := Scalar.indexCast v386
  let c0_181 : Index := 0#32
  ![v387.toNat, 0]
def k0_off24 (v374 : BitVec 32) : Fin 2 → Nat :=
  let c0_i32_194 : BitVec 32 := 0#32
  let c3_i32_175 : BitVec 32 := 3#32
  let v375 : BitVec 32 := Scalar.shrui v374 c3_i32_175
  let c3_i32_176 : BitVec 32 := 3#32
  let v376 : BitVec 32 := Scalar.shli v375 c3_i32_176
  let c888_i32_177 : BitVec 32 := 888#32
  let v377 : BitVec 32 := Scalar.minsi v376 c888_i32_177
  let v378 : BitVec 32 := v377
  let v409 : BitVec 32 := Scalar.addi c0_i32_194 v378
  let v410 : Index := Scalar.indexCast v409
  let c0_195 : Index := 0#32
  ![v410.toNat, 0]

def k0_chk8 (v374 : BitVec 32) : Prop :=
  (8 ∣ (k0_mult8 v374).toNat) ∧
  (∀ a, (k0_off23 v374) a + S136x1024.size a ≤ S1024x1024.size a) ∧
  (∀ a, (k0_off24 v374) a + S136x128.size a ≤ S1024x128.size a)
theorem k0_mult8_dvd : ∀ (v374 : BitVec 32) (k0_hw8 : k0_chk8 v374), 8 ∣ (k0_mult8 v374).toNat := fun v374 k0_hw8 => k0_hw8.1
theorem k0_off23_inb : ∀ (v374 : BitVec 32) (k0_hw8 : k0_chk8 v374), ∀ a, (k0_off23 v374) a + S136x1024.size a ≤ S1024x1024.size a := fun v374 k0_hw8 => k0_hw8.2.1
theorem k0_off24_inb : ∀ (v374 : BitVec 32) (k0_hw8 : k0_chk8 v374), ∀ a, (k0_off24 v374) a + S136x128.size a ≤ S1024x128.size a := fun v374 k0_hw8 => k0_hw8.2.2

def k0_off25 (i : grid0.Coords) : Fin 1 → Nat :=
  let arg1 : BitVec 32 := BitVec.ofNat 32 (i 1).val
  let c16_i32_197 : BitVec 32 := 16#32
  let v419 : BitVec 32 := Scalar.muli arg1 c16_i32_197
  let arg0 : BitVec 32 := BitVec.ofNat 32 (i 0).val
  let v420 : BitVec 32 := Scalar.addi v419 arg0
  let c128_i32_198 : BitVec 32 := 128#32
  let v421 : BitVec 32 := Scalar.muli v420 c128_i32_198
  let arg2 : BitVec 32 := BitVec.ofNat 32 (i 2).val
  let c32_i32_199 : BitVec 32 := 32#32
  let v422 : BitVec 32 := Scalar.muli arg2 c32_i32_199
  let v423 : BitVec 32 := Scalar.addi v421 v422
  let c8_i32 : BitVec 32 := 8#32
  let v424 : BitVec 32 := Scalar.addi v423 c8_i32
  let v425 : Index := Scalar.indexCast v424
  ![v425.toNat]
def k0_mult9 (v426 : BitVec 32) : BitVec 32 :=
  let c3_i32_200 : BitVec 32 := 3#32
  let v427 : BitVec 32 := Scalar.shrui v426 c3_i32_200
  let c3_i32_201 : BitVec 32 := 3#32
  let v428 : BitVec 32 := Scalar.shli v427 c3_i32_201
  let c888_i32_202 : BitVec 32 := 888#32
  let v429 : BitVec 32 := Scalar.minsi v428 c888_i32_202
  v429

def k0_off26 (v426 : BitVec 32) : Fin 2 → Nat :=
  let c0_i32_205 : BitVec 32 := 0#32
  let c3_i32_200 : BitVec 32 := 3#32
  let v427 : BitVec 32 := Scalar.shrui v426 c3_i32_200
  let c3_i32_201 : BitVec 32 := 3#32
  let v428 : BitVec 32 := Scalar.shli v427 c3_i32_201
  let c888_i32_202 : BitVec 32 := 888#32
  let v429 : BitVec 32 := Scalar.minsi v428 c888_i32_202
  let v430 : BitVec 32 := v429
  let v438 : BitVec 32 := Scalar.addi c0_i32_205 v430
  let v439 : Index := Scalar.indexCast v438
  let c0_206 : Index := 0#32
  ![v439.toNat, 0]
def k0_off27 (v426 : BitVec 32) : Fin 2 → Nat :=
  let c0_i32_219 : BitVec 32 := 0#32
  let c3_i32_200 : BitVec 32 := 3#32
  let v427 : BitVec 32 := Scalar.shrui v426 c3_i32_200
  let c3_i32_201 : BitVec 32 := 3#32
  let v428 : BitVec 32 := Scalar.shli v427 c3_i32_201
  let c888_i32_202 : BitVec 32 := 888#32
  let v429 : BitVec 32 := Scalar.minsi v428 c888_i32_202
  let v430 : BitVec 32 := v429
  let v461 : BitVec 32 := Scalar.addi c0_i32_219 v430
  let v462 : Index := Scalar.indexCast v461
  let c0_220 : Index := 0#32
  ![v462.toNat, 0]

def k0_chk9 (v426 : BitVec 32) : Prop :=
  (8 ∣ (k0_mult9 v426).toNat) ∧
  (∀ a, (k0_off26 v426) a + S136x1024.size a ≤ S1024x1024.size a) ∧
  (∀ a, (k0_off27 v426) a + S136x128.size a ≤ S1024x128.size a)
theorem k0_mult9_dvd : ∀ (v426 : BitVec 32) (k0_hw9 : k0_chk9 v426), 8 ∣ (k0_mult9 v426).toNat := fun v426 k0_hw9 => k0_hw9.1
theorem k0_off26_inb : ∀ (v426 : BitVec 32) (k0_hw9 : k0_chk9 v426), ∀ a, (k0_off26 v426) a + S136x1024.size a ≤ S1024x1024.size a := fun v426 k0_hw9 => k0_hw9.2.1
theorem k0_off27_inb : ∀ (v426 : BitVec 32) (k0_hw9 : k0_chk9 v426), ∀ a, (k0_off27 v426) a + S136x128.size a ≤ S1024x128.size a := fun v426 k0_hw9 => k0_hw9.2.2

def k0_off28 (i : grid0.Coords) : Fin 1 → Nat :=
  let arg1 : BitVec 32 := BitVec.ofNat 32 (i 1).val
  let c16_i32_222 : BitVec 32 := 16#32
  let v471 : BitVec 32 := Scalar.muli arg1 c16_i32_222
  let arg0 : BitVec 32 := BitVec.ofNat 32 (i 0).val
  let v472 : BitVec 32 := Scalar.addi v471 arg0
  let c128_i32_223 : BitVec 32 := 128#32
  let v473 : BitVec 32 := Scalar.muli v472 c128_i32_223
  let arg2 : BitVec 32 := BitVec.ofNat 32 (i 2).val
  let c32_i32_224 : BitVec 32 := 32#32
  let v474 : BitVec 32 := Scalar.muli arg2 c32_i32_224
  let v475 : BitVec 32 := Scalar.addi v473 v474
  let c9_i32 : BitVec 32 := 9#32
  let v476 : BitVec 32 := Scalar.addi v475 c9_i32
  let v477 : Index := Scalar.indexCast v476
  ![v477.toNat]
def k0_mult10 (v478 : BitVec 32) : BitVec 32 :=
  let c3_i32_225 : BitVec 32 := 3#32
  let v479 : BitVec 32 := Scalar.shrui v478 c3_i32_225
  let c3_i32_226 : BitVec 32 := 3#32
  let v480 : BitVec 32 := Scalar.shli v479 c3_i32_226
  let c888_i32_227 : BitVec 32 := 888#32
  let v481 : BitVec 32 := Scalar.minsi v480 c888_i32_227
  v481

def k0_off29 (v478 : BitVec 32) : Fin 2 → Nat :=
  let c0_i32_230 : BitVec 32 := 0#32
  let c3_i32_225 : BitVec 32 := 3#32
  let v479 : BitVec 32 := Scalar.shrui v478 c3_i32_225
  let c3_i32_226 : BitVec 32 := 3#32
  let v480 : BitVec 32 := Scalar.shli v479 c3_i32_226
  let c888_i32_227 : BitVec 32 := 888#32
  let v481 : BitVec 32 := Scalar.minsi v480 c888_i32_227
  let v482 : BitVec 32 := v481
  let v490 : BitVec 32 := Scalar.addi c0_i32_230 v482
  let v491 : Index := Scalar.indexCast v490
  let c0_231 : Index := 0#32
  ![v491.toNat, 0]
def k0_off30 (v478 : BitVec 32) : Fin 2 → Nat :=
  let c0_i32_244 : BitVec 32 := 0#32
  let c3_i32_225 : BitVec 32 := 3#32
  let v479 : BitVec 32 := Scalar.shrui v478 c3_i32_225
  let c3_i32_226 : BitVec 32 := 3#32
  let v480 : BitVec 32 := Scalar.shli v479 c3_i32_226
  let c888_i32_227 : BitVec 32 := 888#32
  let v481 : BitVec 32 := Scalar.minsi v480 c888_i32_227
  let v482 : BitVec 32 := v481
  let v513 : BitVec 32 := Scalar.addi c0_i32_244 v482
  let v514 : Index := Scalar.indexCast v513
  let c0_245 : Index := 0#32
  ![v514.toNat, 0]

def k0_chk10 (v478 : BitVec 32) : Prop :=
  (8 ∣ (k0_mult10 v478).toNat) ∧
  (∀ a, (k0_off29 v478) a + S136x1024.size a ≤ S1024x1024.size a) ∧
  (∀ a, (k0_off30 v478) a + S136x128.size a ≤ S1024x128.size a)
theorem k0_mult10_dvd : ∀ (v478 : BitVec 32) (k0_hw10 : k0_chk10 v478), 8 ∣ (k0_mult10 v478).toNat := fun v478 k0_hw10 => k0_hw10.1
theorem k0_off29_inb : ∀ (v478 : BitVec 32) (k0_hw10 : k0_chk10 v478), ∀ a, (k0_off29 v478) a + S136x1024.size a ≤ S1024x1024.size a := fun v478 k0_hw10 => k0_hw10.2.1
theorem k0_off30_inb : ∀ (v478 : BitVec 32) (k0_hw10 : k0_chk10 v478), ∀ a, (k0_off30 v478) a + S136x128.size a ≤ S1024x128.size a := fun v478 k0_hw10 => k0_hw10.2.2

def k0_off31 (i : grid0.Coords) : Fin 1 → Nat :=
  let arg1 : BitVec 32 := BitVec.ofNat 32 (i 1).val
  let c16_i32_247 : BitVec 32 := 16#32
  let v523 : BitVec 32 := Scalar.muli arg1 c16_i32_247
  let arg0 : BitVec 32 := BitVec.ofNat 32 (i 0).val
  let v524 : BitVec 32 := Scalar.addi v523 arg0
  let c128_i32_248 : BitVec 32 := 128#32
  let v525 : BitVec 32 := Scalar.muli v524 c128_i32_248
  let arg2 : BitVec 32 := BitVec.ofNat 32 (i 2).val
  let c32_i32_249 : BitVec 32 := 32#32
  let v526 : BitVec 32 := Scalar.muli arg2 c32_i32_249
  let v527 : BitVec 32 := Scalar.addi v525 v526
  let c10_i32 : BitVec 32 := 10#32
  let v528 : BitVec 32 := Scalar.addi v527 c10_i32
  let v529 : Index := Scalar.indexCast v528
  ![v529.toNat]
def k0_mult11 (v530 : BitVec 32) : BitVec 32 :=
  let c3_i32_250 : BitVec 32 := 3#32
  let v531 : BitVec 32 := Scalar.shrui v530 c3_i32_250
  let c3_i32_251 : BitVec 32 := 3#32
  let v532 : BitVec 32 := Scalar.shli v531 c3_i32_251
  let c888_i32_252 : BitVec 32 := 888#32
  let v533 : BitVec 32 := Scalar.minsi v532 c888_i32_252
  v533

def k0_off32 (v530 : BitVec 32) : Fin 2 → Nat :=
  let c0_i32_255 : BitVec 32 := 0#32
  let c3_i32_250 : BitVec 32 := 3#32
  let v531 : BitVec 32 := Scalar.shrui v530 c3_i32_250
  let c3_i32_251 : BitVec 32 := 3#32
  let v532 : BitVec 32 := Scalar.shli v531 c3_i32_251
  let c888_i32_252 : BitVec 32 := 888#32
  let v533 : BitVec 32 := Scalar.minsi v532 c888_i32_252
  let v534 : BitVec 32 := v533
  let v542 : BitVec 32 := Scalar.addi c0_i32_255 v534
  let v543 : Index := Scalar.indexCast v542
  let c0_256 : Index := 0#32
  ![v543.toNat, 0]
def k0_off33 (v530 : BitVec 32) : Fin 2 → Nat :=
  let c0_i32_269 : BitVec 32 := 0#32
  let c3_i32_250 : BitVec 32 := 3#32
  let v531 : BitVec 32 := Scalar.shrui v530 c3_i32_250
  let c3_i32_251 : BitVec 32 := 3#32
  let v532 : BitVec 32 := Scalar.shli v531 c3_i32_251
  let c888_i32_252 : BitVec 32 := 888#32
  let v533 : BitVec 32 := Scalar.minsi v532 c888_i32_252
  let v534 : BitVec 32 := v533
  let v565 : BitVec 32 := Scalar.addi c0_i32_269 v534
  let v566 : Index := Scalar.indexCast v565
  let c0_270 : Index := 0#32
  ![v566.toNat, 0]

def k0_chk11 (v530 : BitVec 32) : Prop :=
  (8 ∣ (k0_mult11 v530).toNat) ∧
  (∀ a, (k0_off32 v530) a + S136x1024.size a ≤ S1024x1024.size a) ∧
  (∀ a, (k0_off33 v530) a + S136x128.size a ≤ S1024x128.size a)
theorem k0_mult11_dvd : ∀ (v530 : BitVec 32) (k0_hw11 : k0_chk11 v530), 8 ∣ (k0_mult11 v530).toNat := fun v530 k0_hw11 => k0_hw11.1
theorem k0_off32_inb : ∀ (v530 : BitVec 32) (k0_hw11 : k0_chk11 v530), ∀ a, (k0_off32 v530) a + S136x1024.size a ≤ S1024x1024.size a := fun v530 k0_hw11 => k0_hw11.2.1
theorem k0_off33_inb : ∀ (v530 : BitVec 32) (k0_hw11 : k0_chk11 v530), ∀ a, (k0_off33 v530) a + S136x128.size a ≤ S1024x128.size a := fun v530 k0_hw11 => k0_hw11.2.2

def k0_off34 (i : grid0.Coords) : Fin 1 → Nat :=
  let arg1 : BitVec 32 := BitVec.ofNat 32 (i 1).val
  let c16_i32_272 : BitVec 32 := 16#32
  let v575 : BitVec 32 := Scalar.muli arg1 c16_i32_272
  let arg0 : BitVec 32 := BitVec.ofNat 32 (i 0).val
  let v576 : BitVec 32 := Scalar.addi v575 arg0
  let c128_i32_273 : BitVec 32 := 128#32
  let v577 : BitVec 32 := Scalar.muli v576 c128_i32_273
  let arg2 : BitVec 32 := BitVec.ofNat 32 (i 2).val
  let c32_i32_274 : BitVec 32 := 32#32
  let v578 : BitVec 32 := Scalar.muli arg2 c32_i32_274
  let v579 : BitVec 32 := Scalar.addi v577 v578
  let c11_i32 : BitVec 32 := 11#32
  let v580 : BitVec 32 := Scalar.addi v579 c11_i32
  let v581 : Index := Scalar.indexCast v580
  ![v581.toNat]
def k0_mult12 (v582 : BitVec 32) : BitVec 32 :=
  let c3_i32_275 : BitVec 32 := 3#32
  let v583 : BitVec 32 := Scalar.shrui v582 c3_i32_275
  let c3_i32_276 : BitVec 32 := 3#32
  let v584 : BitVec 32 := Scalar.shli v583 c3_i32_276
  let c888_i32_277 : BitVec 32 := 888#32
  let v585 : BitVec 32 := Scalar.minsi v584 c888_i32_277
  v585

def k0_off35 (v582 : BitVec 32) : Fin 2 → Nat :=
  let c0_i32_280 : BitVec 32 := 0#32
  let c3_i32_275 : BitVec 32 := 3#32
  let v583 : BitVec 32 := Scalar.shrui v582 c3_i32_275
  let c3_i32_276 : BitVec 32 := 3#32
  let v584 : BitVec 32 := Scalar.shli v583 c3_i32_276
  let c888_i32_277 : BitVec 32 := 888#32
  let v585 : BitVec 32 := Scalar.minsi v584 c888_i32_277
  let v586 : BitVec 32 := v585
  let v594 : BitVec 32 := Scalar.addi c0_i32_280 v586
  let v595 : Index := Scalar.indexCast v594
  let c0_281 : Index := 0#32
  ![v595.toNat, 0]
def k0_off36 (v582 : BitVec 32) : Fin 2 → Nat :=
  let c0_i32_294 : BitVec 32 := 0#32
  let c3_i32_275 : BitVec 32 := 3#32
  let v583 : BitVec 32 := Scalar.shrui v582 c3_i32_275
  let c3_i32_276 : BitVec 32 := 3#32
  let v584 : BitVec 32 := Scalar.shli v583 c3_i32_276
  let c888_i32_277 : BitVec 32 := 888#32
  let v585 : BitVec 32 := Scalar.minsi v584 c888_i32_277
  let v586 : BitVec 32 := v585
  let v617 : BitVec 32 := Scalar.addi c0_i32_294 v586
  let v618 : Index := Scalar.indexCast v617
  let c0_295 : Index := 0#32
  ![v618.toNat, 0]

def k0_chk12 (v582 : BitVec 32) : Prop :=
  (8 ∣ (k0_mult12 v582).toNat) ∧
  (∀ a, (k0_off35 v582) a + S136x1024.size a ≤ S1024x1024.size a) ∧
  (∀ a, (k0_off36 v582) a + S136x128.size a ≤ S1024x128.size a)
theorem k0_mult12_dvd : ∀ (v582 : BitVec 32) (k0_hw12 : k0_chk12 v582), 8 ∣ (k0_mult12 v582).toNat := fun v582 k0_hw12 => k0_hw12.1
theorem k0_off35_inb : ∀ (v582 : BitVec 32) (k0_hw12 : k0_chk12 v582), ∀ a, (k0_off35 v582) a + S136x1024.size a ≤ S1024x1024.size a := fun v582 k0_hw12 => k0_hw12.2.1
theorem k0_off36_inb : ∀ (v582 : BitVec 32) (k0_hw12 : k0_chk12 v582), ∀ a, (k0_off36 v582) a + S136x128.size a ≤ S1024x128.size a := fun v582 k0_hw12 => k0_hw12.2.2

def k0_off37 (i : grid0.Coords) : Fin 1 → Nat :=
  let arg1 : BitVec 32 := BitVec.ofNat 32 (i 1).val
  let c16_i32_297 : BitVec 32 := 16#32
  let v627 : BitVec 32 := Scalar.muli arg1 c16_i32_297
  let arg0 : BitVec 32 := BitVec.ofNat 32 (i 0).val
  let v628 : BitVec 32 := Scalar.addi v627 arg0
  let c128_i32_298 : BitVec 32 := 128#32
  let v629 : BitVec 32 := Scalar.muli v628 c128_i32_298
  let arg2 : BitVec 32 := BitVec.ofNat 32 (i 2).val
  let c32_i32_299 : BitVec 32 := 32#32
  let v630 : BitVec 32 := Scalar.muli arg2 c32_i32_299
  let v631 : BitVec 32 := Scalar.addi v629 v630
  let c12_i32 : BitVec 32 := 12#32
  let v632 : BitVec 32 := Scalar.addi v631 c12_i32
  let v633 : Index := Scalar.indexCast v632
  ![v633.toNat]
def k0_mult13 (v634 : BitVec 32) : BitVec 32 :=
  let c3_i32_300 : BitVec 32 := 3#32
  let v635 : BitVec 32 := Scalar.shrui v634 c3_i32_300
  let c3_i32_301 : BitVec 32 := 3#32
  let v636 : BitVec 32 := Scalar.shli v635 c3_i32_301
  let c888_i32_302 : BitVec 32 := 888#32
  let v637 : BitVec 32 := Scalar.minsi v636 c888_i32_302
  v637

def k0_off38 (v634 : BitVec 32) : Fin 2 → Nat :=
  let c0_i32_305 : BitVec 32 := 0#32
  let c3_i32_300 : BitVec 32 := 3#32
  let v635 : BitVec 32 := Scalar.shrui v634 c3_i32_300
  let c3_i32_301 : BitVec 32 := 3#32
  let v636 : BitVec 32 := Scalar.shli v635 c3_i32_301
  let c888_i32_302 : BitVec 32 := 888#32
  let v637 : BitVec 32 := Scalar.minsi v636 c888_i32_302
  let v638 : BitVec 32 := v637
  let v646 : BitVec 32 := Scalar.addi c0_i32_305 v638
  let v647 : Index := Scalar.indexCast v646
  let c0_306 : Index := 0#32
  ![v647.toNat, 0]
def k0_off39 (v634 : BitVec 32) : Fin 2 → Nat :=
  let c0_i32_319 : BitVec 32 := 0#32
  let c3_i32_300 : BitVec 32 := 3#32
  let v635 : BitVec 32 := Scalar.shrui v634 c3_i32_300
  let c3_i32_301 : BitVec 32 := 3#32
  let v636 : BitVec 32 := Scalar.shli v635 c3_i32_301
  let c888_i32_302 : BitVec 32 := 888#32
  let v637 : BitVec 32 := Scalar.minsi v636 c888_i32_302
  let v638 : BitVec 32 := v637
  let v669 : BitVec 32 := Scalar.addi c0_i32_319 v638
  let v670 : Index := Scalar.indexCast v669
  let c0_320 : Index := 0#32
  ![v670.toNat, 0]

def k0_chk13 (v634 : BitVec 32) : Prop :=
  (8 ∣ (k0_mult13 v634).toNat) ∧
  (∀ a, (k0_off38 v634) a + S136x1024.size a ≤ S1024x1024.size a) ∧
  (∀ a, (k0_off39 v634) a + S136x128.size a ≤ S1024x128.size a)
theorem k0_mult13_dvd : ∀ (v634 : BitVec 32) (k0_hw13 : k0_chk13 v634), 8 ∣ (k0_mult13 v634).toNat := fun v634 k0_hw13 => k0_hw13.1
theorem k0_off38_inb : ∀ (v634 : BitVec 32) (k0_hw13 : k0_chk13 v634), ∀ a, (k0_off38 v634) a + S136x1024.size a ≤ S1024x1024.size a := fun v634 k0_hw13 => k0_hw13.2.1
theorem k0_off39_inb : ∀ (v634 : BitVec 32) (k0_hw13 : k0_chk13 v634), ∀ a, (k0_off39 v634) a + S136x128.size a ≤ S1024x128.size a := fun v634 k0_hw13 => k0_hw13.2.2

def k0_off40 (i : grid0.Coords) : Fin 1 → Nat :=
  let arg1 : BitVec 32 := BitVec.ofNat 32 (i 1).val
  let c16_i32_322 : BitVec 32 := 16#32
  let v679 : BitVec 32 := Scalar.muli arg1 c16_i32_322
  let arg0 : BitVec 32 := BitVec.ofNat 32 (i 0).val
  let v680 : BitVec 32 := Scalar.addi v679 arg0
  let c128_i32_323 : BitVec 32 := 128#32
  let v681 : BitVec 32 := Scalar.muli v680 c128_i32_323
  let arg2 : BitVec 32 := BitVec.ofNat 32 (i 2).val
  let c32_i32_324 : BitVec 32 := 32#32
  let v682 : BitVec 32 := Scalar.muli arg2 c32_i32_324
  let v683 : BitVec 32 := Scalar.addi v681 v682
  let c13_i32 : BitVec 32 := 13#32
  let v684 : BitVec 32 := Scalar.addi v683 c13_i32
  let v685 : Index := Scalar.indexCast v684
  ![v685.toNat]
def k0_mult14 (v686 : BitVec 32) : BitVec 32 :=
  let c3_i32_325 : BitVec 32 := 3#32
  let v687 : BitVec 32 := Scalar.shrui v686 c3_i32_325
  let c3_i32_326 : BitVec 32 := 3#32
  let v688 : BitVec 32 := Scalar.shli v687 c3_i32_326
  let c888_i32_327 : BitVec 32 := 888#32
  let v689 : BitVec 32 := Scalar.minsi v688 c888_i32_327
  v689

def k0_off41 (v686 : BitVec 32) : Fin 2 → Nat :=
  let c0_i32_330 : BitVec 32 := 0#32
  let c3_i32_325 : BitVec 32 := 3#32
  let v687 : BitVec 32 := Scalar.shrui v686 c3_i32_325
  let c3_i32_326 : BitVec 32 := 3#32
  let v688 : BitVec 32 := Scalar.shli v687 c3_i32_326
  let c888_i32_327 : BitVec 32 := 888#32
  let v689 : BitVec 32 := Scalar.minsi v688 c888_i32_327
  let v690 : BitVec 32 := v689
  let v698 : BitVec 32 := Scalar.addi c0_i32_330 v690
  let v699 : Index := Scalar.indexCast v698
  let c0_331 : Index := 0#32
  ![v699.toNat, 0]
def k0_off42 (v686 : BitVec 32) : Fin 2 → Nat :=
  let c0_i32_344 : BitVec 32 := 0#32
  let c3_i32_325 : BitVec 32 := 3#32
  let v687 : BitVec 32 := Scalar.shrui v686 c3_i32_325
  let c3_i32_326 : BitVec 32 := 3#32
  let v688 : BitVec 32 := Scalar.shli v687 c3_i32_326
  let c888_i32_327 : BitVec 32 := 888#32
  let v689 : BitVec 32 := Scalar.minsi v688 c888_i32_327
  let v690 : BitVec 32 := v689
  let v721 : BitVec 32 := Scalar.addi c0_i32_344 v690
  let v722 : Index := Scalar.indexCast v721
  let c0_345 : Index := 0#32
  ![v722.toNat, 0]

def k0_chk14 (v686 : BitVec 32) : Prop :=
  (8 ∣ (k0_mult14 v686).toNat) ∧
  (∀ a, (k0_off41 v686) a + S136x1024.size a ≤ S1024x1024.size a) ∧
  (∀ a, (k0_off42 v686) a + S136x128.size a ≤ S1024x128.size a)
theorem k0_mult14_dvd : ∀ (v686 : BitVec 32) (k0_hw14 : k0_chk14 v686), 8 ∣ (k0_mult14 v686).toNat := fun v686 k0_hw14 => k0_hw14.1
theorem k0_off41_inb : ∀ (v686 : BitVec 32) (k0_hw14 : k0_chk14 v686), ∀ a, (k0_off41 v686) a + S136x1024.size a ≤ S1024x1024.size a := fun v686 k0_hw14 => k0_hw14.2.1
theorem k0_off42_inb : ∀ (v686 : BitVec 32) (k0_hw14 : k0_chk14 v686), ∀ a, (k0_off42 v686) a + S136x128.size a ≤ S1024x128.size a := fun v686 k0_hw14 => k0_hw14.2.2

def k0_off43 (i : grid0.Coords) : Fin 1 → Nat :=
  let arg1 : BitVec 32 := BitVec.ofNat 32 (i 1).val
  let c16_i32_347 : BitVec 32 := 16#32
  let v731 : BitVec 32 := Scalar.muli arg1 c16_i32_347
  let arg0 : BitVec 32 := BitVec.ofNat 32 (i 0).val
  let v732 : BitVec 32 := Scalar.addi v731 arg0
  let c128_i32_348 : BitVec 32 := 128#32
  let v733 : BitVec 32 := Scalar.muli v732 c128_i32_348
  let arg2 : BitVec 32 := BitVec.ofNat 32 (i 2).val
  let c32_i32_349 : BitVec 32 := 32#32
  let v734 : BitVec 32 := Scalar.muli arg2 c32_i32_349
  let v735 : BitVec 32 := Scalar.addi v733 v734
  let c14_i32 : BitVec 32 := 14#32
  let v736 : BitVec 32 := Scalar.addi v735 c14_i32
  let v737 : Index := Scalar.indexCast v736
  ![v737.toNat]
def k0_mult15 (v738 : BitVec 32) : BitVec 32 :=
  let c3_i32_350 : BitVec 32 := 3#32
  let v739 : BitVec 32 := Scalar.shrui v738 c3_i32_350
  let c3_i32_351 : BitVec 32 := 3#32
  let v740 : BitVec 32 := Scalar.shli v739 c3_i32_351
  let c888_i32_352 : BitVec 32 := 888#32
  let v741 : BitVec 32 := Scalar.minsi v740 c888_i32_352
  v741

def k0_off44 (v738 : BitVec 32) : Fin 2 → Nat :=
  let c0_i32_355 : BitVec 32 := 0#32
  let c3_i32_350 : BitVec 32 := 3#32
  let v739 : BitVec 32 := Scalar.shrui v738 c3_i32_350
  let c3_i32_351 : BitVec 32 := 3#32
  let v740 : BitVec 32 := Scalar.shli v739 c3_i32_351
  let c888_i32_352 : BitVec 32 := 888#32
  let v741 : BitVec 32 := Scalar.minsi v740 c888_i32_352
  let v742 : BitVec 32 := v741
  let v750 : BitVec 32 := Scalar.addi c0_i32_355 v742
  let v751 : Index := Scalar.indexCast v750
  let c0_356 : Index := 0#32
  ![v751.toNat, 0]
def k0_off45 (v738 : BitVec 32) : Fin 2 → Nat :=
  let c0_i32_369 : BitVec 32 := 0#32
  let c3_i32_350 : BitVec 32 := 3#32
  let v739 : BitVec 32 := Scalar.shrui v738 c3_i32_350
  let c3_i32_351 : BitVec 32 := 3#32
  let v740 : BitVec 32 := Scalar.shli v739 c3_i32_351
  let c888_i32_352 : BitVec 32 := 888#32
  let v741 : BitVec 32 := Scalar.minsi v740 c888_i32_352
  let v742 : BitVec 32 := v741
  let v773 : BitVec 32 := Scalar.addi c0_i32_369 v742
  let v774 : Index := Scalar.indexCast v773
  let c0_370 : Index := 0#32
  ![v774.toNat, 0]

def k0_chk15 (v738 : BitVec 32) : Prop :=
  (8 ∣ (k0_mult15 v738).toNat) ∧
  (∀ a, (k0_off44 v738) a + S136x1024.size a ≤ S1024x1024.size a) ∧
  (∀ a, (k0_off45 v738) a + S136x128.size a ≤ S1024x128.size a)
theorem k0_mult15_dvd : ∀ (v738 : BitVec 32) (k0_hw15 : k0_chk15 v738), 8 ∣ (k0_mult15 v738).toNat := fun v738 k0_hw15 => k0_hw15.1
theorem k0_off44_inb : ∀ (v738 : BitVec 32) (k0_hw15 : k0_chk15 v738), ∀ a, (k0_off44 v738) a + S136x1024.size a ≤ S1024x1024.size a := fun v738 k0_hw15 => k0_hw15.2.1
theorem k0_off45_inb : ∀ (v738 : BitVec 32) (k0_hw15 : k0_chk15 v738), ∀ a, (k0_off45 v738) a + S136x128.size a ≤ S1024x128.size a := fun v738 k0_hw15 => k0_hw15.2.2

def k0_off46 (i : grid0.Coords) : Fin 1 → Nat :=
  let arg1 : BitVec 32 := BitVec.ofNat 32 (i 1).val
  let c16_i32_372 : BitVec 32 := 16#32
  let v783 : BitVec 32 := Scalar.muli arg1 c16_i32_372
  let arg0 : BitVec 32 := BitVec.ofNat 32 (i 0).val
  let v784 : BitVec 32 := Scalar.addi v783 arg0
  let c128_i32_373 : BitVec 32 := 128#32
  let v785 : BitVec 32 := Scalar.muli v784 c128_i32_373
  let arg2 : BitVec 32 := BitVec.ofNat 32 (i 2).val
  let c32_i32_374 : BitVec 32 := 32#32
  let v786 : BitVec 32 := Scalar.muli arg2 c32_i32_374
  let v787 : BitVec 32 := Scalar.addi v785 v786
  let c15_i32 : BitVec 32 := 15#32
  let v788 : BitVec 32 := Scalar.addi v787 c15_i32
  let v789 : Index := Scalar.indexCast v788
  ![v789.toNat]
def k0_mult16 (v790 : BitVec 32) : BitVec 32 :=
  let c3_i32_375 : BitVec 32 := 3#32
  let v791 : BitVec 32 := Scalar.shrui v790 c3_i32_375
  let c3_i32_376 : BitVec 32 := 3#32
  let v792 : BitVec 32 := Scalar.shli v791 c3_i32_376
  let c888_i32_377 : BitVec 32 := 888#32
  let v793 : BitVec 32 := Scalar.minsi v792 c888_i32_377
  v793

def k0_off47 (v790 : BitVec 32) : Fin 2 → Nat :=
  let c0_i32_380 : BitVec 32 := 0#32
  let c3_i32_375 : BitVec 32 := 3#32
  let v791 : BitVec 32 := Scalar.shrui v790 c3_i32_375
  let c3_i32_376 : BitVec 32 := 3#32
  let v792 : BitVec 32 := Scalar.shli v791 c3_i32_376
  let c888_i32_377 : BitVec 32 := 888#32
  let v793 : BitVec 32 := Scalar.minsi v792 c888_i32_377
  let v794 : BitVec 32 := v793
  let v802 : BitVec 32 := Scalar.addi c0_i32_380 v794
  let v803 : Index := Scalar.indexCast v802
  let c0_381 : Index := 0#32
  ![v803.toNat, 0]
def k0_off48 (v790 : BitVec 32) : Fin 2 → Nat :=
  let c0_i32_394 : BitVec 32 := 0#32
  let c3_i32_375 : BitVec 32 := 3#32
  let v791 : BitVec 32 := Scalar.shrui v790 c3_i32_375
  let c3_i32_376 : BitVec 32 := 3#32
  let v792 : BitVec 32 := Scalar.shli v791 c3_i32_376
  let c888_i32_377 : BitVec 32 := 888#32
  let v793 : BitVec 32 := Scalar.minsi v792 c888_i32_377
  let v794 : BitVec 32 := v793
  let v825 : BitVec 32 := Scalar.addi c0_i32_394 v794
  let v826 : Index := Scalar.indexCast v825
  let c0_395 : Index := 0#32
  ![v826.toNat, 0]

def k0_chk16 (v790 : BitVec 32) : Prop :=
  (8 ∣ (k0_mult16 v790).toNat) ∧
  (∀ a, (k0_off47 v790) a + S136x1024.size a ≤ S1024x1024.size a) ∧
  (∀ a, (k0_off48 v790) a + S136x128.size a ≤ S1024x128.size a)
theorem k0_mult16_dvd : ∀ (v790 : BitVec 32) (k0_hw16 : k0_chk16 v790), 8 ∣ (k0_mult16 v790).toNat := fun v790 k0_hw16 => k0_hw16.1
theorem k0_off47_inb : ∀ (v790 : BitVec 32) (k0_hw16 : k0_chk16 v790), ∀ a, (k0_off47 v790) a + S136x1024.size a ≤ S1024x1024.size a := fun v790 k0_hw16 => k0_hw16.2.1
theorem k0_off48_inb : ∀ (v790 : BitVec 32) (k0_hw16 : k0_chk16 v790), ∀ a, (k0_off48 v790) a + S136x128.size a ≤ S1024x128.size a := fun v790 k0_hw16 => k0_hw16.2.2

def k0_off49 (i : grid0.Coords) : Fin 1 → Nat :=
  let arg1 : BitVec 32 := BitVec.ofNat 32 (i 1).val
  let c16_i32_397 : BitVec 32 := 16#32
  let v835 : BitVec 32 := Scalar.muli arg1 c16_i32_397
  let arg0 : BitVec 32 := BitVec.ofNat 32 (i 0).val
  let v836 : BitVec 32 := Scalar.addi v835 arg0
  let c128_i32_398 : BitVec 32 := 128#32
  let v837 : BitVec 32 := Scalar.muli v836 c128_i32_398
  let arg2 : BitVec 32 := BitVec.ofNat 32 (i 2).val
  let c32_i32_399 : BitVec 32 := 32#32
  let v838 : BitVec 32 := Scalar.muli arg2 c32_i32_399
  let v839 : BitVec 32 := Scalar.addi v837 v838
  let c16_i32_400 : BitVec 32 := 16#32
  let v840 : BitVec 32 := Scalar.addi v839 c16_i32_400
  let v841 : Index := Scalar.indexCast v840
  ![v841.toNat]
def k0_mult17 (v842 : BitVec 32) : BitVec 32 :=
  let c3_i32_401 : BitVec 32 := 3#32
  let v843 : BitVec 32 := Scalar.shrui v842 c3_i32_401
  let c3_i32_402 : BitVec 32 := 3#32
  let v844 : BitVec 32 := Scalar.shli v843 c3_i32_402
  let c888_i32_403 : BitVec 32 := 888#32
  let v845 : BitVec 32 := Scalar.minsi v844 c888_i32_403
  v845

def k0_off50 (v842 : BitVec 32) : Fin 2 → Nat :=
  let c0_i32_406 : BitVec 32 := 0#32
  let c3_i32_401 : BitVec 32 := 3#32
  let v843 : BitVec 32 := Scalar.shrui v842 c3_i32_401
  let c3_i32_402 : BitVec 32 := 3#32
  let v844 : BitVec 32 := Scalar.shli v843 c3_i32_402
  let c888_i32_403 : BitVec 32 := 888#32
  let v845 : BitVec 32 := Scalar.minsi v844 c888_i32_403
  let v846 : BitVec 32 := v845
  let v854 : BitVec 32 := Scalar.addi c0_i32_406 v846
  let v855 : Index := Scalar.indexCast v854
  let c0_407 : Index := 0#32
  ![v855.toNat, 0]
def k0_off51 (v842 : BitVec 32) : Fin 2 → Nat :=
  let c0_i32_420 : BitVec 32 := 0#32
  let c3_i32_401 : BitVec 32 := 3#32
  let v843 : BitVec 32 := Scalar.shrui v842 c3_i32_401
  let c3_i32_402 : BitVec 32 := 3#32
  let v844 : BitVec 32 := Scalar.shli v843 c3_i32_402
  let c888_i32_403 : BitVec 32 := 888#32
  let v845 : BitVec 32 := Scalar.minsi v844 c888_i32_403
  let v846 : BitVec 32 := v845
  let v877 : BitVec 32 := Scalar.addi c0_i32_420 v846
  let v878 : Index := Scalar.indexCast v877
  let c0_421 : Index := 0#32
  ![v878.toNat, 0]

def k0_chk17 (v842 : BitVec 32) : Prop :=
  (8 ∣ (k0_mult17 v842).toNat) ∧
  (∀ a, (k0_off50 v842) a + S136x1024.size a ≤ S1024x1024.size a) ∧
  (∀ a, (k0_off51 v842) a + S136x128.size a ≤ S1024x128.size a)
theorem k0_mult17_dvd : ∀ (v842 : BitVec 32) (k0_hw17 : k0_chk17 v842), 8 ∣ (k0_mult17 v842).toNat := fun v842 k0_hw17 => k0_hw17.1
theorem k0_off50_inb : ∀ (v842 : BitVec 32) (k0_hw17 : k0_chk17 v842), ∀ a, (k0_off50 v842) a + S136x1024.size a ≤ S1024x1024.size a := fun v842 k0_hw17 => k0_hw17.2.1
theorem k0_off51_inb : ∀ (v842 : BitVec 32) (k0_hw17 : k0_chk17 v842), ∀ a, (k0_off51 v842) a + S136x128.size a ≤ S1024x128.size a := fun v842 k0_hw17 => k0_hw17.2.2

def k0_off52 (i : grid0.Coords) : Fin 1 → Nat :=
  let arg1 : BitVec 32 := BitVec.ofNat 32 (i 1).val
  let c16_i32_423 : BitVec 32 := 16#32
  let v887 : BitVec 32 := Scalar.muli arg1 c16_i32_423
  let arg0 : BitVec 32 := BitVec.ofNat 32 (i 0).val
  let v888 : BitVec 32 := Scalar.addi v887 arg0
  let c128_i32_424 : BitVec 32 := 128#32
  let v889 : BitVec 32 := Scalar.muli v888 c128_i32_424
  let arg2 : BitVec 32 := BitVec.ofNat 32 (i 2).val
  let c32_i32_425 : BitVec 32 := 32#32
  let v890 : BitVec 32 := Scalar.muli arg2 c32_i32_425
  let v891 : BitVec 32 := Scalar.addi v889 v890
  let c17_i32 : BitVec 32 := 17#32
  let v892 : BitVec 32 := Scalar.addi v891 c17_i32
  let v893 : Index := Scalar.indexCast v892
  ![v893.toNat]
def k0_mult18 (v894 : BitVec 32) : BitVec 32 :=
  let c3_i32_426 : BitVec 32 := 3#32
  let v895 : BitVec 32 := Scalar.shrui v894 c3_i32_426
  let c3_i32_427 : BitVec 32 := 3#32
  let v896 : BitVec 32 := Scalar.shli v895 c3_i32_427
  let c888_i32_428 : BitVec 32 := 888#32
  let v897 : BitVec 32 := Scalar.minsi v896 c888_i32_428
  v897

def k0_off53 (v894 : BitVec 32) : Fin 2 → Nat :=
  let c0_i32_431 : BitVec 32 := 0#32
  let c3_i32_426 : BitVec 32 := 3#32
  let v895 : BitVec 32 := Scalar.shrui v894 c3_i32_426
  let c3_i32_427 : BitVec 32 := 3#32
  let v896 : BitVec 32 := Scalar.shli v895 c3_i32_427
  let c888_i32_428 : BitVec 32 := 888#32
  let v897 : BitVec 32 := Scalar.minsi v896 c888_i32_428
  let v898 : BitVec 32 := v897
  let v906 : BitVec 32 := Scalar.addi c0_i32_431 v898
  let v907 : Index := Scalar.indexCast v906
  let c0_432 : Index := 0#32
  ![v907.toNat, 0]
def k0_off54 (v894 : BitVec 32) : Fin 2 → Nat :=
  let c0_i32_445 : BitVec 32 := 0#32
  let c3_i32_426 : BitVec 32 := 3#32
  let v895 : BitVec 32 := Scalar.shrui v894 c3_i32_426
  let c3_i32_427 : BitVec 32 := 3#32
  let v896 : BitVec 32 := Scalar.shli v895 c3_i32_427
  let c888_i32_428 : BitVec 32 := 888#32
  let v897 : BitVec 32 := Scalar.minsi v896 c888_i32_428
  let v898 : BitVec 32 := v897
  let v929 : BitVec 32 := Scalar.addi c0_i32_445 v898
  let v930 : Index := Scalar.indexCast v929
  let c0_446 : Index := 0#32
  ![v930.toNat, 0]

def k0_chk18 (v894 : BitVec 32) : Prop :=
  (8 ∣ (k0_mult18 v894).toNat) ∧
  (∀ a, (k0_off53 v894) a + S136x1024.size a ≤ S1024x1024.size a) ∧
  (∀ a, (k0_off54 v894) a + S136x128.size a ≤ S1024x128.size a)
theorem k0_mult18_dvd : ∀ (v894 : BitVec 32) (k0_hw18 : k0_chk18 v894), 8 ∣ (k0_mult18 v894).toNat := fun v894 k0_hw18 => k0_hw18.1
theorem k0_off53_inb : ∀ (v894 : BitVec 32) (k0_hw18 : k0_chk18 v894), ∀ a, (k0_off53 v894) a + S136x1024.size a ≤ S1024x1024.size a := fun v894 k0_hw18 => k0_hw18.2.1
theorem k0_off54_inb : ∀ (v894 : BitVec 32) (k0_hw18 : k0_chk18 v894), ∀ a, (k0_off54 v894) a + S136x128.size a ≤ S1024x128.size a := fun v894 k0_hw18 => k0_hw18.2.2

def k0_off55 (i : grid0.Coords) : Fin 1 → Nat :=
  let arg1 : BitVec 32 := BitVec.ofNat 32 (i 1).val
  let c16_i32_448 : BitVec 32 := 16#32
  let v939 : BitVec 32 := Scalar.muli arg1 c16_i32_448
  let arg0 : BitVec 32 := BitVec.ofNat 32 (i 0).val
  let v940 : BitVec 32 := Scalar.addi v939 arg0
  let c128_i32_449 : BitVec 32 := 128#32
  let v941 : BitVec 32 := Scalar.muli v940 c128_i32_449
  let arg2 : BitVec 32 := BitVec.ofNat 32 (i 2).val
  let c32_i32_450 : BitVec 32 := 32#32
  let v942 : BitVec 32 := Scalar.muli arg2 c32_i32_450
  let v943 : BitVec 32 := Scalar.addi v941 v942
  let c18_i32 : BitVec 32 := 18#32
  let v944 : BitVec 32 := Scalar.addi v943 c18_i32
  let v945 : Index := Scalar.indexCast v944
  ![v945.toNat]
def k0_mult19 (v946 : BitVec 32) : BitVec 32 :=
  let c3_i32_451 : BitVec 32 := 3#32
  let v947 : BitVec 32 := Scalar.shrui v946 c3_i32_451
  let c3_i32_452 : BitVec 32 := 3#32
  let v948 : BitVec 32 := Scalar.shli v947 c3_i32_452
  let c888_i32_453 : BitVec 32 := 888#32
  let v949 : BitVec 32 := Scalar.minsi v948 c888_i32_453
  v949

def k0_off56 (v946 : BitVec 32) : Fin 2 → Nat :=
  let c0_i32_456 : BitVec 32 := 0#32
  let c3_i32_451 : BitVec 32 := 3#32
  let v947 : BitVec 32 := Scalar.shrui v946 c3_i32_451
  let c3_i32_452 : BitVec 32 := 3#32
  let v948 : BitVec 32 := Scalar.shli v947 c3_i32_452
  let c888_i32_453 : BitVec 32 := 888#32
  let v949 : BitVec 32 := Scalar.minsi v948 c888_i32_453
  let v950 : BitVec 32 := v949
  let v958 : BitVec 32 := Scalar.addi c0_i32_456 v950
  let v959 : Index := Scalar.indexCast v958
  let c0_457 : Index := 0#32
  ![v959.toNat, 0]
def k0_off57 (v946 : BitVec 32) : Fin 2 → Nat :=
  let c0_i32_470 : BitVec 32 := 0#32
  let c3_i32_451 : BitVec 32 := 3#32
  let v947 : BitVec 32 := Scalar.shrui v946 c3_i32_451
  let c3_i32_452 : BitVec 32 := 3#32
  let v948 : BitVec 32 := Scalar.shli v947 c3_i32_452
  let c888_i32_453 : BitVec 32 := 888#32
  let v949 : BitVec 32 := Scalar.minsi v948 c888_i32_453
  let v950 : BitVec 32 := v949
  let v981 : BitVec 32 := Scalar.addi c0_i32_470 v950
  let v982 : Index := Scalar.indexCast v981
  let c0_471 : Index := 0#32
  ![v982.toNat, 0]

def k0_chk19 (v946 : BitVec 32) : Prop :=
  (8 ∣ (k0_mult19 v946).toNat) ∧
  (∀ a, (k0_off56 v946) a + S136x1024.size a ≤ S1024x1024.size a) ∧
  (∀ a, (k0_off57 v946) a + S136x128.size a ≤ S1024x128.size a)
theorem k0_mult19_dvd : ∀ (v946 : BitVec 32) (k0_hw19 : k0_chk19 v946), 8 ∣ (k0_mult19 v946).toNat := fun v946 k0_hw19 => k0_hw19.1
theorem k0_off56_inb : ∀ (v946 : BitVec 32) (k0_hw19 : k0_chk19 v946), ∀ a, (k0_off56 v946) a + S136x1024.size a ≤ S1024x1024.size a := fun v946 k0_hw19 => k0_hw19.2.1
theorem k0_off57_inb : ∀ (v946 : BitVec 32) (k0_hw19 : k0_chk19 v946), ∀ a, (k0_off57 v946) a + S136x128.size a ≤ S1024x128.size a := fun v946 k0_hw19 => k0_hw19.2.2

def k0_off58 (i : grid0.Coords) : Fin 1 → Nat :=
  let arg1 : BitVec 32 := BitVec.ofNat 32 (i 1).val
  let c16_i32_473 : BitVec 32 := 16#32
  let v991 : BitVec 32 := Scalar.muli arg1 c16_i32_473
  let arg0 : BitVec 32 := BitVec.ofNat 32 (i 0).val
  let v992 : BitVec 32 := Scalar.addi v991 arg0
  let c128_i32_474 : BitVec 32 := 128#32
  let v993 : BitVec 32 := Scalar.muli v992 c128_i32_474
  let arg2 : BitVec 32 := BitVec.ofNat 32 (i 2).val
  let c32_i32_475 : BitVec 32 := 32#32
  let v994 : BitVec 32 := Scalar.muli arg2 c32_i32_475
  let v995 : BitVec 32 := Scalar.addi v993 v994
  let c19_i32 : BitVec 32 := 19#32
  let v996 : BitVec 32 := Scalar.addi v995 c19_i32
  let v997 : Index := Scalar.indexCast v996
  ![v997.toNat]
def k0_mult20 (v998 : BitVec 32) : BitVec 32 :=
  let c3_i32_476 : BitVec 32 := 3#32
  let v999 : BitVec 32 := Scalar.shrui v998 c3_i32_476
  let c3_i32_477 : BitVec 32 := 3#32
  let v1000 : BitVec 32 := Scalar.shli v999 c3_i32_477
  let c888_i32_478 : BitVec 32 := 888#32
  let v1001 : BitVec 32 := Scalar.minsi v1000 c888_i32_478
  v1001

def k0_off59 (v998 : BitVec 32) : Fin 2 → Nat :=
  let c0_i32_481 : BitVec 32 := 0#32
  let c3_i32_476 : BitVec 32 := 3#32
  let v999 : BitVec 32 := Scalar.shrui v998 c3_i32_476
  let c3_i32_477 : BitVec 32 := 3#32
  let v1000 : BitVec 32 := Scalar.shli v999 c3_i32_477
  let c888_i32_478 : BitVec 32 := 888#32
  let v1001 : BitVec 32 := Scalar.minsi v1000 c888_i32_478
  let v1002 : BitVec 32 := v1001
  let v1010 : BitVec 32 := Scalar.addi c0_i32_481 v1002
  let v1011 : Index := Scalar.indexCast v1010
  let c0_482 : Index := 0#32
  ![v1011.toNat, 0]
def k0_off60 (v998 : BitVec 32) : Fin 2 → Nat :=
  let c0_i32_495 : BitVec 32 := 0#32
  let c3_i32_476 : BitVec 32 := 3#32
  let v999 : BitVec 32 := Scalar.shrui v998 c3_i32_476
  let c3_i32_477 : BitVec 32 := 3#32
  let v1000 : BitVec 32 := Scalar.shli v999 c3_i32_477
  let c888_i32_478 : BitVec 32 := 888#32
  let v1001 : BitVec 32 := Scalar.minsi v1000 c888_i32_478
  let v1002 : BitVec 32 := v1001
  let v1033 : BitVec 32 := Scalar.addi c0_i32_495 v1002
  let v1034 : Index := Scalar.indexCast v1033
  let c0_496 : Index := 0#32
  ![v1034.toNat, 0]

def k0_chk20 (v998 : BitVec 32) : Prop :=
  (8 ∣ (k0_mult20 v998).toNat) ∧
  (∀ a, (k0_off59 v998) a + S136x1024.size a ≤ S1024x1024.size a) ∧
  (∀ a, (k0_off60 v998) a + S136x128.size a ≤ S1024x128.size a)
theorem k0_mult20_dvd : ∀ (v998 : BitVec 32) (k0_hw20 : k0_chk20 v998), 8 ∣ (k0_mult20 v998).toNat := fun v998 k0_hw20 => k0_hw20.1
theorem k0_off59_inb : ∀ (v998 : BitVec 32) (k0_hw20 : k0_chk20 v998), ∀ a, (k0_off59 v998) a + S136x1024.size a ≤ S1024x1024.size a := fun v998 k0_hw20 => k0_hw20.2.1
theorem k0_off60_inb : ∀ (v998 : BitVec 32) (k0_hw20 : k0_chk20 v998), ∀ a, (k0_off60 v998) a + S136x128.size a ≤ S1024x128.size a := fun v998 k0_hw20 => k0_hw20.2.2

def k0_off61 (i : grid0.Coords) : Fin 1 → Nat :=
  let arg1 : BitVec 32 := BitVec.ofNat 32 (i 1).val
  let c16_i32_498 : BitVec 32 := 16#32
  let v1043 : BitVec 32 := Scalar.muli arg1 c16_i32_498
  let arg0 : BitVec 32 := BitVec.ofNat 32 (i 0).val
  let v1044 : BitVec 32 := Scalar.addi v1043 arg0
  let c128_i32_499 : BitVec 32 := 128#32
  let v1045 : BitVec 32 := Scalar.muli v1044 c128_i32_499
  let arg2 : BitVec 32 := BitVec.ofNat 32 (i 2).val
  let c32_i32_500 : BitVec 32 := 32#32
  let v1046 : BitVec 32 := Scalar.muli arg2 c32_i32_500
  let v1047 : BitVec 32 := Scalar.addi v1045 v1046
  let c20_i32 : BitVec 32 := 20#32
  let v1048 : BitVec 32 := Scalar.addi v1047 c20_i32
  let v1049 : Index := Scalar.indexCast v1048
  ![v1049.toNat]
def k0_mult21 (v1050 : BitVec 32) : BitVec 32 :=
  let c3_i32_501 : BitVec 32 := 3#32
  let v1051 : BitVec 32 := Scalar.shrui v1050 c3_i32_501
  let c3_i32_502 : BitVec 32 := 3#32
  let v1052 : BitVec 32 := Scalar.shli v1051 c3_i32_502
  let c888_i32_503 : BitVec 32 := 888#32
  let v1053 : BitVec 32 := Scalar.minsi v1052 c888_i32_503
  v1053

def k0_off62 (v1050 : BitVec 32) : Fin 2 → Nat :=
  let c0_i32_506 : BitVec 32 := 0#32
  let c3_i32_501 : BitVec 32 := 3#32
  let v1051 : BitVec 32 := Scalar.shrui v1050 c3_i32_501
  let c3_i32_502 : BitVec 32 := 3#32
  let v1052 : BitVec 32 := Scalar.shli v1051 c3_i32_502
  let c888_i32_503 : BitVec 32 := 888#32
  let v1053 : BitVec 32 := Scalar.minsi v1052 c888_i32_503
  let v1054 : BitVec 32 := v1053
  let v1062 : BitVec 32 := Scalar.addi c0_i32_506 v1054
  let v1063 : Index := Scalar.indexCast v1062
  let c0_507 : Index := 0#32
  ![v1063.toNat, 0]
def k0_off63 (v1050 : BitVec 32) : Fin 2 → Nat :=
  let c0_i32_520 : BitVec 32 := 0#32
  let c3_i32_501 : BitVec 32 := 3#32
  let v1051 : BitVec 32 := Scalar.shrui v1050 c3_i32_501
  let c3_i32_502 : BitVec 32 := 3#32
  let v1052 : BitVec 32 := Scalar.shli v1051 c3_i32_502
  let c888_i32_503 : BitVec 32 := 888#32
  let v1053 : BitVec 32 := Scalar.minsi v1052 c888_i32_503
  let v1054 : BitVec 32 := v1053
  let v1085 : BitVec 32 := Scalar.addi c0_i32_520 v1054
  let v1086 : Index := Scalar.indexCast v1085
  let c0_521 : Index := 0#32
  ![v1086.toNat, 0]

def k0_chk21 (v1050 : BitVec 32) : Prop :=
  (8 ∣ (k0_mult21 v1050).toNat) ∧
  (∀ a, (k0_off62 v1050) a + S136x1024.size a ≤ S1024x1024.size a) ∧
  (∀ a, (k0_off63 v1050) a + S136x128.size a ≤ S1024x128.size a)
theorem k0_mult21_dvd : ∀ (v1050 : BitVec 32) (k0_hw21 : k0_chk21 v1050), 8 ∣ (k0_mult21 v1050).toNat := fun v1050 k0_hw21 => k0_hw21.1
theorem k0_off62_inb : ∀ (v1050 : BitVec 32) (k0_hw21 : k0_chk21 v1050), ∀ a, (k0_off62 v1050) a + S136x1024.size a ≤ S1024x1024.size a := fun v1050 k0_hw21 => k0_hw21.2.1
theorem k0_off63_inb : ∀ (v1050 : BitVec 32) (k0_hw21 : k0_chk21 v1050), ∀ a, (k0_off63 v1050) a + S136x128.size a ≤ S1024x128.size a := fun v1050 k0_hw21 => k0_hw21.2.2

def k0_off64 (i : grid0.Coords) : Fin 1 → Nat :=
  let arg1 : BitVec 32 := BitVec.ofNat 32 (i 1).val
  let c16_i32_523 : BitVec 32 := 16#32
  let v1095 : BitVec 32 := Scalar.muli arg1 c16_i32_523
  let arg0 : BitVec 32 := BitVec.ofNat 32 (i 0).val
  let v1096 : BitVec 32 := Scalar.addi v1095 arg0
  let c128_i32_524 : BitVec 32 := 128#32
  let v1097 : BitVec 32 := Scalar.muli v1096 c128_i32_524
  let arg2 : BitVec 32 := BitVec.ofNat 32 (i 2).val
  let c32_i32_525 : BitVec 32 := 32#32
  let v1098 : BitVec 32 := Scalar.muli arg2 c32_i32_525
  let v1099 : BitVec 32 := Scalar.addi v1097 v1098
  let c21_i32 : BitVec 32 := 21#32
  let v1100 : BitVec 32 := Scalar.addi v1099 c21_i32
  let v1101 : Index := Scalar.indexCast v1100
  ![v1101.toNat]
def k0_mult22 (v1102 : BitVec 32) : BitVec 32 :=
  let c3_i32_526 : BitVec 32 := 3#32
  let v1103 : BitVec 32 := Scalar.shrui v1102 c3_i32_526
  let c3_i32_527 : BitVec 32 := 3#32
  let v1104 : BitVec 32 := Scalar.shli v1103 c3_i32_527
  let c888_i32_528 : BitVec 32 := 888#32
  let v1105 : BitVec 32 := Scalar.minsi v1104 c888_i32_528
  v1105

def k0_off65 (v1102 : BitVec 32) : Fin 2 → Nat :=
  let c0_i32_531 : BitVec 32 := 0#32
  let c3_i32_526 : BitVec 32 := 3#32
  let v1103 : BitVec 32 := Scalar.shrui v1102 c3_i32_526
  let c3_i32_527 : BitVec 32 := 3#32
  let v1104 : BitVec 32 := Scalar.shli v1103 c3_i32_527
  let c888_i32_528 : BitVec 32 := 888#32
  let v1105 : BitVec 32 := Scalar.minsi v1104 c888_i32_528
  let v1106 : BitVec 32 := v1105
  let v1114 : BitVec 32 := Scalar.addi c0_i32_531 v1106
  let v1115 : Index := Scalar.indexCast v1114
  let c0_532 : Index := 0#32
  ![v1115.toNat, 0]
def k0_off66 (v1102 : BitVec 32) : Fin 2 → Nat :=
  let c0_i32_545 : BitVec 32 := 0#32
  let c3_i32_526 : BitVec 32 := 3#32
  let v1103 : BitVec 32 := Scalar.shrui v1102 c3_i32_526
  let c3_i32_527 : BitVec 32 := 3#32
  let v1104 : BitVec 32 := Scalar.shli v1103 c3_i32_527
  let c888_i32_528 : BitVec 32 := 888#32
  let v1105 : BitVec 32 := Scalar.minsi v1104 c888_i32_528
  let v1106 : BitVec 32 := v1105
  let v1137 : BitVec 32 := Scalar.addi c0_i32_545 v1106
  let v1138 : Index := Scalar.indexCast v1137
  let c0_546 : Index := 0#32
  ![v1138.toNat, 0]

def k0_chk22 (v1102 : BitVec 32) : Prop :=
  (8 ∣ (k0_mult22 v1102).toNat) ∧
  (∀ a, (k0_off65 v1102) a + S136x1024.size a ≤ S1024x1024.size a) ∧
  (∀ a, (k0_off66 v1102) a + S136x128.size a ≤ S1024x128.size a)
theorem k0_mult22_dvd : ∀ (v1102 : BitVec 32) (k0_hw22 : k0_chk22 v1102), 8 ∣ (k0_mult22 v1102).toNat := fun v1102 k0_hw22 => k0_hw22.1
theorem k0_off65_inb : ∀ (v1102 : BitVec 32) (k0_hw22 : k0_chk22 v1102), ∀ a, (k0_off65 v1102) a + S136x1024.size a ≤ S1024x1024.size a := fun v1102 k0_hw22 => k0_hw22.2.1
theorem k0_off66_inb : ∀ (v1102 : BitVec 32) (k0_hw22 : k0_chk22 v1102), ∀ a, (k0_off66 v1102) a + S136x128.size a ≤ S1024x128.size a := fun v1102 k0_hw22 => k0_hw22.2.2

def k0_off67 (i : grid0.Coords) : Fin 1 → Nat :=
  let arg1 : BitVec 32 := BitVec.ofNat 32 (i 1).val
  let c16_i32_548 : BitVec 32 := 16#32
  let v1147 : BitVec 32 := Scalar.muli arg1 c16_i32_548
  let arg0 : BitVec 32 := BitVec.ofNat 32 (i 0).val
  let v1148 : BitVec 32 := Scalar.addi v1147 arg0
  let c128_i32_549 : BitVec 32 := 128#32
  let v1149 : BitVec 32 := Scalar.muli v1148 c128_i32_549
  let arg2 : BitVec 32 := BitVec.ofNat 32 (i 2).val
  let c32_i32_550 : BitVec 32 := 32#32
  let v1150 : BitVec 32 := Scalar.muli arg2 c32_i32_550
  let v1151 : BitVec 32 := Scalar.addi v1149 v1150
  let c22_i32 : BitVec 32 := 22#32
  let v1152 : BitVec 32 := Scalar.addi v1151 c22_i32
  let v1153 : Index := Scalar.indexCast v1152
  ![v1153.toNat]
def k0_mult23 (v1154 : BitVec 32) : BitVec 32 :=
  let c3_i32_551 : BitVec 32 := 3#32
  let v1155 : BitVec 32 := Scalar.shrui v1154 c3_i32_551
  let c3_i32_552 : BitVec 32 := 3#32
  let v1156 : BitVec 32 := Scalar.shli v1155 c3_i32_552
  let c888_i32_553 : BitVec 32 := 888#32
  let v1157 : BitVec 32 := Scalar.minsi v1156 c888_i32_553
  v1157

def k0_off68 (v1154 : BitVec 32) : Fin 2 → Nat :=
  let c0_i32_556 : BitVec 32 := 0#32
  let c3_i32_551 : BitVec 32 := 3#32
  let v1155 : BitVec 32 := Scalar.shrui v1154 c3_i32_551
  let c3_i32_552 : BitVec 32 := 3#32
  let v1156 : BitVec 32 := Scalar.shli v1155 c3_i32_552
  let c888_i32_553 : BitVec 32 := 888#32
  let v1157 : BitVec 32 := Scalar.minsi v1156 c888_i32_553
  let v1158 : BitVec 32 := v1157
  let v1166 : BitVec 32 := Scalar.addi c0_i32_556 v1158
  let v1167 : Index := Scalar.indexCast v1166
  let c0_557 : Index := 0#32
  ![v1167.toNat, 0]
def k0_off69 (v1154 : BitVec 32) : Fin 2 → Nat :=
  let c0_i32_570 : BitVec 32 := 0#32
  let c3_i32_551 : BitVec 32 := 3#32
  let v1155 : BitVec 32 := Scalar.shrui v1154 c3_i32_551
  let c3_i32_552 : BitVec 32 := 3#32
  let v1156 : BitVec 32 := Scalar.shli v1155 c3_i32_552
  let c888_i32_553 : BitVec 32 := 888#32
  let v1157 : BitVec 32 := Scalar.minsi v1156 c888_i32_553
  let v1158 : BitVec 32 := v1157
  let v1189 : BitVec 32 := Scalar.addi c0_i32_570 v1158
  let v1190 : Index := Scalar.indexCast v1189
  let c0_571 : Index := 0#32
  ![v1190.toNat, 0]

def k0_chk23 (v1154 : BitVec 32) : Prop :=
  (8 ∣ (k0_mult23 v1154).toNat) ∧
  (∀ a, (k0_off68 v1154) a + S136x1024.size a ≤ S1024x1024.size a) ∧
  (∀ a, (k0_off69 v1154) a + S136x128.size a ≤ S1024x128.size a)
theorem k0_mult23_dvd : ∀ (v1154 : BitVec 32) (k0_hw23 : k0_chk23 v1154), 8 ∣ (k0_mult23 v1154).toNat := fun v1154 k0_hw23 => k0_hw23.1
theorem k0_off68_inb : ∀ (v1154 : BitVec 32) (k0_hw23 : k0_chk23 v1154), ∀ a, (k0_off68 v1154) a + S136x1024.size a ≤ S1024x1024.size a := fun v1154 k0_hw23 => k0_hw23.2.1
theorem k0_off69_inb : ∀ (v1154 : BitVec 32) (k0_hw23 : k0_chk23 v1154), ∀ a, (k0_off69 v1154) a + S136x128.size a ≤ S1024x128.size a := fun v1154 k0_hw23 => k0_hw23.2.2

def k0_off70 (i : grid0.Coords) : Fin 1 → Nat :=
  let arg1 : BitVec 32 := BitVec.ofNat 32 (i 1).val
  let c16_i32_573 : BitVec 32 := 16#32
  let v1199 : BitVec 32 := Scalar.muli arg1 c16_i32_573
  let arg0 : BitVec 32 := BitVec.ofNat 32 (i 0).val
  let v1200 : BitVec 32 := Scalar.addi v1199 arg0
  let c128_i32_574 : BitVec 32 := 128#32
  let v1201 : BitVec 32 := Scalar.muli v1200 c128_i32_574
  let arg2 : BitVec 32 := BitVec.ofNat 32 (i 2).val
  let c32_i32_575 : BitVec 32 := 32#32
  let v1202 : BitVec 32 := Scalar.muli arg2 c32_i32_575
  let v1203 : BitVec 32 := Scalar.addi v1201 v1202
  let c23_i32 : BitVec 32 := 23#32
  let v1204 : BitVec 32 := Scalar.addi v1203 c23_i32
  let v1205 : Index := Scalar.indexCast v1204
  ![v1205.toNat]
def k0_mult24 (v1206 : BitVec 32) : BitVec 32 :=
  let c3_i32_576 : BitVec 32 := 3#32
  let v1207 : BitVec 32 := Scalar.shrui v1206 c3_i32_576
  let c3_i32_577 : BitVec 32 := 3#32
  let v1208 : BitVec 32 := Scalar.shli v1207 c3_i32_577
  let c888_i32_578 : BitVec 32 := 888#32
  let v1209 : BitVec 32 := Scalar.minsi v1208 c888_i32_578
  v1209

def k0_off71 (v1206 : BitVec 32) : Fin 2 → Nat :=
  let c0_i32_581 : BitVec 32 := 0#32
  let c3_i32_576 : BitVec 32 := 3#32
  let v1207 : BitVec 32 := Scalar.shrui v1206 c3_i32_576
  let c3_i32_577 : BitVec 32 := 3#32
  let v1208 : BitVec 32 := Scalar.shli v1207 c3_i32_577
  let c888_i32_578 : BitVec 32 := 888#32
  let v1209 : BitVec 32 := Scalar.minsi v1208 c888_i32_578
  let v1210 : BitVec 32 := v1209
  let v1218 : BitVec 32 := Scalar.addi c0_i32_581 v1210
  let v1219 : Index := Scalar.indexCast v1218
  let c0_582 : Index := 0#32
  ![v1219.toNat, 0]
def k0_off72 (v1206 : BitVec 32) : Fin 2 → Nat :=
  let c0_i32_595 : BitVec 32 := 0#32
  let c3_i32_576 : BitVec 32 := 3#32
  let v1207 : BitVec 32 := Scalar.shrui v1206 c3_i32_576
  let c3_i32_577 : BitVec 32 := 3#32
  let v1208 : BitVec 32 := Scalar.shli v1207 c3_i32_577
  let c888_i32_578 : BitVec 32 := 888#32
  let v1209 : BitVec 32 := Scalar.minsi v1208 c888_i32_578
  let v1210 : BitVec 32 := v1209
  let v1241 : BitVec 32 := Scalar.addi c0_i32_595 v1210
  let v1242 : Index := Scalar.indexCast v1241
  let c0_596 : Index := 0#32
  ![v1242.toNat, 0]

def k0_chk24 (v1206 : BitVec 32) : Prop :=
  (8 ∣ (k0_mult24 v1206).toNat) ∧
  (∀ a, (k0_off71 v1206) a + S136x1024.size a ≤ S1024x1024.size a) ∧
  (∀ a, (k0_off72 v1206) a + S136x128.size a ≤ S1024x128.size a)
theorem k0_mult24_dvd : ∀ (v1206 : BitVec 32) (k0_hw24 : k0_chk24 v1206), 8 ∣ (k0_mult24 v1206).toNat := fun v1206 k0_hw24 => k0_hw24.1
theorem k0_off71_inb : ∀ (v1206 : BitVec 32) (k0_hw24 : k0_chk24 v1206), ∀ a, (k0_off71 v1206) a + S136x1024.size a ≤ S1024x1024.size a := fun v1206 k0_hw24 => k0_hw24.2.1
theorem k0_off72_inb : ∀ (v1206 : BitVec 32) (k0_hw24 : k0_chk24 v1206), ∀ a, (k0_off72 v1206) a + S136x128.size a ≤ S1024x128.size a := fun v1206 k0_hw24 => k0_hw24.2.2

def k0_off73 (i : grid0.Coords) : Fin 1 → Nat :=
  let arg1 : BitVec 32 := BitVec.ofNat 32 (i 1).val
  let c16_i32_598 : BitVec 32 := 16#32
  let v1251 : BitVec 32 := Scalar.muli arg1 c16_i32_598
  let arg0 : BitVec 32 := BitVec.ofNat 32 (i 0).val
  let v1252 : BitVec 32 := Scalar.addi v1251 arg0
  let c128_i32_599 : BitVec 32 := 128#32
  let v1253 : BitVec 32 := Scalar.muli v1252 c128_i32_599
  let arg2 : BitVec 32 := BitVec.ofNat 32 (i 2).val
  let c32_i32_600 : BitVec 32 := 32#32
  let v1254 : BitVec 32 := Scalar.muli arg2 c32_i32_600
  let v1255 : BitVec 32 := Scalar.addi v1253 v1254
  let c24_i32 : BitVec 32 := 24#32
  let v1256 : BitVec 32 := Scalar.addi v1255 c24_i32
  let v1257 : Index := Scalar.indexCast v1256
  ![v1257.toNat]
def k0_mult25 (v1258 : BitVec 32) : BitVec 32 :=
  let c3_i32_601 : BitVec 32 := 3#32
  let v1259 : BitVec 32 := Scalar.shrui v1258 c3_i32_601
  let c3_i32_602 : BitVec 32 := 3#32
  let v1260 : BitVec 32 := Scalar.shli v1259 c3_i32_602
  let c888_i32_603 : BitVec 32 := 888#32
  let v1261 : BitVec 32 := Scalar.minsi v1260 c888_i32_603
  v1261

def k0_off74 (v1258 : BitVec 32) : Fin 2 → Nat :=
  let c0_i32_606 : BitVec 32 := 0#32
  let c3_i32_601 : BitVec 32 := 3#32
  let v1259 : BitVec 32 := Scalar.shrui v1258 c3_i32_601
  let c3_i32_602 : BitVec 32 := 3#32
  let v1260 : BitVec 32 := Scalar.shli v1259 c3_i32_602
  let c888_i32_603 : BitVec 32 := 888#32
  let v1261 : BitVec 32 := Scalar.minsi v1260 c888_i32_603
  let v1262 : BitVec 32 := v1261
  let v1270 : BitVec 32 := Scalar.addi c0_i32_606 v1262
  let v1271 : Index := Scalar.indexCast v1270
  let c0_607 : Index := 0#32
  ![v1271.toNat, 0]
def k0_off75 (v1258 : BitVec 32) : Fin 2 → Nat :=
  let c0_i32_620 : BitVec 32 := 0#32
  let c3_i32_601 : BitVec 32 := 3#32
  let v1259 : BitVec 32 := Scalar.shrui v1258 c3_i32_601
  let c3_i32_602 : BitVec 32 := 3#32
  let v1260 : BitVec 32 := Scalar.shli v1259 c3_i32_602
  let c888_i32_603 : BitVec 32 := 888#32
  let v1261 : BitVec 32 := Scalar.minsi v1260 c888_i32_603
  let v1262 : BitVec 32 := v1261
  let v1293 : BitVec 32 := Scalar.addi c0_i32_620 v1262
  let v1294 : Index := Scalar.indexCast v1293
  let c0_621 : Index := 0#32
  ![v1294.toNat, 0]

def k0_chk25 (v1258 : BitVec 32) : Prop :=
  (8 ∣ (k0_mult25 v1258).toNat) ∧
  (∀ a, (k0_off74 v1258) a + S136x1024.size a ≤ S1024x1024.size a) ∧
  (∀ a, (k0_off75 v1258) a + S136x128.size a ≤ S1024x128.size a)
theorem k0_mult25_dvd : ∀ (v1258 : BitVec 32) (k0_hw25 : k0_chk25 v1258), 8 ∣ (k0_mult25 v1258).toNat := fun v1258 k0_hw25 => k0_hw25.1
theorem k0_off74_inb : ∀ (v1258 : BitVec 32) (k0_hw25 : k0_chk25 v1258), ∀ a, (k0_off74 v1258) a + S136x1024.size a ≤ S1024x1024.size a := fun v1258 k0_hw25 => k0_hw25.2.1
theorem k0_off75_inb : ∀ (v1258 : BitVec 32) (k0_hw25 : k0_chk25 v1258), ∀ a, (k0_off75 v1258) a + S136x128.size a ≤ S1024x128.size a := fun v1258 k0_hw25 => k0_hw25.2.2

def k0_off76 (i : grid0.Coords) : Fin 1 → Nat :=
  let arg1 : BitVec 32 := BitVec.ofNat 32 (i 1).val
  let c16_i32_623 : BitVec 32 := 16#32
  let v1303 : BitVec 32 := Scalar.muli arg1 c16_i32_623
  let arg0 : BitVec 32 := BitVec.ofNat 32 (i 0).val
  let v1304 : BitVec 32 := Scalar.addi v1303 arg0
  let c128_i32_624 : BitVec 32 := 128#32
  let v1305 : BitVec 32 := Scalar.muli v1304 c128_i32_624
  let arg2 : BitVec 32 := BitVec.ofNat 32 (i 2).val
  let c32_i32_625 : BitVec 32 := 32#32
  let v1306 : BitVec 32 := Scalar.muli arg2 c32_i32_625
  let v1307 : BitVec 32 := Scalar.addi v1305 v1306
  let c25_i32 : BitVec 32 := 25#32
  let v1308 : BitVec 32 := Scalar.addi v1307 c25_i32
  let v1309 : Index := Scalar.indexCast v1308
  ![v1309.toNat]
def k0_mult26 (v1310 : BitVec 32) : BitVec 32 :=
  let c3_i32_626 : BitVec 32 := 3#32
  let v1311 : BitVec 32 := Scalar.shrui v1310 c3_i32_626
  let c3_i32_627 : BitVec 32 := 3#32
  let v1312 : BitVec 32 := Scalar.shli v1311 c3_i32_627
  let c888_i32_628 : BitVec 32 := 888#32
  let v1313 : BitVec 32 := Scalar.minsi v1312 c888_i32_628
  v1313

def k0_off77 (v1310 : BitVec 32) : Fin 2 → Nat :=
  let c0_i32_631 : BitVec 32 := 0#32
  let c3_i32_626 : BitVec 32 := 3#32
  let v1311 : BitVec 32 := Scalar.shrui v1310 c3_i32_626
  let c3_i32_627 : BitVec 32 := 3#32
  let v1312 : BitVec 32 := Scalar.shli v1311 c3_i32_627
  let c888_i32_628 : BitVec 32 := 888#32
  let v1313 : BitVec 32 := Scalar.minsi v1312 c888_i32_628
  let v1314 : BitVec 32 := v1313
  let v1322 : BitVec 32 := Scalar.addi c0_i32_631 v1314
  let v1323 : Index := Scalar.indexCast v1322
  let c0_632 : Index := 0#32
  ![v1323.toNat, 0]
def k0_off78 (v1310 : BitVec 32) : Fin 2 → Nat :=
  let c0_i32_645 : BitVec 32 := 0#32
  let c3_i32_626 : BitVec 32 := 3#32
  let v1311 : BitVec 32 := Scalar.shrui v1310 c3_i32_626
  let c3_i32_627 : BitVec 32 := 3#32
  let v1312 : BitVec 32 := Scalar.shli v1311 c3_i32_627
  let c888_i32_628 : BitVec 32 := 888#32
  let v1313 : BitVec 32 := Scalar.minsi v1312 c888_i32_628
  let v1314 : BitVec 32 := v1313
  let v1345 : BitVec 32 := Scalar.addi c0_i32_645 v1314
  let v1346 : Index := Scalar.indexCast v1345
  let c0_646 : Index := 0#32
  ![v1346.toNat, 0]

def k0_chk26 (v1310 : BitVec 32) : Prop :=
  (8 ∣ (k0_mult26 v1310).toNat) ∧
  (∀ a, (k0_off77 v1310) a + S136x1024.size a ≤ S1024x1024.size a) ∧
  (∀ a, (k0_off78 v1310) a + S136x128.size a ≤ S1024x128.size a)
theorem k0_mult26_dvd : ∀ (v1310 : BitVec 32) (k0_hw26 : k0_chk26 v1310), 8 ∣ (k0_mult26 v1310).toNat := fun v1310 k0_hw26 => k0_hw26.1
theorem k0_off77_inb : ∀ (v1310 : BitVec 32) (k0_hw26 : k0_chk26 v1310), ∀ a, (k0_off77 v1310) a + S136x1024.size a ≤ S1024x1024.size a := fun v1310 k0_hw26 => k0_hw26.2.1
theorem k0_off78_inb : ∀ (v1310 : BitVec 32) (k0_hw26 : k0_chk26 v1310), ∀ a, (k0_off78 v1310) a + S136x128.size a ≤ S1024x128.size a := fun v1310 k0_hw26 => k0_hw26.2.2

def k0_off79 (i : grid0.Coords) : Fin 1 → Nat :=
  let arg1 : BitVec 32 := BitVec.ofNat 32 (i 1).val
  let c16_i32_648 : BitVec 32 := 16#32
  let v1355 : BitVec 32 := Scalar.muli arg1 c16_i32_648
  let arg0 : BitVec 32 := BitVec.ofNat 32 (i 0).val
  let v1356 : BitVec 32 := Scalar.addi v1355 arg0
  let c128_i32_649 : BitVec 32 := 128#32
  let v1357 : BitVec 32 := Scalar.muli v1356 c128_i32_649
  let arg2 : BitVec 32 := BitVec.ofNat 32 (i 2).val
  let c32_i32_650 : BitVec 32 := 32#32
  let v1358 : BitVec 32 := Scalar.muli arg2 c32_i32_650
  let v1359 : BitVec 32 := Scalar.addi v1357 v1358
  let c26_i32 : BitVec 32 := 26#32
  let v1360 : BitVec 32 := Scalar.addi v1359 c26_i32
  let v1361 : Index := Scalar.indexCast v1360
  ![v1361.toNat]
def k0_mult27 (v1362 : BitVec 32) : BitVec 32 :=
  let c3_i32_651 : BitVec 32 := 3#32
  let v1363 : BitVec 32 := Scalar.shrui v1362 c3_i32_651
  let c3_i32_652 : BitVec 32 := 3#32
  let v1364 : BitVec 32 := Scalar.shli v1363 c3_i32_652
  let c888_i32_653 : BitVec 32 := 888#32
  let v1365 : BitVec 32 := Scalar.minsi v1364 c888_i32_653
  v1365

def k0_off80 (v1362 : BitVec 32) : Fin 2 → Nat :=
  let c0_i32_656 : BitVec 32 := 0#32
  let c3_i32_651 : BitVec 32 := 3#32
  let v1363 : BitVec 32 := Scalar.shrui v1362 c3_i32_651
  let c3_i32_652 : BitVec 32 := 3#32
  let v1364 : BitVec 32 := Scalar.shli v1363 c3_i32_652
  let c888_i32_653 : BitVec 32 := 888#32
  let v1365 : BitVec 32 := Scalar.minsi v1364 c888_i32_653
  let v1366 : BitVec 32 := v1365
  let v1374 : BitVec 32 := Scalar.addi c0_i32_656 v1366
  let v1375 : Index := Scalar.indexCast v1374
  let c0_657 : Index := 0#32
  ![v1375.toNat, 0]
def k0_off81 (v1362 : BitVec 32) : Fin 2 → Nat :=
  let c0_i32_670 : BitVec 32 := 0#32
  let c3_i32_651 : BitVec 32 := 3#32
  let v1363 : BitVec 32 := Scalar.shrui v1362 c3_i32_651
  let c3_i32_652 : BitVec 32 := 3#32
  let v1364 : BitVec 32 := Scalar.shli v1363 c3_i32_652
  let c888_i32_653 : BitVec 32 := 888#32
  let v1365 : BitVec 32 := Scalar.minsi v1364 c888_i32_653
  let v1366 : BitVec 32 := v1365
  let v1397 : BitVec 32 := Scalar.addi c0_i32_670 v1366
  let v1398 : Index := Scalar.indexCast v1397
  let c0_671 : Index := 0#32
  ![v1398.toNat, 0]

def k0_chk27 (v1362 : BitVec 32) : Prop :=
  (8 ∣ (k0_mult27 v1362).toNat) ∧
  (∀ a, (k0_off80 v1362) a + S136x1024.size a ≤ S1024x1024.size a) ∧
  (∀ a, (k0_off81 v1362) a + S136x128.size a ≤ S1024x128.size a)
theorem k0_mult27_dvd : ∀ (v1362 : BitVec 32) (k0_hw27 : k0_chk27 v1362), 8 ∣ (k0_mult27 v1362).toNat := fun v1362 k0_hw27 => k0_hw27.1
theorem k0_off80_inb : ∀ (v1362 : BitVec 32) (k0_hw27 : k0_chk27 v1362), ∀ a, (k0_off80 v1362) a + S136x1024.size a ≤ S1024x1024.size a := fun v1362 k0_hw27 => k0_hw27.2.1
theorem k0_off81_inb : ∀ (v1362 : BitVec 32) (k0_hw27 : k0_chk27 v1362), ∀ a, (k0_off81 v1362) a + S136x128.size a ≤ S1024x128.size a := fun v1362 k0_hw27 => k0_hw27.2.2

def k0_off82 (i : grid0.Coords) : Fin 1 → Nat :=
  let arg1 : BitVec 32 := BitVec.ofNat 32 (i 1).val
  let c16_i32_673 : BitVec 32 := 16#32
  let v1407 : BitVec 32 := Scalar.muli arg1 c16_i32_673
  let arg0 : BitVec 32 := BitVec.ofNat 32 (i 0).val
  let v1408 : BitVec 32 := Scalar.addi v1407 arg0
  let c128_i32_674 : BitVec 32 := 128#32
  let v1409 : BitVec 32 := Scalar.muli v1408 c128_i32_674
  let arg2 : BitVec 32 := BitVec.ofNat 32 (i 2).val
  let c32_i32_675 : BitVec 32 := 32#32
  let v1410 : BitVec 32 := Scalar.muli arg2 c32_i32_675
  let v1411 : BitVec 32 := Scalar.addi v1409 v1410
  let c27_i32 : BitVec 32 := 27#32
  let v1412 : BitVec 32 := Scalar.addi v1411 c27_i32
  let v1413 : Index := Scalar.indexCast v1412
  ![v1413.toNat]
def k0_mult28 (v1414 : BitVec 32) : BitVec 32 :=
  let c3_i32_676 : BitVec 32 := 3#32
  let v1415 : BitVec 32 := Scalar.shrui v1414 c3_i32_676
  let c3_i32_677 : BitVec 32 := 3#32
  let v1416 : BitVec 32 := Scalar.shli v1415 c3_i32_677
  let c888_i32_678 : BitVec 32 := 888#32
  let v1417 : BitVec 32 := Scalar.minsi v1416 c888_i32_678
  v1417

def k0_off83 (v1414 : BitVec 32) : Fin 2 → Nat :=
  let c0_i32_681 : BitVec 32 := 0#32
  let c3_i32_676 : BitVec 32 := 3#32
  let v1415 : BitVec 32 := Scalar.shrui v1414 c3_i32_676
  let c3_i32_677 : BitVec 32 := 3#32
  let v1416 : BitVec 32 := Scalar.shli v1415 c3_i32_677
  let c888_i32_678 : BitVec 32 := 888#32
  let v1417 : BitVec 32 := Scalar.minsi v1416 c888_i32_678
  let v1418 : BitVec 32 := v1417
  let v1426 : BitVec 32 := Scalar.addi c0_i32_681 v1418
  let v1427 : Index := Scalar.indexCast v1426
  let c0_682 : Index := 0#32
  ![v1427.toNat, 0]
def k0_off84 (v1414 : BitVec 32) : Fin 2 → Nat :=
  let c0_i32_695 : BitVec 32 := 0#32
  let c3_i32_676 : BitVec 32 := 3#32
  let v1415 : BitVec 32 := Scalar.shrui v1414 c3_i32_676
  let c3_i32_677 : BitVec 32 := 3#32
  let v1416 : BitVec 32 := Scalar.shli v1415 c3_i32_677
  let c888_i32_678 : BitVec 32 := 888#32
  let v1417 : BitVec 32 := Scalar.minsi v1416 c888_i32_678
  let v1418 : BitVec 32 := v1417
  let v1449 : BitVec 32 := Scalar.addi c0_i32_695 v1418
  let v1450 : Index := Scalar.indexCast v1449
  let c0_696 : Index := 0#32
  ![v1450.toNat, 0]

def k0_chk28 (v1414 : BitVec 32) : Prop :=
  (8 ∣ (k0_mult28 v1414).toNat) ∧
  (∀ a, (k0_off83 v1414) a + S136x1024.size a ≤ S1024x1024.size a) ∧
  (∀ a, (k0_off84 v1414) a + S136x128.size a ≤ S1024x128.size a)
theorem k0_mult28_dvd : ∀ (v1414 : BitVec 32) (k0_hw28 : k0_chk28 v1414), 8 ∣ (k0_mult28 v1414).toNat := fun v1414 k0_hw28 => k0_hw28.1
theorem k0_off83_inb : ∀ (v1414 : BitVec 32) (k0_hw28 : k0_chk28 v1414), ∀ a, (k0_off83 v1414) a + S136x1024.size a ≤ S1024x1024.size a := fun v1414 k0_hw28 => k0_hw28.2.1
theorem k0_off84_inb : ∀ (v1414 : BitVec 32) (k0_hw28 : k0_chk28 v1414), ∀ a, (k0_off84 v1414) a + S136x128.size a ≤ S1024x128.size a := fun v1414 k0_hw28 => k0_hw28.2.2

def k0_off85 (i : grid0.Coords) : Fin 1 → Nat :=
  let arg1 : BitVec 32 := BitVec.ofNat 32 (i 1).val
  let c16_i32_698 : BitVec 32 := 16#32
  let v1459 : BitVec 32 := Scalar.muli arg1 c16_i32_698
  let arg0 : BitVec 32 := BitVec.ofNat 32 (i 0).val
  let v1460 : BitVec 32 := Scalar.addi v1459 arg0
  let c128_i32_699 : BitVec 32 := 128#32
  let v1461 : BitVec 32 := Scalar.muli v1460 c128_i32_699
  let arg2 : BitVec 32 := BitVec.ofNat 32 (i 2).val
  let c32_i32_700 : BitVec 32 := 32#32
  let v1462 : BitVec 32 := Scalar.muli arg2 c32_i32_700
  let v1463 : BitVec 32 := Scalar.addi v1461 v1462
  let c28_i32 : BitVec 32 := 28#32
  let v1464 : BitVec 32 := Scalar.addi v1463 c28_i32
  let v1465 : Index := Scalar.indexCast v1464
  ![v1465.toNat]
def k0_mult29 (v1466 : BitVec 32) : BitVec 32 :=
  let c3_i32_701 : BitVec 32 := 3#32
  let v1467 : BitVec 32 := Scalar.shrui v1466 c3_i32_701
  let c3_i32_702 : BitVec 32 := 3#32
  let v1468 : BitVec 32 := Scalar.shli v1467 c3_i32_702
  let c888_i32_703 : BitVec 32 := 888#32
  let v1469 : BitVec 32 := Scalar.minsi v1468 c888_i32_703
  v1469

def k0_off86 (v1466 : BitVec 32) : Fin 2 → Nat :=
  let c0_i32_706 : BitVec 32 := 0#32
  let c3_i32_701 : BitVec 32 := 3#32
  let v1467 : BitVec 32 := Scalar.shrui v1466 c3_i32_701
  let c3_i32_702 : BitVec 32 := 3#32
  let v1468 : BitVec 32 := Scalar.shli v1467 c3_i32_702
  let c888_i32_703 : BitVec 32 := 888#32
  let v1469 : BitVec 32 := Scalar.minsi v1468 c888_i32_703
  let v1470 : BitVec 32 := v1469
  let v1478 : BitVec 32 := Scalar.addi c0_i32_706 v1470
  let v1479 : Index := Scalar.indexCast v1478
  let c0_707 : Index := 0#32
  ![v1479.toNat, 0]
def k0_off87 (v1466 : BitVec 32) : Fin 2 → Nat :=
  let c0_i32_720 : BitVec 32 := 0#32
  let c3_i32_701 : BitVec 32 := 3#32
  let v1467 : BitVec 32 := Scalar.shrui v1466 c3_i32_701
  let c3_i32_702 : BitVec 32 := 3#32
  let v1468 : BitVec 32 := Scalar.shli v1467 c3_i32_702
  let c888_i32_703 : BitVec 32 := 888#32
  let v1469 : BitVec 32 := Scalar.minsi v1468 c888_i32_703
  let v1470 : BitVec 32 := v1469
  let v1501 : BitVec 32 := Scalar.addi c0_i32_720 v1470
  let v1502 : Index := Scalar.indexCast v1501
  let c0_721 : Index := 0#32
  ![v1502.toNat, 0]

def k0_chk29 (v1466 : BitVec 32) : Prop :=
  (8 ∣ (k0_mult29 v1466).toNat) ∧
  (∀ a, (k0_off86 v1466) a + S136x1024.size a ≤ S1024x1024.size a) ∧
  (∀ a, (k0_off87 v1466) a + S136x128.size a ≤ S1024x128.size a)
theorem k0_mult29_dvd : ∀ (v1466 : BitVec 32) (k0_hw29 : k0_chk29 v1466), 8 ∣ (k0_mult29 v1466).toNat := fun v1466 k0_hw29 => k0_hw29.1
theorem k0_off86_inb : ∀ (v1466 : BitVec 32) (k0_hw29 : k0_chk29 v1466), ∀ a, (k0_off86 v1466) a + S136x1024.size a ≤ S1024x1024.size a := fun v1466 k0_hw29 => k0_hw29.2.1
theorem k0_off87_inb : ∀ (v1466 : BitVec 32) (k0_hw29 : k0_chk29 v1466), ∀ a, (k0_off87 v1466) a + S136x128.size a ≤ S1024x128.size a := fun v1466 k0_hw29 => k0_hw29.2.2

def k0_off88 (i : grid0.Coords) : Fin 1 → Nat :=
  let arg1 : BitVec 32 := BitVec.ofNat 32 (i 1).val
  let c16_i32_723 : BitVec 32 := 16#32
  let v1511 : BitVec 32 := Scalar.muli arg1 c16_i32_723
  let arg0 : BitVec 32 := BitVec.ofNat 32 (i 0).val
  let v1512 : BitVec 32 := Scalar.addi v1511 arg0
  let c128_i32_724 : BitVec 32 := 128#32
  let v1513 : BitVec 32 := Scalar.muli v1512 c128_i32_724
  let arg2 : BitVec 32 := BitVec.ofNat 32 (i 2).val
  let c32_i32_725 : BitVec 32 := 32#32
  let v1514 : BitVec 32 := Scalar.muli arg2 c32_i32_725
  let v1515 : BitVec 32 := Scalar.addi v1513 v1514
  let c29_i32 : BitVec 32 := 29#32
  let v1516 : BitVec 32 := Scalar.addi v1515 c29_i32
  let v1517 : Index := Scalar.indexCast v1516
  ![v1517.toNat]
def k0_mult30 (v1518 : BitVec 32) : BitVec 32 :=
  let c3_i32_726 : BitVec 32 := 3#32
  let v1519 : BitVec 32 := Scalar.shrui v1518 c3_i32_726
  let c3_i32_727 : BitVec 32 := 3#32
  let v1520 : BitVec 32 := Scalar.shli v1519 c3_i32_727
  let c888_i32_728 : BitVec 32 := 888#32
  let v1521 : BitVec 32 := Scalar.minsi v1520 c888_i32_728
  v1521

def k0_off89 (v1518 : BitVec 32) : Fin 2 → Nat :=
  let c0_i32_731 : BitVec 32 := 0#32
  let c3_i32_726 : BitVec 32 := 3#32
  let v1519 : BitVec 32 := Scalar.shrui v1518 c3_i32_726
  let c3_i32_727 : BitVec 32 := 3#32
  let v1520 : BitVec 32 := Scalar.shli v1519 c3_i32_727
  let c888_i32_728 : BitVec 32 := 888#32
  let v1521 : BitVec 32 := Scalar.minsi v1520 c888_i32_728
  let v1522 : BitVec 32 := v1521
  let v1530 : BitVec 32 := Scalar.addi c0_i32_731 v1522
  let v1531 : Index := Scalar.indexCast v1530
  let c0_732 : Index := 0#32
  ![v1531.toNat, 0]
def k0_off90 (v1518 : BitVec 32) : Fin 2 → Nat :=
  let c0_i32_745 : BitVec 32 := 0#32
  let c3_i32_726 : BitVec 32 := 3#32
  let v1519 : BitVec 32 := Scalar.shrui v1518 c3_i32_726
  let c3_i32_727 : BitVec 32 := 3#32
  let v1520 : BitVec 32 := Scalar.shli v1519 c3_i32_727
  let c888_i32_728 : BitVec 32 := 888#32
  let v1521 : BitVec 32 := Scalar.minsi v1520 c888_i32_728
  let v1522 : BitVec 32 := v1521
  let v1553 : BitVec 32 := Scalar.addi c0_i32_745 v1522
  let v1554 : Index := Scalar.indexCast v1553
  let c0_746 : Index := 0#32
  ![v1554.toNat, 0]

def k0_chk30 (v1518 : BitVec 32) : Prop :=
  (8 ∣ (k0_mult30 v1518).toNat) ∧
  (∀ a, (k0_off89 v1518) a + S136x1024.size a ≤ S1024x1024.size a) ∧
  (∀ a, (k0_off90 v1518) a + S136x128.size a ≤ S1024x128.size a)
theorem k0_mult30_dvd : ∀ (v1518 : BitVec 32) (k0_hw30 : k0_chk30 v1518), 8 ∣ (k0_mult30 v1518).toNat := fun v1518 k0_hw30 => k0_hw30.1
theorem k0_off89_inb : ∀ (v1518 : BitVec 32) (k0_hw30 : k0_chk30 v1518), ∀ a, (k0_off89 v1518) a + S136x1024.size a ≤ S1024x1024.size a := fun v1518 k0_hw30 => k0_hw30.2.1
theorem k0_off90_inb : ∀ (v1518 : BitVec 32) (k0_hw30 : k0_chk30 v1518), ∀ a, (k0_off90 v1518) a + S136x128.size a ≤ S1024x128.size a := fun v1518 k0_hw30 => k0_hw30.2.2

def k0_off91 (i : grid0.Coords) : Fin 1 → Nat :=
  let arg1 : BitVec 32 := BitVec.ofNat 32 (i 1).val
  let c16_i32_748 : BitVec 32 := 16#32
  let v1563 : BitVec 32 := Scalar.muli arg1 c16_i32_748
  let arg0 : BitVec 32 := BitVec.ofNat 32 (i 0).val
  let v1564 : BitVec 32 := Scalar.addi v1563 arg0
  let c128_i32_749 : BitVec 32 := 128#32
  let v1565 : BitVec 32 := Scalar.muli v1564 c128_i32_749
  let arg2 : BitVec 32 := BitVec.ofNat 32 (i 2).val
  let c32_i32_750 : BitVec 32 := 32#32
  let v1566 : BitVec 32 := Scalar.muli arg2 c32_i32_750
  let v1567 : BitVec 32 := Scalar.addi v1565 v1566
  let c30_i32 : BitVec 32 := 30#32
  let v1568 : BitVec 32 := Scalar.addi v1567 c30_i32
  let v1569 : Index := Scalar.indexCast v1568
  ![v1569.toNat]
def k0_mult31 (v1570 : BitVec 32) : BitVec 32 :=
  let c3_i32_751 : BitVec 32 := 3#32
  let v1571 : BitVec 32 := Scalar.shrui v1570 c3_i32_751
  let c3_i32_752 : BitVec 32 := 3#32
  let v1572 : BitVec 32 := Scalar.shli v1571 c3_i32_752
  let c888_i32_753 : BitVec 32 := 888#32
  let v1573 : BitVec 32 := Scalar.minsi v1572 c888_i32_753
  v1573

def k0_off92 (v1570 : BitVec 32) : Fin 2 → Nat :=
  let c0_i32_756 : BitVec 32 := 0#32
  let c3_i32_751 : BitVec 32 := 3#32
  let v1571 : BitVec 32 := Scalar.shrui v1570 c3_i32_751
  let c3_i32_752 : BitVec 32 := 3#32
  let v1572 : BitVec 32 := Scalar.shli v1571 c3_i32_752
  let c888_i32_753 : BitVec 32 := 888#32
  let v1573 : BitVec 32 := Scalar.minsi v1572 c888_i32_753
  let v1574 : BitVec 32 := v1573
  let v1582 : BitVec 32 := Scalar.addi c0_i32_756 v1574
  let v1583 : Index := Scalar.indexCast v1582
  let c0_757 : Index := 0#32
  ![v1583.toNat, 0]
def k0_off93 (v1570 : BitVec 32) : Fin 2 → Nat :=
  let c0_i32_770 : BitVec 32 := 0#32
  let c3_i32_751 : BitVec 32 := 3#32
  let v1571 : BitVec 32 := Scalar.shrui v1570 c3_i32_751
  let c3_i32_752 : BitVec 32 := 3#32
  let v1572 : BitVec 32 := Scalar.shli v1571 c3_i32_752
  let c888_i32_753 : BitVec 32 := 888#32
  let v1573 : BitVec 32 := Scalar.minsi v1572 c888_i32_753
  let v1574 : BitVec 32 := v1573
  let v1605 : BitVec 32 := Scalar.addi c0_i32_770 v1574
  let v1606 : Index := Scalar.indexCast v1605
  let c0_771 : Index := 0#32
  ![v1606.toNat, 0]

def k0_chk31 (v1570 : BitVec 32) : Prop :=
  (8 ∣ (k0_mult31 v1570).toNat) ∧
  (∀ a, (k0_off92 v1570) a + S136x1024.size a ≤ S1024x1024.size a) ∧
  (∀ a, (k0_off93 v1570) a + S136x128.size a ≤ S1024x128.size a)
theorem k0_mult31_dvd : ∀ (v1570 : BitVec 32) (k0_hw31 : k0_chk31 v1570), 8 ∣ (k0_mult31 v1570).toNat := fun v1570 k0_hw31 => k0_hw31.1
theorem k0_off92_inb : ∀ (v1570 : BitVec 32) (k0_hw31 : k0_chk31 v1570), ∀ a, (k0_off92 v1570) a + S136x1024.size a ≤ S1024x1024.size a := fun v1570 k0_hw31 => k0_hw31.2.1
theorem k0_off93_inb : ∀ (v1570 : BitVec 32) (k0_hw31 : k0_chk31 v1570), ∀ a, (k0_off93 v1570) a + S136x128.size a ≤ S1024x128.size a := fun v1570 k0_hw31 => k0_hw31.2.2

def k0_off94 (i : grid0.Coords) : Fin 1 → Nat :=
  let arg1 : BitVec 32 := BitVec.ofNat 32 (i 1).val
  let c16_i32_773 : BitVec 32 := 16#32
  let v1615 : BitVec 32 := Scalar.muli arg1 c16_i32_773
  let arg0 : BitVec 32 := BitVec.ofNat 32 (i 0).val
  let v1616 : BitVec 32 := Scalar.addi v1615 arg0
  let c128_i32_774 : BitVec 32 := 128#32
  let v1617 : BitVec 32 := Scalar.muli v1616 c128_i32_774
  let arg2 : BitVec 32 := BitVec.ofNat 32 (i 2).val
  let c32_i32_775 : BitVec 32 := 32#32
  let v1618 : BitVec 32 := Scalar.muli arg2 c32_i32_775
  let v1619 : BitVec 32 := Scalar.addi v1617 v1618
  let c31_i32 : BitVec 32 := 31#32
  let v1620 : BitVec 32 := Scalar.addi v1619 c31_i32
  let v1621 : Index := Scalar.indexCast v1620
  ![v1621.toNat]
def k0_mult32 (v1622 : BitVec 32) : BitVec 32 :=
  let c3_i32_776 : BitVec 32 := 3#32
  let v1623 : BitVec 32 := Scalar.shrui v1622 c3_i32_776
  let c3_i32_777 : BitVec 32 := 3#32
  let v1624 : BitVec 32 := Scalar.shli v1623 c3_i32_777
  let c888_i32_778 : BitVec 32 := 888#32
  let v1625 : BitVec 32 := Scalar.minsi v1624 c888_i32_778
  v1625

def k0_off95 (v1622 : BitVec 32) : Fin 2 → Nat :=
  let c0_i32_781 : BitVec 32 := 0#32
  let c3_i32_776 : BitVec 32 := 3#32
  let v1623 : BitVec 32 := Scalar.shrui v1622 c3_i32_776
  let c3_i32_777 : BitVec 32 := 3#32
  let v1624 : BitVec 32 := Scalar.shli v1623 c3_i32_777
  let c888_i32_778 : BitVec 32 := 888#32
  let v1625 : BitVec 32 := Scalar.minsi v1624 c888_i32_778
  let v1626 : BitVec 32 := v1625
  let v1634 : BitVec 32 := Scalar.addi c0_i32_781 v1626
  let v1635 : Index := Scalar.indexCast v1634
  let c0_782 : Index := 0#32
  ![v1635.toNat, 0]
def k0_off96 (v1622 : BitVec 32) : Fin 2 → Nat :=
  let c0_i32_795 : BitVec 32 := 0#32
  let c3_i32_776 : BitVec 32 := 3#32
  let v1623 : BitVec 32 := Scalar.shrui v1622 c3_i32_776
  let c3_i32_777 : BitVec 32 := 3#32
  let v1624 : BitVec 32 := Scalar.shli v1623 c3_i32_777
  let c888_i32_778 : BitVec 32 := 888#32
  let v1625 : BitVec 32 := Scalar.minsi v1624 c888_i32_778
  let v1626 : BitVec 32 := v1625
  let v1657 : BitVec 32 := Scalar.addi c0_i32_795 v1626
  let v1658 : Index := Scalar.indexCast v1657
  let c0_796 : Index := 0#32
  ![v1658.toNat, 0]

def k0_chk32 (v1622 : BitVec 32) : Prop :=
  (8 ∣ (k0_mult32 v1622).toNat) ∧
  (∀ a, (k0_off95 v1622) a + S136x1024.size a ≤ S1024x1024.size a) ∧
  (∀ a, (k0_off96 v1622) a + S136x128.size a ≤ S1024x128.size a)
theorem k0_mult32_dvd : ∀ (v1622 : BitVec 32) (k0_hw32 : k0_chk32 v1622), 8 ∣ (k0_mult32 v1622).toNat := fun v1622 k0_hw32 => k0_hw32.1
theorem k0_off95_inb : ∀ (v1622 : BitVec 32) (k0_hw32 : k0_chk32 v1622), ∀ a, (k0_off95 v1622) a + S136x1024.size a ≤ S1024x1024.size a := fun v1622 k0_hw32 => k0_hw32.2.1
theorem k0_off96_inb : ∀ (v1622 : BitVec 32) (k0_hw32 : k0_chk32 v1622), ∀ a, (k0_off96 v1622) a + S136x128.size a ≤ S1024x128.size a := fun v1622 k0_hw32 => k0_hw32.2.2

def k0_cond2 (i : grid0.Coords) : BitVec 1 :=
  let arg2 : BitVec 32 := BitVec.ofNat 32 (i 2).val
  let c1_i32_798 : BitVec 32 := 1#32
  let v1667 : BitVec 1 := Scalar.cmpi .eq arg2 c1_i32_798
  let v1668 : BitVec 32 := Scalar.extui v1667
  let c0_i32_799 : BitVec 32 := 0#32
  let v1669 : BitVec 1 := Scalar.cmpi .ne v1668 c0_i32_799
  v1669

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  ![v1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S4x8192x1024 : Shape := ⟨3, ![4, 8192, 1024]⟩
abbrev S4x16x8192 : Shape := ⟨3, ![4, 16, 8192]⟩
abbrev S4x16x1024 : Shape := ⟨3, ![4, 16, 1024]⟩
abbrev S4x16x128 : Shape := ⟨3, ![4, 16, 128]⟩
abbrev S16x1024x2048 : Shape := ⟨3, ![16, 1024, 2048]⟩
abbrev S16x2048x1024 : Shape := ⟨3, ![16, 2048, 1024]⟩
abbrev S_ : Shape := ⟨0, ![]⟩
abbrev S4x16x1024x1 : Shape := ⟨4, ![4, 16, 1024, 1]⟩
abbrev S4x16x1024x1024 : Shape := ⟨4, ![4, 16, 1024, 1024]⟩
abbrev S16x2048x4x1024 : Shape := ⟨4, ![16, 2048, 4, 1024]⟩
abbrev S4x16x1024x2048 : Shape := ⟨4, ![4, 16, 1024, 2048]⟩
abbrev S16x1024x4x1024 : Shape := ⟨4, ![16, 1024, 4, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x16x8192, .f32⟩
  | .hbm, ⟨2, _⟩ => ⟨S4x16x1024, .i32⟩
  | .hbm, ⟨3, _⟩ => ⟨S4x16x8192, .i32⟩
  | .hbm, ⟨4, _⟩ => ⟨S4x16x128, .i32⟩
  | .hbm, ⟨5, _⟩ => ⟨S16x1024x2048, .f32⟩
  | .hbm, ⟨6, _⟩ => ⟨S16x1024x2048, .f32⟩
  | .hbm, ⟨7, _⟩ => ⟨S16x2048x1024, .f32⟩
  | .hbm, ⟨8, _⟩ => ⟨S_, .i32⟩
  | .hbm, ⟨9, _⟩ => ⟨S4x16x1024, .i32⟩
  | .hbm, ⟨10, _⟩ => ⟨S4x16x1024, .i1⟩
  | .hbm, ⟨11, _⟩ => ⟨S_, .i32⟩
  | .hbm, ⟨12, _⟩ => ⟨S4x16x1024, .i32⟩
  | .hbm, ⟨13, _⟩ => ⟨S4x16x1024, .i32⟩
  | .hbm, ⟨14, _⟩ => ⟨S4x16x1024, .i32⟩
  | .hbm, ⟨15, _⟩ => ⟨S4x16x1024x1, .i32⟩
  | .hbm, ⟨16, _⟩ => ⟨S4x16x1024x1024, .f32⟩
  | .hbm, ⟨17, _⟩ => ⟨S_, .i32⟩
  | .hbm, ⟨18, _⟩ => ⟨S4x16x1024, .i32⟩
  | .hbm, ⟨19, _⟩ => ⟨S4x16x1024, .i1⟩
  | .hbm, ⟨20, _⟩ => ⟨S_, .i32⟩
  | .hbm, ⟨21, _⟩ => ⟨S4x16x1024, .i32⟩
  | .hbm, ⟨22, _⟩ => ⟨S4x16x1024, .i32⟩
  | .hbm, ⟨23, _⟩ => ⟨S4x16x1024, .i32⟩
  | .hbm, ⟨24, _⟩ => ⟨S4x16x1024x1, .i32⟩
  | .hbm, ⟨25, _⟩ => ⟨S4x16x1024, .f32⟩
  | .hbm, ⟨26, _⟩ => ⟨S16x2048x4x1024, .f32⟩
  | .hbm, ⟨27, _⟩ => ⟨S4x16x1024x2048, .f32⟩
  | .hbm, ⟨28, _⟩ => ⟨S4x16x1024x2048, .f32⟩
  | .hbm, ⟨29, _⟩ => ⟨S4x16x1024x2048, .f32⟩
  | .hbm, ⟨30, _⟩ => ⟨S_, .f32⟩
  | .hbm, ⟨31, _⟩ => ⟨S4x16x1024x2048, .f32⟩
  | .hbm, ⟨32, _⟩ => ⟨S4x16x1024x2048, .f32⟩
  | .hbm, ⟨33, _⟩ => ⟨S_, .f32⟩
  | .hbm, ⟨34, _⟩ => ⟨S4x16x1024x2048, .f32⟩
  | .hbm, ⟨35, _⟩ => ⟨S4x16x1024x2048, .f32⟩
  | .hbm, ⟨36, _⟩ => ⟨S4x16x1024x2048, .f32⟩
  | .hbm, ⟨37, _⟩ => ⟨S16x2048x4x1024, .f32⟩
  | .hbm, ⟨38, _⟩ => ⟨S4x16x1024x2048, .f32⟩
  | .hbm, ⟨39, _⟩ => ⟨S4x16x1024x2048, .f32⟩
  | .hbm, ⟨40, _⟩ => ⟨S16x1024x4x1024, .f32⟩
  | .hbm, ⟨41, _⟩ => ⟨S4x16x1024x1024, .f32⟩
  | .hbm, ⟨42, _⟩ => ⟨S4x16x1024x1, .f32⟩
  | .hbm, ⟨43, _⟩ => ⟨S4x16x1024x1024, .f32⟩
  | .hbm, ⟨44, _⟩ => ⟨S4x16x1024x1024, .f32⟩
  | .hbm, ⟨45, _⟩ => ⟨S4x16x1024x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== Kernel5.lean ====
abbrev S4x8192x768 : Shape := ⟨3, ![4, 8192, 768]⟩
abbrev S4x8192x512 : Shape := ⟨3, ![4, 8192, 512]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S4x8192x1024 : Shape := ⟨3, ![4, 8192, 1024]⟩
abbrev S4x1x1024 : Shape := ⟨3, ![4, 1, 1024]⟩
abbrev S1024 : Shape := ⟨1, ![1024]⟩
abbrev S1024x16 : Shape := ⟨2, ![1024, 16]⟩
abbrev S16x1024 : Shape := ⟨2, ![16, 1024]⟩
abbrev S768x1024 : Shape := ⟨2, ![768, 1024]⟩
abbrev S256x1024 : Shape := ⟨2, ![256, 1024]⟩
abbrev S1x256 : Shape := ⟨2, ![1, 256]⟩
abbrev S1x1024 : Shape := ⟨2, ![1, 1024]⟩
abbrev S128x4 : Shape := ⟨2, ![128, 4]⟩
abbrev S128x4x64 : Shape := ⟨3, ![128, 4, 64]⟩
abbrev S128x256 : Shape := ⟨2, ![128, 256]⟩
abbrev S4x16x8192 : Shape := ⟨3, ![4, 16, 8192]⟩
abbrev S1x512x768 : Shape := ⟨3, ![1, 512, 768]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S512x768 : Shape := ⟨2, ![512, 768]⟩
abbrev S512x1024 : Shape := ⟨2, ![512, 1024]⟩
abbrev S16x512 : Shape := ⟨2, ![16, 512]⟩
abbrev S1x512 : Shape := ⟨2, ![1, 512]⟩

abbrev nBuf : Space → Nat
  | .hbm => 29
  | .vmem => 27
  | .smem => 0
  | _ => 0

abbrev bufTy : (tb : Table) → Fin (tcTables nBuf tb) → BufTy
  | .hbm, ⟨0, _⟩ => ⟨S4x8192x768, .f32⟩
  | .hbm, ⟨1, _⟩ => ⟨S4x8192x512, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S4x8192x1024, .f32⟩
  | .hbm, ⟨8, _⟩ => ⟨S4x1x1024, .f32⟩
  | .hbm, ⟨9, _⟩ => ⟨S1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S1024x16, .f32⟩
  | .hbm, ⟨14, _⟩ => ⟨S4x8192x768, .bf16⟩
  | .hbm, ⟨15, _⟩ => ⟨S1024x1024, .bf16⟩
  | .hbm, ⟨16, _⟩ => ⟨S16x1024, .f32⟩
  | .hbm, ⟨17, _⟩ => ⟨S768x1024, .bf16⟩
  | .hbm, ⟨18, _⟩ => ⟨S256x1024, .bf16⟩
  | .hbm, ⟨19, _⟩ => ⟨S1x256, .f32⟩
  | .hbm, ⟨20, _⟩ => ⟨S1x256, .f32⟩
  | .hbm, ⟨21, _⟩ => ⟨S1x1024, .f32⟩
  | .hbm, ⟨22, _⟩ => ⟨S1x1024, .f32⟩
  | .hbm, ⟨23, _⟩ => ⟨S128x4, .f32⟩
  | .hbm, ⟨24, _⟩ => ⟨S128x4x64, .f32⟩
  | .hbm, ⟨25, _⟩ => ⟨S128x256, .f32⟩
  | .hbm, ⟨26, _⟩ => ⟨S4x8192x1024, .f32⟩
  | .hbm, ⟨27, _⟩ => ⟨S4x8192x1024, .bf16⟩
  | .hbm, ⟨28, _⟩ => ⟨S4x16x8192, .f32⟩
  | .local _ .vmem, ⟨0, _⟩ => ⟨S1x512x768, .bf16⟩
  | .local _ .vmem, ⟨1, _⟩ => ⟨S1x512x768, .bf16⟩
  | .local _ .vmem, ⟨2, _⟩ => ⟨S1x512x512, .f32⟩
  | .local _ .vmem, ⟨3, _⟩ => ⟨S1x512x512, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S768x1024, .bf16⟩
  | .local _ .vmem, ⟨9, _⟩ => ⟨S256x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S16x1024, .f32⟩
  | .local _ .vmem, ⟨21, _⟩ => ⟨S1x512x1024, .f32⟩
  | .local _ .vmem, ⟨22, _⟩ => ⟨S1x512x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x16x512, .f32⟩
  | .local _ .vmem, ⟨26, _⟩ => ⟨S1x16x512, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S4x8192x768 : Shape := ⟨3, ![4, 8192, 768]⟩
abbrev S4x8192x512 : Shape := ⟨3, ![4, 8192, 512]⟩
abbrev S256 : Shape := ⟨1, ![256]⟩
abbrev S4x128x128 : Shape := ⟨3, ![4, 128, 128]⟩
abbrev S4x128 : Shape := ⟨2, ![4, 128]⟩
abbrev S1024x1024 : Shape := ⟨2, ![1024, 1024]⟩
abbrev S4x8192x1024 : Shape := ⟨3, ![4, 8192, 1024]⟩
abbrev S4x1x1024 : Shape := ⟨3, ![4, 1, 1024]⟩
abbrev S1024 : Shape := ⟨1, ![1024]⟩
abbrev S1024x16 : Shape := ⟨2, ![1024, 16]⟩
abbrev S_ : Shape := ⟨0, ![]⟩
abbrev S4x8192x256 : Shape := ⟨3, ![4, 8192, 256]⟩
abbrev S4x8192 : Shape := ⟨2, ![4, 8192]⟩
abbrev S4x8192x1 : Shape := ⟨3, ![4, 8192, 1]⟩
abbrev S1x1x256 : Shape := ⟨3, ![1, 1, 256]⟩
abbrev S4x64x128x4x64 : Shape := ⟨5, ![4, 64, 128, 4, 64]⟩
abbrev S4x4x64x64x128 : Shape := ⟨5, ![4, 4, 64, 64, 128]⟩
abbrev S128x4 : Shape := ⟨2, ![128, 4]⟩
abbrev S1x1x128x4x1 : Shape := ⟨5, ![1, 1, 128, 4, 1]⟩
abbrev S1x1x1024 : Shape := ⟨3, ![1, 1, 1024]⟩
abbrev S4x8192x16 : Shape := ⟨3, ![4, 8192, 16]⟩
abbrev S4x16x8192 : Shape := ⟨3, ![4, 16, 8192]⟩

abbrev nBuf : Space → Nat
  | .hbm => 124
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192x512, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1024x1024, .f32⟩
  | .hbm, ⟨7, _⟩ => ⟨S4x8192x1024, .f32⟩
  | .hbm, ⟨8, _⟩ => ⟨S4x1x1024, .f32⟩
  | .hbm, ⟨9, _⟩ => ⟨S1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S1024x16, .f32⟩
  | .hbm, ⟨14, _⟩ => ⟨S_, .f32⟩
  | .hbm, ⟨15, _⟩ => ⟨S4x8192x512, .f32⟩
  | .hbm, ⟨16, _⟩ => ⟨S4x8192x512, .f32⟩
  | .hbm, ⟨17, _⟩ => ⟨S4x8192x512, .f32⟩
  | .hbm, ⟨18, _⟩ => ⟨S_, .f32⟩
  | .hbm, ⟨19, _⟩ => ⟨S4x8192x512, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x256, .f32⟩
  | .hbm, ⟨32, _⟩ => ⟨S4x8192x256, .f32⟩
  | .hbm, ⟨33, _⟩ => ⟨S4x8192x256, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192x1, .f32⟩
  | .hbm, ⟨44, _⟩ => ⟨S4x8192x1, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S1x1x256, .f32⟩
  | .hbm, ⟨49, _⟩ => ⟨S4x8192x256, .f32⟩
  | .hbm, ⟨50, _⟩ => ⟨S4x8192x256, .f32⟩
  | .hbm, ⟨51, _⟩ => ⟨S1x1x256, .f32⟩
  | .hbm, ⟨52, _⟩ => ⟨S4x8192x256, .f32⟩
  | .hbm, ⟨53, _⟩ => ⟨S4x8192x256, .f32⟩
  | .hbm, ⟨54, _⟩ => ⟨S4x64x128x4x64, .f32⟩
  | .hbm, ⟨55, _⟩ => ⟨S4x4x64x64x128, .f32⟩
  | .hbm, ⟨56, _⟩ => ⟨S4x64x128x4x64, .f32⟩
  | .hbm, ⟨57, _⟩ => ⟨S128x4, .f32⟩
  | .hbm, ⟨58, _⟩ => ⟨S1x1x128x4x1, .f32⟩
  | .hbm, ⟨59, _⟩ => ⟨S4x64x128x4x64, .f32⟩
  | .hbm, ⟨60, _⟩ => ⟨S4x64x128x4x64, .f32⟩
  | .hbm, ⟨61, _⟩ => ⟨S4x8192x256, .f32⟩
  | .hbm, ⟨62, _⟩ => ⟨S4x8192x256, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1024, .f32⟩
  | .hbm, ⟨93, _⟩ => ⟨S4x8192x1024, .f32⟩
  | .hbm, ⟨94, _⟩ => ⟨S1x1x1024, .f32⟩
  | .hbm, ⟨95, _⟩ => ⟨S4x8192x1024, .f32⟩
  | .hbm, ⟨96, _⟩ => ⟨S4x8192x1024, .f32⟩
  | .hbm, ⟨97, _⟩ => ⟨S1x1x1024, .f32⟩
  | .hbm, ⟨98, _⟩ => ⟨S4x8192x1024, .f32⟩
  | .hbm, ⟨99, _⟩ => ⟨S4x8192x1024, .f32⟩
  | .hbm, ⟨100, _⟩ => ⟨S_, .f32⟩
  | .hbm, ⟨101, _⟩ => ⟨S4x1x1024, .f32⟩
  | .hbm, ⟨102, _⟩ => ⟨S4x1x1024, .f32⟩
  | .hbm, ⟨103, _⟩ => ⟨S4x8192x1024, .f32⟩
  | .hbm, ⟨104, _⟩ => ⟨S4x8192x1024, .f32⟩
  | .hbm, ⟨105, _⟩ => ⟨S4x8192x1024, .f32⟩
  | .hbm, ⟨106, _⟩ => ⟨S4x8192x1024, .f32⟩
  | .hbm, ⟨107, _⟩ => ⟨S4x8192x16, .f32⟩
  | .hbm, ⟨108, _⟩ => ⟨S_, .f32⟩
  | .hbm, ⟨109, _⟩ => ⟨S4x8192, .f32⟩
  | .hbm, ⟨110, _⟩ => ⟨S_, .f32⟩
  | .hbm, ⟨111, _⟩ => ⟨S4x8192, .f32⟩
  | .hbm, ⟨112, _⟩ => ⟨S4x8192, .f32⟩
  | .hbm, ⟨113, _⟩ => ⟨S4x8192x1, .f32⟩
  | .hbm, ⟨114, _⟩ => ⟨S4x8192x16, .f32⟩
  | .hbm, ⟨115, _⟩ => ⟨S4x8192x16, .f32⟩
  | .hbm, ⟨116, _⟩ => ⟨S4x8192x16, .f32⟩
  | .hbm, ⟨117, _⟩ => ⟨S_, .f32⟩
  | .hbm, ⟨118, _⟩ => ⟨S4x8192, .f32⟩
  | .hbm, ⟨119, _⟩ => ⟨S4x8192x1, .f32⟩
  | .hbm, ⟨120, _⟩ => ⟨S4x8192x16, .f32⟩
  | .hbm, ⟨121, _⟩ => ⟨S4x8192x16, .f32⟩
  | .hbm, ⟨122, _⟩ => ⟨S4x8192x1024, .bf16⟩
  | .hbm, ⟨123, _⟩ => ⟨S4x16x8192, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== Proof.Trips.lean ====
module

public import proofs.«01_k».proof.Proof.Gen.KernelIdeal.Value

@[expose] public section

/-! # One block of the attention kernel, trip by trip

The kernel goes over the 8448 keys in six chunks of 1408, once for each of the two softmax maps. A
trip keeps three arrays of 512 x 128: the running maximum (the same in every lane), the running sum
of the weights (lane `c` keeps the keys whose index is `c` modulo 128) and the accumulator. This
module says a trip as a function of the state before it, and reads the block's result off as six
trips of each map followed by the tail. -/

set_option maxRecDepth 16384

noncomputable section

namespace Cert.KernelIdeal.Trips

open Cert.KernelIdeal Cert.KernelIdeal.Gen Idealize.ShloMosaic Idealize.ShloMosaic.TcCoe Idealize.SL.Sem

variable {F : FTy → Type} [FloatOps F] [Named F]

/-- The scores of 512 query rows against one chunk of 1408 keys. -/
def scores (q : FVec F S512x128 .bf16) (k : Vec F S1x1408x128 .bf16) : FVec F S512x1408 .f32 :=
  matmul dot_S512x128_S1408x128_S512x1408_1_1_0_0_n_n none q
    (shapeCast S1408x128 k shapeCasts_S1x1408x128_S1408x128) (constant S512x1408 .f32 0x00000000#32)

/-- Scores of the keys 0 to 127 of a chunk. -/
def tile0 (s : FVec F S512x1408 .f32) : FVec F S512x128 .f32 :=
  extractStridedSlice S512x128 ![0, 0] s slices_S512x1408_o0_0_S512x128

/-- Scores of the keys 128 to 255 of a chunk. -/
def tile1 (s : FVec F S512x1408 .f32) : FVec F S512x128 .f32 :=
  extractStridedSlice S512x128 ![0, 128] s slices_S512x1408_o0_128_S512x128

/-- Scores of the keys 256 to 383 of a chunk. -/
def tile2 (s : FVec F S512x1408 .f32) : FVec F S512x128 .f32 :=
  extractStridedSlice S512x128 ![0, 256] s slices_S512x1408_o0_256_S512x128

/-- Scores of the keys 384 to 511 of a chunk. -/
def tile3 (s : FVec F S512x1408 .f32) : FVec F S512x128 .f32 :=
  extractStridedSlice S512x128 ![0, 384] s slices_S512x1408_o0_384_S512x128

/-- Scores of the keys 512 to 639 of a chunk. -/
def tile4 (s : FVec F S512x1408 .f32) : FVec F S512x128 .f32 :=
  extractStridedSlice S512x128 ![0, 512] s slices_S512x1408_o0_512_S512x128

/-- Scores of the keys 640 to 767 of a chunk. -/
def tile5 (s : FVec F S512x1408 .f32) : FVec F S512x128 .f32 :=
  extractStridedSlice S512x128 ![0, 640] s slices_S512x1408_o0_640_S512x128

/-- Scores of the keys 768 to 895 of a chunk. -/
def tile6 (s : FVec F S512x1408 .f32) : FVec F S512x128 .f32 :=
  extractStridedSlice S512x128 ![0, 768] s slices_S512x1408_o0_768_S512x128

/-- Scores of the keys 896 to 1023 of a chunk. -/
def tile7 (s : FVec F S512x1408 .f32) : FVec F S512x128 .f32 :=
  extractStridedSlice S512x128 ![0, 896] s slices_S512x1408_o0_896_S512x128

/-- Scores of the keys 1024 to 1151 of a chunk. -/
def tile8 (s : FVec F S512x1408 .f32) : FVec F S512x128 .f32 :=
  extractStridedSlice S512x128 ![0, 1024] s slices_S512x1408_o0_1024_S512x128

/-- Scores of the keys 1152 to 1279 of a chunk. -/
def tile9 (s : FVec F S512x1408 .f32) : FVec F S512x128 .f32 :=
  extractStridedSlice S512x128 ![0, 1152] s slices_S512x1408_o0_1152_S512x128

/-- Scores of the keys 1280 to 1407 of a chunk. -/
def tile10 (s : FVec F S512x1408 .f32) : FVec F S512x128 .f32 :=
  extractStridedSlice S512x128 ![0, 1280] s slices_S512x1408_o0_1280_S512x128

/-- Lane by lane, the largest of the eleven scores of that lane. -/
def laneMax (s : FVec F S512x1408 .f32) : FVec F S512x128 .f32 :=
  maximumf (maximumf (maximumf (maximumf (maximumf (maximumf (maximumf (maximumf (maximumf (maximumf (tile0 s) (tile1 s)) (tile2 s)) (tile3 s)) (tile4 s)) (tile5 s)) (tile6 s)) (tile7 s)) (tile8 s)) (tile9 s)) (tile10 s)

/-- The running maximum after a chunk. -/
def stepM (m : FVec F S512x128 .f32) (s : FVec F S512x1408 .f32) : FVec F S512x128 .f32 :=
  maximumf m (broadcastTo S512x128 (shapeCast S512x1 (shapeCast S512x1
    (multiReduction .maximumf [1] S512 (laneMax s) 0xFF800000#32 reduces_S512x128_S512 (.inl rfl) rfl)
    shapeCasts_S512_S512x1) shapeCasts_S512x1_S512x1) broadcasts_S512x1_S512x128)

/-- The factor that brings an older sum to the new maximum, and the weight of a score. -/
def wt (x m : FVec F S512x128 .f32) : FVec F S512x128 .f32 := exp2 (subf x m)

/-- The running sum of weights after a chunk; `m'` is the maximum after it. -/
def stepL (m m' l : FVec F S512x128 .f32) (s : FVec F S512x1408 .f32) : FVec F S512x128 .f32 :=
  addf (addf (addf (addf (addf (addf (addf (addf (addf (addf (addf (mulf (wt m m') l) (wt (tile0 s) m')) (wt (tile1 s) m')) (wt (tile2 s) m')) (wt (tile3 s) m')) (wt (tile4 s) m')) (wt (tile5 s) m')) (wt (tile6 s) m')) (wt (tile7 s) m')) (wt (tile8 s) m')) (wt (tile9 s) m')) (wt (tile10 s) m')

/-- The weights of a chunk, side by side. -/
def wts (m' : FVec F S512x128 .f32) (s : FVec F S512x1408 .f32) : FVec F S512x1408 .bf16 :=
  concatenate S512x1408 1 [⟨S512x128, truncf .bf16 (wt (tile0 s) m') bitsLt_bf16_f32⟩, ⟨S512x128, truncf .bf16 (wt (tile1 s) m') bitsLt_bf16_f32⟩, ⟨S512x128, truncf .bf16 (wt (tile2 s) m') bitsLt_bf16_f32⟩, ⟨S512x128, truncf .bf16 (wt (tile3 s) m') bitsLt_bf16_f32⟩, ⟨S512x128, truncf .bf16 (wt (tile4 s) m') bitsLt_bf16_f32⟩, ⟨S512x128, truncf .bf16 (wt (tile5 s) m') bitsLt_bf16_f32⟩, ⟨S512x128, truncf .bf16 (wt (tile6 s) m') bitsLt_bf16_f32⟩, ⟨S512x128, truncf .bf16 (wt (tile7 s) m') bitsLt_bf16_f32⟩, ⟨S512x128, truncf .bf16 (wt (tile8 s) m') bitsLt_bf16_f32⟩, ⟨S512x128, truncf .bf16 (wt (tile9 s) m') bitsLt_bf16_f32⟩, ⟨S512x128, truncf .bf16 (wt (tile10 s) m') bitsLt_bf16_f32⟩]
    concatenates_S512x128_S512x128_S512x128_S512x128_S512x128_S512x128_S512x128_S512x128_S512x128_S512x128_S512x128_S512x1408_d1

/-- The accumulator after a chunk. -/
def stepA (m m' a : FVec F S512x128 .f32) (s : FVec F S512x1408 .f32) (v : Vec F S1x1408x128 .bf16) :
    FVec F S512x128 .f32 :=
  addf (mulf (wt m m') a) (matmul dot_S512x1408_S1408x128_S512x128_1_0_0_1_n_n none (wts m' s)
    (shapeCast S1408x128 v shapeCasts_S1x1408x128_S1408x128) (constant S512x128 .f32 0x00000000#32))

/-- The running maximum after `t` chunks. -/
def mx (q : FVec F S512x128 .bf16) (k : ℕ → Vec F S1x1408x128 .bf16) : ℕ → FVec F S512x128 .f32
  | 0 => k0_pay5
  | t + 1 => stepM (mx q k t) (scores q (k t))

/-- The running sum of weights after `t` chunks. -/
def sm (q : FVec F S512x128 .bf16) (k : ℕ → Vec F S1x1408x128 .bf16) : ℕ → FVec F S512x128 .f32
  | 0 => k0_pay6
  | t + 1 => stepL (mx q k t) (mx q k (t + 1)) (sm q k t) (scores q (k t))

/-- The accumulator after `t` chunks. -/
def ac (q : FVec F S512x128 .bf16) (k v : ℕ → Vec F S1x1408x128 .bf16) : ℕ → FVec F S512x128 .f32
  | 0 => k0_pay6
  | t + 1 => stepA (mx q k t) (mx q k (t + 1)) (ac q k v t) (scores q (k t)) (v t)

/-- The two maps' quotients, the second subtracted `lam` times. -/
def diff (l1 a1 l2 a2 : FVec F S512x128 .f32) (lam : Elt F .f32) : FVec F S512x128 .f32 :=
  subf
    (divf a1 (broadcastTo S512x128 (shapeCast S512x1
      (multiReduction .add [1] S512 l1 0x00000000#32 reduces_S512x128_S512 (.inl rfl) rfl)
      shapeCasts_S512_S512x1) broadcasts_S512x1_S512x128))
    (mulf (broadcast S512x128 lam) (divf a2 (broadcastTo S512x128 (shapeCast S512x1
      (multiReduction .add [1] S512 l2 0x00000000#32 reduces_S512x128_S512 (.inl rfl) rfl)
      shapeCasts_S512_S512x1) broadcasts_S512x1_S512x128)))

/-- The norm over the 128 lanes, the gain and the output scale. -/
def tail (o : FVec F S512x128 .f32) (g : Vec F S1x128 .f32) : FVec F S1x512x128 .bf16 :=
  shapeCast S1x512x128 (truncf .bf16 (mulf (mulf (mulf o (broadcastTo S512x128 (rsqrt (addf (divf
      (shapeCast S512x1
        (multiReduction .add [1] S512 (mulf o o) 0x00000000#32 reduces_S512x128_S512 (.inl rfl) rfl)
        shapeCasts_S512_S512x1)
      (broadcast S512x1 (Scalar.ofBits .f32 0x43000000#32)))
      (broadcast S512x1 (Scalar.ofBits .f32 0x3727C5AC#32)))) broadcasts_S512x1_S512x128))
      (broadcastTo S512x128 (shapeCast S1x128 g shapeCasts_S1x128_S1x128) broadcasts_S1x128_S512x128))
      (broadcast S512x128 (Scalar.ofBits .f32 0x3F24FD5C#32))) bitsLt_bf16_f32)
    shapeCasts_S512x128_S1x512x128

/-- A block's result, from its five operands cut into what the kernel loads. -/
def blockOut (lam : Elt F .f32) (q : Vec F S1x512x128 .f32) (k v : ℕ → Vec F S1x1408x128 .bf16)
    (g : Vec F S1x128 .f32) : FVec F S1x512x128 .bf16 :=
  tail (diff (sm (k0_pay3 q) k 6) (ac (k0_pay3 q) k v 6) (sm (k0_pay4 q) k 6) (ac (k0_pay4 q) k v 6) lam) g

section Words

variable (c : Idealize.ShloMosaic.Dev nD)
  (arg3 : Memref sig .tc .smem S1 .f32) (harg3 : arg3.IsWhole)
  (arg4 : Memref sig .tc .vmem S1x512x128 .f32) (harg4 : arg4.IsWhole)
  (arg5 : Memref sig .tc .vmem S1x8448x128 .bf16) (harg5 : arg5.IsWhole)
  (arg6 : Memref sig .tc .vmem S1x8448x128 .bf16) (harg6 : arg6.IsWhole)
  (arg7 : Memref sig .tc .vmem S1x128 .f32) (harg7 : arg7.IsWhole)
  (x0 : Vec F S1 .f32) (x1 : Vec F S1x512x128 .f32) (x2 x3 : Vec F S1x8448x128 .bf16)
  (x4 : Vec F S1x128 .f32)

theorem inb0 : ∀ a, (![0, 0, 0] : Fin 3 → Nat) a + S1x1408x128.size a ≤ S1x8448x128.size a := by decide

theorem inb1 : ∀ a, (![0, 1408, 0] : Fin 3 → Nat) a + S1x1408x128.size a ≤ S1x8448x128.size a := by decide

theorem inb2 : ∀ a, (![0, 2816, 0] : Fin 3 → Nat) a + S1x1408x128.size a ≤ S1x8448x128.size a := by decide

theorem inb3 : ∀ a, (![0, 4224, 0] : Fin 3 → Nat) a + S1x1408x128.size a ≤ S1x8448x128.size a := by decide

theorem inb4 : ∀ a, (![0, 5632, 0] : Fin 3 → Nat) a + S1x1408x128.size a ≤ S1x8448x128.size a := by decide

theorem inb5 : ∀ a, (![0, 7040, 0] : Fin 3 → Nat) a + S1x1408x128.size a ≤ S1x8448x128.size a := by decide

/-- The query block as loaded. -/
def qL : Vec F S1x512x128 .f32 :=
  View.readAt (Elt F) arg4.view (Rect.unit ![0, 0, 0] S1x512x128.size
    inb_S1x512x128_S1x512x128_0_0_0).toLoadRect (harg4.unread x1)

/-- The key chunks as loaded. -/
def kL : ℕ → Vec F S1x1408x128 .bf16
  | 0 => View.readAt (Elt F) arg5.view (Rect.unit (s := S1x8448x128) ![0, 0, 0] S1x1408x128.size inb0).toLoadRect (harg5.unread x2)
  | 1 => View.readAt (Elt F) arg5.view (Rect.unit (s := S1x8448x128) ![0, 1408, 0] S1x1408x128.size inb1).toLoadRect (harg5.unread x2)
  | 2 => View.readAt (Elt F) arg5.view (Rect.unit (s := S1x8448x128) ![0, 2816, 0] S1x1408x128.size inb2).toLoadRect (harg5.unread x2)
  | 3 => View.readAt (Elt F) arg5.view (Rect.unit (s := S1x8448x128) ![0, 4224, 0] S1x1408x128.size inb3).toLoadRect (harg5.unread x2)
  | 4 => View.readAt (Elt F) arg5.view (Rect.unit (s := S1x8448x128) ![0, 5632, 0] S1x1408x128.size inb4).toLoadRect (harg5.unread x2)
  | _ => View.readAt (Elt F) arg5.view (Rect.unit (s := S1x8448x128) ![0, 7040, 0] S1x1408x128.size inb5).toLoadRect (harg5.unread x2)

/-- The value chunks as loaded. -/
def vL : ℕ → Vec F S1x1408x128 .bf16
  | 0 => View.readAt (Elt F) arg6.view (Rect.unit (s := S1x8448x128) ![0, 0, 0] S1x1408x128.size inb0).toLoadRect (harg6.unread x3)
  | 1 => View.readAt (Elt F) arg6.view (Rect.unit (s := S1x8448x128) ![0, 1408, 0] S1x1408x128.size inb1).toLoadRect (harg6.unread x3)
  | 2 => View.readAt (Elt F) arg6.view (Rect.unit (s := S1x8448x128) ![0, 2816, 0] S1x1408x128.size inb2).toLoadRect (harg6.unread x3)
  | 3 => View.readAt (Elt F) arg6.view (Rect.unit (s := S1x8448x128) ![0, 4224, 0] S1x1408x128.size inb3).toLoadRect (harg6.unread x3)
  | 4 => View.readAt (Elt F) arg6.view (Rect.unit (s := S1x8448x128) ![0, 5632, 0] S1x1408x128.size inb4).toLoadRect (harg6.unread x3)
  | _ => View.readAt (Elt F) arg6.view (Rect.unit (s := S1x8448x128) ![0, 7040, 0] S1x1408x128.size inb5).toLoadRect (harg6.unread x3)

/-! ## Map 1 -/

theorem s1_0 : kernelRun0_A.sl.r_3 c arg4 harg4 arg5 harg5 x1 x2
    = scores (k0_pay3 (qL arg4 harg4 x1)) ((kL arg5 harg5 x2) 0) := rfl

theorem m1_0 : kernelRun0_A.sl.r_7 c arg4 harg4 arg5 harg5 x1 x2
    = mx (k0_pay3 (qL arg4 harg4 x1)) (kL arg5 harg5 x2) 1 := by
  have h : (kernelRun0_A.sl.r_7 c arg4 harg4 arg5 harg5 x1 x2) = stepM k0_pay5 (kernelRun0_A.sl.r_3 c arg4 harg4 arg5 harg5 x1 x2) := rfl
  rw [h, s1_0]; rfl

theorem l1_0 : kernelRun0_A.sl.r_21 c arg4 harg4 arg5 harg5 x1 x2
    = sm (k0_pay3 (qL arg4 harg4 x1)) (kL arg5 harg5 x2) 1 := by
  have h : kernelRun0_A.sl.r_21 c arg4 harg4 arg5 harg5 x1 x2 = stepL k0_pay5 (kernelRun0_A.sl.r_7 c arg4 harg4 arg5 harg5 x1 x2) k0_pay6 (kernelRun0_A.sl.r_3 c arg4 harg4 arg5 harg5 x1 x2) := rfl
  rw [h, m1_0, s1_0]; rfl

theorem a1_0 : kernelRun0_A.sl.r_22 c arg4 harg4 arg5 harg5 arg6 harg6 x1 x2 x3
    = ac (k0_pay3 (qL arg4 harg4 x1)) (kL arg5 harg5 x2) (vL arg6 harg6 x3) 1 := by
  have h : kernelRun0_A.sl.r_22 c arg4 harg4 arg5 harg5 arg6 harg6 x1 x2 x3 = stepA k0_pay5 (kernelRun0_A.sl.r_7 c arg4 harg4 arg5 harg5 x1 x2) k0_pay6 (kernelRun0_A.sl.r_3 c arg4 harg4 arg5 harg5 x1 x2) ((vL arg6 harg6 x3) 0) := rfl
  rw [h, m1_0, s1_0]; rfl

theorem s1_1 : kernelRun0_A.sl.r_31 c arg4 harg4 arg5 harg5 x1 x2
    = scores (k0_pay3 (qL arg4 harg4 x1)) ((kL arg5 harg5 x2) 1) := rfl

theorem m1_1 : kernelRun0_A.sl.r_33 c arg4 harg4 arg5 harg5 x1 x2
    = mx (k0_pay3 (qL arg4 harg4 x1)) (kL arg5 harg5 x2) 2 := by
  have h : (kernelRun0_A.sl.r_33 c arg4 harg4 arg5 harg5 x1 x2) = stepM (kernelRun0_A.sl.r_7 c arg4 harg4 arg5 harg5 x1 x2) (kernelRun0_A.sl.r_31 c arg4 harg4 arg5 harg5 x1 x2) := rfl
  rw [h, s1_1, m1_0]; rfl

theorem l1_1 : kernelRun0_A.sl.r_38 c arg4 harg4 arg5 harg5 x1 x2
    = sm (k0_pay3 (qL arg4 harg4 x1)) (kL arg5 harg5 x2) 2 := by
  have h : kernelRun0_A.sl.r_38 c arg4 harg4 arg5 harg5 x1 x2 = stepL (kernelRun0_A.sl.r_7 c arg4 harg4 arg5 harg5 x1 x2) (kernelRun0_A.sl.r_33 c arg4 harg4 arg5 harg5 x1 x2) (kernelRun0_A.sl.r_21 c arg4 harg4 arg5 harg5 x1 x2) (kernelRun0_A.sl.r_31 c arg4 harg4 arg5 harg5 x1 x2) := rfl
  rw [h, m1_1, s1_1, m1_0, l1_0]; rfl

theorem a1_1 : kernelRun0_A.sl.r_39 c arg4 harg4 arg5 harg5 arg6 harg6 x1 x2 x3
    = ac (k0_pay3 (qL arg4 harg4 x1)) (kL arg5 harg5 x2) (vL arg6 harg6 x3) 2 := by
  have h : kernelRun0_A.sl.r_39 c arg4 harg4 arg5 harg5 arg6 harg6 x1 x2 x3 = stepA (kernelRun0_A.sl.r_7 c arg4 harg4 arg5 harg5 x1 x2) (kernelRun0_A.sl.r_33 c arg4 harg4 arg5 harg5 x1 x2) (kernelRun0_A.sl.r_22 c arg4 harg4 arg5 harg5 arg6 harg6 x1 x2 x3) (kernelRun0_A.sl.r_31 c arg4 harg4 arg5 harg5 x1 x2) ((vL arg6 harg6 x3) 1) := rfl
  rw [h, m1_1, s1_1, m1_0, a1_0]; rfl

theorem s1_2 : kernelRun0_A.sl.r_58 c arg4 harg4 arg5 harg5 x1 x2
    = scores (k0_pay3 (qL arg4 harg4 x1)) ((kL arg5 harg5 x2) 2) := rfl

theorem m1_2 : kernelRun0_A.sl.r_62 c arg4 harg4 arg5 harg5 x1 x2
    = mx (k0_pay3 (qL arg4 harg4 x1)) (kL arg5 harg5 x2) 3 := by
  have h : (kernelRun0_A.sl.r_62 c arg4 harg4 arg5 harg5 x1 x2) = stepM (kernelRun0_A.sl.r_33 c arg4 harg4 arg5 harg5 x1 x2) (kernelRun0_A.sl.r_58 c arg4 harg4 arg5 harg5 x1 x2) := rfl
  rw [h, s1_2, m1_1]; rfl

theorem l1_2 : kernelRun0_A.sl.r_76 c arg4 harg4 arg5 harg5 x1 x2
    = sm (k0_pay3 (qL arg4 harg4 x1)) (kL arg5 harg5 x2) 3 := by
  have h : kernelRun0_A.sl.r_76 c arg4 harg4 arg5 harg5 x1 x2 = stepL (kernelRun0_A.sl.r_33 c arg4 harg4 arg5 harg5 x1 x2) (kernelRun0_A.sl.r_62 c arg4 harg4 arg5 harg5 x1 x2) (kernelRun0_A.sl.r_38 c arg4 harg4 arg5 harg5 x1 x2) (kernelRun0_A.sl.r_58 c arg4 harg4 arg5 harg5 x1 x2) := rfl
  rw [h, m1_2, s1_2, m1_1, l1_1]; rfl

theorem a1_2 : kernelRun0_A.sl.r_77 c arg4 harg4 arg5 harg5 arg6 harg6 x1 x2 x3
    = ac (k0_pay3 (qL arg4 harg4 x1)) (kL arg5 harg5 x2) (vL arg6 harg6 x3) 3 := by
  have h : kernelRun0_A.sl.r_77 c arg4 harg4 arg5 harg5 arg6 harg6 x1 x2 x3 = stepA (kernelRun0_A.sl.r_33 c arg4 harg4 arg5 harg5 x1 x2) (kernelRun0_A.sl.r_62 c arg4 harg4 arg5 harg5 x1 x2) (kernelRun0_A.sl.r_39 c arg4 harg4 arg5 harg5 arg6 harg6 x1 x2 x3) (kernelRun0_A.sl.r_58 c arg4 harg4 arg5 harg5 x1 x2) ((vL arg6 harg6 x3) 2) := rfl
  rw [h, m1_2, s1_2, m1_1, a1_1]; rfl

theorem s1_3 : kernelRun0_A.sl.r_87 c arg4 harg4 arg5 harg5 x1 x2
    = scores (k0_pay3 (qL arg4 harg4 x1)) ((kL arg5 harg5 x2) 3) := rfl

theorem m1_3 : kernelRun0_A.sl.r_89 c arg4 harg4 arg5 harg5 x1 x2
    = mx (k0_pay3 (qL arg4 harg4 x1)) (kL arg5 harg5 x2) 4 := by
  have h : (kernelRun0_A.sl.r_89 c arg4 harg4 arg5 harg5 x1 x2) = stepM (kernelRun0_A.sl.r_62 c arg4 harg4 arg5 harg5 x1 x2) (kernelRun0_A.sl.r_87 c arg4 harg4 arg5 harg5 x1 x2) := rfl
  rw [h, s1_3, m1_2]; rfl

theorem l1_3 : kernelRun0_A.sl.r_95 c arg4 harg4 arg5 harg5 x1 x2
    = sm (k0_pay3 (qL arg4 harg4 x1)) (kL arg5 harg5 x2) 4 := by
  have h : kernelRun0_A.sl.r_95 c arg4 harg4 arg5 harg5 x1 x2 = stepL (kernelRun0_A.sl.r_62 c arg4 harg4 arg5 harg5 x1 x2) (kernelRun0_A.sl.r_89 c arg4 harg4 arg5 harg5 x1 x2) (kernelRun0_A.sl.r_76 c arg4 harg4 arg5 harg5 x1 x2) (kernelRun0_A.sl.r_87 c arg4 harg4 arg5 harg5 x1 x2) := rfl
  rw [h, m1_3, s1_3, m1_2, l1_2]; rfl

theorem a1_3 : kernelRun0_A.sl.r_96 c arg4 harg4 arg5 harg5 arg6 harg6 x1 x2 x3
    = ac (k0_pay3 (qL arg4 harg4 x1)) (kL arg5 harg5 x2) (vL arg6 harg6 x3) 4 := by
  have h : kernelRun0_A.sl.r_96 c arg4 harg4 arg5 harg5 arg6 harg6 x1 x2 x3 = stepA (kernelRun0_A.sl.r_62 c arg4 harg4 arg5 harg5 x1 x2) (kernelRun0_A.sl.r_89 c arg4 harg4 arg5 harg5 x1 x2) (kernelRun0_A.sl.r_77 c arg4 harg4 arg5 harg5 arg6 harg6 x1 x2 x3) (kernelRun0_A.sl.r_87 c arg4 harg4 arg5 harg5 x1 x2) ((vL arg6 harg6 x3) 3) := rfl
  rw [h, m1_3, s1_3, m1_2, a1_2]; rfl

theorem s1_4 : kernelRun0_A.sl.r_115 c arg4 harg4 arg5 harg5 x1 x2
    = scores (k0_pay3 (qL arg4 harg4 x1)) ((kL arg5 harg5 x2) 4) := rfl

theorem m1_4 : kernelRun0_A.sl.r_119 c arg4 harg4 arg5 harg5 x1 x2
    = mx (k0_pay3 (qL arg4 harg4 x1)) (kL arg5 harg5 x2) 5 := by
  have h : (kernelRun0_A.sl.r_119 c arg4 harg4 arg5 harg5 x1 x2) = stepM (kernelRun0_A.sl.r_89 c arg4 harg4 arg5 harg5 x1 x2) (kernelRun0_A.sl.r_115 c arg4 harg4 arg5 harg5 x1 x2) := rfl
  rw [h, s1_4, m1_3]; rfl

theorem l1_4 : kernelRun0_A.sl.r_133 c arg4 harg4 arg5 harg5 x1 x2
    = sm (k0_pay3 (qL arg4 harg4 x1)) (kL arg5 harg5 x2) 5 := by
  have h : kernelRun0_A.sl.r_133 c arg4 harg4 arg5 harg5 x1 x2 = stepL (kernelRun0_A.sl.r_89 c arg4 harg4 arg5 harg5 x1 x2) (kernelRun0_A.sl.r_119 c arg4 harg4 arg5 harg5 x1 x2) (kernelRun0_A.sl.r_95 c arg4 harg4 arg5 harg5 x1 x2) (kernelRun0_A.sl.r_115 c arg4 harg4 arg5 harg5 x1 x2) := rfl
  rw [h, m1_4, s1_4, m1_3, l1_3]; rfl

theorem a1_4 : kernelRun0_A.sl.r_134 c arg4 harg4 arg5 harg5 arg6 harg6 x1 x2 x3
    = ac (k0_pay3 (qL arg4 harg4 x1)) (kL arg5 harg5 x2) (vL arg6 harg6 x3) 5 := by
  have h : kernelRun0_A.sl.r_134 c arg4 harg4 arg5 harg5 arg6 harg6 x1 x2 x3 = stepA (kernelRun0_A.sl.r_89 c arg4 harg4 arg5 harg5 x1 x2) (kernelRun0_A.sl.r_119 c arg4 harg4 arg5 harg5 x1 x2) (kernelRun0_A.sl.r_96 c arg4 harg4 arg5 harg5 arg6 harg6 x1 x2 x3) (kernelRun0_A.sl.r_115 c arg4 harg4 arg5 harg5 x1 x2) ((vL arg6 harg6 x3) 4) := rfl
  rw [h, m1_4, s1_4, m1_3, a1_3]; rfl

theorem s1_5 : kernelRun0_A.sl.r_144 c arg4 harg4 arg5 harg5 x1 x2
    = scores (k0_pay3 (qL arg4 harg4 x1)) ((kL arg5 harg5 x2) 5) := rfl

theorem m1_5 : kernelRun0_A.sl.r_146 c arg4 harg4 arg5 harg5 x1 x2
    = mx (k0_pay3 (qL arg4 harg4 x1)) (kL arg5 harg5 x2) 6 := by
  have h : (kernelRun0_A.sl.r_146 c arg4 harg4 arg5 harg5 x1 x2) = stepM (kernelRun0_A.sl.r_119 c arg4 harg4 arg5 harg5 x1 x2) (kernelRun0_A.sl.r_144 c arg4 harg4 arg5 harg5 x1 x2) := rfl
  rw [h, s1_5, m1_4]; rfl

theorem l1_5 : kernelRun0_A.sl.r_152 c arg4 harg4 arg5 harg5 x1 x2
    = sm (k0_pay3 (qL arg4 harg4 x1)) (kL arg5 harg5 x2) 6 := by
  have h : kernelRun0_A.sl.r_152 c arg4 harg4 arg5 harg5 x1 x2 = stepL (kernelRun0_A.sl.r_119 c arg4 harg4 arg5 harg5 x1 x2) (kernelRun0_A.sl.r_146 c arg4 harg4 arg5 harg5 x1 x2) (kernelRun0_A.sl.r_133 c arg4 harg4 arg5 harg5 x1 x2) (kernelRun0_A.sl.r_144 c arg4 harg4 arg5 harg5 x1 x2) := rfl
  rw [h, m1_5, s1_5, m1_4, l1_4]; rfl

theorem a1_5 : kernelRun0_A.sl.r_153 c arg4 harg4 arg5 harg5 arg6 harg6 x1 x2 x3
    = ac (k0_pay3 (qL arg4 harg4 x1)) (kL arg5 harg5 x2) (vL arg6 harg6 x3) 6 := by
  have h : kernelRun0_A.sl.r_153 c arg4 harg4 arg5 harg5 arg6 harg6 x1 x2 x3 = stepA (kernelRun0_A.sl.r_119 c arg4 harg4 arg5 harg5 x1 x2) (kernelRun0_A.sl.r_146 c arg4 harg4 arg5 harg5 x1 x2) (kernelRun0_A.sl.r_134 c arg4 harg4 arg5 harg5 arg6 harg6 x1 x2 x3) (kernelRun0_A.sl.r_144 c arg4 harg4 arg5 harg5 x1 x2) ((vL arg6 harg6 x3) 5) := rfl
  rw [h, m1_5, s1_5, m1_4, a1_4]; rfl

/-! ## Map 2 -/

theorem s2_0 : kernelRun0_A.sl.r_4 c arg4 harg4 arg5 harg5 x1 x2
    = scores (k0_pay4 (qL arg4 harg4 x1)) ((kL arg5 harg5 x2) 0) := rfl

theorem m2_0 : kernelRun0_A.sl.r_23 c arg4 harg4 arg5 harg5 x1 x2
    = mx (k0_pay4 (qL arg4 harg4 x1)) (kL arg5 harg5 x2) 1 := by
  have h : (kernelRun0_A.sl.r_23 c arg4 harg4 arg5 harg5 x1 x2) = stepM k0_pay5 (kernelRun0_A.sl.r_4 c arg4 harg4 arg5 harg5 x1 x2) := rfl
  rw [h, s2_0]; rfl

theorem l2_0 : kernelRun0_A.sl.r_28 c arg4 harg4 arg5 harg5 x1 x2
    = sm (k0_pay4 (qL arg4 harg4 x1)) (kL arg5 harg5 x2) 1 := by
  have h : kernelRun0_A.sl.r_28 c arg4 harg4 arg5 harg5 x1 x2 = stepL k0_pay5 (kernelRun0_A.sl.r_23 c arg4 harg4 arg5 harg5 x1 x2) k0_pay6 (kernelRun0_A.sl.r_4 c arg4 harg4 arg5 harg5 x1 x2) := rfl
  rw [h, m2_0, s2_0]; rfl

theorem a2_0 : kernelRun0_A.sl.r_29 c arg4 harg4 arg5 harg5 arg6 harg6 x1 x2 x3
    = ac (k0_pay4 (qL arg4 harg4 x1)) (kL arg5 harg5 x2) (vL arg6 harg6 x3) 1 := by
  have h : kernelRun0_A.sl.r_29 c arg4 harg4 arg5 harg5 arg6 harg6 x1 x2 x3 = stepA k0_pay5 (kernelRun0_A.sl.r_23 c arg4 harg4 arg5 harg5 x1 x2) k0_pay6 (kernelRun0_A.sl.r_4 c arg4 harg4 arg5 harg5 x1 x2) ((vL arg6 harg6 x3) 0) := rfl
  rw [h, m2_0, s2_0]; rfl

theorem s2_1 : kernelRun0_A.sl.r_32 c arg4 harg4 arg5 harg5 x1 x2
    = scores (k0_pay4 (qL arg4 harg4 x1)) ((kL arg5 harg5 x2) 1) := rfl

theorem m2_1 : kernelRun0_A.sl.r_41 c arg4 harg4 arg5 harg5 x1 x2
    = mx (k0_pay4 (qL arg4 harg4 x1)) (kL arg5 harg5 x2) 2 := by
  have h : (kernelRun0_A.sl.r_41 c arg4 harg4 arg5 harg5 x1 x2) = stepM (kernelRun0_A.sl.r_23 c arg4 harg4 arg5 harg5 x1 x2) (kernelRun0_A.sl.r_32 c arg4 harg4 arg5 harg5 x1 x2) := rfl
  rw [h, s2_1, m2_0]; rfl

theorem l2_1 : kernelRun0_A.sl.r_55 c arg4 harg4 arg5 harg5 x1 x2
    = sm (k0_pay4 (qL arg4 harg4 x1)) (kL arg5 harg5 x2) 2 := by
  have h : kernelRun0_A.sl.r_55 c arg4 harg4 arg5 harg5 x1 x2 = stepL (kernelRun0_A.sl.r_23 c arg4 harg4 arg5 harg5 x1 x2) (kernelRun0_A.sl.r_41 c arg4 harg4 arg5 harg5 x1 x2) (kernelRun0_A.sl.r_28 c arg4 harg4 arg5 harg5 x1 x2) (kernelRun0_A.sl.r_32 c arg4 harg4 arg5 harg5 x1 x2) := rfl
  rw [h, m2_1, s2_1, m2_0, l2_0]; rfl

theorem a2_1 : kernelRun0_A.sl.r_56 c arg4 harg4 arg5 harg5 arg6 harg6 x1 x2 x3
    = ac (k0_pay4 (qL arg4 harg4 x1)) (kL arg5 harg5 x2) (vL arg6 harg6 x3) 2 := by
  have h : kernelRun0_A.sl.r_56 c arg4 harg4 arg5 harg5 arg6 harg6 x1 x2 x3 = stepA (kernelRun0_A.sl.r_23 c arg4 harg4 arg5 harg5 x1 x2) (kernelRun0_A.sl.r_41 c arg4 harg4 arg5 harg5 x1 x2) (kernelRun0_A.sl.r_29 c arg4 harg4 arg5 harg5 arg6 harg6 x1 x2 x3) (kernelRun0_A.sl.r_32 c arg4 harg4 arg5 harg5 x1 x2) ((vL arg6 harg6 x3) 1) := rfl
  rw [h, m2_1, s2_1, m2_0, a2_0]; rfl

theorem s2_2 : kernelRun0_A.sl.r_59 c arg4 harg4 arg5 harg5 x1 x2
    = scores (k0_pay4 (qL arg4 harg4 x1)) ((kL arg5 harg5 x2) 2) := rfl

theorem m2_2 : kernelRun0_A.sl.r_78 c arg4 harg4 arg5 harg5 x1 x2
    = mx (k0_pay4 (qL arg4 harg4 x1)) (kL arg5 harg5 x2) 3 := by
  have h : (kernelRun0_A.sl.r_78 c arg4 harg4 arg5 harg5 x1 x2) = stepM (kernelRun0_A.sl.r_41 c arg4 harg4 arg5 harg5 x1 x2) (kernelRun0_A.sl.r_59 c arg4 harg4 arg5 harg5 x1 x2) := rfl
  rw [h, s2_2, m2_1]; rfl

theorem l2_2 : kernelRun0_A.sl.r_83 c arg4 harg4 arg5 harg5 x1 x2
    = sm (k0_pay4 (qL arg4 harg4 x1)) (kL arg5 harg5 x2) 3 := by
  have h : kernelRun0_A.sl.r_83 c arg4 harg4 arg5 harg5 x1 x2 = stepL (kernelRun0_A.sl.r_41 c arg4 harg4 arg5 harg5 x1 x2) (kernelRun0_A.sl.r_78 c arg4 harg4 arg5 harg5 x1 x2) (kernelRun0_A.sl.r_55 c arg4 harg4 arg5 harg5 x1 x2) (kernelRun0_A.sl.r_59 c arg4 harg4 arg5 harg5 x1 x2) := rfl
  rw [h, m2_2, s2_2, m2_1, l2_1]; rfl

theorem a2_2 : kernelRun0_A.sl.r_84 c arg4 harg4 arg5 harg5 arg6 harg6 x1 x2 x3
    = ac (k0_pay4 (qL arg4 harg4 x1)) (kL arg5 harg5 x2) (vL arg6 harg6 x3) 3 := by
  have h : kernelRun0_A.sl.r_84 c arg4 harg4 arg5 harg5 arg6 harg6 x1 x2 x3 = stepA (kernelRun0_A.sl.r_41 c arg4 harg4 arg5 harg5 x1 x2) (kernelRun0_A.sl.r_78 c arg4 harg4 arg5 harg5 x1 x2) (kernelRun0_A.sl.r_56 c arg4 harg4 arg5 harg5 arg6 harg6 x1 x2 x3) (kernelRun0_A.sl.r_59 c arg4 harg4 arg5 harg5 x1 x2) ((vL arg6 harg6 x3) 2) := rfl
  rw [h, m2_2, s2_2, m2_1, a2_1]; rfl

theorem s2_3 : kernelRun0_A.sl.r_88 c arg4 harg4 arg5 harg5 x1 x2
    = scores (k0_pay4 (qL arg4 harg4 x1)) ((kL arg5 harg5 x2) 3) := rfl

theorem m2_3 : kernelRun0_A.sl.r_98 c arg4 harg4 arg5 harg5 x1 x2
    = mx (k0_pay4 (qL arg4 harg4 x1)) (kL arg5 harg5 x2) 4 := by
  have h : (kernelRun0_A.sl.r_98 c arg4 harg4 arg5 harg5 x1 x2) = stepM (kernelRun0_A.sl.r_78 c arg4 harg4 arg5 harg5 x1 x2) (kernelRun0_A.sl.r_88 c arg4 harg4 arg5 harg5 x1 x2) := rfl
  rw [h, s2_3, m2_2]; rfl

theorem l2_3 : kernelRun0_A.sl.r_112 c arg4 harg4 arg5 harg5 x1 x2
    = sm (k0_pay4 (qL arg4 harg4 x1)) (kL arg5 harg5 x2) 4 := by
  have h : kernelRun0_A.sl.r_112 c arg4 harg4 arg5 harg5 x1 x2 = stepL (kernelRun0_A.sl.r_78 c arg4 harg4 arg5 harg5 x1 x2) (kernelRun0_A.sl.r_98 c arg4 harg4 arg5 harg5 x1 x2) (kernelRun0_A.sl.r_83 c arg4 harg4 arg5 harg5 x1 x2) (kernelRun0_A.sl.r_88 c arg4 harg4 arg5 harg5 x1 x2) := rfl
  rw [h, m2_3, s2_3, m2_2, l2_2]; rfl

theorem a2_3 : kernelRun0_A.sl.r_113 c arg4 harg4 arg5 harg5 arg6 harg6 x1 x2 x3
    = ac (k0_pay4 (qL arg4 harg4 x1)) (kL arg5 harg5 x2) (vL arg6 harg6 x3) 4 := by
  have h : kernelRun0_A.sl.r_113 c arg4 harg4 arg5 harg5 arg6 harg6 x1 x2 x3 = stepA (kernelRun0_A.sl.r_78 c arg4 harg4 arg5 harg5 x1 x2) (kernelRun0_A.sl.r_98 c arg4 harg4 arg5 harg5 x1 x2) (kernelRun0_A.sl.r_84 c arg4 harg4 arg5 harg5 arg6 harg6 x1 x2 x3) (kernelRun0_A.sl.r_88 c arg4 harg4 arg5 harg5 x1 x2) ((vL arg6 harg6 x3) 3) := rfl
  rw [h, m2_3, s2_3, m2_2, a2_2]; rfl

theorem s2_4 : kernelRun0_A.sl.r_116 c arg4 harg4 arg5 harg5 x1 x2
    = scores (k0_pay4 (qL arg4 harg4 x1)) ((kL arg5 harg5 x2) 4) := rfl

theorem m2_4 : kernelRun0_A.sl.r_135 c arg4 harg4 arg5 harg5 x1 x2
    = mx (k0_pay4 (qL arg4 harg4 x1)) (kL arg5 harg5 x2) 5 := by
  have h : (kernelRun0_A.sl.r_135 c arg4 harg4 arg5 harg5 x1 x2) = stepM (kernelRun0_A.sl.r_98 c arg4 harg4 arg5 harg5 x1 x2) (kernelRun0_A.sl.r_116 c arg4 harg4 arg5 harg5 x1 x2) := rfl
  rw [h, s2_4, m2_3]; rfl

theorem l2_4 : kernelRun0_A.sl.r_141 c arg4 harg4 arg5 harg5 x1 x2
    = sm (k0_pay4 (qL arg4 harg4 x1)) (kL arg5 harg5 x2) 5 := by
  have h : kernelRun0_A.sl.r_141 c arg4 harg4 arg5 harg5 x1 x2 = stepL (kernelRun0_A.sl.r_98 c arg4 harg4 arg5 harg5 x1 x2) (kernelRun0_A.sl.r_135 c arg4 harg4 arg5 harg5 x1 x2) (kernelRun0_A.sl.r_112 c arg4 harg4 arg5 harg5 x1 x2) (kernelRun0_A.sl.r_116 c arg4 harg4 arg5 harg5 x1 x2) := rfl
  rw [h, m2_4, s2_4, m2_3, l2_3]; rfl

theorem a2_4 : kernelRun0_A.sl.r_142 c arg4 harg4 arg5 harg5 arg6 harg6 x1 x2 x3
    = ac (k0_pay4 (qL arg4 harg4 x1)) (kL arg5 harg5 x2) (vL arg6 harg6 x3) 5 := by
  have h : kernelRun0_A.sl.r_142 c arg4 harg4 arg5 harg5 arg6 harg6 x1 x2 x3 = stepA (kernelRun0_A.sl.r_98 c arg4 harg4 arg5 harg5 x1 x2) (kernelRun0_A.sl.r_135 c arg4 harg4 arg5 harg5 x1 x2) (kernelRun0_A.sl.r_113 c arg4 harg4 arg5 harg5 arg6 harg6 x1 x2 x3) (kernelRun0_A.sl.r_116 c arg4 harg4 arg5 harg5 x1 x2) ((vL arg6 harg6 x3) 4) := rfl
  rw [h, m2_4, s2_4, m2_3, a2_3]; rfl

theorem s2_5 : kernelRun0_A.sl.r_145 c arg4 harg4 arg5 harg5 x1 x2
    = scores (k0_pay4 (qL arg4 harg4 x1)) ((kL arg5 harg5 x2) 5) := rfl

theorem m2_5 : k0_pay208 (kernelRun0_A.sl.r_135 c arg4 harg4 arg5 harg5 x1 x2) (kernelRun0_A.sl.r_145 c arg4 harg4 arg5 harg5 x1 x2) (kernelRun0_A.sl.r_154 c arg4 harg4 arg5 harg5 x1 x2)
    = mx (k0_pay4 (qL arg4 harg4 x1)) (kL arg5 harg5 x2) 6 := by
  have h : (k0_pay208 (kernelRun0_A.sl.r_135 c arg4 harg4 arg5 harg5 x1 x2) (kernelRun0_A.sl.r_145 c arg4 harg4 arg5 harg5 x1 x2) (kernelRun0_A.sl.r_154 c arg4 harg4 arg5 harg5 x1 x2)) = stepM (kernelRun0_A.sl.r_135 c arg4 harg4 arg5 harg5 x1 x2) (kernelRun0_A.sl.r_145 c arg4 harg4 arg5 harg5 x1 x2) := rfl
  rw [h, s2_5, m2_4]; rfl

/-- The block's result is six trips of each map and the tail. -/
theorem out_eq : k0_pay1 (kernelRun0_A.sl.r_169 c arg3 harg3 arg4 harg4 arg5 harg5 arg6 harg6 arg7 harg7 x0 x1 x2 x3 x4)
    = blockOut (kernelRun0_A.sl.r_168 c arg3 harg3 x0) (qL arg4 harg4 x1) (kL arg5 harg5 x2) (vL arg6 harg6 x3)
        (View.readAt (Elt F) arg7.view (Rect.unit ![0, 0] S1x128.size inb_S1x128_S1x128_0_0).toLoadRect (harg7.unread x4)) := by
  have h : k0_pay1 (kernelRun0_A.sl.r_169 c arg3 harg3 arg4 harg4 arg5 harg5 arg6 harg6 arg7 harg7 x0 x1 x2 x3 x4)
      = tail (diff (kernelRun0_A.sl.r_152 c arg4 harg4 arg5 harg5 x1 x2) (kernelRun0_A.sl.r_153 c arg4 harg4 arg5 harg5 arg6 harg6 x1 x2 x3) (stepL (kernelRun0_A.sl.r_135 c arg4 harg4 arg5 harg5 x1 x2) (k0_pay208 (kernelRun0_A.sl.r_135 c arg4 harg4 arg5 harg5 x1 x2) (kernelRun0_A.sl.r_145 c arg4 harg4 arg5 harg5 x1 x2) (kernelRun0_A.sl.r_154 c arg4 harg4 arg5 harg5 x1 x2)) (kernelRun0_A.sl.r_141 c arg4 harg4 arg5 harg5 x1 x2) (kernelRun0_A.sl.r_145 c arg4 harg4 arg5 harg5 x1 x2))
          (stepA (kernelRun0_A.sl.r_135 c arg4 harg4 arg5 harg5 x1 x2) (k0_pay208 (kernelRun0_A.sl.r_135 c arg4 harg4 arg5 harg5 x1 x2) (kernelRun0_A.sl.r_145 c arg4 harg4 arg5 harg5 x1 x2) (kernelRun0_A.sl.r_154 c arg4 harg4 arg5 harg5 x1 x2)) (kernelRun0_A.sl.r_142 c arg4 harg4 arg5 harg5 arg6 harg6 x1 x2 x3) (kernelRun0_A.sl.r_145 c arg4 harg4 arg5 harg5 x1 x2) ((vL arg6 harg6 x3) 5)) (kernelRun0_A.sl.r_168 c arg3 harg3 x0))
          (View.readAt (Elt F) arg7.view (Rect.unit ![0, 0] S1x128.size inb_S1x128_S1x128_0_0).toLoadRect (harg7.unread x4)) := rfl
  rw [h, l1_5, a1_5, m2_5, s2_5, m2_4, a2_4, l2_4]; rfl

end Words

end Cert.KernelIdeal.Trips

end
-- ==== Proof.Weights.lean ====
module

public import Idealize.ShloMosaic.Lib.Pointwise
public import Idealize.ShloMosaic.Lib.IdealHost

@[expose] public section

/-! # Softmax weights over the extended reals

`pw y` is two to the power `y` as a real number, with zero at minus infinity. The weight of a score
`s` at a maximum `m` is `pw (s - m)`; where `s ≤ m` it is the kernel's `exp2`, and moving a weight
from one maximum to a larger one is a multiplication. All of it holds at infinite scores too, where
the weights are zero. -/

noncomputable section

namespace Cert.Attn

open Idealize.ShloMosaic

/-- Two to the power `y`, zero at the infinities. -/
def pw : EReal → ℝ
  | ⊥ => 0
  | ⊤ => 0
  | (r : ℝ) => Real.rpow 2 r

@[simp] theorem pw_bot : pw ⊥ = 0 := rfl
@[simp] theorem pw_top : pw ⊤ = 0 := rfl
@[simp] theorem pw_coe (r : ℝ) : pw (r : EReal) = Real.rpow 2 r := rfl

theorem exp2_eq_pw {y : EReal} (h : y ≠ ⊤) : Ideal.exp2 y = (pw y : EReal) := by
  induction y using EReal.rec with
  | bot => show (0 : EReal) = ((0 : ℝ) : EReal); simp
  | top => exact absurd rfl h
  | coe r => rfl

theorem sub_ne_top {s m : EReal} (h : s ≤ m) : s - m ≠ ⊤ := by
  induction s using EReal.rec with
  | bot => simp
  | top => simp [top_le_iff.1 h]
  | coe r =>
    induction m using EReal.rec with
    | bot => simp at h
    | top => simp
    | coe q => rw [← EReal.coe_sub]; exact EReal.coe_ne_top _

theorem exp2_sub {s m : EReal} (h : s ≤ m) : Ideal.exp2 (s - m) = (pw (s - m) : EReal) :=
  exp2_eq_pw (sub_ne_top h)

theorem pw_nonneg (y : EReal) : 0 ≤ pw y := by
  induction y using EReal.rec with
  | bot => simp
  | top => simp
  | coe r => exact Real.rpow_nonneg (by norm_num) r

/-- Bringing a weight to a larger maximum. -/
theorem pw_mul {s m m' : EReal} (h : s ≤ m) (h' : m ≤ m') :
    pw (m - m') * pw (s - m) = pw (s - m') := by
  induction s using EReal.rec with
  | bot => simp
  | top =>
    obtain rfl := top_le_iff.1 h
    obtain rfl := top_le_iff.1 h'
    simp
  | coe r =>
    induction m using EReal.rec with
    | bot => simp at h
    | top =>
      obtain rfl := top_le_iff.1 h'
      simp
    | coe q =>
      induction m' using EReal.rec with
      | bot => simp at h'
      | top => simp
      | coe p =>
        rw [← EReal.coe_sub, ← EReal.coe_sub, ← EReal.coe_sub, pw_coe, pw_coe, pw_coe]
        show (2 : ℝ) ^ (q - p) * (2 : ℝ) ^ (r - q) = (2 : ℝ) ^ (r - p)
        rw [← Real.rpow_add (by norm_num)]
        congr 1; ring

/-- Bringing a weighted sum to a larger maximum. -/
theorem pw_mul_sum {ι : Type*} (T : Finset ι) (s : ι → EReal) (v : ι → ℝ) {m m' : EReal}
    (h : ∀ k ∈ T, s k ≤ m) (h' : m ≤ m') :
    pw (m - m') * ∑ k ∈ T, pw (s k - m) * v k = ∑ k ∈ T, pw (s k - m') * v k := by
  rw [Finset.mul_sum]
  exact Finset.sum_congr rfl fun k hk => by rw [← mul_assoc, pw_mul (h k hk) h']

theorem coe_sum {ι : Type*} (T : Finset ι) (f : ι → ℝ) :
    ((∑ k ∈ T, f k : ℝ) : EReal) = ∑ k ∈ T, (f k : EReal) := by
  classical
  induction T using Finset.induction with
  | empty => simp
  | insert a T ha ih => rw [Finset.sum_insert ha, Finset.sum_insert ha, EReal.coe_add, ih]

/-- A real factor that is positive goes into a sum of extended reals. -/
theorem pos_mul_sum {ι : Type*} (T : Finset ι) (f : ι → EReal) {b : ℝ} (hb : 0 < b) :
    (b : EReal) * ∑ k ∈ T, f k = ∑ k ∈ T, (b : EReal) * f k := by
  classical
  induction T using Finset.induction with
  | empty => simp
  | insert a T ha ih =>
    rw [Finset.sum_insert ha, Finset.sum_insert ha, ← ih,
      EReal.left_distrib_of_nonneg_of_ne_top (EReal.coe_nonneg.2 hb.le) (EReal.coe_ne_top _)]

theorem pos_mul_sub {b : ℝ} (hb : 0 < b) (x y : EReal) :
    (b : EReal) * (x - y) = (b : EReal) * x - (b : EReal) * y := by
  rw [sub_eq_add_neg, sub_eq_add_neg, ← mul_neg,
    EReal.left_distrib_of_nonneg_of_ne_top (EReal.coe_nonneg.2 hb.le) (EReal.coe_ne_top _)]

/-- The exponential of `ln 2` times `y` is two to the power `y`. -/
theorem exp_ln2_mul {y : EReal} (h : y ≠ ⊤) : Ideal.exp ((Real.log 2 : ℝ) * y) = (pw y : EReal) := by
  have hl : 0 < Real.log 2 := Real.log_pos (by norm_num)
  induction y using EReal.rec with
  | bot => rw [EReal.coe_mul_bot_of_pos hl]; show (0 : EReal) = ((0 : ℝ) : EReal); simp
  | top => exact absurd rfl h
  | coe r =>
    rw [← EReal.coe_mul, Ideal.exp_coe, pw_coe]
    congr 1
    show Real.exp (Real.log 2 * r) = (2 : ℝ) ^ r
    rw [Real.rpow_def_of_pos (by norm_num)]

/-- The largest of finitely many extended reals, `⊥` for none. -/
def top1 {ι : Type*} [Fintype ι] (s : ι → EReal) : EReal := Finset.univ.sup s

theorem le_top1 {ι : Type*} [Fintype ι] (s : ι → EReal) (k : ι) : s k ≤ top1 s :=
  Finset.le_sup (Finset.mem_univ k)

theorem top1_mul {ι : Type*} [Fintype ι] (s : ι → EReal) {b : ℝ} (hb : 0 < b) :
    top1 (fun k => (b : EReal) * s k) = (b : EReal) * top1 s := by
  unfold top1
  refine (Finset.comp_sup_eq_sup_comp (fun x => (b : EReal) * x) (fun x y => ?_) ?_).symm
  · have hm : Monotone fun x : EReal => (b : EReal) * x := fun x y h =>
      mul_le_mul_of_nonneg_left h (EReal.coe_nonneg.2 hb.le)
    exact hm.map_sup x y
  · exact EReal.coe_mul_bot_of_pos hb

theorem fold_max_eq {n : ℕ} (f : Fin n → EReal) :
    Finset.univ.fold max (⊥ : EReal) f = top1 f := rfl

end Cert.Attn

end
-- ==== Proof.Combine.lean ====
module

public import proofs.«01_k».proof.Proof.Weights

@[expose] public section

/-! # The two maps put together

From the weights of the two maps the kernel divides each weighted sum of the values by its sum of
weights and subtracts; the reference divides every weight first. The two agree where the sums of
weights are not zero. A sum of weights is zero only where a maximum is infinite; then what the norm
is given is infinite (or zero) in every lane, and the norm makes zero of it on both sides. -/

noncomputable section

namespace Cert.Attn

open Idealize.ShloMosaic

variable {ι : Type*} [Fintype ι]

/-- The kernel's order: a quotient of sums for each map. -/
def quot (p1 p2 v : ι → ℝ) (lam : ℝ) : EReal :=
  Ideal.div ((∑ k, p1 k * v k : ℝ) : EReal) ((∑ k, p1 k : ℝ) : EReal)
    - (lam : EReal) * Ideal.div ((∑ k, p2 k * v k : ℝ) : EReal) ((∑ k, p2 k : ℝ) : EReal)

/-- The reference's probability of a key: the difference of the two maps. -/
def prob (p1 p2 : ι → ℝ) (lam : ℝ) (k : ι) : EReal :=
  Ideal.div (p1 k : EReal) ((∑ k, p1 k : ℝ) : EReal)
    - (lam : EReal) * Ideal.div (p2 k : EReal) ((∑ k, p2 k : ℝ) : EReal)

/-- The reference's order: the sum of the values weighted by the probabilities. -/
def wsum (p1 p2 v : ι → ℝ) (lam : ℝ) : EReal := ∑ k, prob p1 p2 lam k * (v k : EReal)

theorem div_real {x y : ℝ} (h : y ≠ 0) : Ideal.div (x : EReal) (y : EReal) = ((x / y : ℝ) : EReal) := by
  rw [Ideal.div_coe h, ← EReal.coe_mul]; congr 1; ring

theorem div_zero_zero : Ideal.div ((0 : ℝ) : EReal) ((0 : ℝ) : EReal) = ⊥ := by
  simp [Ideal.div]

theorem quot_eq_wsum (p1 p2 v : ι → ℝ) (lam : ℝ) (h1 : ∑ k, p1 k ≠ 0)
    (h2 : ∑ k, p2 k ≠ 0 ∨ lam = 0) : quot p1 p2 v lam = wsum p1 p2 v lam := by
  unfold quot wsum prob
  rcases h2 with h2 | h2
  · simp only [div_real h1, div_real h2, ← EReal.coe_mul, ← EReal.coe_sub, ← coe_sum]
    congr 1
    simp only [sub_mul, Finset.sum_sub_distrib, div_eq_mul_inv, Finset.sum_mul, Finset.mul_sum]
    congr 1
    · exact Finset.sum_congr rfl fun k _ => by ring
    · exact Finset.sum_congr rfl fun k _ => by ring
  · subst h2
    simp only [EReal.coe_zero, zero_mul, sub_zero, div_real h1, ← EReal.coe_mul, ← coe_sum]
    congr 1
    rw [Finset.sum_div]
    exact Finset.sum_congr rfl fun k _ => by ring

/-- An extended real that is infinite or zero. -/
def Ext (x : EReal) : Prop := x = ⊤ ∨ x = ⊥ ∨ x = 0

theorem Ext.mul_coe {x : EReal} (h : Ext x) (r : ℝ) : Ext (x * (r : EReal)) := by
  rcases lt_trichotomy r 0 with hr | rfl | hr
  · rcases h with rfl | rfl | rfl
    · right; left; exact EReal.top_mul_coe_of_neg hr
    · left; exact EReal.bot_mul_coe_of_neg hr
    · right; right; simp
  · right; right; simp
  · rcases h with rfl | rfl | rfl
    · left; exact EReal.top_mul_coe_of_pos hr
    · right; left; exact EReal.bot_mul_coe_of_pos hr
    · right; right; simp

theorem Ext.add {x y : EReal} (h : Ext x) (h' : Ext y) : Ext (x + y) := by
  rcases h with rfl | rfl | rfl <;> rcases h' with rfl | rfl | rfl <;> simp [Ext]

theorem Ext.sum (f : ι → EReal) (h : ∀ k, Ext (f k)) : Ext (∑ k, f k) := by
  classical
  refine Finset.sum_induction f Ext (fun _ _ => Ext.add) (Or.inr (Or.inr rfl)) fun k _ => h k

/-- Where a sum of weights is zero and counts, every quotient is infinite and every weighted sum of
    the values infinite or zero. -/
theorem degenerate (p1 p2 : ι → ℝ) (lam : ℝ) (hp1 : ∀ k, 0 ≤ p1 k) (hp2 : ∀ k, 0 ≤ p2 k)
    (h : ¬(∑ k, p1 k ≠ 0 ∧ (∑ k, p2 k ≠ 0 ∨ lam = 0))) (v : ι → ℝ) :
    Ext (quot p1 p2 v lam) ∧ Ext (wsum p1 p2 v lam) := by
  have zero : ∀ p : ι → ℝ, (∀ k, 0 ≤ p k) → ∑ k, p k = 0 → ∀ k, p k = 0 := fun p hp hs k =>
    (Finset.sum_eq_zero_iff_of_nonneg fun k _ => hp k).1 hs k (Finset.mem_univ k)
  by_cases h1 : ∑ k, p1 k = 0
  · have z := zero p1 hp1 h1
    constructor
    · unfold quot
      simp only [z, zero_mul, Finset.sum_const_zero]
      rw [div_zero_zero, EReal.bot_sub]
      exact Or.inr (Or.inl rfl)
    · refine Ext.sum _ fun k => Ext.mul_coe ?_ _
      unfold prob
      simp only [z, Finset.sum_const_zero]
      rw [div_zero_zero, EReal.bot_sub]
      exact Or.inr (Or.inl rfl)
  · have h2 : ∑ k, p2 k = 0 ∧ lam ≠ 0 := by
      by_contra hc
      refine h ⟨h1, ?_⟩
      by_cases hl : lam = 0
      · exact Or.inr hl
      · exact Or.inl fun h2 => hc ⟨h2, hl⟩
    have z := zero p2 hp2 h2.1
    have key : ∀ x : ℝ, Ext ((x : EReal) - (lam : EReal) * ⊥) := fun x => by
      rcases lt_or_gt_of_ne h2.2 with hl | hl
      · rw [EReal.coe_mul_bot_of_neg hl]; right; left; simp
      · rw [EReal.coe_mul_bot_of_pos hl]; left; simp
    constructor
    · unfold quot
      simp only [z, zero_mul, Finset.sum_const_zero]
      rw [div_zero_zero, div_real h1]
      exact key _
    · refine Ext.sum _ fun k => Ext.mul_coe ?_ _
      unfold prob
      simp only [z, Finset.sum_const_zero]
      rw [div_zero_zero, div_real h1]
      exact key _

/-- The factor of the norm over 128 lanes. -/
def nrm {n : ℕ} (o : Fin n → EReal) (d e : EReal) : EReal :=
  Ideal.rsqrt (Ideal.div (∑ c, o c * o c) d + e)

/-- The norm makes zero of lanes that are infinite or zero. -/
theorem Ext.norm {n : ℕ} (o : Fin n → EReal) (h : ∀ c, Ext (o c)) {d : ℝ} (hd : 0 < d) {e : EReal}
    (he : e ≠ ⊥) (c : Fin n) : o c * nrm o (d : EReal) e = 0 := by
  have sq : ∀ {x : EReal}, Ext x → x ≠ 0 → x * x = ⊤ := fun hx h0 => by
    rcases hx with rfl | rfl | rfl
    · simp
    · simp
    · exact absurd rfl h0
  have nn : ∀ {x : EReal}, Ext x → 0 ≤ x * x := fun hx => by
    rcases hx with rfl | rfl | rfl <;> simp
  by_cases h0 : o c = 0
  · rw [h0, zero_mul]
  · have hs : ∑ c, o c * o c = ⊤ := by
      refine top_le_iff.1 ?_
      rw [← sq (h c) h0]
      exact Finset.single_le_sum (f := fun c => o c * o c) (fun k _ => nn (h k)) (Finset.mem_univ c)
    unfold nrm
    rw [hs, Ideal.div_coe hd.ne', EReal.top_mul_coe_of_pos (by positivity), EReal.top_add_of_ne_bot he]
    simp

/-- The normed lanes agree, whatever the weights. -/
theorem normed_eq {n : ℕ} (p1 p2 : ι → ℝ) (lam : ℝ) (hp1 : ∀ k, 0 ≤ p1 k) (hp2 : ∀ k, 0 ≤ p2 k)
    (v : ι → Fin n → ℝ) {d : ℝ} (hd : 0 < d) {e : EReal} (he : e ≠ ⊥) (c : Fin n) :
    quot p1 p2 (fun k => v k c) lam * nrm (fun c => quot p1 p2 (fun k => v k c) lam) (d : EReal) e
      = wsum p1 p2 (fun k => v k c) lam * nrm (fun c => wsum p1 p2 (fun k => v k c) lam) (d : EReal) e := by
  by_cases h : ∑ k, p1 k ≠ 0 ∧ (∑ k, p2 k ≠ 0 ∨ lam = 0)
  · simp only [quot_eq_wsum p1 p2 _ lam h.1 h.2]
  · rw [Ext.norm (fun c => quot p1 p2 (fun k => v k c) lam)
        (fun c => (degenerate p1 p2 lam hp1 hp2 h _).1) hd he c,
      Ext.norm (fun c => wsum p1 p2 (fun k => v k c) lam)
        (fun c => (degenerate p1 p2 lam hp1 hp2 h _).2) hd he c]

end Cert.Attn

end
-- ==== Proof.Reading.lean ====
module

public import proofs.«01_k».proof.Proof.Trips
public import proofs.«01_k».proof.Proof.Combine
public import Idealize.ShloMosaic.Lib.Pointwise

@[expose] public section

/-! # The trips read over the extended reals -/

set_option maxRecDepth 16384

noncomputable section

namespace Cert.KernelIdeal.Trips

open Cert.KernelIdeal Cert.KernelIdeal.Gen Idealize.ShloMosaic Idealize.ShloMosaic.TcCoe Cert.Attn

/-- Minus infinity, as the kernel writes it. -/
theorem negInf : Ideal.ofBits .f32 0xFF800000#32 = (⊥ : EReal) := by
  simp [Ideal.ofBits, Ideal.ieee]

theorem scores_at (q : FVec Ideal S512x128 .bf16) (k : Vec Ideal S1x1408x128 .bf16)
    (r : Fin 512) (j : Fin 1408) :
    scores q k (ix2 r j) = ∑ d : Fin 128, q (ix2 r d) * k (ix3 0 j d) := by
  pointwise [scores]

/-- Key `c` of the tile `o`, in a chunk. -/
def col (o : Fin 11) (c : Fin 128) : Fin 1408 := ⟨128 * o.val + c.val, by omega⟩

/-- Every key of a chunk is in one of the eleven tiles. -/
theorem col_split (j : Fin 1408) : ∃ o c, j = col o c :=
  ⟨⟨j.val / 128, by omega⟩, ⟨j.val % 128, by omega⟩, Fin.ext (by show j.val = 128 * (j.val / 128) + j.val % 128; omega)⟩

theorem tile0_at (s : FVec Ideal S512x1408 .f32) (r : Fin 512) (c : Fin 128) :
    tile0 s (ix2 r c) = s (ix2 r (col 0 c)) := by
  pointwise [tile0, col]

theorem tile1_at (s : FVec Ideal S512x1408 .f32) (r : Fin 512) (c : Fin 128) :
    tile1 s (ix2 r c) = s (ix2 r (col 1 c)) := by
  pointwise [tile1, col]

theorem tile2_at (s : FVec Ideal S512x1408 .f32) (r : Fin 512) (c : Fin 128) :
    tile2 s (ix2 r c) = s (ix2 r (col 2 c)) := by
  pointwise [tile2, col]

theorem tile3_at (s : FVec Ideal S512x1408 .f32) (r : Fin 512) (c : Fin 128) :
    tile3 s (ix2 r c) = s (ix2 r (col 3 c)) := by
  pointwise [tile3, col]

theorem tile4_at (s : FVec Ideal S512x1408 .f32) (r : Fin 512) (c : Fin 128) :
    tile4 s (ix2 r c) = s (ix2 r (col 4 c)) := by
  pointwise [tile4, col]

theorem tile5_at (s : FVec Ideal S512x1408 .f32) (r : Fin 512) (c : Fin 128) :
    tile5 s (ix2 r c) = s (ix2 r (col 5 c)) := by
  pointwise [tile5, col]

theorem tile6_at (s : FVec Ideal S512x1408 .f32) (r : Fin 512) (c : Fin 128) :
    tile6 s (ix2 r c) = s (ix2 r (col 6 c)) := by
  pointwise [tile6, col]

theorem tile7_at (s : FVec Ideal S512x1408 .f32) (r : Fin 512) (c : Fin 128) :
    tile7 s (ix2 r c) = s (ix2 r (col 7 c)) := by
  pointwise [tile7, col]

theorem tile8_at (s : FVec Ideal S512x1408 .f32) (r : Fin 512) (c : Fin 128) :
    tile8 s (ix2 r c) = s (ix2 r (col 8 c)) := by
  pointwise [tile8, col]

theorem tile9_at (s : FVec Ideal S512x1408 .f32) (r : Fin 512) (c : Fin 128) :
    tile9 s (ix2 r c) = s (ix2 r (col 9 c)) := by
  pointwise [tile9, col]

theorem tile10_at (s : FVec Ideal S512x1408 .f32) (r : Fin 512) (c : Fin 128) :
    tile10 s (ix2 r c) = s (ix2 r (col 10 c)) := by
  pointwise [tile10, col]

theorem stepM_at (m : FVec Ideal S512x128 .f32) (s : FVec Ideal S512x1408 .f32) (r : Fin 512) (c : Fin 128) :
    stepM m s (ix2 r c) = max (m (ix2 r c)) (top1 fun l : Fin 128 => laneMax s (ix2 r l)) := by
  pointwise [stepM]
  rw [negInf]; rfl

theorem laneMax_at (s : FVec Ideal S512x1408 .f32) (r : Fin 512) (c : Fin 128) :
    laneMax s (ix2 r c) = top1 fun o : Fin 11 => s (ix2 r (col o c)) := by
  have h : laneMax s (ix2 r c) = max (max (max (max (max (max (max (max (max (max (tile0 s (ix2 r c)) (tile1 s (ix2 r c))) (tile2 s (ix2 r c)))
      (tile3 s (ix2 r c))) (tile4 s (ix2 r c))) (tile5 s (ix2 r c))) (tile6 s (ix2 r c))) (tile7 s (ix2 r c)))
      (tile8 s (ix2 r c))) (tile9 s (ix2 r c))) (tile10 s (ix2 r c)) := rfl
  rw [h]
  simp only [tile0_at, tile1_at, tile2_at, tile3_at, tile4_at, tile5_at, tile6_at, tile7_at, tile8_at, tile9_at, tile10_at]
  refine le_antisymm ?_ (Finset.sup_le fun o _ => ?_)
  · simp only [max_le_iff]
    refine ⟨⟨⟨⟨⟨⟨⟨⟨⟨⟨?_, ?_⟩, ?_⟩, ?_⟩, ?_⟩, ?_⟩, ?_⟩, ?_⟩, ?_⟩, ?_⟩, ?_⟩ <;>
      exact le_top1 (fun o : Fin 11 => s (ix2 r (col o c))) _
  · fin_cases o <;> simp only [le_max_iff] <;> simp

/-- The running maximum after a chunk: the larger of the one before and the chunk's. -/
theorem stepM_row (m : FVec Ideal S512x128 .f32) (s : FVec Ideal S512x1408 .f32) (r : Fin 512) (c : Fin 128) :
    stepM m s (ix2 r c) = max (m (ix2 r c)) (top1 fun j : Fin 1408 => s (ix2 r j)) := by
  rw [stepM_at]
  congr 1
  simp only [laneMax_at]
  refine le_antisymm (Finset.sup_le fun l _ => Finset.sup_le fun o _ => ?_) (Finset.sup_le fun j _ => ?_)
  · exact le_top1 (fun j : Fin 1408 => s (ix2 r j)) _
  · obtain ⟨o, l, rfl⟩ := col_split j
    exact (le_top1 (fun o : Fin 11 => s (ix2 r (col o l))) o).trans
      (le_top1 (fun l : Fin 128 => top1 fun o : Fin 11 => s (ix2 r (col o l))) l)

theorem wt_at (x m : FVec Ideal S512x128 .f32) (i : S512x128.Idx) : wt x m i = Ideal.exp2 (x i - m i) := rfl

/-- The running sum after a chunk. -/
theorem stepL_at (m m' l : FVec Ideal S512x128 .f32) (s : FVec Ideal S512x1408 .f32) (r : Fin 512) (c : Fin 128) :
    stepL m m' l s (ix2 r c) = Ideal.exp2 (m (ix2 r c) - m' (ix2 r c)) * l (ix2 r c)
      + ∑ o : Fin 11, Ideal.exp2 (s (ix2 r (col o c)) - m' (ix2 r c)) := by
  have h : stepL m m' l s (ix2 r c) = wt m m' (ix2 r c) * l (ix2 r c)
      + wt (tile0 s) m' (ix2 r c)
      + wt (tile1 s) m' (ix2 r c)
      + wt (tile2 s) m' (ix2 r c)
      + wt (tile3 s) m' (ix2 r c)
      + wt (tile4 s) m' (ix2 r c)
      + wt (tile5 s) m' (ix2 r c)
      + wt (tile6 s) m' (ix2 r c)
      + wt (tile7 s) m' (ix2 r c)
      + wt (tile8 s) m' (ix2 r c)
      + wt (tile9 s) m' (ix2 r c)
      + wt (tile10 s) m' (ix2 r c) := rfl
  rw [h]
  simp only [wt_at, tile0_at, tile1_at, tile2_at, tile3_at, tile4_at, tile5_at, tile6_at, tile7_at, tile8_at, tile9_at, tile10_at, Fin.sum_univ_succ, Fin.sum_univ_zero, add_zero, ← add_assoc]
  rfl

/-- The eleven tiles by their number. -/
def tileN (s : FVec Ideal S512x1408 .f32) (o : Fin 11) : FVec Ideal S512x128 .f32 := fun i => s (ix2 (i 0) (col o (i 1)))

theorem wts_eq (m' : FVec Ideal S512x128 .f32) (s : FVec Ideal S512x1408 .f32) :
    wts m' s = concatenate S512x1408 1
      (List.ofFn fun o : Fin 11 => (⟨S512x128, wt (tileN s o) m'⟩ : (s : Shape) × (s.Idx → EReal)))
      concatenates_S512x128_S512x128_S512x128_S512x128_S512x128_S512x128_S512x128_S512x128_S512x128_S512x128_S512x128_S512x1408_d1 := by
  have e : ∀ i : S512x128.Idx, i = ix2 (i 0) (i 1) := fun i => eq_ix2 i
  have h0 : tile0 s = tileN s 0 := funext fun i => by rw [e i]; exact tile0_at s _ _
  have h1 : tile1 s = tileN s 1 := funext fun i => by rw [e i]; exact tile1_at s _ _
  have h2 : tile2 s = tileN s 2 := funext fun i => by rw [e i]; exact tile2_at s _ _
  have h3 : tile3 s = tileN s 3 := funext fun i => by rw [e i]; exact tile3_at s _ _
  have h4 : tile4 s = tileN s 4 := funext fun i => by rw [e i]; exact tile4_at s _ _
  have h5 : tile5 s = tileN s 5 := funext fun i => by rw [e i]; exact tile5_at s _ _
  have h6 : tile6 s = tileN s 6 := funext fun i => by rw [e i]; exact tile6_at s _ _
  have h7 : tile7 s = tileN s 7 := funext fun i => by rw [e i]; exact tile7_at s _ _
  have h8 : tile8 s = tileN s 8 := funext fun i => by rw [e i]; exact tile8_at s _ _
  have h9 : tile9 s = tileN s 9 := funext fun i => by rw [e i]; exact tile9_at s _ _
  have h10 : tile10 s = tileN s 10 := funext fun i => by rw [e i]; exact tile10_at s _ _
  unfold wts
  rw [h0, h1, h2, h3, h4, h5, h6, h7, h8, h9, h10]
  rfl

/-- A chunk's weight of a key. -/
theorem wts_at (m' : FVec Ideal S512x128 .f32) (s : FVec Ideal S512x1408 .f32) (r : Fin 512) (o : Fin 11) (c : Fin 128) :
    wts m' s (ix2 r (col o c)) = Ideal.exp2 (s (ix2 r (col o c)) - m' (ix2 r c)) := by
  rw [wts_eq]
  refine (concatenate_ofFn_apply (t := S512x1408) (s₁ := S512x128) 1 (fun o : Fin 11 => wt (tileN s o) m') _ rfl 128 rfl
    (ix2 r (col o c)) o ?_ (ix2 r c) ?_ ?_).trans rfl
  · show (128 * o.val + c.val) / 128 = o.val
    omega
  · show c.val = (128 * o.val + c.val) % 128
    omega
  · intro b hb
    fin_cases b
    · rfl
    · exact absurd rfl hb

/-- The accumulator after a chunk. -/
theorem stepA_at (m m' a : FVec Ideal S512x128 .f32) (s : FVec Ideal S512x1408 .f32)
    (v : Vec Ideal S1x1408x128 .bf16) (r : Fin 512) (c : Fin 128) :
    stepA m m' a s v (ix2 r c) = Ideal.exp2 (m (ix2 r c) - m' (ix2 r c)) * a (ix2 r c)
      + ∑ j : Fin 1408, wts m' s (ix2 r j) * v (ix3 0 j c) := by
  pointwise [stepA, wt]
  rfl

end Cert.KernelIdeal.Trips

end
-- ==== Proof.Online.lean ====
module

public import proofs.«01_k».proof.Proof.Reading

@[expose] public section

/-! # What the six trips leave

After `t` chunks the running maximum of a row is the largest score so far, the running sum of a lane
is the sum of the weights of that lane's keys at that maximum, and the accumulator is the weighted
sum of the values. After six chunks these are the maximum, the weights and the weighted sum over all
8448 keys. -/

set_option maxRecDepth 16384

noncomputable section

namespace Cert.KernelIdeal.Trips

open Cert.KernelIdeal Cert.KernelIdeal.Gen Idealize.ShloMosaic Idealize.ShloMosaic.TcCoe Cert.Attn

/-- The largest of the scores of the first `t` chunks. -/
def top (S : ℕ → Fin 1408 → EReal) : ℕ → EReal
  | 0 => ⊥
  | t + 1 => max (top S t) (top1 (S t))

theorem top_le_succ (S : ℕ → Fin 1408 → EReal) (t : ℕ) : top S t ≤ top S (t + 1) := le_max_left _ _

theorem le_top_succ (S : ℕ → Fin 1408 → EReal) (t : ℕ) (j : Fin 1408) : S t j ≤ top S (t + 1) :=
  (le_top1 (S t) j).trans (le_max_right _ _)

theorem le_top (S : ℕ → Fin 1408 → EReal) {t u : ℕ} (h : u < t) (j : Fin 1408) : S u j ≤ top S t := by
  induction t with
  | zero => exact absurd h (Nat.not_lt_zero _)
  | succ t ih =>
    rcases Nat.lt_succ_iff_lt_or_eq.1 h with h | rfl
    · exact (ih h).trans (top_le_succ S t)
    · exact le_top_succ S u j

/-- One chunk added to a weighted sum: the old sum brought to the new maximum, the chunk's terms at
    it. -/
theorem add_chunk {ι : Type*} [Fintype ι] (f : ι → Fin 1408) (S : ℕ → Fin 1408 → EReal) (w : ℕ → ι → ℝ) (t : ℕ) :
    Ideal.exp2 (top S t - top S (t + 1))
        * ((∑ u ∈ Finset.range t, ∑ i, pw (S u (f i) - top S t) * w u i : ℝ) : EReal)
      + ∑ i, Ideal.exp2 (S t (f i) - top S (t + 1)) * (w t i : EReal)
      = ((∑ u ∈ Finset.range (t + 1), ∑ i, pw (S u (f i) - top S (t + 1)) * w u i : ℝ) : EReal) := by
  rw [exp2_sub (top_le_succ S t), ← EReal.coe_mul, Finset.mul_sum]
  have h1 : ∀ i, Ideal.exp2 (S t (f i) - top S (t + 1)) * (w t i : EReal)
      = ((pw (S t (f i) - top S (t + 1)) * w t i : ℝ) : EReal) := fun i => by
    rw [exp2_sub (le_top_succ S t (f i)), EReal.coe_mul]
  rw [Finset.sum_congr rfl fun i _ => h1 i, ← coe_sum, ← EReal.coe_add, Finset.sum_range_succ]
  congr 2
  exact Finset.sum_congr rfl fun u hu => pw_mul_sum _ (fun i => S u (f i)) (w u)
    (fun i _ => le_top S (Finset.mem_range.1 hu) (f i)) (top_le_succ S t)

variable (q : FVec Ideal S512x128 .bf16) (k v : ℕ → Vec Ideal S1x1408x128 .bf16)

/-- The scores of a row, chunk by chunk. -/
def sc (r : Fin 512) (t : ℕ) (j : Fin 1408) : EReal := ∑ d : Fin 128, q (ix2 r d) * k t (ix3 0 j d)

theorem mx_at (r : Fin 512) (c : Fin 128) (t : ℕ) : mx q k t (ix2 r c) = top (sc q k r) t := by
  induction t with
  | zero => exact negInf
  | succ t ih =>
    show stepM _ _ _ = _
    rw [stepM_row, ih]
    simp only [scores_at]
    rfl

theorem sm_at (r : Fin 512) (c : Fin 128) (t : ℕ) :
    sm q k t (ix2 r c) = ((∑ u ∈ Finset.range t, ∑ o : Fin 11, pw (sc q k r u (col o c) - top (sc q k r) t) * (1 : ℝ) : ℝ) : EReal) := by
  induction t with
  | zero => show Ideal.ofBits .f32 0x00000000#32 = _; rw [Ideal.ofBits_zero_f32]; simp
  | succ t ih =>
    show stepL _ _ _ _ _ = _
    rw [stepL_at, ih, mx_at, mx_at, ← add_chunk (fun o => col o c) (sc q k r) (fun _ _ => 1) t]
    simp only [scores_at, EReal.coe_one, mul_one]
    rfl

theorem ac_at (r : Fin 512) (c : Fin 128) (w : ℕ → Fin 1408 → ℝ) (hw : ∀ t j, v t (ix3 0 j c) = (w t j : EReal)) (t : ℕ) :
    ac q k v t (ix2 r c) = ((∑ u ∈ Finset.range t, ∑ j : Fin 1408, pw (sc q k r u j - top (sc q k r) t) * w u j : ℝ) : EReal) := by
  induction t with
  | zero => show Ideal.ofBits .f32 0x00000000#32 = _; rw [Ideal.ofBits_zero_f32]; simp
  | succ t ih =>
    show stepA _ _ _ _ _ _ = _
    rw [stepA_at, ih, mx_at, mx_at]
    refine Eq.trans ?_ (add_chunk id (sc q k r) w t)
    congr 1
    refine Finset.sum_congr rfl fun j _ => ?_
    obtain ⟨o, l, rfl⟩ := col_split j
    rw [wts_at, mx_at, scores_at, hw]
    rfl

/-! ## All the keys -/

/-- Key `j` of chunk `t`. -/
def key (t : Fin 6) (j : Fin 1408) : Fin 8448 := ⟨1408 * t.val + j.val, by omega⟩

theorem sum_keys (g : Fin 8448 → ℝ) (G : ℕ → Fin 1408 → ℝ) (h : ∀ (t : Fin 6) j, G t.val j = g (key t j)) :
    ∑ u ∈ Finset.range 6, ∑ j, G u j = ∑ K, g K := by
  rw [Finset.sum_range, ← Fintype.sum_prod_type' (fun (t : Fin 6) (j : Fin 1408) => G t.val j)]
  refine Fintype.sum_equiv (finProdFinEquiv (m := 6) (n := 1408)) _ _ fun x => ?_
  rw [h]
  congr 1
  exact Fin.ext (Nat.add_comm _ _)

theorem sum_cols (g : Fin 1408 → ℝ) : ∑ c : Fin 128, ∑ o : Fin 11, g (col o c) = ∑ j, g j := by
  rw [Finset.sum_comm, ← Fintype.sum_prod_type' (fun (o : Fin 11) (c : Fin 128) => g (col o c))]
  refine Fintype.sum_equiv (finProdFinEquiv (m := 11) (n := 128)) _ _ fun x => ?_
  congr 1
  exact Fin.ext (Nat.add_comm _ _)

theorem key_split (K : Fin 8448) : ∃ t j, K = key t j :=
  ⟨⟨K.val / 1408, by omega⟩, ⟨K.val % 1408, by omega⟩, Fin.ext (by show K.val = 1408 * (K.val / 1408) + K.val % 1408; omega)⟩

theorem top_eq (s : Fin 8448 → EReal) (S : ℕ → Fin 1408 → EReal) (h : ∀ (t : Fin 6) j, S t.val j = s (key t j)) :
    top S 6 = top1 s := by
  have up : ∀ t, t ≤ 6 → top S t ≤ top1 s := fun t => by
    induction t with
    | zero => exact fun _ => bot_le
    | succ t ih =>
      intro ht
      refine max_le (ih (by omega)) (Finset.sup_le fun j _ => ?_)
      rw [h ⟨t, by omega⟩ j]
      exact le_top1 s _
  refine le_antisymm (up 6 le_rfl) (Finset.sup_le fun K _ => ?_)
  obtain ⟨t, j, rfl⟩ := key_split K
  rw [← h]
  exact le_top S t.isLt j

/-- All the lanes' running sums together: the sum of the weights of all the keys. -/
theorem sm_total (r : Fin 512) (s : Fin 8448 → EReal) (h : ∀ (t : Fin 6) j, sc q k r t.val j = s (key t j)) :
    ∑ c : Fin 128, sm q k 6 (ix2 r c) = ((∑ K, pw (s K - top1 s) : ℝ) : EReal) := by
  simp only [sm_at, ← coe_sum, mul_one]
  rw [Finset.sum_comm, top_eq s _ h]
  congr 1
  rw [← sum_keys (fun K => pw (s K - top1 s)) (fun u j => pw (sc q k r u j - top1 s)) (fun t j => by rw [h])]
  exact Finset.sum_congr rfl fun u _ => sum_cols fun j => pw (sc q k r u j - top1 s)

/-- The accumulator at the end: the weighted sum of the values. -/
theorem ac_total (r : Fin 512) (c : Fin 128) (s : Fin 8448 → EReal) (h : ∀ (t : Fin 6) j, sc q k r t.val j = s (key t j))
    (V : Fin 8448 → ℝ) (w : ℕ → Fin 1408 → ℝ) (hw : ∀ t j, v t (ix3 0 j c) = (w t j : EReal)) (hV : ∀ (t : Fin 6) j, w t.val j = V (key t j)) :
    ac q k v 6 (ix2 r c) = ((∑ K, pw (s K - top1 s) * V K : ℝ) : EReal) := by
  rw [ac_at q k v r c w hw, top_eq s _ h]
  congr 1
  exact sum_keys (fun K => pw (s K - top1 s) * V K) _ fun t j => by rw [h, hV]

end Cert.KernelIdeal.Trips

end
-- ==== Proof.Lanes.lean ====
module

public import proofs.«01_k».proof.Proof.Combine

@[expose] public section

/-! # Lanes, heads and keys

A head has 128 lanes: its first map's 64, then its second map's. The keys are the 256 of the context
and then the 8192 of the sequence. A row's score of a key in one map is a product over the map's 64
lanes, and the weights of a row's keys are the powers of two of the scores less their maximum. -/

noncomputable section

namespace Cert.Attn

open Idealize.ShloMosaic

/-- Lane `e` of the half `p`. -/
def half (p : Fin 2) (e : Fin 64) : Fin 128 := ⟨64 * p.val + e.val, by omega⟩

theorem sum_halves (f : Fin 128 → EReal) : ∑ d, f d = ∑ e, f (half 0 e) + ∑ e, f (half 1 e) := by
  rw [Fin.sum_univ_two_halves 64 64 rfl f]
  congr 1

/-- Lane `d` of head `h` in a row of all heads. -/
def lane (h : Fin 6) (d : Fin 128) : Fin 768 := ⟨128 * h.val + d.val, by omega⟩

/-- A sequence over the context's keys followed by the sequence's. -/
def join {α : Type} (a : Fin 256 → α) (b : Fin 8192 → α) (i : Fin 8448) : α :=
  if h : i.val < 256 then a ⟨i.val, h⟩ else b ⟨i.val - 256, by omega⟩

/-- The scale of the queries: an eighth, over the logarithm of two. -/
def kap : ℝ := (8 * Real.log 2)⁻¹

/-- A row's score of a key in one map: the product over the map's 64 lanes. -/
def score (row kk : Fin 128 → EReal) (p : Fin 2) : EReal :=
  ∑ e : Fin 64, (row (half p e) * (kap : EReal)) * kk (half p e)

/-- The weights of a row's keys in one map. -/
def weight (row : Fin 128 → EReal) (K : Fin 8448 → Fin 128 → EReal) (p : Fin 2) (i : Fin 8448) : ℝ :=
  pw (score row (K i) p - top1 fun i => score row (K i) p)

end Cert.Attn

end
-- ==== Proof.Block.lean ====
module

public import proofs.«01_k».proof.Proof.Online
public import proofs.«01_k».proof.Proof.Lanes

@[expose] public section

/-! # A block's result over the extended reals

The first map's queries are the block's with the upper 64 lanes zeroed, the second's the rest, so
that a row's score against a key is a sum over 64 lanes. With the trips' sums the block's result is
the difference of the two quotients, normed over the 128 lanes, times the gain and the scale. -/

set_option maxRecDepth 16384

noncomputable section

namespace Cert.KernelIdeal.Trips

open Cert.KernelIdeal Cert.KernelIdeal.Gen Idealize.ShloMosaic Idealize.ShloMosaic.TcCoe Cert.Attn

/-- The 0/1 mask of the lower 64 lanes, as an integer word. -/
theorem mask_word : ∀ d : Fin 128, (BitVec.setWidth 32 (IntOp.cmpi CmpIPredicate.slt (BitVec.ofNat 32 d.val) 64#32)).toInt
    = if d.val < 64 then 1 else 0 := by decide +kernel

/-- A scaled query lane. -/
theorem q_at (q : Vec Ideal S1x512x128 .f32) (r : Fin 512) (d : Fin 128) :
    k0_pay2 q (ix2 r d) = q (ix3 0 r d) * (kap : EReal) := by
  have h : (Named.named κ "qscale" 0x3E38AA3B#32 : Ideal .f32) = (((8 * Real.log 2)⁻¹ : ℝ) : EReal) :=
    IdealRules.named_const.ideal_named_scalar _ _ _ _ rfl
  pointwise [k0_pay2]
  rw [h]
  rfl

theorem q1_at (q : Vec Ideal S1x512x128 .f32) (r : Fin 512) (d : Fin 128) :
    k0_pay3 q (ix2 r d) = k0_pay2 q (ix2 r d) * (((if d.val < 64 then 1 else 0 : ℝ)) : EReal) := by
  unfold k0_pay3
  generalize k0_pay2 q = x
  pointwise []
  congr 1
  show (((BitVec.setWidth 32 (IntOp.cmpi CmpIPredicate.slt (BitVec.ofNat 32 d.val) 64#32)).toInt : ℝ) : EReal) = _
  rw [mask_word]
  split <;> simp

theorem q2_at (q : Vec Ideal S1x512x128 .f32) (r : Fin 512) (d : Fin 128) :
    k0_pay4 q (ix2 r d) = k0_pay2 q (ix2 r d) - k0_pay3 q (ix2 r d) := by
  unfold k0_pay4
  generalize k0_pay2 q = x
  generalize k0_pay3 q = y
  pointwise []

theorem diff_at (l1 a1 l2 a2 : FVec Ideal S512x128 .f32) (lam : EReal) (r : Fin 512) (c : Fin 128) :
    diff l1 a1 l2 a2 lam (ix2 r c) = Ideal.div (a1 (ix2 r c)) (∑ l : Fin 128, l1 (ix2 r l))
      - lam * Ideal.div (a2 (ix2 r c)) (∑ l : Fin 128, l2 (ix2 r l)) := by
  pointwise [diff]

theorem tail_at (o : FVec Ideal S512x128 .f32) (g : Vec Ideal S1x128 .f32) (r : Fin 512) (c : Fin 128) :
    tail o g (ix3 0 r c) = ((o (ix2 r c) * nrm (fun l : Fin 128 => o (ix2 r l)) (Ideal.ofBits .f32 0x43000000#32)
      (Ideal.ofBits .f32 0x3727C5AC#32)) * g (ix2 0 c)) * Ideal.ofBits .f32 0x3F24FD5C#32 := by
  pointwise [tail]
  rfl

variable (q : Vec Ideal S1x512x128 .f32) (k v : ℕ → Vec Ideal S1x1408x128 .bf16) (r : Fin 512)
  (Q : Fin 128 → ℝ) (hQ : ∀ d, q (ix3 0 r d) = (Q d : EReal))

include hQ in
theorem sc_map1 (t : ℕ) (j : Fin 1408) : sc (k0_pay3 q) k r t j = score (fun d => q (ix3 0 r d)) (fun d => k t (ix3 0 j d)) 0 := by
  unfold sc score
  rw [sum_halves]
  have h0 : ∀ e : Fin 64, k0_pay3 q (ix2 r (half 0 e)) = q (ix3 0 r (half 0 e)) * (kap : EReal) := fun e => by
    rw [q1_at, q_at, if_pos (by show 64 * 0 + e.val < 64; omega)]; simp
  have h1 : ∀ e : Fin 64, k0_pay3 q (ix2 r (half 1 e)) = 0 := fun e => by
    rw [q1_at, if_neg (by show ¬(64 * 1 + e.val < 64); omega)]; simp
  simp only [h0, h1, zero_mul, Finset.sum_const_zero, add_zero]

include hQ in
theorem sc_map2 (t : ℕ) (j : Fin 1408) : sc (k0_pay4 q) k r t j = score (fun d => q (ix3 0 r d)) (fun d => k t (ix3 0 j d)) 1 := by
  unfold sc score
  rw [sum_halves]
  have h0 : ∀ e : Fin 64, k0_pay4 q (ix2 r (half 0 e)) = 0 := fun e => by
    rw [q2_at, q1_at, if_pos (by show 64 * 0 + e.val < 64; omega), q_at, hQ]
    rw [← EReal.coe_mul, ← EReal.coe_mul, ← EReal.coe_sub]; simp
  have h1 : ∀ e : Fin 64, k0_pay4 q (ix2 r (half 1 e)) = q (ix3 0 r (half 1 e)) * (kap : EReal) := fun e => by
    rw [q2_at, q1_at, q_at, if_neg (by show ¬(64 * 1 + e.val < 64); omega)]; simp
  simp only [h0, h1, zero_mul, Finset.sum_const_zero, zero_add]

include hQ in
/-- A block's result at a row and a lane. -/
theorem blockOut_at (lam : ℝ) (g : Vec Ideal S1x128 .f32) (K : Fin 8448 → Fin 128 → EReal) (V : Fin 8448 → Fin 128 → ℝ)
    (hK : ∀ (t : Fin 6) j d, k t.val (ix3 0 j d) = K (key t j) d)
    (w : ℕ → Fin 1408 → Fin 128 → ℝ) (hw : ∀ t j c, v t (ix3 0 j c) = (w t j c : EReal))
    (hV : ∀ (t : Fin 6) j c, w t.val j c = V (key t j) c) (c : Fin 128) :
    blockOut (lam : EReal) q k v g (ix3 0 r c)
      = ((quot (weight (fun d => q (ix3 0 r d)) K 0) (weight (fun d => q (ix3 0 r d)) K 1) (fun i => V i c) lam
          * nrm (fun l => quot (weight (fun d => q (ix3 0 r d)) K 0) (weight (fun d => q (ix3 0 r d)) K 1) (fun i => V i l) lam)
              (Ideal.ofBits .f32 0x43000000#32) (Ideal.ofBits .f32 0x3727C5AC#32))
          * g (ix2 0 c)) * Ideal.ofBits .f32 0x3F24FD5C#32 := by
  have s1 : ∀ (t : Fin 6) j, sc (k0_pay3 q) k r t.val j = (fun i => score (fun d => q (ix3 0 r d)) (K i) 0) (key t j) := fun t j => by
    rw [sc_map1 q k r Q hQ]; simp only [hK]
  have s2 : ∀ (t : Fin 6) j, sc (k0_pay4 q) k r t.val j = (fun i => score (fun d => q (ix3 0 r d)) (K i) 1) (key t j) := fun t j => by
    rw [sc_map2 q k r Q hQ]; simp only [hK]
  have e : ∀ c, diff (sm (k0_pay3 q) k 6) (ac (k0_pay3 q) k v 6) (sm (k0_pay4 q) k 6) (ac (k0_pay4 q) k v 6) (lam : EReal) (ix2 r c)
      = quot (weight (fun d => q (ix3 0 r d)) K 0) (weight (fun d => q (ix3 0 r d)) K 1) (fun i => V i c) lam := fun c => by
    rw [diff_at, sm_total _ k r (fun i => score (fun d => q (ix3 0 r d)) (K i) 0) s1, sm_total _ k r (fun i => score (fun d => q (ix3 0 r d)) (K i) 1) s2,
      ac_total _ k v r c (fun i => score (fun d => q (ix3 0 r d)) (K i) 0) s1 (fun i => V i c) (fun t j => w t j c) (fun t j => hw t j c) (fun t j => hV t j c),
      ac_total _ k v r c (fun i => score (fun d => q (ix3 0 r d)) (K i) 1) s2 (fun i => V i c) (fun t j => w t j c) (fun t j => hw t j c) (fun t j => hV t j c)]
    rfl
  unfold blockOut
  rw [tail_at]
  simp only [e]

end Cert.KernelIdeal.Trips

end
-- ==== Proof.Array.lean ====
module

public import proofs.«01_k».proof.Proof.Block
public import Idealize.ShloMosaic.Lib.Pipeline.ValueKit
public import Idealize.ShloMosaic.Lib.Pipeline.Covers
public import Idealize.ShloMosaic.Lib.Claim
public import Idealize.ShloMosaic.Lib.WholeRead

@[expose] public section

/-! # What a grid point stores

A grid point's result is the block function of the factor, the query block, the keys and the values
as they stand in its windows. -/

set_option maxRecDepth 16384

noncomputable section

namespace Cert.KernelIdeal.Trips

open Cert.KernelIdeal Cert.KernelIdeal.Gen Idealize.ShloMosaic Idealize.ShloMosaic.TcCoe Cert.Attn

section Loads

variable (arg4 : Memref sig .tc .vmem S1x512x128 .f32) (harg4 : arg4.IsWhole)
  (arg5 : Memref sig .tc .vmem S1x8448x128 .bf16) (harg5 : arg5.IsWhole)
  (x1 : Vec Ideal S1x512x128 .f32) (x2 : Vec Ideal S1x8448x128 .bf16)

theorem qL_at (y : S1x512x128.Idx) : qL arg4 harg4 x1 y = x1 y := by
  unfold qL
  rw [Memref.IsWhole.readAt_unread]
  congr 1
  funext a
  fin_cases a <;> (apply Fin.ext; simp)

theorem kL_at (t : Fin 6) (j : Fin 1408) (d : Fin 128) :
    kL arg5 harg5 x2 t.val (ix3 0 j d) = x2 (ix3 0 (key t j) d) := by
  fin_cases t <;>
  · simp only [kL]
    rw [Memref.IsWhole.readAt_unread]
    congr 1
    funext a
    fin_cases a <;> (apply Fin.ext; simp [key])

theorem vL_at (t : Fin 6) (j : Fin 1408) (d : Fin 128) :
    vL arg5 harg5 x2 t.val (ix3 0 j d) = x2 (ix3 0 (key t j) d) :=
  kL_at arg5 harg5 x2 t j d

end Loads

variable (m : (ℓ : Loc nD τ sig) → Buf (Elt Ideal) ℓ)

/-- A grid point's result. -/
theorem outs_eq (c : Dev nD) (t : Fin cfg0.N) :
    outsAt0 m c t = blockOut ((iblk m c 0 t : S1.Idx → EReal) (ix1 0)) (qL (ms0_1 t) (hs0_1 t) (iblk m c 1 t))
      (kL (ms0_2 t) (hs0_2 t) (iblk m c 2 t)) (vL (ms0_3 t) (hs0_3 t) (iblk m c 3 t)) (iblk m c 4 t) := by
  unfold outsAt0 out0_A_5
  rw [View.read_writes_junk_eq_canon]
  unfold kernelRun0_A
  dsimp only
  rw [View.canon_unit_zero (by funext a; fin_cases a <;> rfl), out_eq]
  congr 1
  · unfold kernelRun0_A.sl.r_168
    rw [Memref.IsWhole.readAt_unread]
    congr 1
    funext a
    fin_cases a
    apply Fin.ext
    simp
  · rw [View.readAt_eq_ld, View.ld_unit_zero (by funext a; fin_cases a <;> rfl)]
    exact Memref.IsWhole.read_unread _ _

/-- The block a grid point's windows stand at, along each axis. -/
theorem idx (t : Fin cfg0.N) :
    win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_5.index t = ![(grid0.coords t 0).val, (grid0.coords t 2).val, (grid0.coords t 1).val] := by
  have h0 : ((grid0.coords t 0).val : ℕ) % 2 ^ 32 = (grid0.coords t 0).val :=
    Nat.mod_eq_of_lt (lt_of_lt_of_le (grid0.coords t 0).isLt (by decide))
  have h1 : ((grid0.coords t 1).val : ℕ) % 2 ^ 32 = (grid0.coords t 1).val :=
    Nat.mod_eq_of_lt (lt_of_lt_of_le (grid0.coords t 1).isLt (by decide))
  have h2 : ((grid0.coords t 2).val : ℕ) % 2 ^ 32 = (grid0.coords t 2).val :=
    Nat.mod_eq_of_lt (lt_of_lt_of_le (grid0.coords t 2).isLt (by decide))
  refine ⟨?_, ?_, ?_, ?_⟩ <;> (funext a; fin_cases a)
  all_goals (first | rfl | exact h0 | exact h1 | exact h2)

end Cert.KernelIdeal.Trips

end
-- ==== Proof.Reference.lean ====
module

public import proofs.«01_k».proof.Proof.Lanes
public import proofs.«01_k».proof.Proof.Gen.ReferenceIdeal.Run
public import Idealize.ShloMosaic.Lib.Pointwise

@[expose] public section

/-! # What the reference computes

The reference's result as a chain of stages: the queries and keys by head and map, the scores, the
exponentials, the probabilities, the difference of the two maps, the sum over the values, the norm. -/

set_option maxRecDepth 16384

noncomputable section

namespace Cert.ReferenceIdeal.Stages

open Cert.ReferenceIdeal Cert.ReferenceIdeal.Gen Idealize.ShloMosaic Idealize.ShloMosaic.TcCoe Cert.Attn

/-- The queries by head and map. -/
def qT (q : FVec Ideal S4x8192x768 .f32) : FVec Ideal S4x6x2x8192x64 .f32 :=
  transpose S4x6x2x8192x64 [0, 2, 3, 1, 4] (shapeCast _ q shapeCasts_S4x8192x768_S4x8192x6x2x64)
    transposes_S4x8192x6x2x64_S4x6x2x8192x64_0_2_3_1_4

/-- The keys by head and map, the context's first. -/
def kT (kc : FVec Ideal S4x256x768 .f32) (kx : FVec Ideal S4x8192x768 .f32) : FVec Ideal S4x6x2x8448x64 .f32 :=
  concatenate S4x6x2x8448x64 3
    [⟨S4x6x2x256x64, transpose S4x6x2x256x64 [0, 2, 3, 1, 4] (shapeCast _ kc shapeCasts_S4x256x768_S4x256x6x2x64)
      transposes_S4x256x6x2x64_S4x6x2x256x64_0_2_3_1_4⟩, ⟨S4x6x2x8192x64, qT kx⟩]
    concatenates_S4x6x2x256x64_S4x6x2x8192x64_S4x6x2x8448x64_d3

/-- The values by head, the context's first. -/
def vT (vc : FVec Ideal S4x256x768 .f32) (vx : FVec Ideal S4x8192x768 .f32) : FVec Ideal S4x6x8448x128 .f32 :=
  concatenate S4x6x8448x128 2
    [⟨S4x6x256x128, transpose S4x6x256x128 [0, 2, 1, 3] (shapeCast _ vc shapeCasts_S4x256x768_S4x256x6x128)
      transposes_S4x256x6x128_S4x6x256x128_0_2_1_3⟩,
     ⟨S4x6x8192x128, transpose S4x6x8192x128 [0, 2, 1, 3] (shapeCast _ vx shapeCasts_S4x8192x768_S4x8192x6x128)
      transposes_S4x8192x6x128_S4x6x8192x128_0_2_1_3⟩]
    concatenates_S4x6x256x128_S4x6x8192x128_S4x6x8448x128_d2

/-- The scores. -/
def sT (q : FVec Ideal S4x6x2x8192x64 .f32) (k : FVec Ideal S4x6x2x8448x64 .f32) : FVec Ideal S4x6x2x8192x8448 .f32 :=
  mulf (Host.dotGeneral dot_S4x6x2x8192x64_S4x6x2x8448x64_S4x6x2x8192x8448_4_4_3_3_012_012 none q k)
    (broadcastInDim S4x6x2x8192x8448 ![] bcast_S_S4x6x2x8192x8448 (constant S_ .f32 0x3E000000#32))

/-- The largest score of each row. -/
def rT (s : FVec Ideal S4x6x2x8192x8448 .f32) : FVec Ideal S4x6x2x8192 .f32 :=
  Host.reduce FloatOps.maximumf s (constant S_ .f32 0xFF800000#32) reducesTo_S4x6x2x8192x8448_S4x6x2x8192_d4 h_S_

/-- The larger of a row's number and minus infinity. -/
def uT (r : FVec Ideal S4x6x2x8192 .f32) : FVec Ideal S4x6x2x8192 .f32 :=
  maximumf (broadcastInDim S4x6x2x8192 ![] bcast_S_S4x6x2x8192 (constant S_ .f32 0xFF800000#32)) r

/-- A row's number in every key's place. -/
def wT (r : FVec Ideal S4x6x2x8192 .f32) : FVec Ideal S4x6x2x8192x8448 .f32 :=
  broadcastInDim S4x6x2x8192x8448 ![0, 1, 2, 3, 4] bcast_S4x6x2x8192x1_S4x6x2x8192x8448_0_1_2_3_4
    (broadcastInDim S4x6x2x8192x1 ![0, 1, 2, 3] bcast_S4x6x2x8192_S4x6x2x8192x1_0_1_2_3 r)

/-- The largest score of each row, in every key's place. -/
def mT (s : FVec Ideal S4x6x2x8192x8448 .f32) : FVec Ideal S4x6x2x8192x8448 .f32 := wT (uT (rT s))

/-- The exponentials of the scores less the row's maximum. -/
def eT (s : FVec Ideal S4x6x2x8192x8448 .f32) : FVec Ideal S4x6x2x8192x8448 .f32 := Host.exp (subf s (mT s))

/-- The probabilities of one map. -/
def pT (e : FVec Ideal S4x6x2x8192x8448 .f32) : FVec Ideal S4x6x2x8192x8448 .f32 :=
  Host.divf e (broadcastInDim S4x6x2x8192x8448 ![0, 1, 2, 3, 4] bcast_S4x6x2x8192x1_S4x6x2x8192x8448_0_1_2_3_4
    (broadcastInDim S4x6x2x8192x1 ![0, 1, 2, 3] bcast_S4x6x2x8192_S4x6x2x8192x1_0_1_2_3
      (Host.reduceAdd e (constant S_ .f32 0x00000000#32) reducesTo_S4x6x2x8192x8448_S4x6x2x8192_d4 h_S_)))

/-- The factor of the second map. -/
def lamT (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_)))
    (constant S_ .f32 0x3EB60549#32)

/-- The first map less the factor times the second. -/
def dT (p : FVec Ideal S4x6x2x8192x8448 .f32) (lam : FVec Ideal S_ .f32) : FVec Ideal S4x6x8192x8448 .f32 :=
  subf (shapeCast _ (extractStridedSlice S4x6x1x8192x8448 ![0, 0, 0, 0, 0] p slices_S4x6x2x8192x8448_S4x6x1x8192x8448_0_0_0_0_0)
      shapeCasts_S4x6x1x8192x8448_S4x6x8192x8448)
    (mulf (broadcastInDim S4x6x8192x8448 ![] bcast_S_S4x6x8192x8448 lam)
      (shapeCast _ (extractStridedSlice S4x6x1x8192x8448 ![0, 0, 1, 0, 0] p slices_S4x6x2x8192x8448_S4x6x1x8192x8448_0_0_1_0_0)
        shapeCasts_S4x6x1x8192x8448_S4x6x8192x8448))

/-- The sums over the values. -/
def oT (d : FVec Ideal S4x6x8192x8448 .f32) (v : FVec Ideal S4x6x8448x128 .f32) : FVec Ideal S4x8192x6x128 .f32 :=
  transpose S4x8192x6x128 [0, 2, 1, 3]
    (Host.dotGeneral dot_S4x6x8192x8448_S4x6x8448x128_S4x6x8192x128_3_2_2_3_01_01 none d v)
    transposes_S4x6x8192x128_S4x8192x6x128_0_2_1_3

/-- The norm over the head's lanes, the gain and the scale. -/
def nT (o : FVec Ideal S4x8192x6x128 .f32) (g : FVec Ideal S128 .f32) : FVec Ideal S4x8192x768 .bf16 :=
  truncf .bf16 (shapeCast _ (mulf (mulf (mulf o
    (broadcastInDim S4x8192x6x128 ![0, 1, 2, 3] bcast_S4x8192x6x1_S4x8192x6x128_0_1_2_3
      (Host.rsqrt (addf (Host.divf
          (broadcastInDim S4x8192x6x1 ![0, 1, 2] bcast_S4x8192x6_S4x8192x6x1_0_1_2
            (Host.reduceAdd (mulf o o) (constant S_ .f32 0x00000000#32) reducesTo_S4x8192x6x128_S4x8192x6_d3 h_S_))
          (broadcastInDim S4x8192x6x1 ![] bcast_S_S4x8192x6x1 (constant S_ .f32 0x43000000#32)))
        (broadcastInDim S4x8192x6x1 ![] bcast_S_S4x8192x6x1 (constant S_ .f32 0x3727C5AC#32))))))
    (broadcastInDim S4x8192x6x128 ![0, 1, 2, 3] bcast_S1x1x1x128_S4x8192x6x128_0_1_2_3
      (broadcastInDim S1x1x1x128 ![3] bcast_S128_S1x1x1x128_3 g)))
    (broadcastInDim S4x8192x6x128 ![] bcast_S_S4x8192x6x128 (constant S_ .f32 0x3F24FD5C#32)))
    shapeCasts_S4x8192x6x128_S4x8192x768) bitsLt_bf16_f32

/-- The reference's result is the stages in order. -/
theorem res_eq (m : (ℓ : Loc nD τ sig) → Buf (Elt Ideal) ℓ) (c : Dev nD) :
    Value.res_main_v59 m c
      = nT (oT (dT (pT (eT (sT (qT (m ((c.tc : Thread nD τ).loc main_arg0)))
            (kT (m ((c.tc : Thread nD τ).loc main_arg1)) (m ((c.tc : Thread nD τ).loc main_arg2))))))
          (lamT (m ((c.tc : Thread nD τ).loc main_arg5)) (m ((c.tc : Thread nD τ).loc main_arg6))
            (m ((c.tc : Thread nD τ).loc main_arg7)) (m ((c.tc : Thread nD τ).loc main_arg8))))
        (vT (m ((c.tc : Thread nD τ).loc main_arg3)) (m ((c.tc : Thread nD τ).loc main_arg4))))
      (m ((c.tc : Thread nD τ).loc main_arg9)) := rfl

theorem qT_at (q : FVec Ideal S4x8192x768 .f32) (b : Fin 4) (h : Fin 6) (p : Fin 2) (n : Fin 8192) (e : Fin 64) :
    qT q (ix5 b h p n e) = q (ix3 b n (lane h (half p e))) := by
  pointwise [qT]
  congr 2
  ext
  show h.val * 128 + p.val * 64 + e.val = 128 * h.val + (64 * p.val + e.val)
  omega

theorem kT_at (kc : FVec Ideal S4x256x768 .f32) (kx : FVec Ideal S4x8192x768 .f32) (b : Fin 4) (h : Fin 6) (p : Fin 2)
    (i : Fin 8448) (e : Fin 64) :
    kT kc kx (ix5 b h p i e)
      = join (fun i => kc (ix3 b i (lane h (half p e)))) (fun i => kx (ix3 b i (lane h (half p e)))) i := by
  pointwise [kT, qT]
  rw [show (⟨h.val * 128 + p.val * 64 + e.val, by omega⟩ : Fin 768) = lane h (half p e) from
    Fin.ext (by show h.val * 128 + p.val * 64 + e.val = 128 * h.val + (64 * p.val + e.val); omega)]
  rfl

theorem vT_at (vc : FVec Ideal S4x256x768 .f32) (vx : FVec Ideal S4x8192x768 .f32) (b : Fin 4) (h : Fin 6)
    (i : Fin 8448) (d : Fin 128) :
    vT vc vx (ix4 b h i d)
      = join (fun i => vc (ix3 b i (lane h d))) (fun i => vx (ix3 b i (lane h d))) i := by
  pointwise [vT]
  rw [show (⟨h.val * 128 + d.val, by omega⟩ : Fin 768) = lane h d from
    Fin.ext (by show h.val * 128 + d.val = 128 * h.val + d.val; omega)]
  rfl

theorem sT_at (q : FVec Ideal S4x6x2x8192x64 .f32) (k : FVec Ideal S4x6x2x8448x64 .f32) (b : Fin 4) (h : Fin 6)
    (p : Fin 2) (n : Fin 8192) (i : Fin 8448) :
    sT q k (ix5 b h p n i) = (∑ e : Fin 64, q (ix5 b h p n e) * k (ix5 b h p i e)) * Ideal.ofBits .f32 0x3E000000#32 := by
  pointwise [sT]

/-- The word of minus infinity. -/
theorem bot_word : Ideal.ofBits .f32 0xFF800000#32 = (⊥ : EReal) := by
  simp [Ideal.ofBits, Ideal.ieee]

/-- A maximum over the last of five axes, at any extents. -/
theorem max_last {n0 n1 n2 n3 n4 : Nat} (x : FVec Ideal ⟨5, ![n0, n1, n2, n3, n4]⟩ .f32) (init : S_.Idx → EReal)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce (FloatOps.maximumf : Ideal .f32 → Ideal .f32 → Ideal .f32) x init h hu (ix4 a b c d)
      = Finset.univ.fold max (init (Shape.Idx.first hu)) fun k : Fin n4 => x (ix5 a b c d k) := by
  rw [Host.reduce_eq_fold]
  exact Shape.ReducesTo.fold_fiber_r5_a4 h (ix4 a b c d) max _ x

theorem rT_at (s : FVec Ideal S4x6x2x8192x8448 .f32) (b : Fin 4) (h : Fin 6) (p : Fin 2) (n : Fin 8192) :
    rT s (ix4 b h p n) = top1 fun k : Fin 8448 => s (ix5 b h p n k) := by
  unfold rT
  refine (max_last s _ _ _ b h p n).trans ?_
  rw [← fold_max_eq, ← bot_word]
  rfl

theorem wT_at (r : FVec Ideal S4x6x2x8192 .f32) (b : Fin 4) (h : Fin 6) (p : Fin 2) (n : Fin 8192) (i : Fin 8448) :
    wT r (ix5 b h p n i) = r (ix4 b h p n) := by
  pointwise [wT]

theorem uT_at (r : FVec Ideal S4x6x2x8192 .f32) (j : S4x6x2x8192.Idx) : uT r j = r j := by
  show max (Ideal.ofBits .f32 0xFF800000#32 : EReal) (r j) = r j
  rw [bot_word]
  exact max_eq_right bot_le

theorem mT_at (s : FVec Ideal S4x6x2x8192x8448 .f32) (b : Fin 4) (h : Fin 6)
    (p : Fin 2) (n : Fin 8192) (i : Fin 8448) :
    mT s (ix5 b h p n i) = top1 fun k : Fin 8448 => s (ix5 b h p n k) :=
  (wT_at _ b h p n i).trans ((uT_at _ _).trans (rT_at s b h p n))

theorem eT_at (s : FVec Ideal S4x6x2x8192x8448 .f32) (b : Fin 4) (h : Fin 6)
    (p : Fin 2) (n : Fin 8192) (i : Fin 8448) :
    eT s (ix5 b h p n i) = Ideal.exp (s (ix5 b h p n i) - mT s (ix5 b h p n i)) := by
  unfold eT
  generalize mT s = x
  pointwise []

theorem pT_at (s : FVec Ideal S4x6x2x8192x8448 .f32) (b : Fin 4) (h : Fin 6)
    (p : Fin 2) (n : Fin 8192) (i : Fin 8448) :
    pT s (ix5 b h p n i) = Ideal.div (s (ix5 b h p n i)) (∑ k : Fin 8448, s (ix5 b h p n k)) := by
  pointwise [pT]

theorem lamT_at (a b c d : FVec Ideal S64 .f32) : lamT a b c d ix0
    = Ideal.exp (∑ j : Fin 64, a (ix1 j) * b (ix1 j)) - Ideal.exp (∑ j : Fin 64, c (ix1 j) * d (ix1 j))
      + Ideal.ofBits .f32 0x3EB60549#32 := by
  pointwise [lamT]

theorem dT_at (s : FVec Ideal S4x6x2x8192x8448 .f32) (lam : FVec Ideal S_ .f32) (b : Fin 4) (h : Fin 6)
    (n : Fin 8192) (i : Fin 8448) :
    dT s lam (ix4 b h n i) = s (ix5 b h 0 n i) - lam ix0 * s (ix5 b h 1 n i) := by
  pointwise [dT]

theorem oT_at (d : FVec Ideal S4x6x8192x8448 .f32) (v : FVec Ideal S4x6x8448x128 .f32) (b : Fin 4) (h : Fin 6)
    (n : Fin 8192) (l : Fin 128) :
    oT d v (ix4 b n h l) = ∑ i : Fin 8448, d (ix4 b h n i) * v (ix4 b h i l) := by
  pointwise [oT]

theorem nT_at (o : FVec Ideal S4x8192x6x128 .f32) (g : FVec Ideal S128 .f32) (b : Fin 4) (h : Fin 6)
    (n : Fin 8192) (l : Fin 128) :
    nT o g (ix3 b n (lane h l)) = ((o (ix4 b n h l) * nrm (fun l : Fin 128 => o (ix4 b n h l)) (Ideal.ofBits .f32 0x43000000#32)
      (Ideal.ofBits .f32 0x3727C5AC#32)) * g (ix1 l)) * Ideal.ofBits .f32 0x3F24FD5C#32 := by
  pointwise [nT]
  have e1 : (⟨(lane h l).val / 128, by omega⟩ : Fin 6) = h :=
    Fin.ext (by show (128 * h.val + l.val) / 128 = h.val; omega)
  have e2 : (⟨(lane h l).val % 128, by omega⟩ : Fin 128) = l :=
    Fin.ext (by show (128 * h.val + l.val) % 128 = l.val; omega)
  rw [e1, e2]
  rfl

end Cert.ReferenceIdeal.Stages

end
-- ==== Proof.Equation.lean ====
module

public import proofs.«01_k».proof.Proof.Reference

@[expose] public section

/-! # The reference, in the kernel's terms

A score of the reference is the logarithm of two times a score in base two, so the exponential of a
score less its row's maximum is the power of two the kernel takes. The reference's result is then the
kernel's: the quotients of the sums, normed, times the gain and the scale. -/

set_option maxRecDepth 16384

noncomputable section

namespace Cert.ReferenceIdeal.Stages

open Cert.ReferenceIdeal Cert.ReferenceIdeal.Gen Idealize.ShloMosaic Idealize.ShloMosaic.TcCoe Cert.Attn

theorem eighth_word : Ideal.ofBits .f32 0x3E000000#32 = ((1 / 8 : ℝ) : EReal) := by
  simp [Ideal.ofBits, Ideal.ieee, -EReal.coe_mul]; norm_num

theorem lanes_word : Ideal.ofBits .f32 0x43000000#32 = ((128 : ℝ) : EReal) := by
  simp [Ideal.ofBits, Ideal.ieee, -EReal.coe_mul]; norm_num

theorem eps_word : Ideal.ofBits .f32 0x3727C5AC#32 ≠ (⊥ : EReal) := by
  simp [Ideal.ofBits, Ideal.ieee, -EReal.coe_mul]

theorem init_word : ∃ r : ℝ, Ideal.ofBits .f32 0x3EB60549#32 = (r : EReal) := by
  refine ⟨11928905 / 33554432, ?_⟩
  simp [Ideal.ofBits, Ideal.ieee, -EReal.coe_mul]; norm_num

/-- A score in base e is the logarithm of two times the score in base two. -/
theorem score_eq (row kk : Fin 128 → EReal) (p : Fin 2) :
    (∑ e : Fin 64, row (half p e) * kk (half p e)) * ((1 / 8 : ℝ) : EReal) = (Real.log 2 : ℝ) * score row kk p := by
  have hl : 0 < Real.log 2 := Real.log_pos (by norm_num)
  unfold score
  rw [mul_comm, pos_mul_sum _ _ (by norm_num : (0 : ℝ) < 1 / 8), pos_mul_sum _ _ hl]
  refine Finset.sum_congr rfl fun e _ => ?_
  have hk : ((1 / 8 : ℝ) : EReal) = ((Real.log 2 : ℝ) : EReal) * (kap : EReal) := by
    rw [← EReal.coe_mul]
    congr 1
    unfold kap
    field_simp
  rw [hk]
  ac_rfl

/-- The exponential of a score less its row's maximum. -/
theorem exp_eq (s : Fin 8448 → EReal) (i : Fin 8448) :
    Ideal.exp (((Real.log 2 : ℝ) : EReal) * s i - top1 fun k => ((Real.log 2 : ℝ) : EReal) * s k)
      = (pw (s i - top1 s) : EReal) := by
  have hl : 0 < Real.log 2 := Real.log_pos (by norm_num)
  rw [top1_mul s hl, ← pos_mul_sub hl]
  exact exp_ln2_mul (sub_ne_top (le_top1 s i))

variable (q kx vx : FVec Ideal S4x8192x768 .f32) (kc vc : FVec Ideal S4x256x768 .f32)
  (la lb lc ld : FVec Ideal S64 .f32) (g : FVec Ideal S128 .f32)

/-- A query row of a head. -/
def row (q : FVec Ideal S4x8192x768 .f32) (b : Fin 4) (n : Fin 8192) (h : Fin 6) (d : Fin 128) : EReal := q (ix3 b n (lane h d))

/-- The keys (or values) of a head, the context's first. -/
def keys (kc : FVec Ideal S4x256x768 .f32) (kx : FVec Ideal S4x8192x768 .f32) (b : Fin 4) (h : Fin 6) (i : Fin 8448) (d : Fin 128) : EReal :=
  join (fun i => kc (ix3 b i (lane h d))) (fun i => kx (ix3 b i (lane h d))) i

theorem s_at (b : Fin 4) (h : Fin 6) (p : Fin 2) (n : Fin 8192) (i : Fin 8448) :
    sT (qT q) (kT kc kx) (ix5 b h p n i) = (Real.log 2 : ℝ) * score (row q b n h) (keys kc kx b h i) p := by
  rw [sT_at, eighth_word, ← score_eq]
  congr 1
  refine Finset.sum_congr rfl fun e _ => ?_
  rw [qT_at, kT_at]
  rfl

theorem e_at (b : Fin 4) (h : Fin 6) (p : Fin 2) (n : Fin 8192) (i : Fin 8448) :
    eT (sT (qT q) (kT kc kx)) (ix5 b h p n i) = (weight (row q b n h) (keys kc kx b h) p i : EReal) := by
  rw [eT_at, mT_at]
  simp only [s_at]
  exact exp_eq (fun k => score (row q b n h) (keys kc kx b h k) p) i

theorem p_at (b : Fin 4) (h : Fin 6) (p : Fin 2) (n : Fin 8192) (i : Fin 8448) :
    pT (eT (sT (qT q) (kT kc kx))) (ix5 b h p n i)
      = Ideal.div (weight (row q b n h) (keys kc kx b h) p i : EReal) ((∑ k, weight (row q b n h) (keys kc kx b h) p k : ℝ) : EReal) := by
  rw [pT_at, coe_sum]
  simp only [e_at]

/-- The result's array. -/
def result : FVec Ideal S4x8192x768 .bf16 :=
  nT (oT (dT (pT (eT (sT (qT q) (kT kc kx)))) (lamT la lb lc ld)) (vT vc vx)) g

/-- The reference's result at a row and a lane of a head. -/
theorem result_at (b : Fin 4) (h : Fin 6) (n : Fin 8192) (l : Fin 128) (lam : ℝ) (hlam : lamT la lb lc ld ix0 = (lam : EReal))
    (V : Fin 8448 → Fin 128 → ℝ) (hV : ∀ i d, keys vc vx b h i d = (V i d : EReal)) :
    result q kx vx kc vc la lb lc ld g (ix3 b n (lane h l))
      = ((quot (weight (row q b n h) (keys kc kx b h) 0) (weight (row q b n h) (keys kc kx b h) 1) (fun i => V i l) lam
          * nrm (fun l => quot (weight (row q b n h) (keys kc kx b h) 0) (weight (row q b n h) (keys kc kx b h) 1) (fun i => V i l) lam)
              (Ideal.ofBits .f32 0x43000000#32) (Ideal.ofBits .f32 0x3727C5AC#32))
          * g (ix1 l)) * Ideal.ofBits .f32 0x3F24FD5C#32 := by
  have o : ∀ l, oT (dT (pT (eT (sT (qT q) (kT kc kx)))) (lamT la lb lc ld)) (vT vc vx) (ix4 b n h l)
      = wsum (weight (row q b n h) (keys kc kx b h) 0) (weight (row q b n h) (keys kc kx b h) 1) (fun i => V i l) lam := fun l => by
    rw [oT_at]
    unfold wsum prob
    refine Finset.sum_congr rfl fun i _ => ?_
    rw [dT_at, p_at, p_at, hlam, vT_at]
    rw [← hV]
    rfl
  unfold result
  rw [nT_at]
  simp only [o]
  rw [lanes_word, normed_eq (weight (row q b n h) (keys kc kx b h) 0) (weight (row q b n h) (keys kc kx b h) 1) lam
    (fun k => pw_nonneg _) (fun k => pw_nonneg _) V (by norm_num) eps_word]

end Cert.ReferenceIdeal.Stages

end
-- ==== Proof.Windows.lean ====
module

public import proofs.«01_k».proof.Proof.Array
public import proofs.«01_k».proof.Proof.Equation
public import Idealize.ShloMosaic.Lib.Pointwise

@[expose] public section

/-! # What a grid point's windows show

At the point of batch `b`, head `h` and row block `j`: rows `512 j + r` of the queries, the head's
keys and values with the context's first, the factor of the second map, and the gain. -/

set_option maxRecDepth 16384

noncomputable section

namespace Cert.KernelIdeal.Trips

open Cert.KernelIdeal Cert.KernelIdeal.Gen Idealize.ShloMosaic Idealize.ShloMosaic.TcCoe Cert.Attn

/-- The batch of a grid point. -/
def bt (t : Fin cfg0.N) : Fin 4 := ⟨(grid0.coords t 0).val, (grid0.coords t 0).isLt⟩

/-- The head of a grid point. -/
def hd (t : Fin cfg0.N) : Fin 6 := ⟨(grid0.coords t 1).val, (grid0.coords t 1).isLt⟩

/-- Row `r` of a grid point's block, counted in the array. -/
def rw_ (t : Fin cfg0.N) (r : Fin 512) : Fin 8192 :=
  ⟨512 * (grid0.coords t 2).val + r.val, by
    have h : (grid0.coords t 2).val < 16 := (grid0.coords t 2).isLt
    have := r.isLt
    omega⟩

variable (m : (ℓ : Loc nD τ sig) → Buf (Elt Ideal) ℓ) (c : Dev nD) (t : Fin cfg0.N)

/-- The query block. -/
theorem queries_at (r : Fin 512) (l : Fin 128) :
    (iblk m c 1 t : S1x512x128.Idx → EReal) (ix3 0 r l)
      = Cert.ReferenceIdeal.Stages.row (m ((c : Thread nD τ).loc main_arg0)) (bt t) (rw_ t r) (hd t) l := by
  unfold Cert.ReferenceIdeal.Stages.row
  blk_ext! [iblk, V, idx t, bt, hd, rw_, lane]

/-- The gain. -/
theorem gain_at (l : Fin 128) :
    (iblk m c 4 t : S1x128.Idx → EReal) (ix2 0 l) = (m ((c : Thread nD τ).loc main_arg9) : S128.Idx → EReal) (ix1 l) := by
  have h4 : win0_4.index t = ![0, 0] := rfl
  blk_ext! [iblk, V, h4]

/-- The factor of the second map. -/
theorem factor_at :
    (iblk m c 0 t : S1.Idx → EReal) (ix1 0)
      = Cert.ReferenceIdeal.Stages.lamT (m ((c : Thread nD τ).loc main_arg5)) (m ((c : Thread nD τ).loc main_arg6))
          (m ((c : Thread nD τ).loc main_arg7)) (m ((c : Thread nD τ).loc main_arg8)) ix0 := by
  blk_simp [iblk, idx t]
  entry_read
  exact congrArg (Cert.ReferenceIdeal.Stages.lamT (m ((c : Thread nD τ).loc main_arg5)) (m ((c : Thread nD τ).loc main_arg6))
    (m ((c : Thread nD τ).loc main_arg7)) (m ((c : Thread nD τ).loc main_arg8))) (funext fun a => a.elim0)

/-- Where a key or a value of the head stands in its array. -/
theorem place (i : Fin 8448) (l : Fin 128) :
    (((cfg0.win 2).blk t).view.emb (ix3 0 i l : S1x8448x128.Idx) : S4x8448x768.Idx) = ix3 (bt t) i (lane (hd t) l)
    ∧ (((cfg0.win 3).blk t).view.emb (ix3 0 i l : S1x8448x128.Idx) : S4x8448x768.Idx) = ix3 (bt t) i (lane (hd t) l) := by
  constructor <;> blk_ext [idx t, bt, hd, lane]

/-- The keys of the head. -/
theorem keys_at (i : Fin 8448) (l : Fin 128) :
    (iblk m c 2 t : S1x8448x128.Idx → EReal) (ix3 0 i l)
      = Cert.ReferenceIdeal.Stages.keys (m ((c : Thread nD τ).loc main_arg1)) (m ((c : Thread nD τ).loc main_arg2)) (bt t) (hd t) i l := by
  unfold iblk
  show V m c main_v2 (((cfg0.win 2).blk t).view.emb (ix3 0 i l : S1x8448x128.Idx)) = _
  rw [(place t i l).1]
  entry_read
  pointwise
  rfl

/-- The values of the head. -/
theorem values_at (i : Fin 8448) (l : Fin 128) :
    (iblk m c 3 t : S1x8448x128.Idx → EReal) (ix3 0 i l)
      = Cert.ReferenceIdeal.Stages.keys (m ((c : Thread nD τ).loc main_arg3)) (m ((c : Thread nD τ).loc main_arg4)) (bt t) (hd t) i l := by
  unfold iblk
  show V m c main_v5 (((cfg0.win 3).blk t).view.emb (ix3 0 i l : S1x8448x128.Idx)) = _
  rw [(place t i l).2]
  entry_read
  pointwise
  rfl

end Cert.KernelIdeal.Trips

end
-- ==== Proof.Finite.lean ====
module

public import proofs.«01_k».proof.Proof.Equation
public import proofs.«01_k».proof.Pre_finite
public import Idealize.ShloMosaic.Lib.Pointwise

@[expose] public section

/-! # What the precondition says

An array whose absolute value is everywhere below infinity is an array of real numbers; the factor of
the second map made of four such arrays is a real number. -/

noncomputable section

namespace Cert.Attn

open Idealize.ShloMosaic

theorem inf_word : Ideal.ofBits .f32 0x7F800000#32 = (⊤ : EReal) := by
  simp [Ideal.ofBits, Ideal.ieee]

theorem real_of_lt (x : EReal) (h : FloatOps.cmpf (F := Ideal) (φ := .f32) .olt (FloatOps.absf (F := Ideal) (φ := .f32) x) (⊤ : EReal) = 1#1) :
    ∃ r : ℝ, x = (r : EReal) := by
  induction x with
  | bot => exfalso; revert h; simp [FloatOps.cmpf, FloatOps.absf, Ideal.cmp]
  | top => exfalso; revert h; simp [FloatOps.cmpf, FloatOps.absf, Ideal.cmp]
  | coe r => exact ⟨r, rfl⟩

/-- An array found below infinity is an array of real numbers. -/
theorem real_of {s : Shape} (x : FVec Ideal s .f32) {hb : Cert.Pre_finite.S_.BroadcastsInDim s ![]}
    (h : cmpf .olt (Host.absf x) (broadcastInDim s ![] hb (constant Cert.Pre_finite.S_ .f32 0x7F800000#32)) = fun _ => 1#1)
    (i : s.Idx) : ∃ r : ℝ, x i = (r : EReal) := by
  have h1 := congrFun h i
  have h2 : FloatOps.cmpf (F := Ideal) (φ := .f32) .olt (FloatOps.absf (F := Ideal) (φ := .f32) (x i)) (Ideal.ofBits .f32 0x7F800000#32) = 1#1 := h1
  rw [inf_word] at h2
  exact real_of_lt _ h2

/-- The factor of the second map is a real number. -/
theorem factor_real (a b c d : FVec Ideal Cert.ReferenceIdeal.S64 .f32) (ha : ∀ i, ∃ r : ℝ, a i = (r : EReal))
    (hb : ∀ i, ∃ r : ℝ, b i = (r : EReal)) (hc : ∀ i, ∃ r : ℝ, c i = (r : EReal)) (hd : ∀ i, ∃ r : ℝ, d i = (r : EReal)) :
    ∃ lam : ℝ, Cert.ReferenceIdeal.Stages.lamT a b c d ix0 = (lam : EReal) := by
  choose a' ha using ha
  choose b' hb using hb
  choose c' hc using hc
  choose d' hd using hd
  obtain ⟨z, hz⟩ := Cert.ReferenceIdeal.Stages.init_word
  rw [Cert.ReferenceIdeal.Stages.lamT_at, hz]
  simp only [ha, hb, hc, hd]
  simp only [← EReal.coe_mul, ← coe_sum]
  exact ⟨_, rfl⟩

end Cert.Attn

end
-- ==== Proof.Final.lean ====
module

public import proofs.«01_k».proof.Defs
public import proofs.«01_k».proof.Proof.Windows
public import proofs.«01_k».proof.Proof.Finite
public import proofs.«01_k».proof.Proof.Gen.KernelIdeal.Value
public import proofs.«01_k».proof.Proof.Gen.Pre_finite

@[expose] public section

/-! # The kernel's result array

The blocks the grid points store are the reference's result, block by block; so the array is. -/

set_option maxRecDepth 16384

noncomputable section

namespace Cert.KernelIdeal.Trips

open Cert.KernelIdeal Cert.KernelIdeal.Gen Idealize.ShloMosaic Idealize.ShloMosaic.TcCoe Cert.Attn

variable (m : (ℓ : Loc nD τ sig) → Buf (Elt Ideal) ℓ) (c : Dev nD)

/-- The reference's result of the kernel's arguments. -/
def goal : S4x8192x768.Idx → EReal :=
  Cert.ReferenceIdeal.Stages.result (m ((c : Thread nD τ).loc main_arg0)) (m ((c : Thread nD τ).loc main_arg2))
    (m ((c : Thread nD τ).loc main_arg4)) (m ((c : Thread nD τ).loc main_arg1)) (m ((c : Thread nD τ).loc main_arg3))
    (m ((c : Thread nD τ).loc main_arg5)) (m ((c : Thread nD τ).loc main_arg6)) (m ((c : Thread nD τ).loc main_arg7))
    (m ((c : Thread nD τ).loc main_arg8)) (m ((c : Thread nD τ).loc main_arg9))

/-- What the precondition gives: the queries, the values and the four vectors are real numbers. -/
def Reals : Prop :=
  (∀ i : S4x8192x768.Idx, ∃ r : ℝ, (m ((c : Thread nD τ).loc main_arg0) : S4x8192x768.Idx → EReal) i = (r : EReal))
  ∧ (∀ i : S4x256x768.Idx, ∃ r : ℝ, (m ((c : Thread nD τ).loc main_arg3) : S4x256x768.Idx → EReal) i = (r : EReal))
  ∧ (∀ i : S4x8192x768.Idx, ∃ r : ℝ, (m ((c : Thread nD τ).loc main_arg4) : S4x8192x768.Idx → EReal) i = (r : EReal))
  ∧ (∀ i : S64.Idx, ∃ r : ℝ, (m ((c : Thread nD τ).loc main_arg5) : S64.Idx → EReal) i = (r : EReal))
  ∧ (∀ i : S64.Idx, ∃ r : ℝ, (m ((c : Thread nD τ).loc main_arg6) : S64.Idx → EReal) i = (r : EReal))
  ∧ (∀ i : S64.Idx, ∃ r : ℝ, (m ((c : Thread nD τ).loc main_arg7) : S64.Idx → EReal) i = (r : EReal))
  ∧ (∀ i : S64.Idx, ∃ r : ℝ, (m ((c : Thread nD τ).loc main_arg8) : S64.Idx → EReal) i = (r : EReal))

theorem reals (h : Cert.Pre_KernelIdeal_finite m) : Reals m c := by
  obtain ⟨h0, h3, h4, h5, h6, h7, h8⟩ := h c
  exact ⟨real_of _ h0, real_of _ h3, real_of _ h4, real_of _ h5, real_of _ h6, real_of _ h7, real_of _ h8⟩

variable {m c}

/-- A head's values are real numbers. -/
theorem values_real (h : Reals m c) (b : Fin 4) (hh : Fin 6) : ∃ V : Fin 8448 → Fin 128 → ℝ, ∀ i d,
    Cert.ReferenceIdeal.Stages.keys (m ((c : Thread nD τ).loc main_arg3)) (m ((c : Thread nD τ).loc main_arg4)) b hh i d
      = (V i d : EReal) := by
  have : ∀ i d, ∃ r : ℝ, Cert.ReferenceIdeal.Stages.keys (m ((c : Thread nD τ).loc main_arg3)) (m ((c : Thread nD τ).loc main_arg4)) b hh i d
      = (r : EReal) := by
    intro i d
    unfold Cert.ReferenceIdeal.Stages.keys join
    split
    · exact h.2.1 _
    · exact h.2.2.1 _
  choose V hV using this
  exact ⟨V, hV⟩

/-- A grid point's result at a row and a lane. -/
theorem outs_at (h : Reals m c) (t : Fin cfg0.N) (r : Fin 512) (l : Fin 128) :
    (outsAt0 m c t : S1x512x128.Idx → EReal) (ix3 0 r l) = goal m c (ix3 (bt t) (rw_ t r) (lane (hd t) l)) := by
  obtain ⟨lam, hlam⟩ := factor_real _ _ _ _ h.2.2.2.1 h.2.2.2.2.1 h.2.2.2.2.2.1 h.2.2.2.2.2.2
  obtain ⟨V, hV⟩ := values_real h (bt t) (hd t)
  obtain ⟨hq⟩ := h
  choose Q hQ using hq
  have hrow : (fun d => qL (ms0_1 t) (hs0_1 t) (iblk m c 1 t) (ix3 0 r d))
      = Cert.ReferenceIdeal.Stages.row (m ((c : Thread nD τ).loc main_arg0)) (bt t) (rw_ t r) (hd t) :=
    funext fun d => (qL_at _ _ _ _).trans (queries_at m c t r d)
  rw [outs_eq, factor_at, hlam]
  refine (blockOut_at (qL (ms0_1 t) (hs0_1 t) (iblk m c 1 t)) (kL (ms0_2 t) (hs0_2 t) (iblk m c 2 t))
    (vL (ms0_3 t) (hs0_3 t) (iblk m c 3 t)) r (fun d => Q (ix3 (bt t) (rw_ t r) (lane (hd t) d))) ?_ lam (iblk m c 4 t)
    (Cert.ReferenceIdeal.Stages.keys (m ((c : Thread nD τ).loc main_arg1)) (m ((c : Thread nD τ).loc main_arg2)) (bt t) (hd t))
    V ?_ (fun s j d => V (key ⟨min s 5, by omega⟩ j) d) ?_ ?_ l).trans ?_
  · intro d
    exact (congrFun hrow d).trans (hQ _)
  · intro s j d
    exact (kL_at _ _ _ _ _ _).trans (keys_at m c t _ _)
  · intro s j d
    have e : vL (ms0_3 t) (hs0_3 t) (iblk m c 3 t) s = vL (ms0_3 t) (hs0_3 t) (iblk m c 3 t) (min s 5) := by
      rcases s with _ | _ | _ | _ | _ | _ | s <;> rfl
    rw [e]
    exact ((vL_at _ _ _ ⟨min s 5, by omega⟩ _ _).trans (values_at m c t _ _)).trans (hV _ _)
  · intro s j d
    congr 2
    apply Fin.ext
    show min s.val 5 = s.val
    omega
  · rw [hrow, gain_at]
    exact (Cert.ReferenceIdeal.Stages.result_at _ _ _ _ _ _ _ _ _ _ (bt t) (hd t) (rw_ t r) l lam hlam V hV).symm

/-- The point whose block is the `i`, `j`, `k`-th of the result. -/
def point (i : Fin 4) (j : Fin 16) (k : Fin 6) : grid0.Coords
  | ⟨0, _⟩ => ⟨i.val, i.isLt⟩
  | ⟨1, _⟩ => ⟨k.val, k.isLt⟩
  | ⟨2, _⟩ => ⟨j.val, j.isLt⟩

/-- The result's blocks are all stored. -/
theorem covers : (cfg0.win 5).Covers :=
  (cfg0.win 5).covers_of_indexMap_surj rfl (by decide) fun β =>
    ⟨point ⟨(β ⟨0, by decide⟩).val, lt_of_lt_of_eq (β ⟨0, by decide⟩).isLt (by decide : (cfg0.win 5).nblk ⟨0, by decide⟩ = 4)⟩
      ⟨(β ⟨1, by decide⟩).val, lt_of_lt_of_eq (β ⟨1, by decide⟩).isLt (by decide : (cfg0.win 5).nblk ⟨1, by decide⟩ = 16)⟩
      ⟨(β ⟨2, by decide⟩).val, lt_of_lt_of_eq (β ⟨2, by decide⟩).isLt (by decide : (cfg0.win 5).nblk ⟨2, by decide⟩ = 6)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact Nat.mod_eq_of_lt (lt_of_lt_of_le (β ⟨2, by decide⟩).isLt (by decide))⟩

/-- Where a block's row and lane stand in the result. -/
theorem place_out (t : Fin cfg0.N) (r : Fin 512) (l : Fin 128) :
    (((cfg0.win 5).blk t).view.emb (ix3 0 r l : S1x512x128.Idx) : S4x8192x768.Idx) = ix3 (bt t) (rw_ t r) (lane (hd t) l) := by
  blk_ext [idx t, bt, hd, rw_, lane]

/-- The kernel's result array is the reference's. -/
theorem final (h : Reals m c) : (dats m 0 c).arrAt 5 cfg0.N = goal m c := by
  refine (dats m 0 c).arrAt_eq_of_covers 5 _ covers fun t hf y => ?_
  blk_simp
  rw [after0_5]
  have hy : (y : S1x512x128.Idx) = ix3 0 ((y : S1x512x128.Idx) 1) ((y : S1x512x128.Idx) 2) := by
    funext a
    match a with
    | ⟨0, _⟩ => exact Subsingleton.elim (α := Fin 1) _ _
    | ⟨1, _⟩ => rfl
    | ⟨2, _⟩ => rfl
  exact (congrArg (outsAt0 m c t) hy).trans ((outs_at h t _ _).trans ((congrArg (goal m c) (place_out t _ _).symm).trans
    (congrArg (fun z => goal m c (((cfg0.win 5).blk t).view.emb z)) hy.symm)))

end Cert.KernelIdeal.Trips

namespace Cert.Proof

open Idealize.ShloMosaic Idealize.SL.Sem

/-- The kernel and the reference leave the same result. -/
theorem algebraic : Cert.algebraic_KernelIdeal_ReferenceIdeal_pre_finite := by
  intro m g m' g' hpre hm
  refine ⟨fun c => Cert.KernelIdeal.Trips.goal m c, ?_, ?_⟩
  · exact θ_run_mono (Cert.KernelIdeal.Value.run_blocks m g) fun r h c =>
      ⟨(h c).1.trans (Cert.KernelIdeal.Trips.final (Cert.KernelIdeal.Trips.reals m c hpre)), (h c).2⟩
  · refine θ_run_mono (Cert.ReferenceIdeal.Value.run m' g') fun r h c => ⟨(h c).1.trans ?_, (h c).2⟩
    obtain ⟨h0, h1, h2, h3, h4, h5, h6, h7, h8, h9⟩ := hm c
    rw [Cert.ReferenceIdeal.Stages.res_eq, h0, h1, h2, h3, h4, h5, h6, h7, h8, h9]
    rfl

end Cert.Proof

end
-- ==== Proof.Projection.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.Covers
public import Idealize.ShloMosaic.Lib.Claim
public import Idealize.ShloMosaic.Lib.Pointwise

@[expose] public section

/-! # The modulated rows times a weight matrix

One entry of an input projection, and that the even layers' reference leaves such entries. -/

set_option maxRecDepth 16384

noncomputable section

open Idealize.ShloMosaic Idealize.ShloMosaic.TcCoe

namespace Cert.Projection

/-- The number one, as the programs write it. -/
def one : EReal := Ideal.ofBits .f32 0x3F800000#32

/-- A row, scaled and shifted by its batch's vectors, times a column of the weights. -/
def entry {n : Nat} (x : (⟨3, ![4, 8192, 1024]⟩ : Shape).Idx → EReal) (sc sh : (⟨3, ![4, 1, 1024]⟩ : Shape).Idx → EReal)
    (w : (⟨2, ![1024, n]⟩ : Shape).Idx → EReal) (b : Fin 4) (t : Fin 8192) (j : Fin n) : EReal :=
  ∑ k : Fin 1024, (x (ix3 b t k) * (one + sc (ix3 b 0 k)) + sh (ix3 b 0 k)) * w (ix2 k j)

/-- A row of 768 entries, each turned with the one 16 away in its 32 by the cosine and the sine of its lane. -/
def turn (z : Fin 768 → EReal) (cs sn : Fin 128 → EReal) (j : Fin 768) : EReal :=
  z j * cs ⟨j.val % 128, Nat.mod_lt _ (by decide)⟩
    + (if j.val % 32 < 16 then - z ⟨(j.val + 16) % 768, Nat.mod_lt _ (by decide)⟩
        else z ⟨(j.val + 752) % 768, Nat.mod_lt _ (by decide)⟩) * sn ⟨j.val % 128, Nat.mod_lt _ (by decide)⟩

end Cert.Projection

namespace Cert.Reference2Ideal.Rows

open Cert.Reference2Ideal Cert.Reference2Ideal.Gen Cert.Projection

/-- The reference's product. -/
def px (x : FVec Ideal S4x8192x1024 .f32) (sc sh : FVec Ideal S4x1x1024 .f32) (w : FVec Ideal S1024x3456 .f32) :
    FVec Ideal S4x8192x3456 .f32 :=
  Host.dotGeneral dot_S4x8192x1024_S1024x3456_S4x8192x3456_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32)) sc)))
      (broadcastInDim S4x8192x1024 ![0, 1, 2] bcast_S4x1x1024_S4x8192x1024_0_1_2 sh)) w

theorem px_at (x : FVec Ideal S4x8192x1024 .f32) (sc sh : FVec Ideal S4x1x1024 .f32) (w : FVec Ideal S1024x3456 .f32)
    (b : Fin 4) (t : Fin 8192) (j : Fin 3456) : px x sc sh w (ix3 b t j) = entry x sc sh w b t j := by
  pointwise [px, entry, one]

/-- The first 768 columns. -/
theorem left_at (x : FVec Ideal S4x8192x1024 .f32) (sc sh : FVec Ideal S4x1x1024 .f32) (w : FVec Ideal S1024x3456 .f32)
    (b : Fin 4) (t : Fin 8192) (j : Fin 768) :
    extractStridedSlice S4x8192x768 ![0, 0, 0] (px x sc sh w) slices_S4x8192x3456_S4x8192x768_0_0_0 (ix3 b t j)
      = entry x sc sh w b t ⟨j.val, by omega⟩ := by
  rw [← px_at]
  pointwise

/-- The other 2688 columns. -/
theorem right_at (x : FVec Ideal S4x8192x1024 .f32) (sc sh : FVec Ideal S4x1x1024 .f32) (w : FVec Ideal S1024x3456 .f32)
    (b : Fin 4) (t : Fin 8192) (j : Fin 2688) :
    extractStridedSlice S4x8192x2688 ![0, 0, 768] (px x sc sh w) slices_S4x8192x3456_S4x8192x2688_0_0_768 (ix3 b t j)
      = entry x sc sh w b t ⟨768 + j.val, by omega⟩ := by
  rw [← px_at]
  pointwise

end Cert.Reference2Ideal.Rows

end
-- ==== Proof.Even.lean ====
module

public import proofs.«01_k».proof.Defs
public import proofs.«01_k».proof.Proof.Projection

@[expose] public section

/-! # The even layers' input projection

At the point of batch `b` and row block `j` the kernel stores the entries of rows `512 j + r`, the first
768 columns in one array and the other 2688 in another; so the arrays are the reference's. -/

set_option maxRecDepth 16384

noncomputable section

open Idealize.ShloMosaic Idealize.ShloMosaic.TcCoe

namespace Cert.Kernel2Ideal.Rows

open Cert.Kernel2Ideal Cert.Kernel2Ideal.Gen Cert.Projection

/-- The block's product, read at a row and a column. -/
theorem product_at (x : Vec Ideal S1x512x1024 .f32) (sc sh : Vec Ideal S1x1x1024 .f32) (w : Vec Ideal S1024x3456 .bf16)
    (r : Fin 512) (j : Fin 3456) :
    k0_pay1 x sc sh w (ix2 r j)
      = ∑ k : Fin 1024, (x (ix3 0 r k) * (one + sc (ix3 0 0 k)) + sh (ix3 0 0 k)) * w (ix2 k j) := by
  pointwise [k0_pay1, one]

/-- A load of a whole block of rows is the block. -/
theorem load_rows (x : Vec Ideal S1x512x1024 .f32) : View.ld x r0_0 = x :=
  View.ld_unit_zero (S := S1x512x1024) (off := ![0, 0, 0]) (by funext a; fin_cases a <;> rfl) _ x

/-- A load of a whole vector is the vector. -/
theorem load_vector (x : Vec Ideal S1x1x1024 .f32) : View.ld x r0_1 = x :=
  View.ld_unit_zero (S := S1x1x1024) (off := ![0, 0, 0]) (by funext a; fin_cases a <;> rfl) _ x

/-- A load of all weights is the weights. -/
theorem load_weights (x : Vec Ideal S1024x3456 .bf16) : View.ld x r0_2 = x :=
  View.ld_unit_zero (S := S1024x3456) (off := ![0, 0]) (by funext a; fin_cases a <;> rfl) _ x

/-- The batch of a grid point. -/
def bt (t : Fin cfg0.N) : Fin 4 := ⟨(grid0.coords t 0).val, (grid0.coords t 0).isLt⟩

/-- Row `r` of a grid point's block, counted in the array. -/
def rw_ (t : Fin cfg0.N) (r : Fin 512) : Fin 8192 :=
  ⟨512 * (grid0.coords t 1).val + r.val, by
    have h : (grid0.coords t 1).val < 16 := (grid0.coords t 1).isLt
    have := r.isLt
    omega⟩

/-- The block a grid point's windows stand at, along each axis. -/
theorem idx (t : Fin cfg0.N) :
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![(grid0.coords t 0).val, (grid0.coords t 1).val, 0]
    ∧ win0_5.index t = ![(grid0.coords t 0).val, (grid0.coords t 1).val, 0] := by
  have h0 : ((grid0.coords t 0).val : ℕ) % 2 ^ 32 = (grid0.coords t 0).val :=
    Nat.mod_eq_of_lt (lt_of_lt_of_le (grid0.coords t 0).isLt (by decide))
  have h1 : ((grid0.coords t 1).val : ℕ) % 2 ^ 32 = (grid0.coords t 1).val :=
    Nat.mod_eq_of_lt (lt_of_lt_of_le (grid0.coords t 1).isLt (by decide))
  refine ⟨?_, ?_, ?_, ?_, ?_, ?_⟩ <;> (funext a; fin_cases a)
  all_goals (first | rfl | exact h0 | exact h1)

variable (m : (ℓ : Loc nD τ sig) → Buf (Elt Ideal) ℓ) (c : Dev nD) (t : Fin cfg0.N)

/-- An entry of the projection of the kernel's arguments. -/
abbrev goal (b : Fin 4) (n : Fin 8192) (j : Fin 3456) : EReal :=
  entry (m ((c : Thread nD τ).loc main_arg0)) (m ((c : Thread nD τ).loc main_arg1)) (m ((c : Thread nD τ).loc main_arg2))
    (m ((c : Thread nD τ).loc main_arg3)) b n j

theorem rows_at (r : Fin 512) (k : Fin 1024) :
    (iblk m c 0 t : S1x512x1024.Idx → EReal) (ix3 0 r k)
      = (m ((c : Thread nD τ).loc main_arg0) : S4x8192x1024.Idx → EReal) (ix3 (bt t) (rw_ t r) k) := by
  blk_ext! [iblk, V, idx t, bt, rw_]

theorem scale_at (k : Fin 1024) :
    (iblk m c 1 t : S1x1x1024.Idx → EReal) (ix3 0 0 k)
      = (m ((c : Thread nD τ).loc main_arg1) : S4x1x1024.Idx → EReal) (ix3 (bt t) 0 k) := by
  blk_ext! [iblk, V, idx t, bt]

theorem shift_at (k : Fin 1024) :
    (iblk m c 2 t : S1x1x1024.Idx → EReal) (ix3 0 0 k)
      = (m ((c : Thread nD τ).loc main_arg2) : S4x1x1024.Idx → EReal) (ix3 (bt t) 0 k) := by
  blk_ext! [iblk, V, idx t, bt]

theorem weights_at (k : Fin 1024) (j : Fin 3456) :
    (iblk m c 3 t : S1024x3456.Idx → EReal) (ix2 k j)
      = (m ((c : Thread nD τ).loc main_arg3) : S1024x3456.Idx → EReal) (ix2 k j) := by
  blk_ext! [iblk, V, idx t]

/-- What a grid point's product holds. -/
theorem block_at (r : Fin 512) (j : Fin 3456) :
    k0_pay1 (iblk m c 0 t) (iblk m c 1 t) (iblk m c 2 t) (iblk m c 3 t) (ix2 r j) = goal m c (bt t) (rw_ t r) j := by
  rw [product_at]
  unfold goal entry
  refine Finset.sum_congr rfl fun k _ => ?_
  rw [rows_at, scale_at, shift_at, weights_at]

/-- What a grid point leaves in its block of the first array. -/
theorem left_at (y : S1x512x768.Idx) :
    out0_4 (iblk m c 0 t) (iblk m c 1 t) (iblk m c 2 t) (iblk m c 3 t) y
      = goal m c (bt t) (rw_ t (y 1)) ⟨(y 2).val, lt_of_lt_of_le (y 2).isLt (by decide)⟩ := by
  unfold out0_4
  rw [Value.canon4_eq]
  rw [load_rows, load_vector, load_vector, load_weights]
  have e : Value.ix4_0 y = ix2 (y 1) ⟨(y 2).val, lt_of_lt_of_le (y 2).isLt (by decide)⟩ := by
    funext a
    match a with
    | ⟨0, _⟩ => rfl
    | ⟨1, _⟩ => rfl
  rw [Value.E4, e]
  exact block_at m c t (y 1) _

/-- What a grid point leaves in its block of the second array. -/
theorem right_at (y : S1x512x2688.Idx) :
    out0_5 (iblk m c 0 t) (iblk m c 1 t) (iblk m c 2 t) (iblk m c 3 t) y
      = goal m c (bt t) (rw_ t (y 1)) ⟨768 + (y 2).val, by have : (y 2).val < 2688 := (y 2).isLt; omega⟩ := by
  unfold out0_5
  rw [Value.canon5_eq]
  rw [load_rows, load_vector, load_vector, load_weights]
  have e : Value.ix5_0 y = ix2 (y 1) ⟨768 + (y 2).val, by have : (y 2).val < 2688 := (y 2).isLt; omega⟩ := by
    funext a
    match a with
    | ⟨0, _⟩ => rfl
    | ⟨1, _⟩ => exact Fin.ext (Nat.add_comm _ _)
  rw [Value.E5, e]
  exact block_at m c t (y 1) _

/-- The point whose blocks are the `i`, `j`-th of the results. -/
def point (i : Fin 4) (j : Fin 16) : grid0.Coords
  | ⟨0, _⟩ => ⟨i.val, i.isLt⟩
  | ⟨1, _⟩ => ⟨j.val, j.isLt⟩

/-- The first array's blocks are all stored. -/
theorem covers_left : (cfg0.win 4).Covers :=
  (cfg0.win 4).covers_of_indexMap_surj rfl (by decide) fun β =>
    ⟨point ⟨(β ⟨0, by decide⟩).val, lt_of_lt_of_eq (β ⟨0, by decide⟩).isLt (by decide : (cfg0.win 4).nblk ⟨0, by decide⟩ = 4)⟩
      ⟨(β ⟨1, by decide⟩).val, lt_of_lt_of_eq (β ⟨1, by decide⟩).isLt (by decide : (cfg0.win 4).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 4).nblk ⟨2, by decide⟩ = 1))).symm⟩

/-- The second array's blocks are all stored. -/
theorem covers_right : (cfg0.win 5).Covers :=
  (cfg0.win 5).covers_of_indexMap_surj rfl (by decide) fun β =>
    ⟨point ⟨(β ⟨0, by decide⟩).val, lt_of_lt_of_eq (β ⟨0, by decide⟩).isLt (by decide : (cfg0.win 5).nblk ⟨0, by decide⟩ = 4)⟩
      ⟨(β ⟨1, by decide⟩).val, lt_of_lt_of_eq (β ⟨1, by decide⟩).isLt (by decide : (cfg0.win 5).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 5).nblk ⟨2, by decide⟩ = 1))).symm⟩

/-- The first array. -/
def left : S4x8192x768.Idx → EReal := fun i => goal m c (i 0) (i 1) ⟨(i 2).val, lt_of_lt_of_le (i 2).isLt (by decide)⟩

/-- The second array. -/
def right : S4x8192x2688.Idx → EReal := fun i =>
  goal m c (i 0) (i 1) ⟨768 + (i 2).val, by have : (i 2).val < 2688 := (i 2).isLt; omega⟩

theorem final_left : (dats m 0 c).arrAt 4 cfg0.N = left m c := by
  refine (dats m 0 c).arrAt_eq_of_covers 4 _ covers_left fun t hf y => ?_
  blk_simp
  rw [after0_4]
  refine (left_at m c t y).trans ?_
  have hp : (((cfg0.win 4).blk t).view.emb y : S4x8192x768.Idx)
      = ix3 (bt t) (rw_ t ((y : S1x512x768.Idx) 1)) ((y : S1x512x768.Idx) 2) := by
    blk_ext [idx t, bt, rw_]
  exact (congrArg (left m c) hp).symm

theorem final_right : (dats m 0 c).arrAt 5 cfg0.N = right m c := by
  refine (dats m 0 c).arrAt_eq_of_covers 5 _ covers_right fun t hf y => ?_
  blk_simp
  rw [after0_5]
  refine (right_at m c t y).trans ?_
  have hp : (((cfg0.win 5).blk t).view.emb y : S4x8192x2688.Idx)
      = ix3 (bt t) (rw_ t ((y : S1x512x2688.Idx) 1)) ((y : S1x512x2688.Idx) 2) := by
    blk_ext [idx t, bt, rw_]
  exact (congrArg (right m c) hp).symm

end Cert.Kernel2Ideal.Rows

namespace Cert.Proof

open Idealize.SL.Sem Cert.Projection

/-- The projection and its reference leave the same two arrays. -/
theorem algebraic_even : Cert.algebraic_Kernel2Ideal_Reference2Ideal := by
  intro m g m' g' _ hm
  refine ⟨fun c => Cert.Kernel2Ideal.Rows.left m c, fun c => Cert.Kernel2Ideal.Rows.right m c, ?_, ?_⟩
  · exact θ_run_mono (Cert.Kernel2Ideal.Value.run_blocks m g) fun r h c =>
      ⟨(h c).1.trans (Cert.Kernel2Ideal.Rows.final_left m c), (h c).2.1.trans (Cert.Kernel2Ideal.Rows.final_right m c), (h c).2.2⟩
  · refine θ_run_mono (Cert.Reference2Ideal.Value.run m' g') fun r h c => ⟨(h c).1.trans ?_, (h c).2.1.trans ?_, (h c).2.2⟩
    all_goals
      obtain ⟨h0, h1, h2, h3⟩ := hm c
      rw [h0, h1, h2, h3]
      funext i
      obtain ⟨b, n, j, rfl⟩ : ∃ b n j, i = ix3 b n j := ⟨i 0, i 1, i 2, by
        funext a
        match a with
        | ⟨0, _⟩ => rfl
        | ⟨1, _⟩ => rfl
        | ⟨2, _⟩ => rfl⟩
    · exact Cert.Reference2Ideal.Rows.left_at _ _ _ _ b n j
    · exact Cert.Reference2Ideal.Rows.right_at _ _ _ _ b n j

end Cert.Proof

end
-- ==== Proof.Turn.lean ====
module

public import proofs.«01_k».proof.Proof.Gen.Kernel3Ideal.Value
public import proofs.«01_k».proof.Proof.Projection
public import Idealize.ShloMosaic.Lib.Pipeline.ValueKit
public import Idealize.ShloMosaic.Lib.Pipeline.Covers
public import Idealize.ShloMosaic.Lib.Claim
public import Idealize.ShloMosaic.Lib.Pointwise

@[expose] public section

/-! # The rotary turn of one head's block

A head's 128 columns hold two maps of 64, each turned by the position's row in its first half and by its column in
the second. A half is 32 columns, and column `l` of it turns with the column 16 away. The kernel reaches the other
column by rotating the whole block by 16 lanes. -/

set_option maxRecDepth 16384

noncomputable section

open Idealize.ShloMosaic Idealize.ShloMosaic.TcCoe

namespace Cert.Kernel3Ideal.Rows

open Cert.Kernel3Ideal Cert.Kernel3Ideal.Gen Cert.Projection

/-- The lanes of a half's first 16 columns. -/
theorem first_at (r : Fin 512) (l : Fin 128) : k0_pay5 (ix2 r l) = if l.val % 32 < 16 then 1#1 else 0#1 := by
  have h : k0_pay5 (ix2 r l) = k0_pay5 (ix2 0 l) := by
    pointwise [k0_pay5]
  rw [h]
  clear h
  revert l
  decide +kernel

/-- The kernel's turn of the block of columns from `o` on. -/
def turned (o : Nat) (h : S512x2816.Slices ![0, o] S512x128) (v1 v3 : FVec Ideal S512x128 .f32) (v22 : IVec S512x128 1)
    (y : FVec Ideal S512x2816 .f32) : FVec Ideal S512x128 .f32 :=
  addf (mulf (extractStridedSlice S512x128 ![0, o] y h) v1)
    (mulf (select v22
        (subf (broadcast S512x128 (Scalar.ofBits .f32 0x00000000#32))
          (dynamicRotate 1 112#32 none (extractStridedSlice S512x128 ![0, o] y h) rotates_S512x128_d1))
        (dynamicRotate 1 16#32 none (extractStridedSlice S512x128 ![0, o] y h) rotates_S512x128_d1)) v3)

theorem turned_at (o : Nat) (ho : o + 128 ≤ 2816) (h : S512x2816.Slices ![0, o] S512x128) (v1 v3 : FVec Ideal S512x128 .f32)
    (y : FVec Ideal S512x2816 .f32) (r : Fin 512) (l : Fin 128) :
    turned o h v1 v3 k0_pay5 y (ix2 r l)
      = y (ix2 r ⟨o + l.val, by omega⟩) * v1 (ix2 r l)
        + (if l.val % 32 < 16 then - y (ix2 r ⟨o + (l.val + 16) % 128, by omega⟩)
            else y (ix2 r ⟨o + (l.val + 112) % 128, by omega⟩)) * v3 (ix2 r l) := by
  have hf := first_at r l
  have hs := l.isLt
  pointwise [turned]
  rw [hf, zero_sub]
  have e (a b : Nat) (ha : o + a < 2816) (hb : o + b < 2816) (hab : a = b) :
      y (ix2 r ⟨o + a, ha⟩) = y (ix2 r ⟨o + b, hb⟩) := by subst hab; rfl
  by_cases hl : l.val % 32 < 16
  · rw [if_pos hl, if_pos hl, e _ _ _ (by omega) (by omega : (l.val + 128 - 112) % 128 = (l.val + 16) % 128)]
    rfl
  · rw [if_neg hl, if_neg hl, e ((l.val + 128 - 16) % 128) _ _ (by omega) (by omega : _ = (l.val + 112) % 128)]
    rfl

/-- The turn, entry by entry: six heads side by side from column `o` on, all by the same two tables. -/
theorem turned_turn (o q : Nat) (ho : o + 768 ≤ 2816) (hq : q < 6) (h : S512x2816.Slices ![0, o + 128 * q] S512x128)
    (v1 v3 : FVec Ideal S512x128 .f32) (y : FVec Ideal S512x2816 .f32) (r : Fin 512) (l : Fin 128) :
    turned (o + 128 * q) h v1 v3 k0_pay5 y (ix2 r l)
      = turn (fun j => y (ix2 r ⟨o + j.val, by omega⟩)) (fun l => v1 (ix2 r l)) (fun l => v3 (ix2 r l))
          ⟨128 * q + l.val, by omega⟩ := by
  have e (a b : Nat) (ha : a < 2816) (hb : b < 2816) (hab : a = b) : y (ix2 r ⟨a, ha⟩) = y (ix2 r ⟨b, hb⟩) := by
    subst hab; rfl
  have hs := l.isLt
  have hm : (128 * q + l.val) % 128 = l.val := by omega
  rw [turned_at _ (by omega)]
  unfold turn
  simp only [hm]
  rw [e (o + 128 * q + l.val) (o + (128 * q + l.val)) (by omega) (by omega) (by omega)]
  by_cases hl : l.val % 32 < 16
  · rw [if_pos hl, if_pos (by omega),
      e (o + 128 * q + (l.val + 16) % 128) (o + (128 * q + l.val + 16) % 768) (by omega) (by omega) (by omega)]
  · rw [if_neg hl, if_neg (by omega),
      e (o + 128 * q + (l.val + 112) % 128) (o + (128 * q + l.val + 752) % 768) (by omega) (by omega) (by omega)]

/-- A block of 128 columns, given the batch's axis. -/
theorem cast_at {t : FTy} (v : FVec Ideal S512x128 t) (x : S1x512x128.Idx) :
    shapeCast S1x512x128 v shapeCasts_S512x128_S1x512x128 x = v (ix2 (x 1) (x 2)) := by
  obtain ⟨r, l, rfl⟩ : ∃ r l, x = ix3 0 r l := ⟨x 1, x 2, by
    funext a
    match a with
    | ⟨0, _⟩ => exact Fin.ext (Nat.lt_one_iff.mp (x 0).isLt)
    | ⟨1, _⟩ => rfl
    | ⟨2, _⟩ => rfl⟩
  pointwise

/-- Six turned heads side by side, as a block with the batch's axis. -/
def heads (o : Nat) (ho : o + 768 ≤ 2816) (v1 v3 : FVec Ideal S512x128 .f32) (y : FVec Ideal S512x2816 .f32)
    (i : S1x512x768.Idx) : EReal :=
  turn (fun j => y (ix2 (i 1) ⟨o + j.val, by omega⟩)) (fun l => v1 (ix2 (i 1) l)) (fun l => v3 (ix2 (i 1) l)) (i 2)

/-- One head's turned columns, where they stand among the six. -/
theorem piece_at (o q : Nat) (ho : o + 768 ≤ 2816) (hq : q < 6) (h : S512x2816.Slices ![0, o + 128 * q] S512x128)
    (v1 v3 : FVec Ideal S512x128 .f32) (y : FVec Ideal S512x2816 .f32) (x : S1x512x128.Idx) (i : S1x512x768.Idx)
    (h1 : i 1 = x 1) (h2 : (i 2).val = 128 * q + (x 2).val) :
    shapeCast S1x512x128 (turned (o + 128 * q) h v1 v3 k0_pay5 y : FVec Ideal S512x128 .f32) shapeCasts_S512x128_S1x512x128 x
      = heads o ho v1 v3 y i := by
  rw [cast_at]
  refine (turned_turn o q ho hq h v1 v3 y (x 1) (x 2)).trans ?_
  have e : i 2 = ⟨128 * q + (x 2).val, by have : (x 2).val < 128 := (x 2).isLt; omega⟩ := Fin.ext h2
  unfold heads
  rw [h1, e]
  rfl

/-- The turned queries' buffer. -/
theorem queries_block (v1 v3 : FVec Ideal S512x128 .f32) (h : FVec Ideal S512x1024 .f32) (w : Vec Ideal S1024x2816 .bf16)
    (y : S1x512x768.Idx) :
    (View.canon [⟨r0_9, k0_pay20 v1 v3 k0_pay5 (k0_pay7 h w)⟩,
        ⟨r0_8, k0_pay18 v1 v3 k0_pay5 (k0_pay7 h w)⟩,
        ⟨r0_7, k0_pay16 v1 v3 k0_pay5 (k0_pay7 h w)⟩,
        ⟨r0_6, k0_pay13 v1 v3 k0_pay5 (k0_pay7 h w)⟩,
        ⟨r0_5, k0_pay11 (k0_pay10 v1 v3 k0_pay5 h w)⟩,
        ⟨r0_4, k0_pay8 v1 v3 k0_pay5 h w⟩] : Vec Ideal S1x512x768 .f32) y
      = heads 0 (by decide) v1 v3 (k0_pay7 h w) y := by
  refine View.canon_apply_of_pieces (Val := Elt Ideal) (heads 0 (by decide) v1 v3 (k0_pay7 h w)) _ ?_ y (cover0_6 _ _ _ _ _ _ y)
  intro pc hpc
  rcases List.mem_cons.mp hpc with rfl | hpc
  · exact fun x => piece_at 0 5 (by decide) (by decide) slices_S512x2816_o0_640_S512x128 v1 v3 (k0_pay7 h w) x _
      (Fin.ext (by show 0 + 1 * (x 1).val = (x 1).val; omega)) (by show 640 + 1 * (x 2).val = _; omega)
  rcases List.mem_cons.mp hpc with rfl | hpc
  · exact fun x => piece_at 0 4 (by decide) (by decide) slices_S512x2816_o0_512_S512x128 v1 v3 (k0_pay7 h w) x _
      (Fin.ext (by show 0 + 1 * (x 1).val = (x 1).val; omega)) (by show 512 + 1 * (x 2).val = _; omega)
  rcases List.mem_cons.mp hpc with rfl | hpc
  · exact fun x => piece_at 0 3 (by decide) (by decide) slices_S512x2816_o0_384_S512x128 v1 v3 (k0_pay7 h w) x _
      (Fin.ext (by show 0 + 1 * (x 1).val = (x 1).val; omega)) (by show 384 + 1 * (x 2).val = _; omega)
  rcases List.mem_cons.mp hpc with rfl | hpc
  · exact fun x => piece_at 0 2 (by decide) (by decide) slices_S512x2816_o0_256_S512x128 v1 v3 (k0_pay7 h w) x _
      (Fin.ext (by show 0 + 1 * (x 1).val = (x 1).val; omega)) (by show 256 + 1 * (x 2).val = _; omega)
  rcases List.mem_cons.mp hpc with rfl | hpc
  · exact fun x => piece_at 0 1 (by decide) (by decide) slices_S512x2816_o0_128_S512x128 v1 v3 (k0_pay7 h w) x _
      (Fin.ext (by show 0 + 1 * (x 1).val = (x 1).val; omega)) (by show 128 + 1 * (x 2).val = _; omega)
  rcases List.mem_cons.mp hpc with rfl | hpc
  · exact fun x => piece_at 0 0 (by decide) (by decide) slices_S512x2816_o0_0_S512x128 v1 v3 (k0_pay7 h w) x _
      (Fin.ext (by show 0 + 1 * (x 1).val = (x 1).val; omega)) (by show 0 + 1 * (x 2).val = _; omega)
  nomatch hpc

/-- The turned keys' buffer. -/
theorem keys_block (v1 v3 : FVec Ideal S512x128 .f32) (h : FVec Ideal S512x1024 .f32) (w : Vec Ideal S1024x2816 .bf16)
    (y : S1x512x768.Idx) :
    (View.canon [⟨r0_9, k0_pay21 v1 v3 k0_pay5 (k0_pay7 h w)⟩,
        ⟨r0_8, k0_pay19 v1 v3 k0_pay5 (k0_pay7 h w)⟩,
        ⟨r0_7, k0_pay17 v1 v3 k0_pay5 (k0_pay7 h w)⟩,
        ⟨r0_6, k0_pay15 (k0_pay14 v1 v3 k0_pay5 (k0_pay7 h w))⟩,
        ⟨r0_5, k0_pay12 v1 v3 k0_pay5 (k0_pay7 h w)⟩,
        ⟨r0_4, k0_pay9 v1 v3 k0_pay5 h w⟩] : Vec Ideal S1x512x768 .bf16) y
      = heads 768 (by decide) v1 v3 (k0_pay7 h w) y := by
  refine View.canon_apply_of_pieces (Val := Elt Ideal) (heads 768 (by decide) v1 v3 (k0_pay7 h w)) _ ?_ y (cover0_7 _ _ _ _ _ _ y)
  intro pc hpc
  rcases List.mem_cons.mp hpc with rfl | hpc
  · exact fun x => piece_at 768 5 (by decide) (by decide) slices_S512x2816_o0_1408_S512x128 v1 v3 (k0_pay7 h w) x _
      (Fin.ext (by show 0 + 1 * (x 1).val = (x 1).val; omega)) (by show 640 + 1 * (x 2).val = _; omega)
  rcases List.mem_cons.mp hpc with rfl | hpc
  · exact fun x => piece_at 768 4 (by decide) (by decide) slices_S512x2816_o0_1280_S512x128 v1 v3 (k0_pay7 h w) x _
      (Fin.ext (by show 0 + 1 * (x 1).val = (x 1).val; omega)) (by show 512 + 1 * (x 2).val = _; omega)
  rcases List.mem_cons.mp hpc with rfl | hpc
  · exact fun x => piece_at 768 3 (by decide) (by decide) slices_S512x2816_o0_1152_S512x128 v1 v3 (k0_pay7 h w) x _
      (Fin.ext (by show 0 + 1 * (x 1).val = (x 1).val; omega)) (by show 384 + 1 * (x 2).val = _; omega)
  rcases List.mem_cons.mp hpc with rfl | hpc
  · exact fun x => piece_at 768 2 (by decide) (by decide) slices_S512x2816_o0_1024_S512x128 v1 v3 (k0_pay7 h w) x _
      (Fin.ext (by show 0 + 1 * (x 1).val = (x 1).val; omega)) (by show 256 + 1 * (x 2).val = _; omega)
  rcases List.mem_cons.mp hpc with rfl | hpc
  · exact fun x => piece_at 768 1 (by decide) (by decide) slices_S512x2816_o0_896_S512x128 v1 v3 (k0_pay7 h w) x _
      (Fin.ext (by show 0 + 1 * (x 1).val = (x 1).val; omega)) (by show 128 + 1 * (x 2).val = _; omega)
  rcases List.mem_cons.mp hpc with rfl | hpc
  · exact fun x => piece_at 768 0 (by decide) (by decide) slices_S512x2816_o0_768_S512x128 v1 v3 (k0_pay7 h w) x _
      (Fin.ext (by show 0 + 1 * (x 1).val = (x 1).val; omega)) (by show 0 + 1 * (x 2).val = _; omega)
  nomatch hpc

end Cert.Kernel3Ideal.Rows

end
-- ==== Proof.Rope.lean ====
module

public import proofs.«01_k».proof.Proof.Gen.Reference3Ideal.Run
public import proofs.«01_k».proof.Proof.Projection
public import Idealize.ShloMosaic.Lib.Claim
public import Idealize.ShloMosaic.Lib.Pointwise

@[expose] public section

/-! # The odd layers' reference

Its product, its angles, and its turn of the queries and of the keys, read at an entry. -/

set_option maxRecDepth 16384

noncomputable section

open Idealize.ShloMosaic Idealize.ShloMosaic.TcCoe

namespace Cert.Reference3Ideal.Rows

open Cert.Reference3Ideal Cert.Reference3Ideal.Gen Cert.Projection

/-- The reference's product. -/
def px (x : FVec Ideal S4x8192x1024 .f32) (sc sh : FVec Ideal S4x1x1024 .f32) (w : FVec Ideal S1024x2816 .f32) :
    FVec Ideal S4x8192x2816 .f32 :=
  Host.dotGeneral dot_S4x8192x1024_S1024x2816_S4x8192x2816_2_0_01_1_n_n none
    (addf (mulf x (broadcastInDim S4x8192x1024 ![0, 1, 2] bcast_S4x1x1024_S4x8192x1024_0_1_2
        (addf (broadcastInDim S4x1x1024 ![] bcast_S_S4x1x1024 (constant S_ .f32 0x3F800000#32)) sc)))
      (broadcastInDim S4x8192x1024 ![0, 1, 2] bcast_S4x1x1024_S4x8192x1024_0_1_2 sh)) w

theorem px_at (x : FVec Ideal S4x8192x1024 .f32) (sc sh : FVec Ideal S4x1x1024 .f32) (w : FVec Ideal S1024x2816 .f32)
    (b : Fin 4) (t : Fin 8192) (j : Fin 2816) : px x sc sh w (ix3 b t j) = entry x sc sh w b t j := by
  pointwise [px, entry, one]

/-- The 16 frequencies. -/
def freq : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

/-- The angles of a coordinate of the positions. -/
def angles (p : FVec Ideal S8192 .f32) : FVec Ideal S8192x16 .f32 :=
  mulf (broadcastInDim S8192x16 ![0, 1] bcast_S8192x1_S8192x16_0_1 (broadcastInDim S8192x1 ![0] bcast_S8192_S8192x1_0 p))
    (broadcastInDim S8192x16 ![0, 1] bcast_S1x16_S8192x16_0_1 (broadcastInDim S1x16 ![1] bcast_S16_S1x16_1 freq))

/-- The angles of the positions' rows. -/
def rowAngles : FVec Ideal S8192x16 .f32 :=
  angles (sitofp .f32 (shapeCast _ (broadcastInDim S128x64 ![0] bcast_S128_S128x64_0 (iotaInDim S128 32 0)) shapeCasts_S128x64_S8192))

/-- The angles of the positions' columns. -/
def colAngles : FVec Ideal S8192x16 .f32 :=
  angles (sitofp .f32 (shapeCast _ (broadcastInDim S128x64 ![0, 1] bcast_S1x64_S128x64_0_1 (shapeCast _ (iotaInDim S64 32 0) shapeCasts_S64_S1x64)) shapeCasts_S128x64_S8192))

/-- A table of the positions, for every head. -/
def spread (a : FVec Ideal S8192x16 .f32) : FVec Ideal S4x8192x6x2x16 .f32 :=
  broadcastInDim S4x8192x6x2x16 ![0, 1, 2, 3, 4] bcast_S1x8192x1x1x16_S4x8192x6x2x16_0_1_2_3_4
    (broadcastInDim S1x8192x1x1x16 ![1, 4] bcast_S8192x16_S1x8192x1x1x16_1_4 a)

/-- The turn of one half by its angles. -/
def rotate (x : FVec Ideal S4x8192x6x2x32 .f32) (a : FVec Ideal S8192x16 .f32) : FVec Ideal S4x8192x6x2x32 .f32 :=
  concatenate S4x8192x6x2x32 4
    [⟨S4x8192x6x2x16, (subf (mulf (extractStridedSlice S4x8192x6x2x16 ![0, 0, 0, 0, 0] x slices_S4x8192x6x2x32_S4x8192x6x2x16_0_0_0_0_0) (spread (Host.cos a)))
      (mulf (extractStridedSlice S4x8192x6x2x16 ![0, 0, 0, 0, 16] x slices_S4x8192x6x2x32_S4x8192x6x2x16_0_0_0_0_16) (spread (Host.sin a))))⟩,
     ⟨S4x8192x6x2x16, (addf (mulf (extractStridedSlice S4x8192x6x2x16 ![0, 0, 0, 0, 0] x slices_S4x8192x6x2x32_S4x8192x6x2x16_0_0_0_0_0) (spread (Host.sin a)))
      (mulf (extractStridedSlice S4x8192x6x2x16 ![0, 0, 0, 0, 16] x slices_S4x8192x6x2x32_S4x8192x6x2x16_0_0_0_0_16) (spread (Host.cos a))))⟩]
    concatenates_S4x8192x6x2x16_S4x8192x6x2x16_S4x8192x6x2x32_d4

/-- The turn of 768 columns: both halves of every map. -/
def rope (z : FVec Ideal S4x8192x768 .f32) : FVec Ideal S4x8192x768 .f32 :=
  shapeCast _ (concatenate S4x8192x6x2x64 4
    [⟨S4x8192x6x2x32, (rotate (extractStridedSlice S4x8192x6x2x32 ![0, 0, 0, 0, 0] (shapeCast _ z shapeCasts_S4x8192x768_S4x8192x6x2x64) slices_S4x8192x6x2x64_S4x8192x6x2x32_0_0_0_0_0) rowAngles)⟩,
     ⟨S4x8192x6x2x32, (rotate (extractStridedSlice S4x8192x6x2x32 ![0, 0, 0, 0, 32] (shapeCast _ z shapeCasts_S4x8192x768_S4x8192x6x2x64) slices_S4x8192x6x2x64_S4x8192x6x2x32_0_0_0_0_32) colAngles)⟩]
    concatenates_S4x8192x6x2x32_S4x8192x6x2x32_S4x8192x6x2x64_d4) shapeCasts_S4x8192x6x2x64_S4x8192x768

/-- The angle a lane of a head turns by, at a position. -/
def angle (t : Fin 8192) (l : Fin 128) : EReal :=
  if l.val % 64 < 32 then rowAngles (ix2 t ⟨l.val % 16, Nat.mod_lt _ (by decide)⟩)
  else colAngles (ix2 t ⟨l.val % 16, Nat.mod_lt _ (by decide)⟩)

theorem rotate_at (x : FVec Ideal S4x8192x6x2x32 .f32) (a : FVec Ideal S8192x16 .f32) (b : Fin 4) (t : Fin 8192) (h : Fin 6)
    (p : Fin 2) (l : Fin 32) :
    rotate x a (ix5 b t h p l)
      = x (ix5 b t h p l) * Ideal.cos (a (ix2 t ⟨l.val % 16, Nat.mod_lt _ (by decide)⟩))
        + (if l.val < 16 then - x (ix5 b t h p ⟨(l.val + 16) % 32, Nat.mod_lt _ (by decide)⟩)
            else x (ix5 b t h p ⟨(l.val + 16) % 32, Nat.mod_lt _ (by decide)⟩))
          * Ideal.sin (a (ix2 t ⟨l.val % 16, Nat.mod_lt _ (by decide)⟩)) := by
  have ez (m n : Nat) (hm : m < 32) (hn : n < 32) (e : m = n) : x (ix5 b t h p ⟨m, hm⟩) = x (ix5 b t h p ⟨n, hn⟩) := by
    subst e; rfl
  have ea (m n : Nat) (hm : m < 16) (hn : n < 16) (e : m = n) : a (ix2 t ⟨m, hm⟩) = a (ix2 t ⟨n, hn⟩) := by subst e; rfl
  have hs := l.isLt
  pointwise [rotate, spread]
  by_cases hl : l.val < 16
  · rw [dif_pos hl, if_pos hl, ea l.val (l.val % 16) hl (by omega) (by omega),
      ez (16 + l.val) ((l.val + 16) % 32) (by omega) (by omega) (by omega), sub_eq_add_neg, EReal.neg_mul]
  · rw [dif_neg hl, if_neg hl, ea (l.val - 16) (l.val % 16) (by omega) (by omega) (by omega),
      ez (l.val - 16) ((l.val + 16) % 32) (by omega) (by omega) (by omega),
      ez (16 + (l.val - 16)) l.val (by omega) (by omega) (by omega), add_comm]

theorem rope_at (z : FVec Ideal S4x8192x768 .f32) (b : Fin 4) (t : Fin 8192) (j : Fin 768) :
    rope z (ix3 b t j)
      = turn (fun j => z (ix3 b t j)) (fun l => Ideal.cos (angle t l)) (fun l => Ideal.sin (angle t l)) j := by
  have hs := j.isLt
  have ez (m n : Nat) (hm : m < 768) (hn : n < 768) (e : m = n) : z (ix3 b t ⟨m, hm⟩) = z (ix3 b t ⟨n, hn⟩) := by
    subst e; rfl
  have ea (a : FVec Ideal S8192x16 .f32) (m n : Nat) (hm : m < 16) (hn : n < 16) (e : m = n) :
      a (ix2 t ⟨m, hm⟩) = a (ix2 t ⟨n, hn⟩) := by subst e; rfl
  pointwise [rope]
  unfold turn angle
  by_cases hh : j.val % 64 < 32
  · rw [dif_pos hh, rotate_at]
    pointwise
    rw [if_pos (by omega : j.val % 128 % 64 < 32),
      ea rowAngles (j.val % 64 % 16) (j.val % 128 % 16) (by omega) (by omega) (by omega)]
    by_cases hl : j.val % 32 < 16
    · rw [if_pos (by omega), if_pos hl, ez (j.val / 128 * 128 + j.val / 64 % 2 * 64 + (j.val % 64 + 16) % 32) ((j.val + 16) % 768) (by omega) (by omega) (by omega)]
    · rw [if_neg (by omega), if_neg hl, ez (j.val / 128 * 128 + j.val / 64 % 2 * 64 + (j.val % 64 + 16) % 32) ((j.val + 752) % 768) (by omega) (by omega) (by omega)]
  · rw [dif_neg hh, rotate_at]
    pointwise
    rw [if_neg (by omega : ¬ j.val % 128 % 64 < 32),
      ea colAngles ((j.val % 64 - 32) % 16) (j.val % 128 % 16) (by omega) (by omega) (by omega),
      ez (j.val / 128 * 128 + j.val / 64 % 2 * 64 + (32 + (j.val % 64 - 32))) j.val (by omega) (by omega) (by omega)]
    by_cases hl : j.val % 32 < 16
    · rw [if_pos (by omega), if_pos hl, ez (j.val / 128 * 128 + j.val / 64 % 2 * 64 + (32 + (j.val % 64 - 32 + 16) % 32)) ((j.val + 16) % 768) (by omega) (by omega) (by omega)]
    · rw [if_neg (by omega), if_neg hl, ez (j.val / 128 * 128 + j.val / 64 % 2 * 64 + (32 + (j.val % 64 - 32 + 16) % 32)) ((j.val + 752) % 768) (by omega) (by omega) (by omega)]

theorem res_queries (m : (ℓ : Loc nD τ sig) → Buf (Elt Ideal) ℓ) (c : Dev nD) :
    Value.res_out0 m c
      = rope (extractStridedSlice S4x8192x768 ![0, 0, 0] (px (m ((c.tc : Thread nD τ).loc main_arg0)) (m ((c.tc : Thread nD τ).loc main_arg1))
          (m ((c.tc : Thread nD τ).loc main_arg2)) (m ((c.tc : Thread nD τ).loc main_arg3))) slices_S4x8192x2816_S4x8192x768_0_0_0) := rfl

theorem res_keys (m : (ℓ : Loc nD τ sig) → Buf (Elt Ideal) ℓ) (c : Dev nD) :
    Value.res_out1 m c
      = rope (extractStridedSlice S4x8192x768 ![0, 0, 768] (px (m ((c.tc : Thread nD τ).loc main_arg0)) (m ((c.tc : Thread nD τ).loc main_arg1))
          (m ((c.tc : Thread nD τ).loc main_arg2)) (m ((c.tc : Thread nD τ).loc main_arg3))) slices_S4x8192x2816_S4x8192x768_0_0_768) := rfl

end Cert.Reference3Ideal.Rows

end
-- ==== Proof.Odd.lean ====
module

public import proofs.«01_k».proof.Defs
public import proofs.«01_k».proof.Proof.Turn
public import proofs.«01_k».proof.Proof.Rope
public import Idealize.ShloMosaic.Lib.StableHlo.RunRead

@[expose] public section

/-! # The odd layers' input projection

At the point of batch `b` and row block `j` the kernel stores the entries of rows `512 j + r` in four arrays: the
queries and the keys, turned by their positions, the values and the gate. So the arrays are the reference's. -/

set_option maxRecDepth 16384

noncomputable section

open Idealize.ShloMosaic Idealize.ShloMosaic.TcCoe

namespace Cert.Kernel3Ideal.Rows

open Cert.Kernel3Ideal Cert.Kernel3Ideal.Gen Cert.Projection

/-- The block's product, read at a row and a column. -/
theorem product_at (x : Vec Ideal S1x512x1024 .f32) (sc sh : Vec Ideal S1x1x1024 .f32) (w : Vec Ideal S1024x2816 .bf16)
    (r : Fin 512) (j : Fin 2816) :
    k0_pay7 (k0_pay6 x sc sh) w (ix2 r j)
      = ∑ k : Fin 1024, (x (ix3 0 r k) * (one + sc (ix3 0 0 k)) + sh (ix3 0 0 k)) * w (ix2 k j) := by
  pointwise [k0_pay7, k0_pay6, one]

/-- A load of a whole block of rows is the block. -/
theorem load_rows (x : Vec Ideal S1x512x1024 .f32) : View.ld x r0_1 = x :=
  View.ld_unit_zero (S := S1x512x1024) (off := ![0, 0, 0]) (by funext a; fin_cases a <;> rfl) _ x

/-- A load of a whole vector is the vector. -/
theorem load_vector (x : Vec Ideal S1x1x1024 .f32) : View.ld x r0_2 = x :=
  View.ld_unit_zero (S := S1x1x1024) (off := ![0, 0, 0]) (by funext a; fin_cases a <;> rfl) _ x

/-- A load of all weights is the weights. -/
theorem load_weights (x : Vec Ideal S1024x2816 .bf16) : View.ld x r0_3 = x :=
  View.ld_unit_zero (S := S1024x2816) (off := ![0, 0]) (by funext a; fin_cases a <;> rfl) _ x

/-- A load of a whole table's block is the block. -/
theorem load_table (x : Vec Ideal S512x128 .f32) : View.ld x r0_0 = x :=
  View.ld_unit_zero (S := S512x128) (off := ![0, 0]) (by funext a; fin_cases a <;> rfl) _ x

/-- The cosines and the sines are taken as they are loaded. -/
theorem tables_eq (x : Vec Ideal S512x128 .f32) : k0_pay3 x = x ∧ k0_pay4 x = x := by
  constructor <;> (funext i; obtain ⟨r, l, rfl⟩ : ∃ r l, i = ix2 r l := ⟨i 0, i 1, by
    funext a
    match a with
    | ⟨0, _⟩ => rfl
    | ⟨1, _⟩ => rfl⟩) <;> pointwise [k0_pay3, k0_pay4]

/-- The batch of a grid point. -/
def bt (t : Fin cfg0.N) : Fin 4 := ⟨(grid0.coords t 0).val, (grid0.coords t 0).isLt⟩

/-- Row `r` of a grid point's block, counted in the array. -/
def rw_ (t : Fin cfg0.N) (r : Fin 512) : Fin 8192 :=
  ⟨512 * (grid0.coords t 1).val + r.val, by
    have h : (grid0.coords t 1).val < 16 := (grid0.coords t 1).isLt
    have := r.isLt
    omega⟩

/-- The block a grid point's windows stand at, along each axis. -/
theorem idx (t : Fin cfg0.N) :
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![(grid0.coords t 1).val, 0]
    ∧ win0_5.index t = ![(grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0] := by
  have h0 : ((grid0.coords t 0).val : ℕ) % 2 ^ 32 = (grid0.coords t 0).val :=
    Nat.mod_eq_of_lt (lt_of_lt_of_le (grid0.coords t 0).isLt (by decide))
  have h1 : ((grid0.coords t 1).val : ℕ) % 2 ^ 32 = (grid0.coords t 1).val :=
    Nat.mod_eq_of_lt (lt_of_lt_of_le (grid0.coords t 1).isLt (by decide))
  refine ⟨?_, ?_, ?_, ?_, ?_, ?_, ?_, ?_, ?_, ?_⟩ <;> (funext a; fin_cases a)
  all_goals (first | rfl | exact h0 | exact h1)

variable (m : (ℓ : Loc nD τ sig) → Buf (Elt Ideal) ℓ) (c : Dev nD) (t : Fin cfg0.N)

/-- An entry of the projection of the kernel's arguments. -/
abbrev goal (b : Fin 4) (n : Fin 8192) (j : Fin 2816) : EReal :=
  entry (m ((c : Thread nD τ).loc main_arg0)) (m ((c : Thread nD τ).loc main_arg1)) (m ((c : Thread nD τ).loc main_arg2))
    (m ((c : Thread nD τ).loc main_arg3)) b n j

theorem rows_at (r : Fin 512) (k : Fin 1024) :
    (iblk m c 0 t : S1x512x1024.Idx → EReal) (ix3 0 r k)
      = (m ((c : Thread nD τ).loc main_arg0) : S4x8192x1024.Idx → EReal) (ix3 (bt t) (rw_ t r) k) := by
  blk_ext! [iblk, V, idx t, bt, rw_]

theorem scale_at (k : Fin 1024) :
    (iblk m c 1 t : S1x1x1024.Idx → EReal) (ix3 0 0 k)
      = (m ((c : Thread nD τ).loc main_arg1) : S4x1x1024.Idx → EReal) (ix3 (bt t) 0 k) := by
  blk_ext! [iblk, V, idx t, bt]

theorem shift_at (k : Fin 1024) :
    (iblk m c 2 t : S1x1x1024.Idx → EReal) (ix3 0 0 k)
      = (m ((c : Thread nD τ).loc main_arg2) : S4x1x1024.Idx → EReal) (ix3 (bt t) 0 k) := by
  blk_ext! [iblk, V, idx t, bt]

theorem weights_at (k : Fin 1024) (j : Fin 2816) :
    (iblk m c 3 t : S1024x2816.Idx → EReal) (ix2 k j)
      = (m ((c : Thread nD τ).loc main_arg3) : S1024x2816.Idx → EReal) (ix2 k j) := by
  blk_ext! [iblk, V, idx t]

/-- What a grid point's product holds. -/
theorem block_at (r : Fin 512) (j : Fin 2816) :
    k0_pay7 (k0_pay6 (iblk m c 0 t) (iblk m c 1 t) (iblk m c 2 t)) (iblk m c 3 t) (ix2 r j) = goal m c (bt t) (rw_ t r) j := by
  rw [product_at]
  unfold goal entry
  refine Finset.sum_congr rfl fun k _ => ?_
  rw [rows_at, scale_at, shift_at, weights_at]

/-- A head's lanes: for each of its two maps the row angles twice and the column angles twice. -/
def lanes (a b : FVec Ideal S8192x16 .f32) : FVec Ideal S8192x128 .f32 :=
  concatenate S8192x128 1
    [⟨S8192x64, concatenate S8192x64 1 [⟨S8192x16, a⟩, ⟨S8192x16, a⟩, ⟨S8192x16, b⟩, ⟨S8192x16, b⟩]
        concatenates_S8192x16_S8192x16_S8192x16_S8192x16_S8192x64_d1⟩,
      ⟨S8192x64, concatenate S8192x64 1 [⟨S8192x16, a⟩, ⟨S8192x16, a⟩, ⟨S8192x16, b⟩, ⟨S8192x16, b⟩]
        concatenates_S8192x16_S8192x16_S8192x16_S8192x16_S8192x64_d1⟩]
    concatenates_S8192x64_S8192x64_S8192x128_d1

theorem lanes_at (a b : FVec Ideal S8192x16 .f32) (n : Fin 8192) (l : Fin 128) :
    lanes a b (ix2 n l)
      = if l.val % 64 < 32 then a (ix2 n ⟨l.val % 16, Nat.mod_lt _ (by decide)⟩)
        else b (ix2 n ⟨l.val % 16, Nat.mod_lt _ (by decide)⟩) := by
  have ea (a : FVec Ideal S8192x16 .f32) (m n' : Nat) (hm : m < 16) (hn : n' < 16) (e : m = n') :
      a (ix2 n ⟨m, hm⟩) = a (ix2 n ⟨n', hn⟩) := by subst e; rfl
  pointwise [lanes]
  by_cases h : l.val % 64 < 32
  · rw [if_pos h]
    by_cases h1 : l.val < 64
    · rw [dif_pos h1]
      by_cases h2 : l.val < 16
      · rw [dif_pos h2, ea a l.val (l.val % 16) (by omega) (by omega) (by omega)]
      · rw [dif_neg h2, dif_pos (by omega), ea a (l.val - 16) (l.val % 16) (by omega) (by omega) (by omega)]
    · rw [dif_neg h1]
      by_cases h2 : l.val - 64 < 16
      · rw [dif_pos h2, ea a (l.val - 64) (l.val % 16) (by omega) (by omega) (by omega)]
      · rw [dif_neg h2, dif_pos (by omega), ea a (l.val - 64 - 16) (l.val % 16) (by omega) (by omega) (by omega)]
  · rw [if_neg h]
    by_cases h1 : l.val < 64
    · rw [dif_pos h1, dif_neg (by omega), dif_neg (by omega)]
      by_cases h2 : l.val - 16 - 16 < 16
      · rw [dif_pos h2, ea b (l.val - 16 - 16) (l.val % 16) (by omega) (by omega) (by omega)]
      · rw [dif_neg h2, ea b (l.val - 16 - 16 - 16) (l.val % 16) (by omega) (by omega) (by omega)]
    · rw [dif_neg h1, dif_neg (by omega), dif_neg (by omega)]
      by_cases h2 : l.val - 64 - 16 - 16 < 16
      · rw [dif_pos h2, ea b (l.val - 64 - 16 - 16) (l.val % 16) (by omega) (by omega) (by omega)]
      · rw [dif_neg h2, ea b (l.val - 64 - 16 - 16 - 16) (l.val % 16) (by omega) (by omega) (by omega)]

/-- The kernel's two tables. -/
theorem tables_value :
    (V m c main_v32 : S8192x128.Idx → EReal) = Host.cos (lanes Cert.Reference3Ideal.Rows.rowAngles Cert.Reference3Ideal.Rows.colAngles)
    ∧ (V m c main_v33 : S8192x128.Idx → EReal) = Host.sin (lanes Cert.Reference3Ideal.Rows.rowAngles Cert.Reference3Ideal.Rows.colAngles) := by
  constructor
  · show StableHlo.after hostOps0 (fun b => m (c, b)) (Proc.devRef .tc main_v32) = _
    after_reads_simp
    rfl
  · show StableHlo.after hostOps0 (fun b => m (c, b)) (Proc.devRef .tc main_v33) = _
    after_reads_simp
    rfl

theorem cos_at (r : Fin 512) (l : Fin 128) :
    (iblk m c 4 t : S512x128.Idx → EReal) (ix2 r l) = Ideal.cos (Cert.Reference3Ideal.Rows.angle (rw_ t r) l) := by
  have hp : (((cfg0.win 4).blk t).view.emb (ix2 r l : S512x128.Idx) : S8192x128.Idx) = ix2 (rw_ t r) l := by
    blk_ext [idx t, rw_]
  unfold iblk
  show (V m c main_v32 : S8192x128.Idx → EReal) (((cfg0.win 4).blk t).view.emb (ix2 r l : S512x128.Idx)) = _
  rw [hp, (tables_value m c).1]
  exact congrArg Ideal.cos (lanes_at _ _ _ _)

theorem sin_at (r : Fin 512) (l : Fin 128) :
    (iblk m c 5 t : S512x128.Idx → EReal) (ix2 r l) = Ideal.sin (Cert.Reference3Ideal.Rows.angle (rw_ t r) l) := by
  have hp : (((cfg0.win 5).blk t).view.emb (ix2 r l : S512x128.Idx) : S8192x128.Idx) = ix2 (rw_ t r) l := by
    blk_ext [idx t, rw_]
  unfold iblk
  show (V m c main_v33 : S8192x128.Idx → EReal) (((cfg0.win 5).blk t).view.emb (ix2 r l : S512x128.Idx)) = _
  rw [hp, (tables_value m c).2]
  exact congrArg Ideal.sin (lanes_at _ _ _ _)

/-- Turned columns from `o` on, of the projection of the kernel's arguments. -/
def spun (o : Nat) (ho : o + 768 ≤ 2816) (b : Fin 4) (n : Fin 8192) (j : Fin 768) : EReal :=
  turn (fun j => goal m c b n ⟨o + j.val, by omega⟩) (fun l => Ideal.cos (Cert.Reference3Ideal.Rows.angle n l))
    (fun l => Ideal.sin (Cert.Reference3Ideal.Rows.angle n l)) j

theorem heads_at (o : Nat) (ho : o + 768 ≤ 2816) (y : S1x512x768.Idx) :
    heads o ho (iblk m c 4 t) (iblk m c 5 t) (k0_pay7 (k0_pay6 (iblk m c 0 t) (iblk m c 1 t) (iblk m c 2 t)) (iblk m c 3 t)) y
      = spun m c o ho (bt t) (rw_ t (y 1)) (y 2) := by
  unfold heads spun
  congr 1
  · exact funext fun j => block_at m c t (y 1) _
  · exact funext fun l => cos_at m c t (y 1) l
  · exact funext fun l => sin_at m c t (y 1) l

/-- What a grid point leaves in its block of the queries. -/
theorem queries_at (y : S1x512x768.Idx) :
    out0_6 (iblk m c 0 t) (iblk m c 1 t) (iblk m c 2 t) (iblk m c 3 t) (iblk m c 4 t) (iblk m c 5 t) y
      = spun m c 0 (by decide) (bt t) (rw_ t (y 1)) (y 2) := by
  unfold_out out0_6
  rw [load_rows, load_vector, load_vector, load_weights, load_table, load_table, (tables_eq _).1, (tables_eq _).2]
  exact (queries_block _ _ _ _ y).trans (heads_at m c t 0 (by decide) y)

/-- What a grid point leaves in its block of the keys. -/
theorem keys_at (y : S1x512x768.Idx) :
    out0_7 (iblk m c 0 t) (iblk m c 1 t) (iblk m c 2 t) (iblk m c 3 t) (iblk m c 4 t) (iblk m c 5 t) y
      = spun m c 768 (by decide) (bt t) (rw_ t (y 1)) (y 2) := by
  unfold_out out0_7
  rw [load_rows, load_vector, load_vector, load_weights, load_table, load_table, (tables_eq _).1, (tables_eq _).2]
  exact (keys_block _ _ _ _ y).trans (heads_at m c t 768 (by decide) y)

/-- What a grid point leaves in its block of the values. -/
theorem values_at (y : S1x512x768.Idx) :
    out0_8 (iblk m c 0 t) (iblk m c 1 t) (iblk m c 2 t) (iblk m c 3 t) (iblk m c 4 t) (iblk m c 5 t) y
      = goal m c (bt t) (rw_ t (y 1)) ⟨1536 + (y 2).val, by have : (y 2).val < 768 := (y 2).isLt; omega⟩ := by
  unfold_out out0_8
  rw [Value.canon8_eq]
  rw [load_rows, load_vector, load_vector, load_weights]
  have e : Value.ix8_0 y = ix2 (y 1) ⟨1536 + (y 2).val, by have : (y 2).val < 768 := (y 2).isLt; omega⟩ := by
    funext a
    match a with
    | ⟨0, _⟩ => rfl
    | ⟨1, _⟩ => exact Fin.ext (Nat.add_comm _ _)
  rw [Value.E8, e]
  exact block_at m c t (y 1) _

/-- What a grid point leaves in its block of the gate. -/
theorem gate_at (y : S1x512x512.Idx) :
    out0_9 (iblk m c 0 t) (iblk m c 1 t) (iblk m c 2 t) (iblk m c 3 t) (iblk m c 4 t) (iblk m c 5 t) y
      = goal m c (bt t) (rw_ t (y 1)) ⟨2304 + (y 2).val, by have : (y 2).val < 512 := (y 2).isLt; omega⟩ := by
  unfold_out out0_9
  rw [Value.canon9_eq]
  rw [load_rows, load_vector, load_vector, load_weights]
  have e : Value.ix9_0 y = ix2 (y 1) ⟨2304 + (y 2).val, by have : (y 2).val < 512 := (y 2).isLt; omega⟩ := by
    funext a
    match a with
    | ⟨0, _⟩ => rfl
    | ⟨1, _⟩ => exact Fin.ext (Nat.add_comm _ _)
  rw [Value.E9, e]
  exact block_at m c t (y 1) _

/-- The point whose blocks are the `i`, `j`-th of the results. -/
def point (i : Fin 4) (j : Fin 16) : grid0.Coords
  | ⟨0, _⟩ => ⟨i.val, i.isLt⟩
  | ⟨1, _⟩ => ⟨j.val, j.isLt⟩

/-- The blocks of the queries are all stored. -/
theorem covers_queries : (cfg0.win 6).Covers :=
  (cfg0.win 6).covers_of_indexMap_surj rfl (by decide) fun β =>
    ⟨point ⟨(β ⟨0, by decide⟩).val, lt_of_lt_of_eq (β ⟨0, by decide⟩).isLt (by decide : (cfg0.win 6).nblk ⟨0, by decide⟩ = 4)⟩
      ⟨(β ⟨1, by decide⟩).val, lt_of_lt_of_eq (β ⟨1, by decide⟩).isLt (by decide : (cfg0.win 6).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 6).nblk ⟨2, by decide⟩ = 1))).symm⟩

/-- The blocks of the keys are all stored. -/
theorem covers_keys : (cfg0.win 7).Covers :=
  (cfg0.win 7).covers_of_indexMap_surj rfl (by decide) fun β =>
    ⟨point ⟨(β ⟨0, by decide⟩).val, lt_of_lt_of_eq (β ⟨0, by decide⟩).isLt (by decide : (cfg0.win 7).nblk ⟨0, by decide⟩ = 4)⟩
      ⟨(β ⟨1, by decide⟩).val, lt_of_lt_of_eq (β ⟨1, by decide⟩).isLt (by decide : (cfg0.win 7).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 7).nblk ⟨2, by decide⟩ = 1))).symm⟩

/-- The blocks of the values are all stored. -/
theorem covers_values : (cfg0.win 8).Covers :=
  (cfg0.win 8).covers_of_indexMap_surj rfl (by decide) fun β =>
    ⟨point ⟨(β ⟨0, by decide⟩).val, lt_of_lt_of_eq (β ⟨0, by decide⟩).isLt (by decide : (cfg0.win 8).nblk ⟨0, by decide⟩ = 4)⟩
      ⟨(β ⟨1, by decide⟩).val, lt_of_lt_of_eq (β ⟨1, by decide⟩).isLt (by decide : (cfg0.win 8).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 8).nblk ⟨2, by decide⟩ = 1))).symm⟩

/-- The blocks of the gate are all stored. -/
theorem covers_gate : (cfg0.win 9).Covers :=
  (cfg0.win 9).covers_of_indexMap_surj rfl (by decide) fun β =>
    ⟨point ⟨(β ⟨0, by decide⟩).val, lt_of_lt_of_eq (β ⟨0, by decide⟩).isLt (by decide : (cfg0.win 9).nblk ⟨0, by decide⟩ = 4)⟩
      ⟨(β ⟨1, by decide⟩).val, lt_of_lt_of_eq (β ⟨1, by decide⟩).isLt (by decide : (cfg0.win 9).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 9).nblk ⟨2, by decide⟩ = 1))).symm⟩

/-- The array of the queries. -/
def queries : S4x8192x768.Idx → EReal := fun i => spun m c 0 (by decide) (i 0) (i 1) (i 2)

theorem final_queries : (dats m 0 c).arrAt 6 cfg0.N = queries m c := by
  refine (dats m 0 c).arrAt_eq_of_covers 6 _ covers_queries fun t hf y => ?_
  blk_simp
  rw [after0_6]
  refine (queries_at m c t y).trans ?_
  have hp : (((cfg0.win 6).blk t).view.emb y : S4x8192x768.Idx)
      = ix3 (bt t) (rw_ t ((y : S1x512x768.Idx) 1)) ((y : S1x512x768.Idx) 2) := by
    blk_ext [idx t, bt, rw_]
  exact (congrArg (queries m c) hp).symm

/-- The array of the keys. -/
def keys : S4x8192x768.Idx → EReal := fun i => spun m c 768 (by decide) (i 0) (i 1) (i 2)

theorem final_keys : (dats m 0 c).arrAt 7 cfg0.N = keys m c := by
  refine (dats m 0 c).arrAt_eq_of_covers 7 _ covers_keys fun t hf y => ?_
  blk_simp
  rw [after0_7]
  refine (keys_at m c t y).trans ?_
  have hp : (((cfg0.win 7).blk t).view.emb y : S4x8192x768.Idx)
      = ix3 (bt t) (rw_ t ((y : S1x512x768.Idx) 1)) ((y : S1x512x768.Idx) 2) := by
    blk_ext [idx t, bt, rw_]
  exact (congrArg (keys m c) hp).symm

/-- The array of the values. -/
def values : S4x8192x768.Idx → EReal := fun i => goal m c (i 0) (i 1) ⟨1536 + (i 2).val, by have : (i 2).val < 768 := (i 2).isLt; omega⟩

theorem final_values : (dats m 0 c).arrAt 8 cfg0.N = values m c := by
  refine (dats m 0 c).arrAt_eq_of_covers 8 _ covers_values fun t hf y => ?_
  blk_simp
  rw [after0_8]
  refine (values_at m c t y).trans ?_
  have hp : (((cfg0.win 8).blk t).view.emb y : S4x8192x768.Idx)
      = ix3 (bt t) (rw_ t ((y : S1x512x768.Idx) 1)) ((y : S1x512x768.Idx) 2) := by
    blk_ext [idx t, bt, rw_]
  exact (congrArg (values m c) hp).symm

/-- The array of the gate. -/
def gate : S4x8192x512.Idx → EReal := fun i => goal m c (i 0) (i 1) ⟨2304 + (i 2).val, by have : (i 2).val < 512 := (i 2).isLt; omega⟩

theorem final_gate : (dats m 0 c).arrAt 9 cfg0.N = gate m c := by
  refine (dats m 0 c).arrAt_eq_of_covers 9 _ covers_gate fun t hf y => ?_
  blk_simp
  rw [after0_9]
  refine (gate_at m c t y).trans ?_
  have hp : (((cfg0.win 9).blk t).view.emb y : S4x8192x512.Idx)
      = ix3 (bt t) (rw_ t ((y : S1x512x512.Idx) 1)) ((y : S1x512x512.Idx) 2) := by
    blk_ext [idx t, bt, rw_]
  exact (congrArg (gate m c) hp).symm

end Cert.Kernel3Ideal.Rows

namespace Cert.Reference3Ideal.Rows

open Cert.Reference3Ideal Cert.Reference3Ideal.Gen Cert.Projection

/-- The reference's turned columns from `o` on. -/
theorem spun_at (o : Nat) (ho : o + 768 ≤ 2816) (h : S4x8192x2816.Slices ![0, 0, o] S4x8192x768) (x : FVec Ideal S4x8192x1024 .f32)
    (sc sh : FVec Ideal S4x1x1024 .f32) (w : FVec Ideal S1024x2816 .f32) (b : Fin 4) (t : Fin 8192) (j : Fin 768) :
    rope (extractStridedSlice S4x8192x768 ![0, 0, o] (px x sc sh w) h) (ix3 b t j)
      = turn (fun j => entry x sc sh w b t ⟨o + j.val, by omega⟩) (fun l => Ideal.cos (angle t l)) (fun l => Ideal.sin (angle t l)) j := by
  rw [rope_at]
  congr 1
  funext j
  rw [← px_at]
  pointwise

/-- The values' columns. -/
theorem values_at (x : FVec Ideal S4x8192x1024 .f32)
    (sc sh : FVec Ideal S4x1x1024 .f32) (w : FVec Ideal S1024x2816 .f32) (b : Fin 4) (t : Fin 8192) (j : Fin 768) :
    extractStridedSlice S4x8192x768 ![0, 0, 1536] (px x sc sh w) slices_S4x8192x2816_S4x8192x768_0_0_1536 (ix3 b t j)
      = entry x sc sh w b t ⟨1536 + j.val, by omega⟩ := by
  rw [← px_at]
  pointwise

/-- The gate's columns. -/
theorem gate_at (x : FVec Ideal S4x8192x1024 .f32)
    (sc sh : FVec Ideal S4x1x1024 .f32) (w : FVec Ideal S1024x2816 .f32) (b : Fin 4) (t : Fin 8192) (j : Fin 512) :
    extractStridedSlice S4x8192x512 ![0, 0, 2304] (px x sc sh w) slices_S4x8192x2816_S4x8192x512_0_0_2304 (ix3 b t j)
      = entry x sc sh w b t ⟨2304 + j.val, by omega⟩ := by
  rw [← px_at]
  pointwise

end Cert.Reference3Ideal.Rows

namespace Cert.Proof

open Idealize.SL.Sem Cert.Projection

/-- The projection with its turn and its reference leave the same four arrays. -/
theorem algebraic_odd : Cert.algebraic_Kernel3Ideal_Reference3Ideal := by
  intro m g m' g' _ hm
  refine ⟨fun c => Cert.Kernel3Ideal.Rows.queries m c, fun c => Cert.Kernel3Ideal.Rows.keys m c,
    fun c => Cert.Kernel3Ideal.Rows.values m c, fun c => Cert.Kernel3Ideal.Rows.gate m c, ?_, ?_⟩
  · exact θ_run_mono (Cert.Kernel3Ideal.Value.run_blocks m g) fun r h c =>
      ⟨(h c).1.trans (Cert.Kernel3Ideal.Rows.final_queries m c), (h c).2.1.trans (Cert.Kernel3Ideal.Rows.final_keys m c),
        (h c).2.2.1.trans (Cert.Kernel3Ideal.Rows.final_values m c), (h c).2.2.2.1.trans (Cert.Kernel3Ideal.Rows.final_gate m c),
        (h c).2.2.2.2⟩
  · refine θ_run_mono (Cert.Reference3Ideal.Value.run m' g') fun r h c =>
      ⟨(h c).1.trans ((Cert.Reference3Ideal.Rows.res_queries m' c).trans ?_), (h c).2.1.trans ((Cert.Reference3Ideal.Rows.res_keys m' c).trans ?_),
        (h c).2.2.1.trans ?_, (h c).2.2.2.1.trans ?_, (h c).2.2.2.2⟩
    all_goals
      obtain ⟨h0, h1, h2, h3⟩ := hm c
      rw [h0, h1, h2, h3]
      funext i
      obtain ⟨b, n, j, rfl⟩ : ∃ b n j, i = ix3 b n j := ⟨i 0, i 1, i 2, by
        funext a
        match a with
        | ⟨0, _⟩ => rfl
        | ⟨1, _⟩ => rfl
        | ⟨2, _⟩ => rfl⟩
    · exact Cert.Reference3Ideal.Rows.spun_at 0 (by decide) _ _ _ _ _ b n j
    · exact Cert.Reference3Ideal.Rows.spun_at 768 (by decide) _ _ _ _ _ b n j
    · exact Cert.Reference3Ideal.Rows.values_at _ _ _ _ b n j
    · exact Cert.Reference3Ideal.Rows.gate_at _ _ _ _ b n j

end Cert.Proof

end
-- ==== Proof.Copies.lean ====
/- The experts' feed-forward gathers the rows an expert takes into a scratch buffer before it multiplies them: for each of the
   thirty-two sub-blocks of 128 tokens of a grid point it reads from a table the first row the sub-block's tokens go to, and adds
   their rows to a window of 136 scratch rows around it. The printed function writes the thirty-two copies out one after the
   other. Here one copy is written with the sub-block as its argument, and the printed function is shown to be the reset, the
   thirty-two copies in order, and the multiplications. -/
module

public import proofs.«01_k».proof.Proof.Gen.Kernel4Ideal.Skeleton
public import proofs.«01_k».proof.Proof.Gen.Kernel4Ideal.Launch
public import Idealize.ShloMosaic.Lib.Exec
public import Idealize.ShloMosaic.Lib.Tactic

@[expose] public section

noncomputable section

namespace Cert.Proof.Copies

open Idealize.ShloMosaic Idealize.SL.Sem Cert.Kernel4Ideal Cert.Kernel4Ideal.Gen

variable {F : FTy → Type} [FloatOps F]

/-- Where the table holds the first row of sub-block `sb` at a grid point, as the kernel computes it. -/
def tableAt (i : grid0.Coords) (sb : Nat) : Fin 1 → Nat :=
  ![(Scalar.indexCast (Scalar.addi (Scalar.addi (Scalar.muli (Scalar.addi (Scalar.muli (BitVec.ofNat 32 (i 1).val) 16#32)
    (BitVec.ofNat 32 (i 0).val)) 128#32) (Scalar.muli (BitVec.ofNat 32 (i 2).val) 32#32)) (BitVec.ofNat 32 sb)) : Index).toNat]

/-- The word of the table, as a number. -/
theorem tableAt_val (i : grid0.Coords) (sb : Nat) (h : sb < 32) :
    tableAt i sb 0 = ((i 1).val * 16 + (i 0).val) * 128 + (i 2).val * 32 + sb := by
  have h0 : (i 0).val < 16 := (i 0).isLt
  have h1 : (i 1).val < 4 := (i 1).isLt
  have h2 : (i 2).val < 2 := (i 2).isLt
  simp only [tableAt, Scalar.indexCast, Scalar.addi, Scalar.muli, IntOp.addi, IntOp.muli, Matrix.cons_val_zero]
  simp only [BitVec.toNat_add, BitVec.toNat_mul, BitVec.toNat_ofNat]
  omega

theorem tableAt_inb (i : grid0.Coords) (sb : Nat) (h : sb < 32) (a : Fin 1) : tableAt i sb a + S1.size a ≤ S8192.size a := by
  have h0 : (i 0).val < 16 := (i 0).isLt
  have h1 : (i 1).val < 4 := (i 1).isLt
  have h2 : (i 2).val < 2 := (i 2).isLt
  have ha : a = 0 := Subsingleton.elim _ _
  subst ha
  have e := tableAt_val i sb h
  show tableAt i sb 0 + 1 ≤ 8192
  omega

/-- The tokens of sub-block `sb` within a grid point's block of 4096, where the block is one row of words, -/
theorem lane_inb (sb : Nat) (h : sb < 32) (a : Fin 3) : (![0, 0, 128 * sb] : Fin 3 → Nat) a + S1x1x128.size a ≤ S1x1x4096.size a := by
  match a with
  | 0 => show 0 + 1 ≤ 1; omega
  | 1 => show 0 + 1 ≤ 1; omega
  | 2 => show 128 * sb + 128 ≤ 4096; omega

/-- and where it is rows of vectors. -/
theorem row_inb (sb : Nat) (h : sb < 32) (a : Fin 3) : (![0, 128 * sb, 0] : Fin 3 → Nat) a + S1x128x1024.size a ≤ S1x4096x1024.size a := by
  match a with
  | 0 => show 0 + 1 ≤ 1; omega
  | 1 => show 128 * sb + 128 ≤ 4096; omega
  | 2 => show 0 + 1024 ≤ 1024; omega

abbrev lanes (sb : Nat) (h : sb < 32) : Rect S1x1x4096 := Rect.unit (s := S1x1x4096) ![0, 0, 128 * sb] S1x1x128.size (lane_inb sb h)
abbrev toks (sb : Nat) (h : sb < 32) : Rect S1x4096x1024 := Rect.unit (s := S1x4096x1024) ![0, 128 * sb, 0] S1x128x1024.size (row_inb sb h)
abbrev rowsAt (s : BitVec 32) (hs : k0_chk1 s) : Rect S1024x1024 := Rect.unit (s := S1024x1024) (k0_off2 s) S136x1024.size (k0_off2_inb s hs)
abbrev gatesAt (s : BitVec 32) (hs : k0_chk1 s) : Rect S1024x128 := Rect.unit (s := S1024x128) (k0_off3 s) S136x128.size (k0_off3_inb s hs)

/-- Which of the window's rows each of the sub-block's tokens goes to. -/
def hit (s : BitVec 32) (p : Vec F S1x1x128 .i32) : IVec S136x128 1 :=
  cmpi .eq (broadcastTo S136x128 (subi (shapeCast S1x128 p shapeCasts_S1x1x128_S1x128) (broadcast S1x128 (k0_mult1 s))) broadcasts_S1x128_S136x128)
    (iota .tc S136x128 32 [0] iota_S136x128_d0_w32)

/-- The window of rows with the sub-block's tokens added. -/
def addRows (s : BitVec 32) (p : Vec F S1x1x128 .i32) (hb : Vec F S1x128x1024 .bf16) (x : Vec F S136x1024 .f32) : FVec F S136x1024 .f32 :=
  shapeCast S136x1024 (addf x (matmul dot_S136x128_S128x1024_S136x1024_1_0_0_1_n_n none
    (truncf .bf16 (select (hit (F := F) s p) (broadcast S136x128 (Scalar.ofBits .f32 0x3F800000#32)) (broadcast S136x128 (Scalar.ofBits .f32 0x00000000#32)) : FVec F S136x128 .f32) bitsLt_bf16_f32)
    (shapeCast S128x1024 hb shapeCasts_S1x128x1024_S128x1024) (constant S136x1024 .f32 0x00000000#32))) shapeCasts_S136x1024_S136x1024

/-- The window of gates with the sub-block's tokens added. -/
def addGates (s : BitVec 32) (p : Vec F S1x1x128 .i32) (a : Vec F S1x1x128 .f32) (g : Vec F S136x128 .f32) : FVec F S136x128 .f32 :=
  shapeCast S136x128 (addf g (broadcastTo S136x128 (shapeCast S136x1 (shapeCast S136x1
    (multiReduction .add [1] S136 (select (hit (F := F) s p) (broadcastTo S136x128 (shapeCast S1x128 (shapeCast S1x128 a shapeCasts_S1x1x128_S1x128) shapeCasts_S1x128_S1x128) broadcasts_S1x128_S136x128)
      (broadcast S136x128 (Scalar.ofBits .f32 0x00000000#32)) : FVec F S136x128 .f32) 0x00000000#32 reduces_S136x128_S136 (.inl rfl) rfl)
    shapeCasts_S136_S136x1) shapeCasts_S136x1_S136x1) broadcasts_S136x1_S136x128)) shapeCasts_S136x128_S136x128

variable (i : grid0.Coords) (arg3 : Memref sig .tc .smem S8192 .i32) (arg4 : Memref sig .tc .vmem S1x1x4096 .i32) (arg5 : Memref sig .tc .vmem S1x1x4096 .f32) (arg6 : Memref sig .tc .vmem S1x4096x1024 .bf16) (arg7 : Memref sig .tc .vmem S1x1024x2048 .bf16) (arg8 : Memref sig .tc .vmem S1x1024x2048 .bf16) (arg9 : Memref sig .tc .vmem S1x2048x1024 .bf16) (arg10 : Memref sig .tc .vmem S1x1x1024x1024 .bf16) (harg10 : arg10.IsWhole) (arg11 : Memref sig .tc .vmem S1024x1024 .f32) (arg12 : Memref sig .tc .vmem S1024x128 .f32)

/-- The copy of one sub-block. -/
def copy (sb : Nat) (h : sb < 32) : Prog (TpuEff nD τ sig (Elt F) Λ₀ .tc) PUnit := do
  let s : Elt F .i32 ← smemLoad arg3 (Rect.unit (s := S8192) (tableAt i sb) S1.size (tableAt_inb i sb h)) numel1_S1 rfl
  have hs : k0_chk1 s := (← Prog.lift (TpuEff.assume (k0_chk1 s) (k0_chk1.dec s))).down
  let p : Vec F S1x1x128 .i32 ← Prog.lift (.load arg4 (lanes sb h).toLoadRect (View.loadsAt_vmem h_S1x1x128))
  let x : Vec F S136x1024 .f32 ← Prog.lift (.load arg11 (rowsAt s hs).toLoadRect (View.loadsAt_vmem h_S136x1024))
  let hb : Vec F S1x128x1024 .bf16 ← Prog.lift (.load arg6 (toks sb h).toLoadRect (View.loadsAt_vmem h_S1x128x1024))
  let _x' : Vec F S136x1024 .f32 ← Prog.lift (.load arg11 (rowsAt s hs).toLoadRect (View.loadsAt_vmem h_S136x1024))
  Prog.lift (.store arg11 (rowsAt s hs) (addRows s p hb x) Finset.univ (View.stores_vmem_bits_univ h_S136x1024 rfl) (.inl rfl))
  let a : Vec F S1x1x128 .f32 ← Prog.lift (.load arg5 (lanes sb h).toLoadRect (View.loadsAt_vmem h_S1x1x128))
  let g : Vec F S136x128 .f32 ← Prog.lift (.load arg12 (gatesAt s hs).toLoadRect (View.loadsAt_vmem h_S136x128))
  let _g' : Vec F S136x128 .f32 ← Prog.lift (.load arg12 (gatesAt s hs).toLoadRect (View.loadsAt_vmem h_S136x128))
  Prog.lift (.store arg12 (gatesAt s hs) (addGates s p a g) Finset.univ (View.stores_vmem_bits_univ h_S136x128 rfl) (.inl rfl))

/-- The first `n` copies, in order. -/
def copies : (n : Nat) → n ≤ 32 → Prog (TpuEff nD τ sig (Elt F) Λ₀ .tc) PUnit
  | 0, _ => pure ⟨⟩
  | n + 1, h => do
    copies n (Nat.le_of_succ_le h)
    copy i arg3 arg4 arg5 arg6 arg11 arg12 n h

/-- Both scratch buffers set to zero at an expert's first point of a batch row. -/
def reset : Prog (TpuEff nD τ sig (Elt F) Λ₀ .tc) PUnit := do
  let _x : Vec F S1024x1024 .f32 ← Prog.lift (.load arg11 (Rect.unit (s := S1024x1024) ![0, 0] S1024x1024.size inb_S1024x1024_S1024x1024_0_0).toLoadRect (View.loadsAt_vmem h_S1024x1024))
  Prog.lift (.store arg11 (Rect.unit (s := S1024x1024) ![0, 0] S1024x1024.size inb_S1024x1024_S1024x1024_0_0) k0_pay8 Finset.univ (View.stores_vmem_bits_univ h_S1024x1024 rfl) (.inl rfl))
  let _g : Vec F S1024x128 .f32 ← Prog.lift (.load arg12 (Rect.unit (s := S1024x128) ![0, 0] S1024x128.size inb_S1024x128_S1024x128_0_0).toLoadRect (View.loadsAt_vmem h_S1024x128))
  Prog.lift (.store arg12 (Rect.unit (s := S1024x128) ![0, 0] S1024x128.size inb_S1024x128_S1024x128_0_0) k0_pay9 Finset.univ (View.stores_vmem_bits_univ h_S1024x128 rfl) (.inl rfl))

/-- 512 rows of the scratch multiplied through the expert's weights and by their gates. -/
def block (x : Vec F S512x1024 .f32) (w1 w3 : Vec F S1x1024x2048 .bf16) (w2 : Vec F S1x2048x1024 .bf16) (g : Vec F S512x1 .f32) : FVec F S1x1x512x1024 .bf16 :=
  have xb : FVec F S512x1024 .bf16 := truncf .bf16 x bitsLt_bf16_f32
  have h1 : FVec F S512x2048 .f32 := matmul dot_S512x1024_S1024x2048_S512x2048_1_0_0_1_n_n none xb (shapeCast S1024x2048 w1 shapeCasts_S1x1024x2048_S1024x2048) (constant S512x2048 .f32 0x00000000#32)
  have h3 : FVec F S512x2048 .f32 := matmul dot_S512x1024_S1024x2048_S512x2048_1_0_0_1_n_n none xb (shapeCast S1024x2048 w3 shapeCasts_S1x1024x2048_S1024x2048) (constant S512x2048 .f32 0x00000000#32)
  have hid : FVec F S512x2048 .bf16 := truncf .bf16 (mulf (mulf h1 (logistic h1)) h3) bitsLt_bf16_f32
  have y : FVec F S512x1024 .f32 := matmul dot_S512x2048_S2048x1024_S512x1024_1_0_0_1_n_n none hid (shapeCast S2048x1024 w2 shapeCasts_S1x2048x1024_S2048x1024) (constant S512x1024 .f32 0x00000000#32)
  shapeCast S1x1x512x1024 (truncf .bf16 (mulf y (broadcastTo S512x1024 g broadcasts_S512x1_S512x1024)) bitsLt_bf16_f32) shapeCasts_S512x1024_S1x1x512x1024

/-- Both halves of the rows, at an expert's last point of a batch row. -/
def multiply : Prog (TpuEff nD τ sig (Elt F) Λ₀ .tc) PUnit := do
  let x : Vec F S512x1024 .f32 ← Prog.lift (.load arg11 (Rect.unit (s := S1024x1024) ![0, 0] S512x1024.size inb_S1024x1024_S512x1024_0_0).toLoadRect (View.loadsAt_vmem h_S512x1024))
  let w1 : Vec F S1x1024x2048 .bf16 ← Prog.lift (.load arg7 (Rect.unit (s := S1x1024x2048) ![0, 0, 0] S1x1024x2048.size inb_S1x1024x2048_S1x1024x2048_0_0_0).toLoadRect (View.loadsAt_vmem h_S1x1024x2048))
  let w3 : Vec F S1x1024x2048 .bf16 ← Prog.lift (.load arg8 (Rect.unit (s := S1x1024x2048) ![0, 0, 0] S1x1024x2048.size inb_S1x1024x2048_S1x1024x2048_0_0_0).toLoadRect (View.loadsAt_vmem h_S1x1024x2048))
  let w2 : Vec F S1x2048x1024 .bf16 ← Prog.lift (.load arg9 (Rect.unit (s := S1x2048x1024) ![0, 0, 0] S1x2048x1024.size inb_S1x2048x1024_S1x2048x1024_0_0_0).toLoadRect (View.loadsAt_vmem h_S1x2048x1024))
  let g : Vec F S512x1 .f32 ← Prog.lift (.load arg12 (Rect.unit (s := S1024x128) ![0, 0] S512x1.size inb_S1024x128_S512x1_0_0).toLoadRect (View.loadsAt_vmem h_S512x1))
  let _o : Vec F S1x1x512x1024 .bf16 ← Prog.lift (.load arg10 (Rect.unit (s := S1x1x1024x1024) ![0, 0, 0, 0] S1x1x512x1024.size inb_S1x1x1024x1024_S1x1x512x1024_0_0_0_0).toLoadRect (View.loadsAt_vmem h_S1x1x512x1024))
  Prog.lift (.store arg10 (Rect.unit (s := S1x1x1024x1024) ![0, 0, 0, 0] S1x1x512x1024.size inb_S1x1x1024x1024_S1x1x512x1024_0_0_0_0) (block x w1 w3 w2 g) Finset.univ (View.stores_vmem h_S1x1x512x1024 (harg10.storeExact_slice rfl _ packedbf16_S1x1x1024x1024_S1x1x512x1024_0_0_0_0) (fun _ => rfl)) (.inl rfl))
  let x : Vec F S512x1024 .f32 ← Prog.lift (.load arg11 (Rect.unit (s := S1024x1024) ![512, 0] S512x1024.size inb_S1024x1024_S512x1024_512_0).toLoadRect (View.loadsAt_vmem h_S512x1024))
  let w1 : Vec F S1x1024x2048 .bf16 ← Prog.lift (.load arg7 (Rect.unit (s := S1x1024x2048) ![0, 0, 0] S1x1024x2048.size inb_S1x1024x2048_S1x1024x2048_0_0_0).toLoadRect (View.loadsAt_vmem h_S1x1024x2048))
  let w3 : Vec F S1x1024x2048 .bf16 ← Prog.lift (.load arg8 (Rect.unit (s := S1x1024x2048) ![0, 0, 0] S1x1024x2048.size inb_S1x1024x2048_S1x1024x2048_0_0_0).toLoadRect (View.loadsAt_vmem h_S1x1024x2048))
  let w2 : Vec F S1x2048x1024 .bf16 ← Prog.lift (.load arg9 (Rect.unit (s := S1x2048x1024) ![0, 0, 0] S1x2048x1024.size inb_S1x2048x1024_S1x2048x1024_0_0_0).toLoadRect (View.loadsAt_vmem h_S1x2048x1024))
  let g : Vec F S512x1 .f32 ← Prog.lift (.load arg12 (Rect.unit (s := S1024x128) ![512, 0] S512x1.size inb_S1024x128_S512x1_512_0).toLoadRect (View.loadsAt_vmem h_S512x1))
  let _o : Vec F S1x1x512x1024 .bf16 ← Prog.lift (.load arg10 (Rect.unit (s := S1x1x1024x1024) ![0, 0, 512, 0] S1x1x512x1024.size inb_S1x1x1024x1024_S1x1x512x1024_0_0_512_0).toLoadRect (View.loadsAt_vmem h_S1x1x512x1024))
  Prog.lift (.store arg10 (Rect.unit (s := S1x1x1024x1024) ![0, 0, 512, 0] S1x1x512x1024.size inb_S1x1x1024x1024_S1x1x512x1024_0_0_512_0) (block x w1 w3 w2 g) Finset.univ (View.stores_vmem h_S1x1x512x1024 (harg10.storeExact_slice rfl _ packedbf16_S1x1x1024x1024_S1x1x512x1024_0_0_512_0) (fun _ => rfl)) (.inl rfl))

/-- The grid point of an expert, a batch row and a half of the tokens. -/
def point (a : Fin 16) (b : Fin 4) (c : Fin 2) : grid0.Coords := fun
  | ⟨0, _⟩ => a
  | ⟨1, _⟩ => b
  | ⟨2, _⟩ => c

theorem eq_point : i = point (i 0) (i 1) (i 2) := by
  funext k
  match k with
  | ⟨0, _⟩ => rfl
  | ⟨1, _⟩ => rfl
  | ⟨2, _⟩ => rfl

/-- The body at the first half of the tokens: the reset and the copies. -/
def first : Prog (TpuEff nD τ sig (Elt F) Λ₀ .tc) PUnit := do
  reset arg11 arg12
  copies i arg3 arg4 arg5 arg6 arg11 arg12 32 (Nat.le_refl 32)

/-- The body at the second half: the copies and the multiplications. -/
def last : Prog (TpuEff nD τ sig (Elt F) Λ₀ .tc) PUnit := do
  copies i arg3 arg4 arg5 arg6 arg11 arg12 32 (Nat.le_refl 32)
  multiply arg7 arg8 arg9 arg10 harg10 arg11 arg12

variable (harg3 : arg3.IsWhole) (harg4 : arg4.IsWhole) (harg5 : arg5.IsWhole) (harg6 : arg6.IsWhole) (harg7 : arg7.IsWhole) (harg8 : arg8.IsWhole) (harg9 : arg9.IsWhole) (harg11 : arg11.IsWhole) (harg12 : arg12.IsWhole)
  (a : Fin 16) (b : Fin 4)

/-- The printed function at a point of the first half: its thirty-two copies are the one copy at each sub-block. -/
theorem first_eq : cc0_expert_gather_ffn (F := F) (point a b 0) arg3 harg3 arg4 harg4 arg5 harg5 arg6 harg6 arg7 harg7 arg8 harg8 arg9 harg9 arg10 harg10 arg11 harg11 arg12 harg12
    = first (point a b 0) arg3 arg4 arg5 arg6 arg11 arg12 := by
  chain_rfl

/-- The same at a point of the second half. -/
theorem last_eq : cc0_expert_gather_ffn (F := F) (point a b 1) arg3 harg3 arg4 harg4 arg5 harg5 arg6 harg6 arg7 harg7 arg8 harg8 arg9 harg9 arg10 harg10 arg11 harg11 arg12 harg12
    = last (point a b 1) arg3 arg4 arg5 arg6 arg7 arg8 arg9 arg10 harg10 arg11 arg12 := by
  chain_rfl

end Cert.Proof.Copies

end
-- ==== Proof.CopyRun.lean ====
/- What one copy, the reset and the multiplications do to the scratch buffers and the result, each as a triple over the buffers
   they touch, and the copies in order by induction on their number. -/
module

public import proofs.«01_k».proof.Proof.Copies
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof.Copies

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- The first row of sub-block `sb`, as the table `T` has it. -/
def startOf (i : grid0.Coords) (T : Vec F S8192 .i32) (sb : Nat) (h : sb < 32) : BitVec 32 :=
  View.ld (Val := Elt F) (e' := .i32) T (Rect.unit (s := S8192) (tableAt i sb) S1.size (tableAt_inb i sb h)) (Shape.Idx.first (numel1_S1.symm ▸ Nat.one_pos))

/-- The rows after one copy. -/
def rowStep (s : BitVec 32) (hs : k0_chk1 s) (P : Vec F S1x1x4096 .i32) (H : Vec F S1x4096x1024 .bf16) (sb : Nat) (h : sb < 32)
    (X : Vec F S1024x1024 .f32) : Vec F S1024x1024 .f32 :=
  VecWindow.put X (k0_off2 s) S136x1024.size (addRows s (View.ld P (lanes sb h)) (View.ld H (toks sb h)) (View.ld X (rowsAt s hs)))

/-- The gates after one copy. -/
def gateStep (s : BitVec 32) (hs : k0_chk1 s) (P : Vec F S1x1x4096 .i32) (A : Vec F S1x1x4096 .f32) (sb : Nat) (h : sb < 32)
    (G : Vec F S1024x128 .f32) : Vec F S1024x128 .f32 :=
  VecWindow.put G (k0_off3 s) S136x128.size (addGates s (View.ld P (lanes sb h)) (View.ld A (lanes sb h)) (View.ld G (gatesAt s hs)))

variable (c : Dev nD) (E : Set ℕ) (q : PosShare TreeShare) (i : grid0.Coords)
  (arg3 : Memref sig .tc .smem S8192 .i32) (arg4 : Memref sig .tc .vmem S1x1x4096 .i32) (arg5 : Memref sig .tc .vmem S1x1x4096 .f32)
  (arg6 : Memref sig .tc .vmem S1x4096x1024 .bf16) (arg7 : Memref sig .tc .vmem S1x1024x2048 .bf16) (arg8 : Memref sig .tc .vmem S1x1024x2048 .bf16)
  (arg9 : Memref sig .tc .vmem S1x2048x1024 .bf16) (arg10 : Memref sig .tc .vmem S1x1x1024x1024 .bf16) (harg10 : arg10.IsWhole)
  (arg11 : Memref sig .tc .vmem S1024x1024 .f32) (arg12 : Memref sig .tc .vmem S1024x128 .f32)
  (T : Vec F S8192 .i32) (P : Vec F S1x1x4096 .i32) (A : Vec F S1x1x4096 .f32) (H : Vec F S1x4096x1024 .bf16)

/-- What a copy reads and does not change. -/
def inputs : sProp 𝕄 :=
  iprop(owns (c : Thread nD τ) arg3 q T ∗ owns (c : Thread nD τ) arg4 fullShare P ∗ owns (c : Thread nD τ) arg5 fullShare A ∗ owns (c : Thread nD τ) arg6 fullShare H)

/-- What it changes. -/
def sums (X : Vec F S1024x1024 .f32) (G : Vec F S1024x128 .f32) : sProp 𝕄 :=
  iprop(owns (c : Thread nD τ) arg11 fullShare X ∗ owns (c : Thread nD τ) arg12 fullShare G)

set_option maxHeartbeats 1000000 in
/-- One copy. -/
theorem sound_copy (sb : Nat) (h : sb < 32) (hs : k0_chk1 (startOf i T sb h)) (X : Vec F S1024x1024 .f32) (G : Vec F S1024x128 .f32) (K : PUnit → sProp 𝕄) :
    iprop(inputs c q arg3 arg4 arg5 arg6 T P A H ∗ sums c arg11 arg12 X G
        ∗ (iprop(inputs c q arg3 arg4 arg5 arg6 T P A H ∗ sums c arg11 arg12 (rowStep (startOf i T sb h) hs P H sb h X) (gateStep (startOf i T sb h) hs P A sb h G)) -∗ K ⟨⟩))
      ⊢ wp frame (wpE (defs₀ (F := F)) Variants.none c none) E (copy i arg3 arg4 arg5 arg6 arg11 arg12 sb h) K := by
  unfold inputs sums owns copy
  iintro ⟨⟨⟨%f3, %hf3, H3⟩, ⟨%f4, %hf4, H4⟩, ⟨%f5, %hf5, H5⟩, ⟨%f6, %hf6, H6⟩⟩, ⟨⟨%f11, %hf11, H11⟩, ⟨%f12, %hf12, H12⟩⟩, Hk⟩
  subst hf3 hf4 hf5 hf6 hf11 hf12
  have hs' := hs
  unfold startOf at hs'
  sl_exec
  sl_step
  iapply Hk
  isplitl [H3 H4 H5 H6]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H11]
  · iexists _; isplitr
    swap; · iexact H11
    ipureintro
    exact View.read_writes_cons_put _ _ _ _ [] rfl
  iexists _; isplitr
  swap; · iexact H12
  ipureintro
  exact View.read_writes_cons_put _ _ _ _ [] rfl

/-- The rows after the first `n` copies, from the rows `X`. -/
def rowsAfter (chk : ∀ sb (h : sb < 32), k0_chk1 (startOf i T sb h)) (X : Vec F S1024x1024 .f32) : (n : Nat) → n ≤ 32 → Vec F S1024x1024 .f32
  | 0, _ => X
  | n + 1, h => rowStep (startOf i T n h) (chk n h) P H n h (rowsAfter chk X n (Nat.le_of_succ_le h))

/-- The gates after the first `n` copies, from the gates `G`. -/
def gatesAfter (chk : ∀ sb (h : sb < 32), k0_chk1 (startOf i T sb h)) (G : Vec F S1024x128 .f32) : (n : Nat) → n ≤ 32 → Vec F S1024x128 .f32
  | 0, _ => G
  | n + 1, h => gateStep (startOf i T n h) (chk n h) P A n h (gatesAfter chk G n (Nat.le_of_succ_le h))

variable (chk : ∀ sb (h : sb < 32), k0_chk1 (startOf i T sb h))

/-- The first `n` copies. -/
theorem sound_copies (X : Vec F S1024x1024 .f32) (G : Vec F S1024x128 .f32) : ∀ (n : Nat) (h : n ≤ 32) (K : PUnit → sProp 𝕄),
    iprop(inputs c q arg3 arg4 arg5 arg6 T P A H ∗ sums c arg11 arg12 X G
        ∗ (iprop(inputs c q arg3 arg4 arg5 arg6 T P A H ∗ sums c arg11 arg12 (rowsAfter i T P H chk X n h) (gatesAfter i T P A chk G n h)) -∗ K ⟨⟩))
      ⊢ wp frame (wpE (defs₀ (F := F)) Variants.none c none) E (copies i arg3 arg4 arg5 arg6 arg11 arg12 n h) K
  | 0, h, K => by
    unfold copies rowsAfter gatesAfter
    iintro ⟨HI, HS, Hk⟩
    sl_step
    iapply Hk
    isplitl [HI] <;> iassumption
  | n + 1, h, K => by
    unfold copies
    rw [wp_bind]
    iintro ⟨HI, HS, Hk⟩
    iapply (sound_copies X G n (Nat.le_of_succ_le h) _)
    isplitl [HI]; · iexact HI
    isplitl [HS]; · iexact HS
    iintro ⟨HI, HS⟩
    iapply (sound_copy c E q i arg3 arg4 arg5 arg6 arg11 arg12 T P A H n h (chk n h) _ _ K)
    isplitl [HI]; · iexact HI
    isplitl [HS]; · iexact HS
    iexact Hk

/-- The reset. -/
theorem sound_reset (K : PUnit → sProp 𝕄) :
    iprop((∃ X G, sums (F := F) c arg11 arg12 X G) ∗ (sums c arg11 arg12 k0_pay8 k0_pay9 -∗ K ⟨⟩))
      ⊢ wp frame (wpE (defs₀ (F := F)) Variants.none c none) E (reset arg11 arg12) K := by
  unfold sums owns reset
  iintro ⟨⟨%X, %G, ⟨%f11, -, H11⟩, ⟨%f12, -, H12⟩⟩, Hk⟩
  sl_exec
  sl_step
  iapply Hk
  isplitl [H11]
  · iexists _; isplitr
    swap; · iexact H11
    ipureintro
    exact View.read_writes_full _ _ _ _ []
  iexists _; isplitr
  swap; · iexact H12
  ipureintro
  exact View.read_writes_full _ _ _ _ []

abbrev topRows : Rect S1024x1024 := Rect.unit (s := S1024x1024) ![0, 0] S512x1024.size inb_S1024x1024_S512x1024_0_0
abbrev botRows : Rect S1024x1024 := Rect.unit (s := S1024x1024) ![512, 0] S512x1024.size inb_S1024x1024_S512x1024_512_0
abbrev topGates : Rect S1024x128 := Rect.unit (s := S1024x128) ![0, 0] S512x1.size inb_S1024x128_S512x1_0_0
abbrev botGates : Rect S1024x128 := Rect.unit (s := S1024x128) ![512, 0] S512x1.size inb_S1024x128_S512x1_512_0
abbrev topOut : Rect S1x1x1024x1024 := Rect.unit (s := S1x1x1024x1024) ![0, 0, 0, 0] S1x1x512x1024.size inb_S1x1x1024x1024_S1x1x512x1024_0_0_0_0
abbrev botOut : Rect S1x1x1024x1024 := Rect.unit (s := S1x1x1024x1024) ![0, 0, 512, 0] S1x1x512x1024.size inb_S1x1x1024x1024_S1x1x512x1024_0_0_512_0

/-- The result's block, from the rows, the weights and the gates: its two halves. -/
def product (X : Vec F S1024x1024 .f32) (W1 W3 : Vec F S1x1024x2048 .bf16) (W2 : Vec F S1x2048x1024 .bf16) (G : Vec F S1024x128 .f32) : Vec F S1x1x1024x1024 .bf16 :=
  View.canon [⟨botOut, block (View.ld X botRows) W1 W3 W2 (View.ld G botGates)⟩, ⟨topOut, block (View.ld X topRows) W1 W3 W2 (View.ld G topGates)⟩]

/-- The two halves tile the block, so they cover it. -/
theorem product_cover (p0 p1 : Vec F S1x1x512x1024 .bf16) (y : S1x1x1024x1024.Idx) :
    ∃ pc ∈ ([⟨botOut, p0⟩, ⟨topOut, p1⟩] : List (View.Piece (Elt F) S1x1x1024x1024 .bf16)), y ∈ pc.1.set :=
  View.cover_of_tiled [⟨botOut, p0⟩, ⟨topOut, p1⟩] S1x1x512x1024.size (by rfl) y

/-- What the multiplications read and do not change. -/
def weights (W1 W3 : Vec F S1x1024x2048 .bf16) (W2 : Vec F S1x2048x1024 .bf16) : sProp 𝕄 :=
  iprop(owns (c : Thread nD τ) arg7 fullShare W1 ∗ owns (c : Thread nD τ) arg8 fullShare W3 ∗ owns (c : Thread nD τ) arg9 fullShare W2)

set_option maxHeartbeats 1000000 in
/-- The multiplications. -/
theorem sound_multiply (X : Vec F S1024x1024 .f32) (G : Vec F S1024x128 .f32) (W1 W3 : Vec F S1x1024x2048 .bf16) (W2 : Vec F S1x2048x1024 .bf16) (K : PUnit → sProp 𝕄) :
    iprop(sums c arg11 arg12 X G ∗ weights c arg7 arg8 arg9 W1 W3 W2 ∗ (∃ O, owns (c : Thread nD τ) arg10 fullShare O)
        ∗ (iprop(sums c arg11 arg12 X G ∗ weights c arg7 arg8 arg9 W1 W3 W2 ∗ owns (c : Thread nD τ) arg10 fullShare (product X W1 W3 W2 G)) -∗ K ⟨⟩))
      ⊢ wp frame (wpE (defs₀ (F := F)) Variants.none c none) E (multiply arg7 arg8 arg9 arg10 harg10 arg11 arg12) K := by
  unfold sums weights owns multiply
  iintro ⟨⟨⟨%f11, %hf11, H11⟩, ⟨%f12, %hf12, H12⟩⟩, ⟨⟨%f7, %hf7, H7⟩, ⟨%f8, %hf8, H8⟩, ⟨%f9, %hf9, H9⟩⟩, ⟨%O, %f10, -, H10⟩, Hk⟩
  subst hf7 hf8 hf9 hf11 hf12
  sl_exec
  sl_step
  iapply Hk
  isplitl [H11 H12]
  · isplitl [H11]
    · iexists f11; isplitr; · ipureintro; rfl
      iexact H11
    iexists f12; isplitr; · ipureintro; rfl
    iexact H12
  isplitl [H7 H8 H9]
  · isplitl [H7]
    · iexists f7; isplitr; · ipureintro; rfl
      iexact H7
    isplitl [H8]
    · iexists f8; isplitr; · ipureintro; rfl
      iexact H8
    iexists f9; isplitr; · ipureintro; rfl
    iexact H9
  iexists _; isplitr
  swap; · iexact H10
  ipureintro
  refine (View.read_writes_eq_canon _ _ _ (product_cover _ _)).trans ?_
  have e7 := View.readAt_full arg7.view f7 inb_S1x1024x2048_S1x1024x2048_0_0_0
  have e8 := View.readAt_full arg8.view f8 inb_S1x1024x2048_S1x1024x2048_0_0_0
  have e9 := View.readAt_full arg9.view f9 inb_S1x2048x1024_S1x2048x1024_0_0_0
  unfold product
  rw [← e7, ← e8, ← e9]
  rfl

end Cert.Proof.Copies

end
-- ==== Proof.GatherFrame.lean ====
/- The frame of the experts' feed-forward over rows gathered by the kernel: at a point of the first half of the tokens the body
   leaves the scratch buffers at the reset and thirty-two copies, at the next point it copies onward and multiplies; the pipeline's
   invariant names the scratch buffers' contents between the two. -/
module

public import proofs.«01_k».proof.Proof.CopyRun
public import Idealize.ShloMosaic.Lib.Pipeline.Frame
public import Idealize.ShloMosaic.Lib.Pipeline.FrameBody

@[expose] public section

set_option maxRecDepth 16384

noncomputable section

namespace Cert.Proof.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Proof.Copies

variable {F : FTy → Type} [FloatOps F]

local notation "𝕄" => MT nD τ sig Unit (Elt F) ℕ (UR sig nD τ) ℕ

attribute [local irreducible] rowsAfter gatesAfter copies product

/-! ## The body at either half of the tokens -/

section Body

variable (c : Dev nD) (E : Set ℕ) (q : PosShare TreeShare) (i : grid0.Coords)
  (arg3 : Memref sig .tc .smem S8192 .i32) (harg3 : arg3.IsWhole) (arg4 : Memref sig .tc .vmem S1x1x4096 .i32) (harg4 : arg4.IsWhole)
  (arg5 : Memref sig .tc .vmem S1x1x4096 .f32) (harg5 : arg5.IsWhole) (arg6 : Memref sig .tc .vmem S1x4096x1024 .bf16) (harg6 : arg6.IsWhole)
  (arg7 : Memref sig .tc .vmem S1x1024x2048 .bf16) (harg7 : arg7.IsWhole) (arg8 : Memref sig .tc .vmem S1x1024x2048 .bf16) (harg8 : arg8.IsWhole)
  (arg9 : Memref sig .tc .vmem S1x2048x1024 .bf16) (harg9 : arg9.IsWhole) (arg10 : Memref sig .tc .vmem S1x1x1024x1024 .bf16) (harg10 : arg10.IsWhole)
  (arg11 : Memref sig .tc .vmem S1024x1024 .f32) (harg11 : arg11.IsWhole) (arg12 : Memref sig .tc .vmem S1024x128 .f32) (harg12 : arg12.IsWhole)
  (T : Vec F S8192 .i32) (P : Vec F S1x1x4096 .i32) (A : Vec F S1x1x4096 .f32) (H : Vec F S1x4096x1024 .bf16)
  (chk : ∀ sb (h : sb < 32), k0_chk1 (startOf i T sb h))

theorem eq_point_of (v : Fin 2) (hi : (i 2).val = v.val) : ∃ (a : Fin 16) (b : Fin 4), i = point a b v :=
  ⟨i 0, i 1, by
    have e : i 2 = v := Fin.ext hi
    rw [← e]; exact eq_point i⟩

/-- The body at a point of the first half: the scratch buffers from anything to the reset and the copies. -/
theorem sound_first (hi : (i 2).val = 0) (K : PUnit → sProp 𝕄) :
    iprop(inputs c q arg3 arg4 arg5 arg6 T P A H ∗ (∃ X G, sums (F := F) c arg11 arg12 X G)
        ∗ (iprop(inputs c q arg3 arg4 arg5 arg6 T P A H ∗ sums c arg11 arg12 (rowsAfter i T P H chk k0_pay8 32 (Nat.le_refl 32)) (gatesAfter i T P A chk k0_pay9 32 (Nat.le_refl 32))) -∗ K ⟨⟩))
      ⊢ wp frame (wpE (defs₀ (F := F)) Variants.none c none) E
          (cc0_expert_gather_ffn i arg3 harg3 arg4 harg4 arg5 harg5 arg6 harg6 arg7 harg7 arg8 harg8 arg9 harg9 arg10 harg10 arg11 harg11 arg12 harg12) K := by
  obtain ⟨a, b, rfl⟩ := eq_point_of i 0 hi
  rw [first_eq]
  unfold first
  rw [wp_bind]
  iintro ⟨HI, HS, Hk⟩
  iapply (sound_reset c E arg11 arg12 _)
  isplitl [HS]; · iexact HS
  iintro HS
  iapply (sound_copies c E q _ arg3 arg4 arg5 arg6 arg11 arg12 T P A H chk _ _ 32 (Nat.le_refl 32) K)
  isplitl [HI]; · iexact HI
  isplitl [HS]; · iexact HS
  iexact Hk

/-- The body at a point of the second half. -/
theorem sound_last (hi : (i 2).val = 1) (X : Vec F S1024x1024 .f32) (G : Vec F S1024x128 .f32) (W1 W3 : Vec F S1x1024x2048 .bf16) (W2 : Vec F S1x2048x1024 .bf16) (K : PUnit → sProp 𝕄) :
    iprop(inputs c q arg3 arg4 arg5 arg6 T P A H ∗ sums c arg11 arg12 X G ∗ weights c arg7 arg8 arg9 W1 W3 W2 ∗ (∃ O, owns (c : Thread nD τ) arg10 fullShare O)
        ∗ (iprop(inputs c q arg3 arg4 arg5 arg6 T P A H ∗ sums c arg11 arg12 (rowsAfter i T P H chk X 32 (Nat.le_refl 32)) (gatesAfter i T P A chk G 32 (Nat.le_refl 32))
            ∗ weights c arg7 arg8 arg9 W1 W3 W2
            ∗ owns (c : Thread nD τ) arg10 fullShare (product (rowsAfter i T P H chk X 32 (Nat.le_refl 32)) W1 W3 W2 (gatesAfter i T P A chk G 32 (Nat.le_refl 32)))) -∗ K ⟨⟩))
      ⊢ wp frame (wpE (defs₀ (F := F)) Variants.none c none) E
          (cc0_expert_gather_ffn i arg3 harg3 arg4 harg4 arg5 harg5 arg6 harg6 arg7 harg7 arg8 harg8 arg9 harg9 arg10 harg10 arg11 harg11 arg12 harg12) K := by
  obtain ⟨a, b, rfl⟩ := eq_point_of i 1 hi
  rw [last_eq]
  unfold last
  rw [wp_bind]
  iintro ⟨HI, HS, HW, HO, Hk⟩
  iapply (sound_copies c E q _ arg3 arg4 arg5 arg6 arg11 arg12 T P A H chk _ _ 32 (Nat.le_refl 32) _)
  isplitl [HI]; · iexact HI
  isplitl [HS]; · iexact HS
  iintro ⟨HI, HS⟩
  iapply (sound_multiply c E arg7 arg8 arg9 arg10 harg10 arg11 arg12 _ _ W1 W3 W2 K)
  isplitl [HS]; · iexact HS
  isplitl [HW]; · iexact HW
  isplitl [HO]; · iexact HO
  iintro ⟨HS, HW, HO⟩
  iapply Hk
  isplitl [HI]; · iexact HI
  isplitl [HS]; · iexact HS
  isplitl [HW]; · iexact HW
  iexact HO

end Body

/-! ## Up to the region -/

variable (m : (ℓ : Loc nD τ sig) → Buf (Elt F) ℓ) (ρ : Dev nD → PrngReg)

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is as launched when the region is entered. -/
theorem V_of_not_written (c : Dev nD) (b : Ref sig .tc)
    (h : (b ≠ main_v0 ∧ b ≠ main_v1 ∧ b ≠ main_v2 ∧ b ≠ main_v3 ∧ b ≠ main_v4 ∧ b ≠ main_v5 ∧ b ≠ main_v6)) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4, h5, h6⟩ := h
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- The table's contents when the region is entered; there is one device. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- As admissible contents: no index map reads the table. -/
abbrev adm : (pcfg0 (F := F)).Adm := ⟨tbl m, (trivial : True)⟩

abbrev cfgM : Cfg sig Λ₀ := cfg0 (adm m)

/-- The table as the words the body loads. -/
abbrev words : Vec F S8192 .i32 := tbl m 0

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev posB (c : Dev nD) (t : Fin (cfgM m).N) : Vec F S1x1x4096 .i32 := iblk m c 0 t
abbrev affB (c : Dev nD) (t : Fin (cfgM m).N) : Vec F S1x1x4096 .f32 := iblk m c 1 t
abbrev rowB (c : Dev nD) (t : Fin (cfgM m).N) : Vec F S1x4096x1024 .bf16 := iblk m c 2 t
abbrev w1B (c : Dev nD) (t : Fin (cfgM m).N) : Vec F S1x1024x2048 .bf16 := iblk m c 3 t
abbrev w3B (c : Dev nD) (t : Fin (cfgM m).N) : Vec F S1x1024x2048 .bf16 := iblk m c 4 t
abbrev w2B (c : Dev nD) (t : Fin (cfgM m).N) : Vec F S1x2048x1024 .bf16 := iblk m c 5 t

/-- Every word of the table names a window of rows inside the scratch buffers. -/
def Good : Prop := ∀ (i : grid0.Coords) (sb : Nat) (h : sb < 32), k0_chk1 (startOf i (words m) sb h)

variable (good : Good m)

/-- The point before `t`. -/
abbrev prev (t : Fin (cfgM m).N) : Fin (cfgM m).N := ⟨t.val - 1, Nat.lt_of_le_of_lt (Nat.sub_le _ _) t.isLt⟩

/-- The scratch buffers after the reset and the copies of point `t`, -/
def rowsFirst (c : Dev nD) (t : Fin (cfgM m).N) : Vec F S1024x1024 .f32 :=
  rowsAfter (grid0.coords t) (words m) (posB m c t) (rowB m c t) (good _) k0_pay8 32 (Nat.le_refl 32)
def gatesFirst (c : Dev nD) (t : Fin (cfgM m).N) : Vec F S1024x128 .f32 :=
  gatesAfter (grid0.coords t) (words m) (posB m c t) (affB m c t) (good _) k0_pay9 32 (Nat.le_refl 32)

/-- and after the copies of point `t` onward from those of the point before. -/
def rowsLast (c : Dev nD) (t : Fin (cfgM m).N) : Vec F S1024x1024 .f32 :=
  rowsAfter (grid0.coords t) (words m) (posB m c t) (rowB m c t) (good _) (rowsFirst m good c (prev m t)) 32 (Nat.le_refl 32)
def gatesLast (c : Dev nD) (t : Fin (cfgM m).N) : Vec F S1024x128 .f32 :=
  gatesAfter (grid0.coords t) (words m) (posB m c t) (affB m c t) (good _) (gatesFirst m good c (prev m t)) 32 (Nat.le_refl 32)

/-- What the body leaves in the result's block at a point of the second half. -/
def outB (c : Dev nD) (t : Fin (cfgM m).N) : Vec F S1x1x1024x1024 .bf16 :=
  product (rowsLast m good c t) (w1B m c t) (w3B m c t) (w2B m c t) (gatesLast m good c t)

/-! ## The proof data -/

/-- The scratch buffers' contents before point `t`: anything before a point of the first half, and before a point of the second
    half what the point before left. -/
def scratch (c : Dev nD) (t : Fin ((cfgM m).N + 1)) : sProp 𝕄 :=
  if h : t.val % 2 = 1 then
    sums c (Memref.whole cc0_scratch0) (Memref.whole cc0_scratch1)
      (rowsFirst m good c ⟨t.val - 1, by have := t.isLt; omega⟩) (gatesFirst m good c ⟨t.val - 1, by have := t.isLt; omega⟩)
  else iprop(∃ X G, sums (F := F) c (Memref.whole cc0_scratch0) (Memref.whole cc0_scratch1) X G)

/-- The invariant: the scratch buffers, the generator register and the half of the table. -/
def Inv (c : Dev nD) (t : Fin ((cfgM m).N + 1)) : sProp 𝕄 :=
  iprop(scratch m good c t ∗ (∃ r, prngReg c r) ∗ owns (c : Thread nD τ) (Memref.whole main_v4) fullShare.right (words m))

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outB m good c t
    | ⟨_ + 7, h⟩ => absurd h (Nat.not_lt.2 (Nat.le_add_left _ _))
  Φ t := Inv m good c t
  q _ := fullShare
  owed _ := 0

theorem A_eq (c : Dev nD) (w : Fin (cfgM m).W) : (dats m good 0 c).A w = V m c (Pipeline.arrRef spec0 w) := by
  dsimp only [dats]

theorem after_0 (c : Dev nD) (t : Fin (cfgM m).N) : (dats m good 0 c).after 0 t = iblk m c 0 t := rfl
theorem after_1 (c : Dev nD) (t : Fin (cfgM m).N) : (dats m good 0 c).after 1 t = iblk m c 1 t := rfl
theorem after_2 (c : Dev nD) (t : Fin (cfgM m).N) : (dats m good 0 c).after 2 t = iblk m c 2 t := rfl
theorem after_3 (c : Dev nD) (t : Fin (cfgM m).N) : (dats m good 0 c).after 3 t = iblk m c 3 t := rfl
theorem after_4 (c : Dev nD) (t : Fin (cfgM m).N) : (dats m good 0 c).after 4 t = iblk m c 4 t := rfl
theorem after_5 (c : Dev nD) (t : Fin (cfgM m).N) : (dats m good 0 c).after 5 t = iblk m c 5 t := rfl
theorem after_6 (c : Dev nD) (t : Fin (cfgM m).N) : (dats m good 0 c).after 6 t = outB m good c t := rfl

/-- An input's staging buffer holds its block at every point, if its body leaves it there. -/
theorem before_in (c : Dev nD) (w : Fin (cfgM m).W) (hw : ((cfgM m).win w).isOut = false) (hlive : ∀ i, (cfgM m).idle w i = false)
    (hclip : ∀ t t' : Fin (cfgM m).N, ((cfgM m).win w).index t = ((cfgM m).win w).index t' →
      ((cfgM m).win w).clip ((cfgM m).grid.coords t) = ((cfgM m).win w).clip ((cfgM m).grid.coords t'))
    (hafter : ∀ t, ((cfgM m).win w).cut ((cfgM m).grid.coords t) ((dats m good 0 c).after w t) = iblk m c w t) (t : Fin (cfgM m).N) (d) :
    (dats m good 0 c).before w t d = ((cfgM m).win w).fill ((cfgM m).grid.coords t) d (iblk m c w t) :=
  ((dats m good 0 c).before_in_eq_fetched w hw hlive hclip (fun t => by rw [hafter]; unfold Dat.blockOf iblk; rw [A_eq]) t d).trans
    (by unfold Dat.fetched Dat.blockOf iblk; rw [A_eq])

theorem before_0 (c : Dev nD) (t : Fin (cfgM m).N) (d) : (dats m good 0 c).before 0 t d = iblk m c 0 t :=
  (before_in m good c 0 rfl (fun _ => rfl) (fun _ _ _ => rfl) (fun _ => rfl) t d).trans rfl
theorem before_1 (c : Dev nD) (t : Fin (cfgM m).N) (d) : (dats m good 0 c).before 1 t d = iblk m c 1 t :=
  (before_in m good c 1 rfl (fun _ => rfl) (fun _ _ _ => rfl) (fun _ => rfl) t d).trans rfl
theorem before_2 (c : Dev nD) (t : Fin (cfgM m).N) (d) : (dats m good 0 c).before 2 t d = iblk m c 2 t :=
  (before_in m good c 2 rfl (fun _ => rfl) (fun _ _ _ => rfl) (fun _ => rfl) t d).trans rfl
theorem before_3 (c : Dev nD) (t : Fin (cfgM m).N) (d) : (dats m good 0 c).before 3 t d = iblk m c 3 t :=
  (before_in m good c 3 rfl (fun _ => rfl) (fun _ _ _ => rfl) (fun _ => rfl) t d).trans rfl
theorem before_4 (c : Dev nD) (t : Fin (cfgM m).N) (d) : (dats m good 0 c).before 4 t d = iblk m c 4 t :=
  (before_in m good c 4 rfl (fun _ => rfl) (fun _ _ _ => rfl) (fun _ => rfl) t d).trans rfl
theorem before_5 (c : Dev nD) (t : Fin (cfgM m).N) (d) : (dats m good 0 c).before 5 t d = iblk m c 5 t :=
  (before_in m good c 5 rfl (fun _ => rfl) (fun _ _ _ => rfl) (fun _ => rfl) t d).trans rfl

end Cert.Proof.Gather

end
-- ==== Proof.GatherRun.lean ====
/- The frame of the experts' feed-forward, launched: the body's triple at every grid point, the run, and the frame. -/
module

public import proofs.«01_k».proof.Proof.GatherFrame

@[expose] public section

set_option maxRecDepth 16384

noncomputable section

namespace Cert.Proof.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen Cert.Proof.Copies

variable {F : FTy → Type} [FloatOps F]

local notation "𝕄" => MT nD τ sig Unit (Elt F) ℕ (UR sig nD τ) ℕ

attribute [local irreducible] rowsAfter gatesAfter copies product

variable (m : (ℓ : Loc nD τ sig) → Buf (Elt F) ℓ) (ρ : Dev nD → PrngReg) (good : Good m)

/-! ## The schedule -/

/-- The half of the tokens a point takes. -/
theorem coord2 (t : Fin (cfgM m).N) : (grid0.coords t 2).val = t.val % 2 := by
  have h := Pipeline.Grid.coords_val (G := grid0) t 2 (S := 1) (B := 2) (by decide) rfl
  rw [h, Nat.div_one]

/-- The result's block is written back at the points of the second half. -/
theorem flush_6 (t : Fin (cfgM m).N) : ((cfgM m).win 6).flush t = true ↔ t.val % 2 = 1 :=
  (fun t => Pipeline.Window.flush_reads (win0 (adm m) 6) rfl 1 (by decide) (show grid0.fixedAfter (spec0 6).reads 1 = true from by decide) (Pipeline.Window.sep_of_coord cc0_transform_6 1 0 (fun _ => rfl) (by decide)) (P := 2) (m := 1) (by decide) rfl t : ∀ t : Fin grid0.N, (win0 (adm m) 6).flush t = true ↔ t.val % 2 = 1) t

/-- The body stores nothing into the result's block at the points of the first half. -/
theorem idle_6 (t : Fin (cfgM m).N) : (cfgM m).idle 6 ((cfgM m).grid.coords t) = !(decide (t.val % 2 = 1)) := by
  show (!(k0_cond2 (grid0.coords t) == 1#1)) = _
  have h := coord2 m t
  unfold k0_cond2
  rw [h]
  rcases Nat.mod_two_eq_zero_or_one t.val with h2 | h2 <;> rw [h2] <;> decide

/-! ## The body at a point -/

abbrev st (w : Fin (cfgM m).W) (t : Fin (cfgM m).N) := ((cfgM m).win w).stage ((cfgM m).slots t w)

abbrev bodyAt (t : Fin (cfgM m).N) : Prog (TpuEff nD τ sig (Elt F) Λ₀ .tc) PUnit :=
  cc0_expert_gather_ffn (grid0.coords t) (Memref.whole main_v4) (Memref.isWhole_whole _)
    (st m 0 t) (hstage0_0 (((cfgM m).slots t 0).cast nbuf0_0)) (st m 1 t) (hstage0_1 (((cfgM m).slots t 1).cast nbuf0_1))
    (st m 2 t) (hstage0_2 (((cfgM m).slots t 2).cast nbuf0_2)) (st m 3 t) (hstage0_3 (((cfgM m).slots t 3).cast nbuf0_3))
    (st m 4 t) (hstage0_4 (((cfgM m).slots t 4).cast nbuf0_4)) (st m 5 t) (hstage0_5 (((cfgM m).slots t 5).cast nbuf0_5))
    (st m 6 t) (hstage0_6 (((cfgM m).slots t 6).cast nbuf0_6))
    (Memref.whole cc0_scratch0) (Memref.isWhole_whole _) (Memref.whole cc0_scratch1) (Memref.isWhole_whole _)

def bodyPre (c : Dev nD) (t : Fin (cfgM m).N) : sProp 𝕄 :=
  iprop((dats m good 0 c).Φ t.castSucc ∗ (dats m good 0 c).owesAt () t.castSucc
    ∗ (∃ d, owns (c : Thread nD τ) (st m 0 t) fullShare ((dats m good 0 c).before 0 t d))
    ∗ (∃ d, owns (c : Thread nD τ) (st m 1 t) fullShare ((dats m good 0 c).before 1 t d))
    ∗ (∃ d, owns (c : Thread nD τ) (st m 2 t) fullShare ((dats m good 0 c).before 2 t d))
    ∗ (∃ d, owns (c : Thread nD τ) (st m 3 t) fullShare ((dats m good 0 c).before 3 t d))
    ∗ (∃ d, owns (c : Thread nD τ) (st m 4 t) fullShare ((dats m good 0 c).before 4 t d))
    ∗ (∃ d, owns (c : Thread nD τ) (st m 5 t) fullShare ((dats m good 0 c).before 5 t d))
    ∗ (∃ d, owns (c : Thread nD τ) (st m 6 t) fullShare ((dats m good 0 c).before 6 t d)))

def bodyPost (c : Dev nD) (t : Fin (cfgM m).N) : sProp 𝕄 :=
  iprop((dats m good 0 c).Φ t.succ ∗ (dats m good 0 c).owesAt () t.succ
    ∗ owns (c : Thread nD τ) (st m 0 t) fullShare ((dats m good 0 c).after 0 t)
    ∗ owns (c : Thread nD τ) (st m 1 t) fullShare ((dats m good 0 c).after 1 t)
    ∗ owns (c : Thread nD τ) (st m 2 t) fullShare ((dats m good 0 c).after 2 t)
    ∗ owns (c : Thread nD τ) (st m 3 t) fullShare ((dats m good 0 c).after 3 t)
    ∗ owns (c : Thread nD τ) (st m 4 t) fullShare ((dats m good 0 c).after 4 t)
    ∗ owns (c : Thread nD τ) (st m 5 t) fullShare ((dats m good 0 c).after 5 t)
    ∗ (dats m good 0 c).leavesExact 6 t)

theorem scratch_even (c : Dev nD) (t : Fin ((cfgM m).N + 1)) (h : t.val % 2 = 0) :
    scratch m good c t = iprop(∃ X G, sums (F := F) c (Memref.whole cc0_scratch0) (Memref.whole cc0_scratch1) X G) := by
  unfold scratch; rw [dif_neg (by omega)]

theorem scratch_odd (c : Dev nD) (t : Fin (cfgM m).N) (s : Fin ((cfgM m).N + 1)) (h : s.val % 2 = 1) (hs : s.val - 1 = t.val) :
    scratch m good c s = sums c (Memref.whole cc0_scratch0) (Memref.whole cc0_scratch1) (rowsFirst m good c t) (gatesFirst m good c t) := by
  obtain ⟨t, ht⟩ := t
  subst hs
  unfold scratch; rw [dif_pos h]

/-- The body at a point of the first half. -/
theorem sound_even (c : Dev nD) (t : Fin (cfgM m).N) (h : t.val % 2 = 0) :
    bodyPre m good c t ⊢ wp frame (wpE (defs₀ (F := F)) Variants.none c none) Set.univ (bodyAt m t) (fun _ => bodyPost m good c t) := by
  unfold bodyPre bodyPost bodyAt
  rw [Dat.leavesExact_idle _ 6 t (by rw [idle_6, h]; rfl) (by
    cases hf : ((cfgM m).win 6).flush t
    · rfl
    · have := (flush_6 m t).mp hf; omega)]
  simp only [before_0, before_1, before_2, before_3, before_4, before_5]
  rw [show (dats m good 0 c).Φ t.succ = Inv m good c t.succ from rfl, show (dats m good 0 c).Φ t.castSucc = Inv m good c t.castSucc from rfl,
    show (dats m good 0 c).owesAt () t.succ = (dats m good 0 c).owesAt () t.castSucc from rfl,
    after_0, after_1, after_2, after_3, after_4, after_5]
  unfold Inv
  rw [scratch_even m good c t.castSucc h, scratch_odd m good c t t.succ (by show (t.val + 1) % 2 = 1; omega) (by show t.val + 1 - 1 = t.val; omega)]
  iintro ⟨⟨HS, Hp, HT⟩, Ho, ⟨%d0, H0⟩, ⟨%d1, H1⟩, ⟨%d2, H2⟩, ⟨%d3, H3⟩, ⟨%d4, H4⟩, ⟨%d5, H5⟩, H6⟩
  iapply (sound_first c Set.univ fullShare.right (grid0.coords t) _ _ _ _ _ _ _ _ _ _ _ _ _ _ _ _ _ _ _ _ (words m) (posB m c t) (affB m c t) (rowB m c t) (good _) ((coord2 m t).trans h) _)
  isplitl [HT H0 H1 H2]
  · unfold inputs
    isplitl [HT]; · iexact HT
    isplitl [H0]; · iexact H0
    isplitl [H1]; · iexact H1
    iexact H2
  isplitl [HS]; · iexact HS
  unfold inputs
  iintro ⟨⟨HT, H0, H1, H2⟩, HS⟩
  isplitl [HS Hp HT]
  · isplitl [HS]; · iexact HS
    isplitl [Hp]; · iexact Hp
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at a point of the second half. -/
theorem sound_odd (c : Dev nD) (t : Fin (cfgM m).N) (h : t.val % 2 = 1) :
    bodyPre m good c t ⊢ wp frame (wpE (defs₀ (F := F)) Variants.none c none) Set.univ (bodyAt m t) (fun _ => bodyPost m good c t) := by
  unfold bodyPre bodyPost bodyAt
  rw [show (dats m good 0 c).leavesExact 6 t = owns (c : Thread nD τ) (st m 6 t) fullShare ((dats m good 0 c).after 6 t) from by
    unfold Dat.leavesExact; rw [idle_6, h]; rfl]
  simp only [before_0, before_1, before_2, before_3, before_4, before_5]
  rw [show (dats m good 0 c).Φ t.succ = Inv m good c t.succ from rfl, show (dats m good 0 c).Φ t.castSucc = Inv m good c t.castSucc from rfl,
    show (dats m good 0 c).owesAt () t.succ = (dats m good 0 c).owesAt () t.castSucc from rfl,
    after_0, after_1, after_2, after_3, after_4, after_5, after_6]
  unfold Inv
  rw [scratch_even m good c t.succ (by show (t.val + 1) % 2 = 0; omega), scratch_odd m good c (prev m t) t.castSucc h rfl]
  iintro ⟨⟨HS, Hp, HT⟩, Ho, ⟨%d0, H0⟩, ⟨%d1, H1⟩, ⟨%d2, H2⟩, ⟨%d3, H3⟩, ⟨%d4, H4⟩, ⟨%d5, H5⟩, ⟨%d6, H6⟩⟩
  iapply (sound_last c Set.univ fullShare.right (grid0.coords t) _ _ _ _ _ _ _ _ _ _ _ _ _ _ _ _ _ _ _ _ (words m) (posB m c t) (affB m c t) (rowB m c t) (good _) ((coord2 m t).trans h)
    (rowsFirst m good c (prev m t)) (gatesFirst m good c (prev m t)) (w1B m c t) (w3B m c t) (w2B m c t) _)
  isplitl [HT H0 H1 H2]
  · unfold inputs
    isplitl [HT]; · iexact HT
    isplitl [H0]; · iexact H0
    isplitl [H1]; · iexact H1
    iexact H2
  isplitl [HS]; · iexact HS
  isplitl [H3 H4 H5]
  · unfold weights
    isplitl [H3]; · iexact H3
    isplitl [H4]; · iexact H4
    iexact H5
  isplitl [H6]; · iexists _; iexact H6
  unfold inputs weights
  iintro ⟨⟨HT, H0, H1, H2⟩, HS, ⟨H3, H4, H5⟩, H6⟩
  isplitl [HS Hp HT]
  · isplitl [HS]; · iexists _; iexists _; iexact HS
    isplitl [Hp]; · iexact Hp
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin (cfgM m).N) :
    bodyPre m good c t ⊢ wp frame (wpE (defs₀ (F := F)) Variants.none c none) Set.univ (bodyAt m t) (fun _ => bodyPost m good c t) :=
  (Nat.mod_two_eq_zero_or_one t.val).elim (sound_even m good c t) (sound_odd m good c t)

theorem defs₀_row (t : Fin (cfgM m).N) :
    defs₀ (F := F) .tc (cfgM m).body ((cfgM m).bodyArgs t ((cfgM m).slots t)) = bodyAt m t := by
  unfold defs₀; rw [Defs.onTc_tc]; rfl

theorem body_obligation (c : Dev nD) : BodyObligation (dats (F := F) m good 0 c) (defs₀ (F := F)) Variants.none () Set.univ := fun t => by
  rw [bigSep_W0, bigSep_W0, defs₀_row]
  exact triple_restated (sound_body m good c t) rfl .rfl fun _ => .rfl

/-! ## The run -/

theorem PhiT_eq (c : Dev nD) : (Pipeline.ΦT pre0 (tbl m) c : sProp 𝕄) = owns (c : Thread nD τ) (Memref.whole main_v4) fullShare.right (words m) := by
  unfold Pipeline.ΦT Pipeline.prefHeld
  rw [show (Finset.univ : Finset (Fin 1)) = {(0 : Fin 1)} from by decide, bigSep_singleton, owns_whole]
  rfl

/-- The scratch buffers as the launch hands them over. -/
theorem rest_eq (c : Dev nD) : (Pipeline.scopedRest (Ix := Unit) (Name := ℕ) (U := UR sig nD τ) (Lvl := ℕ) (Val := Elt F) spec0 c : sProp 𝕄)
    ⊣⊢ iprop(∃ X G, sums (F := F) c (Memref.whole cc0_scratch0) (Memref.whole cc0_scratch1) X G) := by
  rw [scopedRest0_eq]
  unfold sums
  constructor
  · iintro ⟨⟨%f, H0⟩, ⟨%g, H1⟩⟩
    iexists f; iexists g
    isplitl [H0]
    · iapply (Entails.of_eq (owns_whole (c : Thread nD τ) cc0_scratch0 fullShare f).symm); iexact H0
    · iapply (Entails.of_eq (owns_whole (c : Thread nD τ) cc0_scratch1 fullShare g).symm); iexact H1
  · iintro ⟨%f, %g, H0, H1⟩
    isplitl [H0]
    · iexists f; iapply (Entails.of_eq (owns_whole (c : Thread nD τ) cc0_scratch0 fullShare f)); iexact H0
    · iexists g; iapply (Entails.of_eq (owns_whole (c : Thread nD τ) cc0_scratch1 fullShare g)); iexact H1

theorem inv_in (c : Dev nD) : iprop(Pipeline.ΦA spec0 c ∗ Pipeline.ΦT pre0 (tbl m) c) ⊢ (Inv m good c 0 : sProp 𝕄) := by
  unfold Pipeline.ΦA Inv
  rw [PhiT_eq, scratch_even m good c 0 rfl]
  iintro ⟨⟨HS, Hp⟩, HT⟩
  isplitl [HS]; · iapply (rest_eq c).1; iexact HS
  isplitl [Hp]; · iexact Hp
  iexact HT

theorem inv_out (c : Dev nD) : (Inv m good c (Fin.last (cfgM m).N) : sProp 𝕄) ⊢ Pipeline.ΦA spec0 c := by
  unfold Pipeline.ΦA Inv
  rw [scratch_even m good c (Fin.last (cfgM m).N) (by show grid0.N % 2 = 0; rw [N_0])]
  iintro ⟨HS, Hp, -⟩
  isplitl [HS]; · iapply (rest_eq c).2; iexact HS
  iexact Hp

set_option backward.isDefEq.respectTransparency.types false in
set_option maxHeartbeats 800000 in
theorem run_main_quiescent : θ_run defs (onTc (τ := τ) (main (F := F))) (s₀ m ρ)
    (fun r => (Pipeline.FramePost (Pipeline.pin pcfgs fun _ => adm m) (dats m good) 0 (V m)) r ∧ r.2.sem = fun _ => 0) :=
  Pipeline.θ_run_frameP_track (Q' := _) pcfgs (fun _ => adm m) (dats m good) (0 : Fin 1) launch0 defs₀ Variants.none m ρ main
    (hbody := fun c => (body_obligation m good c).loose) (hshare := fun c => (dats m good 0 c).share_full fun _ => rfl)
    (howed := fun _ _ => rfl) (V := V m) (hmain := hmain m Variants.none) (hA := A_eq m good) (hpf := V_pre m)
    (hin := inv_in m good) (hout := inv_out m good)

/-- The run: the result's array is what the library computes from the proof data, every other buffer as the region found it. -/
theorem run_main : θ_run defs (onTc (τ := τ) (main (F := F))) (s₀ m ρ) (Pipeline.FramePost (Pipeline.pin pcfgs fun _ => adm m) (dats m good) 0 (V m)) :=
  (θ_run defs _ _).mono (fun _ h => h.1) (run_main_quiescent m ρ good)

/-- A buffer the pipeline does not move and no host operation writes ends as launched. -/
theorem kept (r : PUnit × MemSt nD τ sig (Elt F)) (h : Pipeline.FramePost (Pipeline.pin pcfgs fun _ => adm m) (dats m good) 0 (V m) r) (c : Dev nD)
    (b : Ref sig .tc) (hb : b.isScoped = false) (ha : ∀ w, (spec0 w).arr.view.ref ≠ b)
    (hw : (b ≠ main_v0 ∧ b ≠ main_v1 ∧ b ≠ main_v2 ∧ b ≠ main_v3 ∧ b ≠ main_v4 ∧ b ≠ main_v5 ∧ b ≠ main_v6)) :
    r.2.mem ((c.tc : Thread nD τ).loc b) = m ((c.tc : Thread nD τ).loc b) :=
  ((h c).2 b (Pipeline.mem_restRefs_of b hb ha)).trans (V_of_not_written m c b hw)

include good in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r (h : _ ∧ _) => ⟨fun c =>
    ⟨kept m good r h.1 c main_arg0 (by decide) (by decide) (by decide), kept m good r h.1 c main_arg1 (by decide) (by decide) (by decide),
      kept m good r h.1 c main_arg2 (by decide) (by decide) (by decide), kept m good r h.1 c main_arg3 (by decide) (by decide) (by decide),
      kept m good r h.1 c main_arg4 (by decide) (by decide) (by decide), kept m good r h.1 c main_arg5 (by decide) (by decide) (by decide),
      kept m good r h.1 c main_arg6 (by decide) (by decide) (by decide), kept m good r h.1 c main_arg7 (by decide) (by decide) (by decide)⟩, h.2⟩)
    (run_main_quiescent m ρ good)

end Cert.Proof.Gather

end
-- ==== Proof.GatherTable.lean ====
/- The table of the experts' feed-forward: where a word of it stands in the argument, and the window of rows it names. -/
module

public import proofs.«01_k».proof.Proof.GatherRun
public import proofs.«01_k».proof.Proof.Gen.Pre_starting
public import Idealize.ShloMosaic.Lib.WordArith
public import Idealize.ShloMosaic.Lib.WordCmp
public import Idealize.ShloMosaic.Lib.Pointwise
public import Idealize.ShloMosaic.Lib.StableHlo.RunRead

@[expose] public section

set_option maxRecDepth 16384

noncomputable section

namespace Cert.Proof.Gather

open Idealize.ShloMosaic Idealize.ShloMosaic.TcCoe
open Cert.Kernel4Ideal Cert.Kernel4Ideal.Gen Cert.Proof.Copies

variable {F : FTy → Type} [FloatOps F]

/-- The first row of the window a start names: the start rounded down to a multiple of eight, but no later than 888. -/
theorem base_val (s : BitVec 32) (h : s.toNat < 2 ^ 31) : (k0_mult1 s).toNat = min (s.toNat / 8 * 8) 888 := by
  have e : (IntOp.shli .scalar (IntOp.shrui .scalar s 3#32) 3#32).toNat = s.toNat / 8 * 8 := by
    unfold IntOp.shli IntOp.shrui
    rw [if_pos (by decide), if_pos (by decide)]
    rw [BitVec.shiftLeft_eq', BitVec.ushiftRight_eq', BitVec.toNat_shiftLeft, BitVec.toNat_ushiftRight]
    show s.toNat >>> 3 <<< 3 % 2 ^ 32 = _
    rw [Nat.shiftRight_eq_div_pow, Nat.shiftLeft_eq, Nat.mod_eq_of_lt (by omega)]
  show (IntOp.minsi (IntOp.shli .scalar (IntOp.shrui .scalar s 3#32) 3#32) 888#32).toNat = _
  rw [WordArith.toNat_minsi_of_lt _ _ (by rw [e]; omega) (by decide), e]
  rfl

theorem off2_eq (s : BitVec 32) : k0_off2 s = ![(k0_mult1 s).toNat, 0] := by
  show ![(0#32 + k0_mult1 s).toNat, 0] = _
  rw [BitVec.zero_add]

theorem off3_eq (s : BitVec 32) : k0_off3 s = ![(k0_mult1 s).toNat, 0] := by
  show ![(0#32 + k0_mult1 s).toNat, 0] = _
  rw [BitVec.zero_add]

/-- A start that is not negative names a window inside the scratch buffers. -/
theorem chk_of_start (s : BitVec 32) (h : s.toNat < 2 ^ 31) : k0_chk1 s := by
  have e := base_val s h
  refine ⟨by rw [e]; omega, fun a => ?_, fun a => ?_⟩
  · rw [off2_eq]
    match a with
    | 0 => show (k0_mult1 s).toNat + 136 ≤ 1024; omega
    | 1 => show 0 + 1024 ≤ 1024; omega
  · rw [off3_eq]
    match a with
    | 0 => show (k0_mult1 s).toNat + 136 ≤ 1024; omega
    | 1 => show 0 + 128 ≤ 128; omega

variable (m : (ℓ : Loc nD τ sig) → Buf (Elt F) ℓ)

/-- The argument holding the starts. -/
abbrev starts : IVec S4x16x128 32 := m (((0 : Dev nD) : Thread nD τ).loc main_arg4)

/-- The table is the argument in row-major order. -/
theorem words_eq : words m = shapeCast S8192 (starts m) shapeCasts_S4x16x128_S8192 := by
  show StableHlo.after hostOps0 (fun b => m ((0 : Dev nD), b)) (Proc.devRef .tc main_v4) = _
  after_reads_simp
  rfl

theorem words_at (n : Fin 8192) : words m (ix1 n) = starts m (ix3 ⟨n.val / 2048, by omega⟩ ⟨n.val / 128 % 16, by omega⟩ ⟨n.val % 128, by omega⟩) := by
  rw [words_eq]
  pointwise

/-- The word a copy reads. -/
theorem startOf_eq (i : grid0.Coords) (sb : Nat) (h : sb < 32) :
    startOf i (words m) sb h = starts m (ix3 (i 1) (i 0) ⟨(i 2).val * 32 + sb, by have : (i 2).val < 2 := (i 2).isLt; omega⟩) := by
  have h0 : (i 0).val < 16 := (i 0).isLt
  have h1 : (i 1).val < 4 := (i 1).isLt
  have h2 : (i 2).val < 2 := (i 2).isLt
  have e := tableAt_val i sb h
  have hlt : tableAt i sb 0 < 8192 := by omega
  have hx : startOf i (words m) sb h = words m (ix1 ⟨tableAt i sb 0, hlt⟩) := by
    unfold startOf View.ld
    refine congrArg (words m) (funext fun a => Fin.ext ?_)
    match a with
    | ⟨0, _⟩ => exact Nat.add_zero _
  rw [hx, words_at]
  congr 1
  funext a
  refine Fin.ext ?_
  match a with
  | ⟨0, _⟩ => show tableAt i sb 0 / 2048 = (i 1).val; omega
  | ⟨1, _⟩ => show tableAt i sb 0 / 128 % 16 = (i 0).val; omega
  | ⟨2, _⟩ => show tableAt i sb 0 % 128 = (i 2).val * 32 + sb; omega

/-- No start is negative. -/
def Nonneg : Prop := ∀ x : S4x16x128.Idx, (starts m x).toNat < 2 ^ 31

theorem good_of_nonneg (h : Nonneg m) : Good m := fun i sb hsb => by
  rw [startOf_eq]; exact chk_of_start _ (h _)

/-- A word that compares as not below zero has its top bit clear. -/
theorem lt_of_sge (x : BitVec 32) (h : IntOp.cmpi .sge x 0#32 = 1#1) : x.toNat < 2 ^ 31 := by
  rw [WordCmp.cmpi_sge_zero] at h
  by_contra hc
  rw [decide_eq_false hc] at h
  exact absurd h (by decide)

end Cert.Proof.Gather

end
-- ==== Proof.GatherPre.lean ====
/- What the preconditions of the experts' feed-forward say, word by word. -/
module

public import proofs.«01_k».proof.Proof.GatherTable
public import proofs.«01_k».proof.Proof.Gen.Pre_routed

@[expose] public section

set_option maxRecDepth 16384

noncomputable section

namespace Cert.Proof.Gather

open Idealize.ShloMosaic Idealize.ShloMosaic.TcCoe
open Cert.Kernel4Ideal Cert.Kernel4Ideal.Gen Cert.Proof.Copies

attribute [local instance] Cert.Pre_starting.Gen.facts Cert.Pre_routed.Gen.facts

variable {F : FTy → Type} [FloatOps F]

theorem nonneg_of {A4 : IVec S4x16x128 32} (hb : Cert.Pre_starting.S_.BroadcastsInDim S4x16x128 ![])
    (h : cmpi .sge A4 (broadcastInDim S4x16x128 ![] hb (constantI Cert.Pre_starting.S_ 32 0#32)) = fun _ => 1#1) (x : S4x16x128.Idx) :
    (A4 x).toNat < 2 ^ 31 := lt_of_sge _ (congrFun h x)

/-- The routing as the words of the three integer arguments state it: every start is not negative; a token given slot
    `c` lies in the window of its own group of 128; and slot `c` is filled by token `t` exactly when token `t` is given
    slot `c`. -/
structure Routed (idx : IVec S4x16x1024 32) (pos : IVec S4x16x8192 32) (st : IVec S4x16x128 32) : Prop where
  nonneg : ∀ x, (st x).toNat < 2 ^ 31
  window : ∀ (b : Fin 4) (e : Fin 16) (t : Fin 8192) (c : Fin 1024), pos (ix3 b e t) = BitVec.ofNat 32 c.val →
    (st (ix3 b e ⟨t.val / 128, by omega⟩)).toNat ≤ c.val ∧ c.val < (st (ix3 b e ⟨t.val / 128, by omega⟩)).toNat + 128
  paired : ∀ (b : Fin 4) (e : Fin 16) (t : Fin 8192) (c : Fin 1024),
    pos (ix3 b e t) = BitVec.ofNat 32 c.val ↔ idx (ix3 b e c) = BitVec.ofNat 32 t.val
  inside : ∀ x, (idx x).toNat < 8192

theorem window_of (p s : BitVec 32) (c : Nat) (hc : c < 1024) (hp : p = BitVec.ofNat 32 c) (hs : s.toNat < 2 ^ 31)
    (h : IntOp.ori (IntOp.cmpi .slt p 0#32) (IntOp.andi (IntOp.cmpi .sge p s) (IntOp.cmpi .slt (IntOp.subi p s) 128#32)) = 1#1) :
    s.toNat ≤ c ∧ c < s.toNat + 128 := by
  subst hp
  have hi : (BitVec.ofNat 32 c).toInt = c := by
    rw [WordCmp.toInt_eq_toNat_of_lt_half] <;> rw [BitVec.toNat_ofNat, Nat.mod_eq_of_lt (by omega)]
    show c < 2 ^ 31; omega
  have hs' : s.toInt = s.toNat := WordCmp.toInt_eq_toNat_of_lt_half hs
  rw [WordCmp.cmpi_slt_eq, WordCmp.cmpi_sge_eq, WordCmp.cmpi_slt_eq, hi, hs'] at h
  have h0 : decide ((c : Int) < (0#32).toInt) = false := decide_eq_false (by show ¬ (c : Int) < 0; omega)
  rw [h0] at h
  by_cases ha : (s.toNat : Int) ≤ c
  · rw [decide_eq_true ha] at h
    have hsub : (IntOp.subi (BitVec.ofNat 32 c) s).toInt = (c : Int) - s.toNat := by
      have e : IntOp.subi (BitVec.ofNat 32 c) s = BitVec.ofNat 32 (c - s.toNat) := by
        apply BitVec.eq_of_toNat_eq
        show (BitVec.ofNat 32 c - s).toNat = _
        rw [BitVec.toNat_sub, BitVec.toNat_ofNat, BitVec.toNat_ofNat]
        omega
      rw [e, WordCmp.toInt_eq_toNat_of_lt_half] <;> rw [BitVec.toNat_ofNat, Nat.mod_eq_of_lt (by omega)]
      · omega
      · show c - s.toNat < 2 ^ 31; omega
    rw [hsub] at h
    by_cases hb : (c : Int) - s.toNat < (128#32).toInt
    · have : (128#32).toInt = 128 := by decide
      omega
    · rw [decide_eq_false hb] at h
      exact absurd h (by decide)
  · rw [decide_eq_false ha] at h
    exact absurd h (by cases decide ((IntOp.subi (BitVec.ofNat 32 c) s).toInt < (128#32).toInt) <;> decide)

theorem inside_of (x : BitVec 32) (h : IntOp.andi (IntOp.cmpi .sge x 0#32) (IntOp.cmpi .slt x 8192#32) = 1#1) : x.toNat < 8192 := by
  rw [WordCmp.cmpi_sge_eq, WordCmp.cmpi_slt_eq] at h
  have h0 : (0#32).toInt = 0 := by decide
  have h1 : (8192#32).toInt = 8192 := by decide
  rw [h0, h1] at h
  by_cases ha : 0 ≤ x.toInt
  · by_cases hb : x.toInt < 8192
    · have := WordCmp.toInt_eq_toNat_of_lt_half ((WordCmp.toInt_nonneg_iff_lt_half x).mp ha)
      omega
    · rw [decide_eq_true ha, decide_eq_false hb] at h
      exact absurd h (by decide)
  · rw [decide_eq_false ha] at h
    exact absurd h (by cases decide (x.toInt < 8192) <;> decide)

theorem eq_one_iff {w : Nat} (x y : BitVec w) : IntOp.cmpi .eq x y = 1#1 ↔ x = y := by
  rw [WordCmp.cmpi_eq_eq]
  by_cases h : x = y
  · rw [decide_eq_true h]; exact ⟨fun _ => h, fun _ => rfl⟩
  · rw [decide_eq_false h]; exact ⟨fun c => absurd c (by decide), fun c => absurd c h⟩

theorem paired_of (p s i t : BitVec 32) (h : IntOp.cmpi .eq (IntOp.cmpi .eq p s) (IntOp.cmpi .eq i t) = 1#1) : p = s ↔ i = t := by
  have e := (eq_one_iff _ _).mp h
  exact (eq_one_iff p s).symm.trans ((Eq.to_iff (congrArg (· = 1#1) e)).trans (eq_one_iff i t))

theorem routed_of (a0 : FVec F S4x8192x1024 .f32) (a1 : FVec F S4x16x8192 .f32) (idx : IVec S4x16x1024 32) (pos : IVec S4x16x8192 32)
    (st : IVec S4x16x128 32) (a5 a6 : FVec F S16x1024x2048 .f32) (a7 : FVec F S16x2048x1024 .f32)
    (h0 : (Cert.Pre_routed.fn (F := F) a0 a1 idx pos st a5 a6 a7).1 = fun _ => 1#1)
    (h1 : (Cert.Pre_routed.fn (F := F) a0 a1 idx pos st a5 a6 a7).2.1 = fun _ => 1#1)
    (h2 : (Cert.Pre_routed.fn (F := F) a0 a1 idx pos st a5 a6 a7).2.2.1 = fun _ => 1#1)
    (h3 : (Cert.Pre_routed.fn (F := F) a0 a1 idx pos st a5 a6 a7).2.2.2 = fun _ => 1#1) : Routed idx pos st := by
  have nn : ∀ x, (st x).toNat < 2 ^ 31 := fun x => lt_of_sge _ (congrFun h0 x)
  refine ⟨nn, fun b e t c hp => ?_, fun b e t c => ?_, fun x => ?_⟩
  · have h := congrFun h1 (ix3 b e t)
    simp only [Cert.Pre_routed.fn, Cert.Pre_routed.fn_part1] at h
    refine window_of _ _ c.val c.isLt hp (nn _) (Eq.trans ?_ h)
    pointwise
  · have h := congrFun h2 (ix4 b e c t)
    simp only [Cert.Pre_routed.fn, Cert.Pre_routed.fn_part1] at h
    refine paired_of _ _ _ _ (Eq.trans ?_ h)
    pointwise
  · exact inside_of _ (congrFun h3 x)

end Cert.Proof.Gather

end
-- ==== Proof.GatherBits.lean ====
/- The frame of the experts' feed-forward as printed: the same program text as its idealization, so the same statement. -/
module

public import proofs.«01_k».proof.Proof.GatherPre
public import proofs.«01_k».proof.Defs
public import proofs.«01_k».proof.Proof.Gen.Kernel4

@[expose] public section

set_option maxRecDepth 16384

noncomputable section

namespace Cert.Proof.Gather

open Idealize.ShloMosaic Idealize.ShloMosaic.TcCoe Cert.Proof.Copies

attribute [local instance] Cert.Pre_starting.Gen.facts Cert.Pre_routed.Gen.facts Cert.Kernel4Ideal.Gen.facts Cert.Kernel4.Gen.facts

theorem quiescent_ideal : Cert.quiescent_Kernel4Ideal := fun m g hm =>
  frame m g (good_of_nonneg m (nonneg_of _ (hm 0)))

theorem routed_mem {m : (ℓ : Loc Cert.Kernel4Ideal.nD Cert.Kernel4Ideal.τ Cert.Kernel4Ideal.sig) → Buf (Elt Ideal) ℓ}
    (hm : Cert.Pre_Kernel4Ideal_routed m) :
    Routed (m (((0 : Dev Cert.Kernel4Ideal.nD) : Thread Cert.Kernel4Ideal.nD Cert.Kernel4Ideal.τ).loc Cert.Kernel4Ideal.main_arg2))
      (m (((0 : Dev Cert.Kernel4Ideal.nD) : Thread Cert.Kernel4Ideal.nD Cert.Kernel4Ideal.τ).loc Cert.Kernel4Ideal.main_arg3)) (starts m) :=
  routed_of _ _ _ _ _ _ _ _ (hm 0).1 (hm 0).2.1 (hm 0).2.2.1 (hm 0).2.2.2

theorem quiescent_routed : Cert.quiescent_Kernel4Ideal_pre_routed := fun m g hm =>
  frame m g (good_of_nonneg m (routed_mem hm).nonneg)

theorem quiescent_bits : Cert.quiescent_Kernel4 := fun m g hm => by
  have h := frame (F := Bits) m g (good_of_nonneg m (nonneg_of _ (hm 0)))
  exact cast (by chain_rfl) h

end Cert.Proof.Gather

end
-- ==== Proof.GatherReference.lean ====
/- The reference of the experts' feed-forward: its host operations in order, its run, and the one array it leaves as an
   expression of the arguments. -/
module

public import proofs.«01_k».proof.Proof.Gen.Reference4Ideal
public import Idealize.ShloMosaic.Lib.StableHlo.Run
public import Idealize.ShloMosaic.Lib.StableHlo.RunRead
public import Idealize.ShloMosaic.Lib.Claim
public import Idealize.ShloMosaic.Lib.Tactic

@[expose] public section

set_option maxRecDepth 16384

noncomputable section

namespace Cert.Reference4Ideal.Value

open Cert.Reference4Ideal Cert.Reference4Ideal.Gen Idealize.ShloMosaic Idealize.ShloMosaic.TcCoe Idealize.SL.Sem Idealize.ShloMosaic.StableHlo

variable {F : FTy → Type} [FloatOps F]

/-- The operations, in order, with those of the call to `silu` in its place. -/
abbrev ops : List (HloOp τ sig (Elt F)) :=
  [ nullary main_c (constantI S_ 32 0#32),
    unary main_c main_v0 (broadcastInDim S4x16x1024 ![] bcast_S_S4x16x1024 : (⟨S_, .i32⟩ : BufTy).Contents (Elt F) → (⟨S4x16x1024, .i32⟩ : BufTy).Contents (Elt F)),
    binary main_arg2 main_v0 main_v1 (cmpi .slt : (⟨S4x16x1024, .i32⟩ : BufTy).Contents (Elt F) → (⟨S4x16x1024, .i32⟩ : BufTy).Contents (Elt F) → (⟨S4x16x1024, .i1⟩ : BufTy).Contents (Elt F)),
    nullary main_c_0 (constantI S_ 32 8192#32),
    unary main_c_0 main_v2 (broadcastInDim S4x16x1024 ![] bcast_S_S4x16x1024 : (⟨S_, .i32⟩ : BufTy).Contents (Elt F) → (⟨S4x16x1024, .i32⟩ : BufTy).Contents (Elt F)),
    binary main_arg2 main_v2 main_v3 (addi : (⟨S4x16x1024, .i32⟩ : BufTy).Contents (Elt F) → (⟨S4x16x1024, .i32⟩ : BufTy).Contents (Elt F) → (⟨S4x16x1024, .i32⟩ : BufTy).Contents (Elt F)),
    ternary main_v1 main_v3 main_arg2 main_v4 (select : (⟨S4x16x1024, .i1⟩ : BufTy).Contents (Elt F) → (⟨S4x16x1024, .i32⟩ : BufTy).Contents (Elt F) → (⟨S4x16x1024, .i32⟩ : BufTy).Contents (Elt F) → (⟨S4x16x1024, .i32⟩ : BufTy).Contents (Elt F)),
    unary main_v4 main_v5 (broadcastInDim S4x16x1024x1 ![0, 1, 2] bcast_S4x16x1024_S4x16x1024x1_0_1_2 : (⟨S4x16x1024, .i32⟩ : BufTy).Contents (Elt F) → (⟨S4x16x1024x1, .i32⟩ : BufTy).Contents (Elt F)),
    binary main_arg0 main_v5 main_v6 ((fun x i => Host.gather gather_S4x8192x1024_S4x16x1024x1_S4x16x1024x1024_3_1_0_0_1_3_111024 x i) : (⟨S4x8192x1024, .f32⟩ : BufTy).Contents (Elt F) → (⟨S4x16x1024x1, .i32⟩ : BufTy).Contents (Elt F) → (⟨S4x16x1024x1024, .f32⟩ : BufTy).Contents (Elt F)),
    nullary main_c_1 (constantI S_ 32 0#32),
    unary main_c_1 main_v7 (broadcastInDim S4x16x1024 ![] bcast_S_S4x16x1024 : (⟨S_, .i32⟩ : BufTy).Contents (Elt F) → (⟨S4x16x1024, .i32⟩ : BufTy).Contents (Elt F)),
    binary main_arg2 main_v7 main_v8 (cmpi .slt : (⟨S4x16x1024, .i32⟩ : BufTy).Contents (Elt F) → (⟨S4x16x1024, .i32⟩ : BufTy).Contents (Elt F) → (⟨S4x16x1024, .i1⟩ : BufTy).Contents (Elt F)),
    nullary main_c_2 (constantI S_ 32 8192#32),
    unary main_c_2 main_v9 (broadcastInDim S4x16x1024 ![] bcast_S_S4x16x1024 : (⟨S_, .i32⟩ : BufTy).Contents (Elt F) → (⟨S4x16x1024, .i32⟩ : BufTy).Contents (Elt F)),
    binary main_arg2 main_v9 main_v10 (addi : (⟨S4x16x1024, .i32⟩ : BufTy).Contents (Elt F) → (⟨S4x16x1024, .i32⟩ : BufTy).Contents (Elt F) → (⟨S4x16x1024, .i32⟩ : BufTy).Contents (Elt F)),
    ternary main_v8 main_v10 main_arg2 main_v11 (select : (⟨S4x16x1024, .i1⟩ : BufTy).Contents (Elt F) → (⟨S4x16x1024, .i32⟩ : BufTy).Contents (Elt F) → (⟨S4x16x1024, .i32⟩ : BufTy).Contents (Elt F) → (⟨S4x16x1024, .i32⟩ : BufTy).Contents (Elt F)),
    unary main_v11 main_v12 (broadcastInDim S4x16x1024x1 ![0, 1, 2] bcast_S4x16x1024_S4x16x1024x1_0_1_2 : (⟨S4x16x1024, .i32⟩ : BufTy).Contents (Elt F) → (⟨S4x16x1024x1, .i32⟩ : BufTy).Contents (Elt F)),
    binary main_arg1 main_v12 main_v13 ((fun x i => Host.gather gather_S4x16x8192_S4x16x1024x1_S4x16x1024_n_2_01_01_2_3_111 x i) : (⟨S4x16x8192, .f32⟩ : BufTy).Contents (Elt F) → (⟨S4x16x1024x1, .i32⟩ : BufTy).Contents (Elt F) → (⟨S4x16x1024, .f32⟩ : BufTy).Contents (Elt F)),
    binary main_arg5 main_v6 main_v14 ((fun l r => Host.dotGeneral dot_S16x1024x2048_S4x16x1024x1024_S16x2048x4x1024_1_3_2_02_0_1 none l r) : (⟨S16x1024x2048, .f32⟩ : BufTy).Contents (Elt F) → (⟨S4x16x1024x1024, .f32⟩ : BufTy).Contents (Elt F) → (⟨S16x2048x4x1024, .f32⟩ : BufTy).Contents (Elt F)),
    unary main_v14 main_v15 ((transpose S4x16x1024x2048 [2, 0, 3, 1] · transposes_S16x2048x4x1024_S4x16x1024x2048_2_0_3_1) : (⟨S16x2048x4x1024, .f32⟩ : BufTy).Contents (Elt F) → (⟨S4x16x1024x2048, .f32⟩ : BufTy).Contents (Elt F)),
    unary main_v15 main_call0_v0 (Host.negf : (⟨S4x16x1024x2048, .f32⟩ : BufTy).Contents (Elt F) → (⟨S4x16x1024x2048, .f32⟩ : BufTy).Contents (Elt F)),
    unary main_call0_v0 main_call0_v1 (Host.exp : (⟨S4x16x1024x2048, .f32⟩ : BufTy).Contents (Elt F) → (⟨S4x16x1024x2048, .f32⟩ : BufTy).Contents (Elt F)),
    nullary main_call0_cst (constant S_ .f32 0x3F800000#32),
    unary main_call0_cst main_call0_v2 (broadcastInDim S4x16x1024x2048 ![] bcast_S_S4x16x1024x2048 : (⟨S_, .f32⟩ : BufTy).Contents (Elt F) → (⟨S4x16x1024x2048, .f32⟩ : BufTy).Contents (Elt F)),
    binary main_call0_v2 main_call0_v1 main_call0_v3 (addf : (⟨S4x16x1024x2048, .f32⟩ : BufTy).Contents (Elt F) → (⟨S4x16x1024x2048, .f32⟩ : BufTy).Contents (Elt F) → (⟨S4x16x1024x2048, .f32⟩ : BufTy).Contents (Elt F)),
    nullary main_call0_cst_0 (constant S_ .f32 0x3F800000#32),
    unary main_call0_cst_0 main_call0_v4 (broadcastInDim S4x16x1024x2048 ![] bcast_S_S4x16x1024x2048 : (⟨S_, .f32⟩ : BufTy).Contents (Elt F) → (⟨S4x16x1024x2048, .f32⟩ : BufTy).Contents (Elt F)),
    binary main_call0_v4 main_call0_v3 main_call0_v5 (Host.divf : (⟨S4x16x1024x2048, .f32⟩ : BufTy).Contents (Elt F) → (⟨S4x16x1024x2048, .f32⟩ : BufTy).Contents (Elt F) → (⟨S4x16x1024x2048, .f32⟩ : BufTy).Contents (Elt F)),
    binary main_v15 main_call0_v5 main_v16 (mulf : (⟨S4x16x1024x2048, .f32⟩ : BufTy).Contents (Elt F) → (⟨S4x16x1024x2048, .f32⟩ : BufTy).Contents (Elt F) → (⟨S4x16x1024x2048, .f32⟩ : BufTy).Contents (Elt F)),
    binary main_arg6 main_v6 main_v17 ((fun l r => Host.dotGeneral dot_S16x1024x2048_S4x16x1024x1024_S16x2048x4x1024_1_3_2_02_0_1 none l r) : (⟨S16x1024x2048, .f32⟩ : BufTy).Contents (Elt F) → (⟨S4x16x1024x1024, .f32⟩ : BufTy).Contents (Elt F) → (⟨S16x2048x4x1024, .f32⟩ : BufTy).Contents (Elt F)),
    unary main_v17 main_v18 ((transpose S4x16x1024x2048 [2, 0, 3, 1] · transposes_S16x2048x4x1024_S4x16x1024x2048_2_0_3_1) : (⟨S16x2048x4x1024, .f32⟩ : BufTy).Contents (Elt F) → (⟨S4x16x1024x2048, .f32⟩ : BufTy).Contents (Elt F)),
    binary main_v16 main_v18 main_v19 (mulf : (⟨S4x16x1024x2048, .f32⟩ : BufTy).Contents (Elt F) → (⟨S4x16x1024x2048, .f32⟩ : BufTy).Contents (Elt F) → (⟨S4x16x1024x2048, .f32⟩ : BufTy).Contents (Elt F)),
    binary main_arg7 main_v19 main_v20 ((fun l r => Host.dotGeneral dot_S16x2048x1024_S4x16x1024x2048_S16x1024x4x1024_1_3_2_02_0_1 none l r) : (⟨S16x2048x1024, .f32⟩ : BufTy).Contents (Elt F) → (⟨S4x16x1024x2048, .f32⟩ : BufTy).Contents (Elt F) → (⟨S16x1024x4x1024, .f32⟩ : BufTy).Contents (Elt F)),
    unary main_v20 main_v21 ((transpose S4x16x1024x1024 [2, 0, 3, 1] · transposes_S16x1024x4x1024_S4x16x1024x1024_2_0_3_1) : (⟨S16x1024x4x1024, .f32⟩ : BufTy).Contents (Elt F) → (⟨S4x16x1024x1024, .f32⟩ : BufTy).Contents (Elt F)),
    unary main_v13 main_v22 (broadcastInDim S4x16x1024x1 ![0, 1, 2] bcast_S4x16x1024_S4x16x1024x1_0_1_2 : (⟨S4x16x1024, .f32⟩ : BufTy).Contents (Elt F) → (⟨S4x16x1024x1, .f32⟩ : BufTy).Contents (Elt F)),
    unary main_v22 main_v23 (broadcastInDim S4x16x1024x1024 ![0, 1, 2, 3] bcast_S4x16x1024x1_S4x16x1024x1024_0_1_2_3 : (⟨S4x16x1024x1, .f32⟩ : BufTy).Contents (Elt F) → (⟨S4x16x1024x1024, .f32⟩ : BufTy).Contents (Elt F)),
    binary main_v21 main_v23 main_v24 (mulf : (⟨S4x16x1024x1024, .f32⟩ : BufTy).Contents (Elt F) → (⟨S4x16x1024x1024, .f32⟩ : BufTy).Contents (Elt F) → (⟨S4x16x1024x1024, .f32⟩ : BufTy).Contents (Elt F)),
    unary main_v24 main_v25 ((truncf .bf16 · bitsLt_bf16_f32) : (⟨S4x16x1024x1024, .f32⟩ : BufTy).Contents (Elt F) → (⟨S4x16x1024x1024, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., binary_bufs_sub .., binary_bufs_sub .., unary_bufs_sub .., unary_bufs_sub .., unary_bufs_sub .., binary_bufs_sub .., unary_bufs_sub ..⟩

/-- The slots' tokens as the reference looks them up: one counted from the end if negative. -/
def look (i : IVec S4x16x1024 32) : IVec S4x16x1024x1 32 :=
  broadcastInDim S4x16x1024x1 ![0, 1, 2] bcast_S4x16x1024_S4x16x1024x1_0_1_2
    (select (cmpi .slt i (broadcastInDim S4x16x1024 ![] bcast_S_S4x16x1024 (constantI S_ 32 0#32)))
      (addi i (broadcastInDim S4x16x1024 ![] bcast_S_S4x16x1024 (constantI S_ 32 8192#32))) i)

/-- The rows of the slots' tokens, -/
def taken (h : FVec F S4x8192x1024 .f32) (i : IVec S4x16x1024 32) : FVec F S4x16x1024x1024 .f32 :=
  Host.gather gather_S4x8192x1024_S4x16x1024x1_S4x16x1024x1024_3_1_0_0_1_3_111024 h (look i)

/-- and their gates. -/
def gates (a : FVec F S4x16x8192 .f32) (i : IVec S4x16x1024 32) : FVec F S4x16x1024 .f32 :=
  Host.gather gather_S4x16x8192_S4x16x1024x1_S4x16x1024_n_2_01_01_2_3_111 a (look i)

/-- The rows through an expert's first or third weights. -/
def up (w : FVec F S16x1024x2048 .f32) (x : FVec F S4x16x1024x1024 .f32) : FVec F S4x16x1024x2048 .f32 :=
  transpose S4x16x1024x2048 [2, 0, 3, 1] (Host.dotGeneral dot_S16x1024x2048_S4x16x1024x1024_S16x2048x4x1024_1_3_2_02_0_1 none w x) transposes_S16x2048x4x1024_S4x16x1024x2048_2_0_3_1

/-- The gate function. -/
def silu (x : FVec F S4x16x1024x2048 .f32) : FVec F S4x16x1024x2048 .f32 :=
  mulf x (Host.divf (broadcastInDim S4x16x1024x2048 ![] bcast_S_S4x16x1024x2048 (constant S_ .f32 0x3F800000#32))
    (addf (broadcastInDim S4x16x1024x2048 ![] bcast_S_S4x16x1024x2048 (constant S_ .f32 0x3F800000#32)) (Host.exp (Host.negf x))))

/-- The hidden entries through an expert's second weights. -/
def down (w : FVec F S16x2048x1024 .f32) (x : FVec F S4x16x1024x2048 .f32) : FVec F S4x16x1024x1024 .f32 :=
  transpose S4x16x1024x1024 [2, 0, 3, 1] (Host.dotGeneral dot_S16x2048x1024_S4x16x1024x2048_S16x1024x4x1024_1_3_2_02_0_1 none w x) transposes_S16x1024x4x1024_S4x16x1024x1024_2_0_3_1

/-- The result. -/
def result (h : FVec F S4x8192x1024 .f32) (a : FVec F S4x16x8192 .f32) (i : IVec S4x16x1024 32) (w1 w3 : FVec F S16x1024x2048 .f32)
    (w2 : FVec F S16x2048x1024 .f32) : FVec F S4x16x1024x1024 .bf16 :=
  truncf .bf16 (mulf (down w2 (mulf (silu (up w1 (taken h i))) (up w3 (taken h i))))
    (broadcastInDim S4x16x1024x1024 ![0, 1, 2, 3] bcast_S4x16x1024x1_S4x16x1024x1024_0_1_2_3
      (broadcastInDim S4x16x1024x1 ![0, 1, 2] bcast_S4x16x1024_S4x16x1024x1_0_1_2 (gates a i)))) bitsLt_bf16_f32

set_option maxHeartbeats 1000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = result (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v25).trans (by after_results; rfl),
      (h c main_arg0).trans (by after_results), (h c main_arg1).trans (by after_results), (h c main_arg2).trans (by after_results), (h c main_arg3).trans (by after_results), (h c main_arg4).trans (by after_results), (h c main_arg5).trans (by after_results), (h c main_arg6).trans (by after_results), (h c main_arg7).trans (by after_results)⟩)
    (run_seq scopedRefs_eq scopedSems_eq defs main (fun _ => ops) main_eq (fun _ => ops_sub) m ρ)

end Cert.Reference4Ideal.Value

end
-- ==== Proof.CopyValue.lean ====
/- What the copies leave in one entry of the scratch buffers: where one token alone goes to the entry's row, and the row lies in
   the window of that token's sub-block, the entry grows by that token's row; where no token goes to it, it stays. -/
module

public import proofs.«01_k».proof.Proof.GatherPre
public import Idealize.ShloMosaic.Lib.Pointwise
public import Idealize.ShloMosaic.Lib.IdealHost

@[expose] public section

set_option maxRecDepth 16384

noncomputable section

namespace Cert.Proof.Copies

open Idealize.ShloMosaic Idealize.ShloMosaic.TcCoe
open Cert.Kernel4Ideal Cert.Kernel4Ideal.Gen

theorem addRows_at (s : BitVec 32) (p : Vec Ideal S1x1x128 .i32) (hb : Vec Ideal S1x128x1024 .bf16) (x : Vec Ideal S136x1024 .f32)
    (w : Fin 136) (d : Fin 1024) :
    addRows s p hb x (ix2 w d)
      = x (ix2 w d) + ∑ j : Fin 128, Scalar.select (IntOp.cmpi .eq (IntOp.subi (p (ix3 0 0 j)) (k0_mult1 s)) (BitVec.ofNat 32 w.val))
          (Ideal.ofBits .f32 0x3F800000#32) 0 * hb (ix3 0 j d) := by
  pointwise [addRows, hit]

theorem addGates_at (s : BitVec 32) (p : Vec Ideal S1x1x128 .i32) (a : Vec Ideal S1x1x128 .f32) (g : Vec Ideal S136x128 .f32)
    (w : Fin 136) (l : Fin 128) :
    addGates s p a g (ix2 w l)
      = g (ix2 w l) + ∑ j : Fin 128, Scalar.select (IntOp.cmpi .eq (IntOp.subi (p (ix3 0 0 j)) (k0_mult1 s)) (BitVec.ofNat 32 w.val))
          (a (ix3 0 0 j)) 0 := by
  pointwise [addGates, hit]

/-- Whether a token goes to row `r`, asked of its position less the window's first row. -/
theorem hit_iff (p b : BitVec 32) (r : Nat) (hb : b.toNat ≤ r) (hr : r < 1024) :
    IntOp.cmpi .eq (IntOp.subi p b) (BitVec.ofNat 32 (r - b.toNat)) = 1#1 ↔ p = BitVec.ofNat 32 r := by
  rw [Gather.eq_one_iff]
  have e : BitVec.ofNat 32 (r - b.toNat) = BitVec.ofNat 32 r - b := by
    apply BitVec.eq_of_toNat_eq
    rw [BitVec.toNat_sub, BitVec.toNat_ofNat, BitVec.toNat_ofNat]
    omega
  rw [e]
  show p - b = _ ↔ _
  exact ⟨fun h => by rw [← BitVec.sub_add_cancel p b, h, BitVec.sub_add_cancel], fun h => by rw [h]⟩

/-- Token `j` of sub-block `sb`. -/
abbrev token (sb : Nat) (h : sb < 32) (j : Fin 128) : Fin 4096 := ⟨128 * sb + j.val, by omega⟩

theorem lane_at {α : EltTy → Type} {e : EltTy} (P : S1x1x4096.Idx → α e) (sb : Nat) (h : sb < 32) (j : Fin 128) :
    View.ld (Val := α) (e' := e) P (lanes sb h) (ix3 0 0 j) = P (ix3 0 0 (token sb h j)) := by
  unfold View.ld
  refine congrArg P (funext fun a => Fin.ext ?_)
  match a with
  | ⟨0, _⟩ => rfl
  | ⟨1, _⟩ => rfl
  | ⟨2, _⟩ => show 128 * sb + 1 * j.val = 128 * sb + j.val; omega

theorem tok_at (H : Vec Ideal S1x4096x1024 .bf16) (sb : Nat) (h : sb < 32) (j : Fin 128) (d : Fin 1024) :
    View.ld (Val := Elt Ideal) (e' := .bf16) H (toks sb h) (ix3 0 j d) = H (ix3 0 (token sb h j) d) := by
  unfold View.ld
  refine congrArg H (funext fun a => Fin.ext ?_)
  match a with
  | ⟨0, _⟩ => rfl
  | ⟨1, _⟩ => show 128 * sb + 1 * j.val = 128 * sb + j.val; omega
  | ⟨2, _⟩ => show 0 + 1 * d.val = d.val; omega

/-- Row `r` lies in the window a start names. -/
def Holds (s : BitVec 32) (r : Nat) : Prop := (k0_mult1 s).toNat ≤ r ∧ r < (k0_mult1 s).toNat + 136

/-- 136 rows put into 1024 at row `b`, read at an entry. -/
theorem put_at {n : Nat} (X : (⟨2, ![1024, n]⟩ : Shape).Idx → EReal) (b : Nat) (off : Fin 2 → Nat) (he : off = ![b, 0])
    (w : (⟨2, ![136, n]⟩ : Shape).Idx → EReal) (r : Fin 1024) (d : Fin n) :
    VecWindow.put (s := ⟨2, ![1024, n]⟩) X off ![136, n] w (ix2 r d)
      = if h : b ≤ r.val ∧ r.val < b + 136 then w (ix2 (⟨r.val - b, by omega⟩ : Fin 136) d) else X (ix2 r d) := by
  subst he
  unfold VecWindow.put
  by_cases hw : b ≤ r.val ∧ r.val < b + 136
  · rw [dif_pos hw, dif_pos (show ∀ a : Fin 2, (![b, 0] : Fin 2 → Nat) a ≤ ((ix2 r d : (⟨2, ![1024, n]⟩ : Shape).Idx) a).val
        ∧ ((ix2 r d : (⟨2, ![1024, n]⟩ : Shape).Idx) a).val < (![b, 0] : Fin 2 → Nat) a + (![136, n] : Fin 2 → Nat) a from fun a => by
      match a with
      | ⟨0, _⟩ => exact hw
      | ⟨1, _⟩ => exact ⟨Nat.zero_le _, by show d.val < 0 + n; omega⟩)]
    refine congrArg w (funext fun a => Fin.ext ?_)
    match a with
    | ⟨0, _⟩ => rfl
    | ⟨1, _⟩ => rfl
  · rw [dif_neg hw, dif_neg fun c => hw (c 0)]

/-- The same rows read back. -/
theorem window_at {n : Nat} (X : Vec Ideal ⟨2, ![1024, n]⟩ .f32) (b : Nat) (off : Fin 2 → Nat) (he : off = ![b, 0])
    (inb : ∀ a : Fin 2, off a + (![136, n] : Fin 2 → Nat) a ≤ (![1024, n] : Fin 2 → Nat) a) (r : Fin 1024) (d : Fin n) (h : b ≤ r.val ∧ r.val < b + 136) :
    View.ld (Val := Elt Ideal) (e' := .f32) X (Rect.unit (s := ⟨2, ![1024, n]⟩) off ![136, n] inb) (ix2 (⟨r.val - b, by omega⟩ : Fin 136) d) = X (ix2 r d) := by
  subst he
  unfold View.ld
  refine congrArg X (funext fun a => Fin.ext ?_)
  match a with
  | ⟨0, _⟩ => show b + 1 * (r.val - b) = r.val; omega
  | ⟨1, _⟩ => show 0 + 1 * d.val = d.val; omega

open scoped Classical in
/-- A term, if it is picked. -/
def pick (p : Prop) (x : EReal) : EReal := if p then x else 0

theorem pick_pos {p : Prop} (h : p) (x : EReal) : pick p x = x := if_pos h
theorem pick_neg {p : Prop} (h : ¬ p) (x : EReal) : pick p x = 0 := if_neg h

theorem eq_zero_of_ne_one (v : BitVec 1) (h : v ≠ 1#1) : v = 0#1 := by
  revert v; decide

open scoped Classical in
/-- One copy, at an entry of the rows: inside the window the rows of the sub-block's tokens that go to it are added. -/
theorem rowStep_at (s : BitVec 32) (hs : k0_chk1 s) (P : Vec Ideal S1x1x4096 .i32) (H : Vec Ideal S1x4096x1024 .bf16) (sb : Nat) (h : sb < 32)
    (X : Vec Ideal S1024x1024 .f32) (r d : Fin 1024) :
    rowStep s hs P H sb h X (ix2 r d)
      = if Holds s r.val then X (ix2 r d) + ∑ j : Fin 128, pick (P (ix3 0 0 (token sb h j)) = BitVec.ofNat 32 r.val) (H (ix3 0 (token sb h j) d))
        else X (ix2 r d) := by
  unfold rowStep
  refine (put_at X _ _ (Gather.off2_eq s) _ r d).trans ?_
  by_cases hw : Holds s r.val
  · rw [dif_pos (show _ ∧ _ from hw), if_pos hw, addRows_at]
    refine congrArg₂ (· + ·) (window_at X _ _ (Gather.off2_eq s) _ r d hw) (Finset.sum_congr rfl fun j _ => ?_)
    rw [lane_at, tok_at]
    by_cases hp : P (ix3 0 0 (token sb h j)) = BitVec.ofNat 32 r.val
    · rw [pick_pos hp, WordCmp.select_of_eq_one ((hit_iff _ _ r.val hw.1 r.isLt).mpr hp), Ideal.ofBits_one_f32, one_mul]
    · rw [pick_neg hp, WordCmp.select_of_eq_zero (eq_zero_of_ne_one _ fun c => hp ((hit_iff _ _ r.val hw.1 r.isLt).mp c)), zero_mul]
  · rw [dif_neg (show ¬ (_ ∧ _) from hw), if_neg hw]

open scoped Classical in
/-- The same of the gates, whose 128 lanes all hold the gate. -/
theorem gateStep_at (s : BitVec 32) (hs : k0_chk1 s) (P : Vec Ideal S1x1x4096 .i32) (A : Vec Ideal S1x1x4096 .f32) (sb : Nat) (h : sb < 32)
    (G : Vec Ideal S1024x128 .f32) (r : Fin 1024) (l : Fin 128) :
    gateStep s hs P A sb h G (ix2 r l)
      = if Holds s r.val then G (ix2 r l) + ∑ j : Fin 128, pick (P (ix3 0 0 (token sb h j)) = BitVec.ofNat 32 r.val) (A (ix3 0 0 (token sb h j)))
        else G (ix2 r l) := by
  unfold gateStep
  refine (put_at G _ _ (Gather.off3_eq s) _ r l).trans ?_
  by_cases hw : Holds s r.val
  · rw [dif_pos (show _ ∧ _ from hw), if_pos hw, addGates_at]
    refine congrArg₂ (· + ·) (window_at G _ _ (Gather.off3_eq s) _ r l hw) (Finset.sum_congr rfl fun j _ => ?_)
    rw [lane_at, lane_at]
    by_cases hp : P (ix3 0 0 (token sb h j)) = BitVec.ofNat 32 r.val
    · rw [pick_pos hp, WordCmp.select_of_eq_one ((hit_iff _ _ r.val hw.1 r.isLt).mpr hp)]
    · rw [pick_neg hp, WordCmp.select_of_eq_zero (eq_zero_of_ne_one _ fun c => hp ((hit_iff _ _ r.val hw.1 r.isLt).mp c))]
  · rw [dif_neg (show ¬ (_ ∧ _) from hw), if_neg hw]

section Chain

open scoped Classical

/-! Thirty-two steps, each adding the terms of its 128 tokens that go to a row, if its window holds the row. -/

variable (S : (n : Nat) → n ≤ 32 → EReal) (p : Fin 4096 → Prop) (f : Fin 4096 → EReal) (win : (n : Nat) → n < 32 → Prop)
  (step : ∀ n (h : n < 32), S (n + 1) h
    = if win n h then S n (Nat.le_of_lt h) + ∑ j : Fin 128, pick (p (token n h j)) (f (token n h j)) else S n (Nat.le_of_lt h))

include step

/-- Where no token of the first `n` sub-blocks goes to the row, nothing is added. -/
theorem chain_none : ∀ (n : Nat) (hn : n ≤ 32), (∀ τ : Fin 4096, τ.val < 128 * n → ¬ p τ) → S n hn = S 0 (Nat.zero_le _)
  | 0, _, _ => rfl
  | n + 1, hn, h0 => by
    have ih := chain_none n (Nat.le_of_lt hn) fun τ hτ => h0 τ (by omega)
    rw [step n hn, ih]
    split
    · rw [Finset.sum_eq_zero fun j _ => pick_neg (h0 (token n hn j) (by show 128 * n + j.val < _; omega)) _, add_zero]
    · rfl

/-- Where one token alone goes to the row, and its sub-block's window holds the row, its term is added once. -/
theorem chain_one (q : Fin 4096) (hq : p q) (hu : ∀ τ, p τ → τ = q) (hw : ∀ h, win (q.val / 128) h) :
    ∀ (n : Nat) (hn : n ≤ 32), q.val < 128 * n → S n hn = S 0 (Nat.zero_le _) + f q
  | 0, _, h => absurd h (by omega)
  | n + 1, hn, h => by
    by_cases hlt : q.val < 128 * n
    · have ih := chain_one q hq hu hw n (Nat.le_of_lt hn) hlt
      rw [step n hn, ih]
      have hz : ∀ j : Fin 128, ¬ p (token n hn j) := fun j hp => by
        have e : 128 * n + j.val = q.val := congrArg Fin.val (hu _ hp)
        omega
      split
      · rw [Finset.sum_eq_zero fun j _ => pick_neg (hz j) _, add_zero]
      · rfl
    · have hn' : q.val / 128 = n := by omega
      subst hn'
      have h0 := chain_none S p f win step (q.val / 128) (Nat.le_of_lt hn) fun τ hτ hp => by
        have := hu τ hp
        subst this
        omega
      have hj : token (q.val / 128) hn ⟨q.val % 128, by omega⟩ = q := Fin.ext (by show 128 * (q.val / 128) + q.val % 128 = q.val; omega)
      rw [step _ hn, if_pos (hw _), h0, Finset.sum_eq_single (⟨q.val % 128, by omega⟩ : Fin 128), hj, pick_pos hq]
      · intro j _ hne
        have hp : ¬ p (token (q.val / 128) hn j) := fun hp => hne (Fin.ext (by
          have e : 128 * (q.val / 128) + j.val = q.val := congrArg Fin.val (hu _ hp)
          show j.val = q.val % 128
          omega))
        exact pick_neg hp _
      · exact fun hc => absurd (Finset.mem_univ _) hc

end Chain

section After

variable (i : grid0.Coords) (T : Vec Ideal S8192 .i32) (P : Vec Ideal S1x1x4096 .i32) (A : Vec Ideal S1x1x4096 .f32) (H : Vec Ideal S1x4096x1024 .bf16)
  (chk : ∀ sb (h : sb < 32), k0_chk1 (startOf i T sb h)) (X : Vec Ideal S1024x1024 .f32) (G : Vec Ideal S1024x128 .f32) (r : Fin 1024)

/-- No token of the point goes to row `r`: the row and its gate stay. -/
theorem rowsAfter_none (h0 : ∀ τ : Fin 4096, P (ix3 0 0 τ) ≠ BitVec.ofNat 32 r.val) (d : Fin 1024) :
    rowsAfter i T P H chk X 32 (Nat.le_refl 32) (ix2 r d) = X (ix2 r d) :=
  chain_none (fun n hn => rowsAfter i T P H chk X n hn (ix2 r d)) (fun τ => P (ix3 0 0 τ) = BitVec.ofNat 32 r.val) (fun τ => H (ix3 0 τ d))
    (fun n h => Holds (startOf i T n h) r.val) (fun n h => rowStep_at _ _ P H n h _ r d) 32 (Nat.le_refl 32) fun τ _ => h0 τ

theorem gatesAfter_none (h0 : ∀ τ : Fin 4096, P (ix3 0 0 τ) ≠ BitVec.ofNat 32 r.val) (l : Fin 128) :
    gatesAfter i T P A chk G 32 (Nat.le_refl 32) (ix2 r l) = G (ix2 r l) :=
  chain_none (fun n hn => gatesAfter i T P A chk G n hn (ix2 r l)) (fun τ => P (ix3 0 0 τ) = BitVec.ofNat 32 r.val) (fun τ => A (ix3 0 0 τ))
    (fun n h => Holds (startOf i T n h) r.val) (fun n h => gateStep_at _ _ P A n h _ r l) 32 (Nat.le_refl 32) fun τ _ => h0 τ

variable (q : Fin 4096) (hq : P (ix3 0 0 q) = BitVec.ofNat 32 r.val) (hu : ∀ τ, P (ix3 0 0 τ) = BitVec.ofNat 32 r.val → τ = q)
  (hw : ∀ h, Holds (startOf i T (q.val / 128) h) r.val)

include hq hu hw

/-- Token `q` of the point alone goes to row `r`: its row and its gate are added. -/
theorem rowsAfter_one (d : Fin 1024) : rowsAfter i T P H chk X 32 (Nat.le_refl 32) (ix2 r d) = X (ix2 r d) + H (ix3 0 q d) :=
  chain_one (fun n hn => rowsAfter i T P H chk X n hn (ix2 r d)) (fun τ => P (ix3 0 0 τ) = BitVec.ofNat 32 r.val) (fun τ => H (ix3 0 τ d))
    (fun n h => Holds (startOf i T n h) r.val) (fun n h => rowStep_at _ _ P H n h _ r d) q hq hu hw 32 (Nat.le_refl 32) (by omega)

theorem gatesAfter_one (l : Fin 128) : gatesAfter i T P A chk G 32 (Nat.le_refl 32) (ix2 r l) = G (ix2 r l) + A (ix3 0 0 q) :=
  chain_one (fun n hn => gatesAfter i T P A chk G n hn (ix2 r l)) (fun τ => P (ix3 0 0 τ) = BitVec.ofNat 32 r.val) (fun τ => A (ix3 0 0 τ))
    (fun n h => Holds (startOf i T n h) r.val) (fun n h => gateStep_at _ _ P A n h _ r l) q hq hu hw 32 (Nat.le_refl 32) (by omega)

end After

end Cert.Proof.Copies

end
-- ==== Proof.GatherBlocks.lean ====
/- The blocks a grid point's windows stand at, read out of the arguments. -/
module

public import proofs.«01_k».proof.Proof.CopyValue
public import Idealize.ShloMosaic.Lib.Pipeline.ValueKit
public import Idealize.ShloMosaic.Lib.Pipeline.Covers

@[expose] public section

set_option maxRecDepth 16384

noncomputable section

namespace Cert.Proof.Gather

open Idealize.ShloMosaic Idealize.ShloMosaic.TcCoe
open Cert.Kernel4Ideal Cert.Kernel4Ideal.Gen Cert.Proof.Copies

variable (m : (ℓ : Loc nD τ sig) → Buf (Elt Ideal) ℓ) (c : Dev nD) (t : Fin (cfgM m).N)

/-- The expert, the batch row and the half of the tokens of a grid point. -/
def ex : Fin 16 := grid0.coords t 0
def bt : Fin 4 := grid0.coords t 1
def hf : Fin 2 := grid0.coords t 2

/-- Token `τ` of a grid point's half, counted in the batch row. -/
def tk (τ : Fin 4096) : Fin 8192 := ⟨4096 * (hf m t).val + τ.val, by have := (hf m t).isLt; omega⟩

/-- The row of the reshaped positions and gates that belongs to a grid point. -/
def rw_ : Fin 64 := ⟨16 * (bt m t).val + (ex m t).val, by have := (bt m t).isLt; have := (ex m t).isLt; omega⟩

theorem idx : ((cfgM m).win 0).index t = ![(rw_ m t).val, 0, (hf m t).val]
    ∧ ((cfgM m).win 1).index t = ![(rw_ m t).val, 0, (hf m t).val]
    ∧ ((cfgM m).win 2).index t = ![(bt m t).val, (hf m t).val, 0]
    ∧ ((cfgM m).win 3).index t = ![(ex m t).val, 0, 0]
    ∧ ((cfgM m).win 4).index t = ![(ex m t).val, 0, 0]
    ∧ ((cfgM m).win 5).index t = ![(ex m t).val, 0, 0]
    ∧ ((cfgM m).win 6).index t = ![(bt m t).val, (ex m t).val, 0, 0] := by
  have i0 : (grid0.coords t 0).val < 16 := (grid0.coords t 0).isLt
  have i1 : (grid0.coords t 1).val < 4 := (grid0.coords t 1).isLt
  have i2 : (grid0.coords t 2).val < 2 := (grid0.coords t 2).isLt
  have h0 : ((grid0.coords t 0).val : ℕ) % 2 ^ 32 = (grid0.coords t 0).val := Nat.mod_eq_of_lt (by omega)
  have h1 : ((grid0.coords t 1).val : ℕ) % 2 ^ 32 = (grid0.coords t 1).val := Nat.mod_eq_of_lt (by omega)
  have h2 : ((grid0.coords t 2).val : ℕ) % 2 ^ 32 = (grid0.coords t 2).val := Nat.mod_eq_of_lt (by omega)
  have h3 : (BitVec.ofNat 32 (grid0.coords t 1).val * 16#32 + BitVec.ofNat 32 (grid0.coords t 0).val).toNat
      = 16 * (grid0.coords t 1).val + (grid0.coords t 0).val := by
    rw [BitVec.toNat_add, BitVec.toNat_mul, BitVec.toNat_ofNat, BitVec.toNat_ofNat, BitVec.toNat_ofNat]
    omega
  refine ⟨?_, ?_, ?_, ?_, ?_, ?_, ?_⟩ <;> (funext a; fin_cases a)
  all_goals (first | rfl | exact h0 | exact h1 | exact h2 | exact h3)

theorem v0_eq : V m c main_v0 = truncf (F := Ideal) .bf16 (m ((c : Thread nD τ).loc main_arg0)) bitsLt_bf16_f32 := by
  show StableHlo.after hostOps0 (fun b => m (c, b)) (Proc.devRef .tc main_v0) = _
  after_reads_simp
theorem v1_eq : V m c main_v1 = truncf (F := Ideal) .bf16 (m ((c : Thread nD τ).loc main_arg5)) bitsLt_bf16_f32 := by
  show StableHlo.after hostOps0 (fun b => m (c, b)) (Proc.devRef .tc main_v1) = _
  after_reads_simp
theorem v2_eq : V m c main_v2 = truncf (F := Ideal) .bf16 (m ((c : Thread nD τ).loc main_arg6)) bitsLt_bf16_f32 := by
  show StableHlo.after hostOps0 (fun b => m (c, b)) (Proc.devRef .tc main_v2) = _
  after_reads_simp
theorem v3_eq : V m c main_v3 = truncf (F := Ideal) .bf16 (m ((c : Thread nD τ).loc main_arg7)) bitsLt_bf16_f32 := by
  show StableHlo.after hostOps0 (fun b => m (c, b)) (Proc.devRef .tc main_v3) = _
  after_reads_simp
theorem v5_eq : V m c main_v5 = shapeCast S64x1x8192 (m ((c : Thread nD τ).loc main_arg3) : S4x16x8192.Idx → BitVec 32) shapeCasts_S4x16x8192_S64x1x8192 := by
  show StableHlo.after hostOps0 (fun b => m (c, b)) (Proc.devRef .tc main_v5) = _
  after_reads_simp; rfl
theorem v6_eq : V m c main_v6 = shapeCast S64x1x8192 (m ((c : Thread nD τ).loc main_arg1) : S4x16x8192.Idx → EReal) shapeCasts_S4x16x8192_S64x1x8192 := by
  show StableHlo.after hostOps0 (fun b => m (c, b)) (Proc.devRef .tc main_v6) = _
  after_reads_simp; rfl

/-- The reshaped rows: row `16 b + e` is batch row `b`, expert `e`. -/
theorem unfolded_at {α : Type} (x : S4x16x8192.Idx → α) (b : Fin 4) (e : Fin 16) (n : Fin 8192) :
    shapeCast S64x1x8192 x shapeCasts_S4x16x8192_S64x1x8192 (ix3 (⟨16 * b.val + e.val, by omega⟩ : Fin 64) 0 n) = x (ix3 b e n) := by
  have h : ∀ r : Fin 64, shapeCast S64x1x8192 x shapeCasts_S4x16x8192_S64x1x8192 (ix3 r 0 n)
      = x (ix3 ⟨r.val / 16, by omega⟩ ⟨r.val % 16, by omega⟩ n) := fun r => by pointwise
  refine (h _).trans (congrArg x (funext fun a => Fin.ext ?_))
  match a with
  | ⟨0, _⟩ => show (16 * b.val + e.val) / 16 = b.val; omega
  | ⟨1, _⟩ => show (16 * b.val + e.val) % 16 = e.val; omega
  | ⟨2, _⟩ => rfl

theorem pos_at (τ' : Fin 4096) :
    posB m c t (ix3 0 0 τ') = (m ((c : Thread nD τ).loc main_arg3) : S4x16x8192.Idx → BitVec 32) (ix3 (bt m t) (ex m t) (tk m t τ')) := by
  have e : posB m c t (ix3 0 0 τ') = (V m c main_v5 : S64x1x8192.Idx → BitVec 32) (ix3 (rw_ m t) 0 (tk m t τ')) := by
    blk_ext! [iblk, idx m t, tk]
  rw [e, v5_eq]
  exact unfolded_at _ _ _ _

theorem aff_at (τ' : Fin 4096) :
    affB m c t (ix3 0 0 τ') = (m ((c : Thread nD τ).loc main_arg1) : S4x16x8192.Idx → EReal) (ix3 (bt m t) (ex m t) (tk m t τ')) := by
  have e : affB m c t (ix3 0 0 τ') = (V m c main_v6 : S64x1x8192.Idx → EReal) (ix3 (rw_ m t) 0 (tk m t τ')) := by
    blk_ext! [iblk, idx m t, tk]
  rw [e, v6_eq]
  exact unfolded_at _ _ _ _

theorem row_at (τ' : Fin 4096) (d : Fin 1024) :
    rowB m c t (ix3 0 τ' d) = (m ((c : Thread nD τ).loc main_arg0) : S4x8192x1024.Idx → EReal) (ix3 (bt m t) (tk m t τ') d) := by
  have e : rowB m c t (ix3 0 τ' d) = (V m c main_v0 : S4x8192x1024.Idx → EReal) (ix3 (bt m t) (tk m t τ') d) := by
    blk_ext! [iblk, idx m t, tk]
  rw [e, v0_eq]; rfl

theorem w1_at (d : Fin 1024) (f : Fin 2048) :
    w1B m c t (ix3 0 d f) = (m ((c : Thread nD τ).loc main_arg5) : S16x1024x2048.Idx → EReal) (ix3 (ex m t) d f) := by
  have e : w1B m c t (ix3 0 d f) = (V m c main_v1 : S16x1024x2048.Idx → EReal) (ix3 (ex m t) d f) := by
    blk_ext! [iblk, idx m t]
  rw [e, v1_eq]; rfl

theorem w3_at (d : Fin 1024) (f : Fin 2048) :
    w3B m c t (ix3 0 d f) = (m ((c : Thread nD τ).loc main_arg6) : S16x1024x2048.Idx → EReal) (ix3 (ex m t) d f) := by
  have e : w3B m c t (ix3 0 d f) = (V m c main_v2 : S16x1024x2048.Idx → EReal) (ix3 (ex m t) d f) := by
    blk_ext! [iblk, idx m t]
  rw [e, v2_eq]; rfl

theorem w2_at (f : Fin 2048) (j : Fin 1024) :
    w2B m c t (ix3 0 f j) = (m ((c : Thread nD τ).loc main_arg7) : S16x2048x1024.Idx → EReal) (ix3 (ex m t) f j) := by
  have e : w2B m c t (ix3 0 f j) = (V m c main_v3 : S16x2048x1024.Idx → EReal) (ix3 (ex m t) f j) := by
    blk_ext! [iblk, idx m t]
  rw [e, v3_eq]; rfl

end Cert.Proof.Gather

end
-- ==== Proof.GatherRows.lean ====
/- What the scratch buffers hold at the end of an expert's pass over a batch row: slot by slot, the row and the gate of the token
   routed there. -/
module

public import proofs.«01_k».proof.Proof.GatherBlocks

@[expose] public section

set_option maxRecDepth 16384

noncomputable section

namespace Cert.Proof.Gather

open Idealize.ShloMosaic Idealize.ShloMosaic.TcCoe
open Cert.Kernel4Ideal Cert.Kernel4Ideal.Gen Cert.Proof.Copies

attribute [local irreducible] rowsAfter gatesAfter

theorem pay8_at (r d : Fin 1024) : (k0_pay8 (F := Ideal)) (ix2 r d) = 0 := by
  pointwise [k0_pay8]

theorem pay9_at (r : Fin 1024) (l : Fin 128) : (k0_pay9 (F := Ideal)) (ix2 r l) = 0 := by
  pointwise [k0_pay9]

variable (m : (ℓ : Loc nD τ sig) → Buf (Elt Ideal) ℓ) (c : Dev nD)

/-- The arguments, by their shapes. -/
abbrev hA : S4x8192x1024.Idx → EReal := m ((c : Thread nD τ).loc main_arg0)
abbrev affA : S4x16x8192.Idx → EReal := m ((c : Thread nD τ).loc main_arg1)
abbrev idxA : S4x16x1024.Idx → BitVec 32 := m ((c : Thread nD τ).loc main_arg2)
abbrev posA : S4x16x8192.Idx → BitVec 32 := m ((c : Thread nD τ).loc main_arg3)

/-- A point of the second half and the one before it belong to the same expert and batch row, and are its two halves. -/
theorem prev_eq (t : Fin (cfgM m).N) (h : t.val % 2 = 1) :
    ex m (prev m t) = ex m t ∧ bt m (prev m t) = bt m t ∧ hf m (prev m t) = 0 ∧ hf m t = 1 := by
  have c0 : ∀ s : Fin (cfgM m).N, (ex m s).val = s.val / 8 := fun s => by
    have hs : s.val < 128 := s.isLt
    show s.val / 8 % 16 = _
    omega
  have c1 : ∀ s : Fin (cfgM m).N, (bt m s).val = s.val / 2 % 4 := fun s => rfl
  have c2 : ∀ s : Fin (cfgM m).N, (hf m s).val = s.val % 2 := coord2 m
  have e : (prev m t).val = t.val - 1 := rfl
  refine ⟨Fin.ext ?_, Fin.ext ?_, Fin.ext ?_, Fin.ext ?_⟩
  · rw [c0, c0, e]; omega
  · rw [c1, c1, e]; omega
  · rw [c2, e]; show (t.val - 1) % 2 = 0; omega
  · rw [c2]; exact h

variable (good : Good m) (hr : Routed (idxA m 0) (posA m 0) (starts m))

/-- The token in a slot. -/
def src (b : Fin 4) (e : Fin 16) (r : Fin 1024) : Fin 8192 := ⟨(idxA m 0 (ix3 b e r)).toNat % 8192, Nat.mod_lt _ (by decide)⟩

include hr

theorem src_iff (b : Fin 4) (e : Fin 16) (r : Fin 1024) (n : Fin 8192) :
    posA m 0 (ix3 b e n) = BitVec.ofNat 32 r.val ↔ n = src m b e r := by
  rw [hr.paired b e n r]
  have hi := hr.inside (ix3 b e r)
  constructor
  · intro h
    refine Fin.ext ?_
    show n.val = (idxA m 0 (ix3 b e r)).toNat % 8192
    rw [h, BitVec.toNat_ofNat]
    omega
  · rintro rfl
    apply BitVec.eq_of_toNat_eq
    rw [BitVec.toNat_ofNat]
    show _ = (idxA m 0 (ix3 b e r)).toNat % 8192 % 2 ^ 32
    omega

/-- The window of the token's sub-block holds its slot. -/
theorem holds (t : Fin (cfgM m).N) (r : Fin 1024) (q : Fin 4096) (hq : tk m t q = src m (bt m t) (ex m t) r) (h : q.val / 128 < 32) :
    Holds (startOf (grid0.coords t) (words m) (q.val / 128) h) r.val := by
  rw [startOf_eq]
  have hp := (src_iff m hr (bt m t) (ex m t) r (tk m t q)).mpr hq
  have hw := hr.window _ _ _ _ hp
  have hx : (⟨(tk m t q).val / 128, by have := (tk m t q).isLt; omega⟩ : Fin 128)
      = ⟨(grid0.coords t 2).val * 32 + q.val / 128, by have : (grid0.coords t 2).val < 2 := (grid0.coords t 2).isLt; omega⟩ :=
    Fin.ext (by show (4096 * (grid0.coords t 2).val + q.val) / 128 = (grid0.coords t 2).val * 32 + q.val / 128; omega)
  rw [hx] at hw
  have hs := base_val (starts m (ix3 (grid0.coords t 1) (grid0.coords t 0)
    ⟨(grid0.coords t 2).val * 32 + q.val / 128, by have : (grid0.coords t 2).val < 2 := (grid0.coords t 2).isLt; omega⟩)) (hr.nonneg _)
  have h1 : (starts m (ix3 (grid0.coords t 1) (grid0.coords t 0)
    ⟨(grid0.coords t 2).val * 32 + q.val / 128, by have : (grid0.coords t 2).val < 2 := (grid0.coords t 2).isLt; omega⟩)).toNat ≤ r.val := hw.1
  have h2 : r.val < (starts m (ix3 (grid0.coords t 1) (grid0.coords t 0)
    ⟨(grid0.coords t 2).val * 32 + q.val / 128, by have : (grid0.coords t 2).val < 2 := (grid0.coords t 2).isLt; omega⟩)).toNat + 128 := hw.2
  have := r.isLt
  unfold Holds
  rw [hs]
  omega

variable (t : Fin (cfgM m).N) (r : Fin 1024)

theorem hit_none (h : ∀ q, tk m t q ≠ src m (bt m t) (ex m t) r) (τ' : Fin 4096) : posB m 0 t (ix3 0 0 τ') ≠ BitVec.ofNat 32 r.val := by
  rw [pos_at]
  exact fun hp => h τ' ((src_iff m hr _ _ r _).mp hp)

theorem hit_self (q : Fin 4096) (h : tk m t q = src m (bt m t) (ex m t) r) : posB m 0 t (ix3 0 0 q) = BitVec.ofNat 32 r.val := by
  rw [pos_at]
  exact (src_iff m hr _ _ r _).mpr h

theorem hit_only (q : Fin 4096) (h : tk m t q = src m (bt m t) (ex m t) r) (τ' : Fin 4096)
    (hp : posB m 0 t (ix3 0 0 τ') = BitVec.ofNat 32 r.val) : τ' = q := by
  rw [pos_at] at hp
  have e : (tk m t τ').val = (tk m t q).val := congrArg Fin.val (((src_iff m hr _ _ r _).mp hp).trans h.symm)
  refine Fin.ext ?_
  have e' : 4096 * (hf m t).val + τ'.val = 4096 * (hf m t).val + q.val := e
  omega

omit hr in
/-- The token of a slot lies in one of the two halves, and not in the other. -/
theorem split (h : t.val % 2 = 1) :
    (∃ q, tk m (prev m t) q = src m (bt m (prev m t)) (ex m (prev m t)) r ∧ ∀ q', tk m t q' ≠ src m (bt m t) (ex m t) r)
    ∨ ∃ q, tk m t q = src m (bt m t) (ex m t) r ∧ ∀ q', tk m (prev m t) q' ≠ src m (bt m (prev m t)) (ex m (prev m t)) r := by
  obtain ⟨pe, pb, ph, th⟩ := prev_eq m t h
  rw [pe, pb]
  have hlt := (src m (bt m t) (ex m t) r).isLt
  have v0 : ∀ q, (tk m (prev m t) q).val = q.val := fun q => by
    show 4096 * (hf m (prev m t)).val + q.val = _
    rw [ph]
    exact Nat.zero_add _
  have v1 : ∀ q, (tk m t q).val = 4096 + q.val := fun q => by
    show 4096 * (hf m t).val + q.val = _
    rw [th]
    rfl
  by_cases hq : (src m (bt m t) (ex m t) r).val < 4096
  · refine .inl ⟨⟨_, hq⟩, Fin.ext (v0 _), fun q e => ?_⟩
    have := v1 q
    rw [e] at this
    omega
  · refine .inr ⟨⟨(src m (bt m t) (ex m t) r).val - 4096, by omega⟩, Fin.ext ?_, fun q e => ?_⟩
    · rw [v1]
      show 4096 + ((src m (bt m t) (ex m t) r).val - 4096) = _
      omega
    · have := v0 q
      rw [e] at this
      have := q.isLt
      omega

/-- The rows at the end of the pass, -/
theorem rowsLast_at (h : t.val % 2 = 1) (d : Fin 1024) :
    rowsLast m good 0 t (ix2 r d) = hA m 0 (ix3 (bt m t) (src m (bt m t) (ex m t) r) d) := by
  obtain ⟨pe, pb, -, -⟩ := prev_eq m t h
  unfold rowsLast rowsFirst
  rcases split m t r h with ⟨q, h0, h1⟩ | ⟨q, h1, h0⟩
  · rw [rowsAfter_none _ _ _ _ _ _ _ (hit_none m hr t r h1),
      rowsAfter_one _ _ _ _ _ _ _ _ (hit_self m hr _ r _ h0) (hit_only m hr _ r _ h0) (holds m hr _ r _ h0), pay8_at, zero_add, row_at, h0, pe, pb]
  · rw [rowsAfter_one _ _ _ _ _ _ _ _ (hit_self m hr _ r _ h1) (hit_only m hr _ r _ h1) (holds m hr _ r _ h1), row_at, h1,
      rowsAfter_none _ _ _ _ _ _ _ (hit_none m hr _ r h0), pay8_at, zero_add]

/-- and the gates. -/
theorem gatesLast_at (h : t.val % 2 = 1) (l : Fin 128) :
    gatesLast m good 0 t (ix2 r l) = affA m 0 (ix3 (bt m t) (ex m t) (src m (bt m t) (ex m t) r)) := by
  obtain ⟨pe, pb, -, -⟩ := prev_eq m t h
  unfold gatesLast gatesFirst
  rcases split m t r h with ⟨q, h0, h1⟩ | ⟨q, h1, h0⟩
  · rw [gatesAfter_none _ _ _ _ _ _ _ (hit_none m hr t r h1),
      gatesAfter_one _ _ _ _ _ _ _ _ (hit_self m hr _ r _ h0) (hit_only m hr _ r _ h0) (holds m hr _ r _ h0), pay9_at, zero_add, aff_at, h0, pe, pb]
  · rw [gatesAfter_one _ _ _ _ _ _ _ _ (hit_self m hr _ r _ h1) (hit_only m hr _ r _ h1) (holds m hr _ r _ h1), aff_at, h1,
      gatesAfter_none _ _ _ _ _ _ _ (hit_none m hr _ r h0), pay9_at, zero_add]

end Cert.Proof.Gather

end
-- ==== Proof.GatherEntry.lean ====
/- The reference of the experts' feed-forward, read at an entry. -/
module

public import proofs.«01_k».proof.Proof.GatherReference
public import Idealize.ShloMosaic.Lib.Pointwise
public import Idealize.ShloMosaic.Lib.IdealHost
public import Idealize.ShloMosaic.Lib.WordCmp

@[expose] public section

set_option maxRecDepth 16384

noncomputable section

namespace Cert.Experts

open Idealize.ShloMosaic

/-- Row `x` through an expert's columns `w`. -/
def through {n k : Nat} (x : Fin n → EReal) (w : (⟨3, ![16, n, k]⟩ : Shape).Idx → EReal) (e : Fin 16) (f : Fin k) : EReal :=
  ∑ d : Fin n, x d * w (ix3 e d f)

/-- The hidden entries of row `x` at expert `e`. -/
def hidden (x : Fin 1024 → EReal) (w1 w3 : (⟨3, ![16, 1024, 2048]⟩ : Shape).Idx → EReal) (e : Fin 16) (f : Fin 2048) : EReal :=
  through x w1 e f * Ideal.logistic (through x w1 e f) * through x w3 e f

/-- One entry of the result: the row `x` through expert `e`, times its gate `g`. -/
def entry (x : Fin 1024 → EReal) (g : EReal) (w1 w3 : (⟨3, ![16, 1024, 2048]⟩ : Shape).Idx → EReal)
    (w2 : (⟨3, ![16, 2048, 1024]⟩ : Shape).Idx → EReal) (e : Fin 16) (j : Fin 1024) : EReal :=
  through (hidden x w1 w3 e) w2 e j * g

end Cert.Experts

namespace Cert.Reference4Ideal.Value

open Cert.Reference4Ideal Cert.Reference4Ideal.Gen Idealize.ShloMosaic Cert.Experts

variable (i : IVec S4x16x1024 32) (inside : ∀ x, (i x).toNat < 8192) (b : Fin 4) (e : Fin 16) (r : Fin 1024)

include inside in
/-- A slot's token is not negative, so it is looked up as it stands. -/
theorem look_at : look i (ix4 b e r 0) = i (ix3 b e r) := by
  have h : look i (ix4 b e r 0) = Scalar.select (IntOp.cmpi .slt (i (ix3 b e r)) 0#32) (IntOp.addi (i (ix3 b e r)) 8192#32) (i (ix3 b e r)) := by
    pointwise [look]
  rw [h, WordCmp.cmpi_slt_zero, decide_eq_false (by have := inside (ix3 b e r); show ¬ 2 ^ 31 ≤ _; omega)]
  rfl

/-- The token in a slot. -/
def src : Fin 8192 := ⟨(i (ix3 b e r)).toNat % 8192, Nat.mod_lt _ (by decide)⟩

include inside in
theorem clamp_src (N : Nat) (hN : N = 8191) : min (look i (ix4 b e r 0)).toInt.toNat N = (src i b e r).val := by
  have hi := inside (ix3 b e r)
  rw [look_at i inside, WordCmp.toInt_eq_toNat_of_lt_half (by show _ < 2 ^ 31; omega), hN]
  show min (((i (ix3 b e r)).toNat : Int)).toNat 8191 = (i (ix3 b e r)).toNat % 8192
  omega

/-- How the rows are looked up. -/
abbrev rowsDims := gather_S4x8192x1024_S4x16x1024x1_S4x16x1024x1024_3_1_0_0_1_3_111024

/-- How the gates are looked up. -/
abbrev gateDims := gather_S4x16x8192_S4x16x1024x1_S4x16x1024_n_2_01_01_2_3_111

include inside in
theorem taken_at (h : FVec Ideal S4x8192x1024 .f32) (d : Fin 1024) : taken h i (ix4 b e r d) = h (ix3 b (src i b e r) d) := by
  unfold taken Host.gather
  refine congrArg h (funext fun (a : Fin 3) => Fin.ext ?_)
  show rowsDims.start (ix4 b e r d) (look i) a + rowsDims.batchCoord (ix4 b e r d) a + rowsDims.offCoord (ix4 b e r d) a = _
  match a with
  | 0 =>
    rw [GatherDims.start_batching _ _ _ _ (by decide), GatherDims.offCoord_eq_zero _ _ _ (by decide)]
    unfold GatherDims.batchCoord
    rw [dif_pos (by decide)]
    exact Nat.zero_add _
  | 1 =>
    rw [GatherDims.batchCoord_eq_zero _ _ _ (by decide), GatherDims.offCoord_eq_zero _ _ _ (by decide)]
    unfold GatherDims.start
    rw [dif_pos (by decide)]
    refine Eq.trans ?_ (clamp_src i inside b e r _ rfl)
    refine congrArg (fun x => min (look i x).toInt.toNat 8191) (funext fun (c : Fin 4) => Fin.ext ?_)
    match c with
    | 0 => rfl
    | 1 => rfl
    | 2 => rfl
    | 3 => rfl
  | 2 =>
    rw [GatherDims.batchCoord_eq_zero _ _ _ (by decide)]
    unfold GatherDims.start GatherDims.offCoord
    rw [dif_neg (by decide), dif_pos (by decide)]
    exact Nat.zero_add _

include inside in
theorem gates_at (a : FVec Ideal S4x16x8192 .f32) : gates a i (ix3 b e r) = a (ix3 b e (src i b e r)) := by
  unfold gates Host.gather
  refine congrArg a (funext fun (k : Fin 3) => Fin.ext ?_)
  show gateDims.start (ix3 b e r) (look i) k + gateDims.batchCoord (ix3 b e r) k + gateDims.offCoord (ix3 b e r) k = _
  match k with
  | 0 =>
    rw [GatherDims.start_batching _ _ _ _ (by decide), GatherDims.offCoord_eq_zero _ _ _ (by decide)]
    unfold GatherDims.batchCoord
    rw [dif_pos (by decide)]
    exact Nat.zero_add _
  | 1 =>
    rw [GatherDims.start_batching _ _ _ _ (by decide), GatherDims.offCoord_eq_zero _ _ _ (by decide)]
    unfold GatherDims.batchCoord
    rw [dif_pos (by decide)]
    exact Nat.zero_add _
  | 2 =>
    rw [GatherDims.batchCoord_eq_zero _ _ _ (by decide), GatherDims.offCoord_eq_zero _ _ _ (by decide)]
    unfold GatherDims.start
    rw [dif_pos (by decide)]
    refine Eq.trans ?_ (clamp_src i inside b e r _ rfl)
    refine congrArg (fun x => min (look i x).toInt.toNat 8191) (funext fun (c : Fin 4) => Fin.ext ?_)
    match c with
    | 0 => rfl
    | 1 => rfl
    | 2 => rfl
    | 3 => rfl

theorem up_at (w : FVec Ideal S16x1024x2048 .f32) (x : FVec Ideal S4x16x1024x1024 .f32) (f : Fin 2048) :
    up w x (ix4 b e r f) = through (fun d => x (ix4 b e r d)) w e f := by
  have h : up w x (ix4 b e r f) = ∑ d : Fin 1024, w (ix3 e d f) * x (ix4 b e r d) := by
    pointwise [up]
  rw [h]
  exact Finset.sum_congr rfl fun d _ => mul_comm _ _

theorem down_at (w : FVec Ideal S16x2048x1024 .f32) (x : FVec Ideal S4x16x1024x2048 .f32) (j : Fin 1024) :
    down w x (ix4 b e r j) = through (fun f => x (ix4 b e r f)) w e j := by
  have h : down w x (ix4 b e r j) = ∑ f : Fin 2048, w (ix3 e f j) * x (ix4 b e r f) := by
    pointwise [down]
  rw [h]
  exact Finset.sum_congr rfl fun d _ => mul_comm _ _

theorem silu_at (x : FVec Ideal S4x16x1024x2048 .f32) (f : Fin 2048) :
    silu x (ix4 b e r f) = x (ix4 b e r f) * Ideal.logistic (x (ix4 b e r f)) := by
  pointwise [silu, Ideal.logistic]

include inside in
theorem result_at (h : FVec Ideal S4x8192x1024 .f32) (a : FVec Ideal S4x16x8192 .f32) (w1 w3 : FVec Ideal S16x1024x2048 .f32)
    (w2 : FVec Ideal S16x2048x1024 .f32) (j : Fin 1024) :
    result h a i w1 w3 w2 (ix4 b e r j)
      = entry (fun d => h (ix3 b (src i b e r) d)) (a (ix3 b e (src i b e r))) w1 w3 w2 e j := by
  have h0 : result h a i w1 w3 w2 (ix4 b e r j)
      = down w2 (mulf (silu (up w1 (taken h i))) (up w3 (taken h i))) (ix4 b e r j) * gates a i (ix3 b e r) := by
    pointwise [result]
  rw [h0, gates_at i inside, down_at]
  unfold entry
  congr 1
  have hx : (fun d => taken h i (ix4 b e r d)) = fun d => h (ix3 b (src i b e r) d) := funext fun d => taken_at i inside b e r h d
  have hf : (fun f => (mulf (silu (up w1 (taken h i))) (up w3 (taken h i)) : FVec Ideal S4x16x1024x2048 .f32) (ix4 b e r f))
      = hidden (fun d => h (ix3 b (src i b e r) d)) w1 w3 e := funext fun f => by
    show silu (up w1 (taken h i)) (ix4 b e r f) * up w3 (taken h i) (ix4 b e r f) = _
    rw [silu_at, up_at, up_at, hx]
    rfl
  rw [hf]

end Cert.Reference4Ideal.Value

end
-- ==== Proof.GatherValue.lean ====
/- The experts' feed-forward and its reference leave the same array. -/
module

public import proofs.«01_k».proof.Proof.GatherRows
public import proofs.«01_k».proof.Proof.GatherBits
public import proofs.«01_k».proof.Proof.GatherRun
public import proofs.«01_k».proof.Proof.GatherEntry

@[expose] public section

set_option maxRecDepth 16384

noncomputable section

namespace Cert.Proof.Gather

open Idealize.ShloMosaic Idealize.ShloMosaic.TcCoe
open Cert.Kernel4Ideal Cert.Kernel4Ideal.Gen Cert.Proof.Copies Cert.Experts

attribute [local irreducible] rowsAfter gatesAfter

/-! ## A grid point's block -/

/-- Half of an expert's block, at an entry. -/
theorem block_at (x : FVec Ideal S512x1024 .f32) (w1 w3 : FVec Ideal S1x1024x2048 .bf16) (w2 : FVec Ideal S1x2048x1024 .bf16)
    (g : FVec Ideal S512x1 .f32) (r : Fin 512) (j : Fin 1024) :
    block (F := Ideal) x w1 w3 w2 g (ix4 0 0 r j)
      = (∑ f : Fin 2048, ((∑ d : Fin 1024, x (ix2 r d) * w1 (ix3 0 d f)) * Ideal.logistic (∑ d : Fin 1024, x (ix2 r d) * w1 (ix3 0 d f))
          * (∑ d : Fin 1024, x (ix2 r d) * w3 (ix3 0 d f))) * w2 (ix3 0 f j)) * g (ix2 r 0) := by
  pointwise [block]

/-- The same, for a half whose row and gate are known. -/
theorem block_row (x : FVec Ideal S512x1024 .f32) (w1 w3 : FVec Ideal S1x1024x2048 .bf16) (w2 : FVec Ideal S1x2048x1024 .bf16)
    (g : FVec Ideal S512x1 .f32) (r : Fin 512) (j : Fin 1024) (X : Fin 1024 → EReal) (γ : EReal) (hx : ∀ d, x (ix2 r d) = X d) (hg : g (ix2 r 0) = γ) :
    block (F := Ideal) x w1 w3 w2 g (ix4 0 0 r j)
      = (∑ f : Fin 2048, ((∑ d : Fin 1024, X d * w1 (ix3 0 d f)) * Ideal.logistic (∑ d : Fin 1024, X d * w1 (ix3 0 d f))
          * (∑ d : Fin 1024, X d * w3 (ix3 0 d f))) * w2 (ix3 0 f j)) * γ := by
  rw [block_at, hg]
  simp only [hx]

/-- Slot `r` of the first half, and of the second. -/
def lo (r : Fin 512) : Fin 1024 := ⟨r.val, by omega⟩
def hi (r : Fin 512) : Fin 1024 := ⟨512 + r.val, by omega⟩

variable (X : Vec Ideal S1024x1024 .f32) (G : Vec Ideal S1024x128 .f32) (r : Fin 512)

theorem topRows_at (d : Fin 1024) : View.ld X topRows (ix2 r d) = X (ix2 (lo r) d) :=
  congrArg X (funext fun (a : Fin 2) => Fin.ext (match a with
    | 0 => show 0 + 1 * r.val = r.val by omega
    | 1 => show 0 + 1 * d.val = d.val by omega))

theorem botRows_at (d : Fin 1024) : View.ld X botRows (ix2 r d) = X (ix2 (hi r) d) :=
  congrArg X (funext fun (a : Fin 2) => Fin.ext (match a with
    | 0 => show 512 + 1 * r.val = 512 + r.val by omega
    | 1 => show 0 + 1 * d.val = d.val by omega))

theorem topGates_at : View.ld G topGates (ix2 r 0) = G (ix2 (lo r) 0) :=
  congrArg G (funext fun (a : Fin 2) => Fin.ext (match a with
    | 0 => show 0 + 1 * r.val = r.val by omega
    | 1 => rfl))

theorem botGates_at : View.ld G botGates (ix2 r 0) = G (ix2 (hi r) 0) :=
  congrArg G (funext fun (a : Fin 2) => Fin.ext (match a with
    | 0 => show 512 + 1 * r.val = 512 + r.val by omega
    | 1 => rfl))

theorem topOut_at (j : Fin 1024) : topOut.emb (ix4 0 0 r j) = ix4 0 0 (lo r) j :=
  funext fun (a : Fin 4) => Fin.ext (match a with
    | 0 => rfl
    | 1 => rfl
    | 2 => show 0 + 1 * r.val = r.val by omega
    | 3 => show 0 + 1 * j.val = j.val by omega)

theorem botOut_at (j : Fin 1024) : botOut.emb (ix4 0 0 r j) = ix4 0 0 (hi r) j :=
  funext fun (a : Fin 4) => Fin.ext (match a with
    | 0 => rfl
    | 1 => rfl
    | 2 => show 512 + 1 * r.val = 512 + r.val by omega
    | 3 => show 0 + 1 * j.val = j.val by omega)

/-- The first half is not under the second half's store. -/
theorem lo_not_bot (j : Fin 1024) : (ix4 0 0 (lo r) j : S1x1x1024x1024.Idx) ∉ botOut.set := fun h => by
  obtain ⟨x, hx⟩ := botOut.exists_idx_of_mem h
  have h2 : (botOut.emb x (2 : Fin 4)).val = r.val := congrArg (fun y : S1x1x1024x1024.Idx => (y (2 : Fin 4)).val) hx
  have h3 : 512 ≤ (botOut.emb x (2 : Fin 4)).val := Nat.le_add_right 512 _
  exact absurd r.isLt (Nat.not_lt.mpr (h2 ▸ h3))

/-- The two halves' stores, read in the first half, -/
theorem canon_lo (p0 p1 : Vec Ideal S1x1x512x1024 .bf16) (j : Fin 1024) :
    View.canon (Val := Elt Ideal) (s := S1x1x1024x1024) (e := .bf16) [⟨botOut, p0⟩, ⟨topOut, p1⟩] (ix4 0 0 (lo r) j) = p1 (ix4 0 0 r j) :=
  (View.canon_cons_of_not_mem (Val := Elt Ideal) (e := .bf16) ⟨botOut, p0⟩ [⟨topOut, p1⟩] (lo_not_bot r j)).trans
    ((congrArg (View.canon (Val := Elt Ideal) (e := .bf16) [⟨topOut, p1⟩]) (topOut_at r j).symm).trans (View.canon_cons_emb topOut p1 [] (ix4 0 0 r j)))

/-- and in the second. -/
theorem canon_hi (p0 p1 : Vec Ideal S1x1x512x1024 .bf16) (j : Fin 1024) :
    View.canon (Val := Elt Ideal) (s := S1x1x1024x1024) (e := .bf16) [⟨botOut, p0⟩, ⟨topOut, p1⟩] (ix4 0 0 (hi r) j) = p0 (ix4 0 0 r j) :=
  (congrArg (View.canon (Val := Elt Ideal) (e := .bf16) [⟨botOut, p0⟩, ⟨topOut, p1⟩]) (botOut_at r j).symm).trans
    (View.canon_cons_emb botOut p0 [⟨topOut, p1⟩] (ix4 0 0 r j))

/-- An index of the block. -/
theorem eq_ix4 (y : S1x1x1024x1024.Idx) : ∃ s j : Fin 1024, y = ix4 0 0 s j := ⟨y 2, y 3, by
  funext (a : Fin 4)
  match a with
  | 0 => exact Fin.ext (Nat.lt_one_iff.mp (y 0).isLt)
  | 1 => exact Fin.ext (Nat.lt_one_iff.mp (y 1).isLt)
  | 2 => rfl
  | 3 => rfl⟩

/-- The block, at an entry. -/
theorem product_at (W1 W3 : Vec Ideal S1x1024x2048 .bf16) (W2 : Vec Ideal S1x2048x1024 .bf16) (s j : Fin 1024) :
    product X W1 W3 W2 G (ix4 0 0 s j)
      = (∑ f : Fin 2048, ((∑ d : Fin 1024, X (ix2 s d) * W1 (ix3 0 d f)) * Ideal.logistic (∑ d : Fin 1024, X (ix2 s d) * W1 (ix3 0 d f))
          * (∑ d : Fin 1024, X (ix2 s d) * W3 (ix3 0 d f))) * W2 (ix3 0 f j)) * G (ix2 s 0) := by
  unfold product
  by_cases h : s.val < 512
  · obtain ⟨r, rfl⟩ : ∃ r, s = lo r := ⟨⟨s.val, h⟩, rfl⟩
    exact (canon_lo r _ _ j).trans (block_row _ W1 W3 W2 _ r j (fun d => X (ix2 (lo r) d)) (G (ix2 (lo r) 0)) (topRows_at X r) (topGates_at G r))
  · obtain ⟨r, rfl⟩ : ∃ r, s = hi r := ⟨⟨s.val - 512, by have := s.isLt; omega⟩, Fin.ext (show s.val = 512 + (s.val - 512) by omega)⟩
    exact (canon_hi r _ _ j).trans (block_row _ W1 W3 W2 _ r j (fun d => X (ix2 (hi r) d)) (G (ix2 (hi r) 0)) (botRows_at X r) (botGates_at G r))

/-! ## The result's array -/

variable (m : (ℓ : Loc nD τ sig) → Buf (Elt Ideal) ℓ)

/-- The experts' weights, by their shapes. -/
abbrev w1A : S16x1024x2048.Idx → EReal := m (((0 : Dev nD) : Thread nD τ).loc main_arg5)
abbrev w3A : S16x1024x2048.Idx → EReal := m (((0 : Dev nD) : Thread nD τ).loc main_arg6)
abbrev w2A : S16x2048x1024.Idx → EReal := m (((0 : Dev nD) : Thread nD τ).loc main_arg7)

/-- The array the run leaves. -/
def goal : S4x16x1024x1024.Idx → EReal := fun i =>
  entry (fun d => hA m 0 (ix3 (i 0) (src m (i 0) (i 1) (i 2)) d)) (affA m 0 (ix3 (i 0) (i 1) (src m (i 0) (i 1) (i 2))))
    (w1A m) (w3A m) (w2A m) (i 1) (i 3)

variable (good : Good m) (hr : Routed (idxA m 0) (posA m 0) (starts m))

include hr in
/-- What a point of the second half leaves in its block. -/
theorem out_at (t : Fin (cfgM m).N) (h : t.val % 2 = 1) (s j : Fin 1024) :
    outB m good 0 t (ix4 0 0 s j) = goal m (ix4 (bt m t) (ex m t) s j) := by
  unfold outB
  rw [product_at]
  simp only [rowsLast_at m good hr t _ h, gatesLast_at m good hr t _ h, w1_at, w3_at, w2_at]
  rfl

/-- The array's blocks are all stored. -/
theorem covers : ((cfgM m).win 6).Covers := by
  refine ⟨fun (a : Fin 4) => ?_, fun β => ?_⟩
  · match a with
    | 0 => exact Nat.one_pos
    | 1 => exact Nat.one_pos
    | 2 => exact (by decide : 0 < 1024)
    | 3 => exact (by decide : 0 < 1024)
  have h0 : (β (0 : Fin 4)).val < 4 := lt_of_lt_of_eq (β (0 : Fin 4)).isLt (show (4 + 1 - 1) / 1 = 4 by rfl)
  have h1 : (β (1 : Fin 4)).val < 16 := lt_of_lt_of_eq (β (1 : Fin 4)).isLt (show (16 + 1 - 1) / 1 = 16 by rfl)
  have h2 : (β (2 : Fin 4)).val < 1 := lt_of_lt_of_eq (β (2 : Fin 4)).isLt (show (1024 + 1024 - 1) / 1024 = 1 by rfl)
  have h3 : (β (3 : Fin 4)).val < 1 := lt_of_lt_of_eq (β (3 : Fin 4)).isLt (show (1024 + 1024 - 1) / 1024 = 1 by rfl)
  have hN : 8 * (β (1 : Fin 4)).val + 2 * (β (0 : Fin 4)).val + 1 < (cfgM m).N := show _ < 128 by omega
  have c0 : (ex m ⟨_, hN⟩).val = (8 * (β (1 : Fin 4)).val + 2 * (β (0 : Fin 4)).val + 1) / 8 % 16 := rfl
  have c1 : (bt m ⟨_, hN⟩).val = (8 * (β (1 : Fin 4)).val + 2 * (β (0 : Fin 4)).val + 1) / 2 % 4 := rfl
  refine ⟨⟨_, hN⟩, (flush_6 m _).mpr (show (8 * (β (1 : Fin 4)).val + 2 * (β (0 : Fin 4)).val + 1) % 2 = 1 by omega), fun (a : Fin 4) => ⟨?_, .inl rfl⟩⟩
  rw [(idx m _).2.2.2.2.2.2]
  match a with
  | 0 => exact c1.trans (by omega)
  | 1 => exact c0.trans (by omega)
  | 2 => exact (Nat.lt_one_iff.mp h2).symm
  | 3 => exact (Nat.lt_one_iff.mp h3).symm

include hr in
theorem final : (dats m good 0 0).arrAt 6 (cfgM m).N = goal m := by
  refine (dats m good 0 0).arrAt_eq_of_covers 6 _ (covers m) fun t hf y => ?_
  have h := (flush_6 m t).mp hf
  blk_simp
  rw [after_6]
  obtain ⟨s, j, rfl⟩ := eq_ix4 y
  refine (out_at m good hr t h s j).trans ?_
  have hp : ((((cfgM m).win 6).blk t).view.emb (ix4 0 0 s j) : S4x16x1024x1024.Idx) = ix4 (bt m t) (ex m t) s j := by
    blk_ext [idx m t]
  exact (congrArg (goal m) hp).symm

end Cert.Proof.Gather

namespace Cert.Proof

open Idealize.ShloMosaic Idealize.ShloMosaic.TcCoe Idealize.SL.Sem Cert.Proof.Gather

attribute [local instance] Cert.Pre_routed.Gen.facts Cert.Kernel4Ideal.Gen.facts Cert.Reference4Ideal.Gen.facts

/-- The experts' feed-forward and its reference leave the same array. -/
theorem algebraic_gather : Cert.algebraic_Kernel4Ideal_Reference4Ideal_pre_routed := by
  intro m g m' g' hpre hm
  have hr := routed_mem hpre
  have good := good_of_nonneg m hr.nonneg
  refine ⟨fun c => goal m, ?_, ?_⟩
  · refine θ_run_mono (run_main m g good) fun r h c => ?_
    obtain rfl : c = 0 := Subsingleton.elim _ _
    exact ⟨((h 0).1 6).trans (final m good hr), kept m good r h 0 _ (by decide) (by decide) (by decide), kept m good r h 0 _ (by decide) (by decide) (by decide),
      kept m good r h 0 _ (by decide) (by decide) (by decide), kept m good r h 0 _ (by decide) (by decide) (by decide),
      kept m good r h 0 _ (by decide) (by decide) (by decide), kept m good r h 0 _ (by decide) (by decide) (by decide),
      kept m good r h 0 _ (by decide) (by decide) (by decide), kept m good r h 0 _ (by decide) (by decide) (by decide)⟩
  · refine θ_run_mono (Cert.Reference4Ideal.Value.run m' g') fun r h c => ⟨(h c).1.trans ?_, (h c).2⟩
    obtain rfl : c = 0 := Subsingleton.elim _ _
    obtain ⟨h0, h1, h2, -, -, h5, h6, h7⟩ := hm 0
    rw [h0, h1, h2, h5, h6, h7]
    funext i
    obtain ⟨b, e, s, j, rfl⟩ : ∃ b e s j, i = ix4 b e s j := ⟨i 0, i 1, i 2, i 3, by
      funext (a : Fin 4)
      match a with
      | 0 => rfl
      | 1 => rfl
      | 2 => rfl
      | 3 => rfl⟩
    exact Cert.Reference4Ideal.Value.result_at _ hr.inside b e s _ _ _ _ _ j

end Cert.Proof

end
-- ==== Proof.Route.lean ====
module

public import proofs.«01_k».proof.Proof.Finite
public import proofs.«01_k».proof.Proof.Lanes
public import Idealize.ShloMosaic.Lib.Pointwise

@[expose] public section

/-! # The odd layers' output, its norm and its router, entry by entry

The numbers both programs leave: the gated columns, the residual stream before and after its norm, the
scaled and shifted row, and the experts' weights. -/

noncomputable section

namespace Cert.Route

open Idealize.ShloMosaic Cert.Attn

/-- The arguments, by their indices. -/
structure Args where
  att : Fin 4 → Fin 8192 → Fin 768 → EReal
  p : Fin 4 → Fin 8192 → Fin 512 → EReal
  g : Fin 256 → EReal
  b : Fin 256 → EReal
  ws : Fin 4 → Fin 128 → Fin 128 → EReal
  bs : Fin 4 → Fin 128 → EReal
  w : Fin 1024 → Fin 1024 → EReal
  x : Fin 4 → Fin 8192 → Fin 1024 → EReal
  gm : Fin 4 → Fin 1024 → EReal
  lg : Fin 1024 → EReal
  lb : Fin 1024 → EReal
  sc : Fin 4 → Fin 1024 → EReal
  sh : Fin 4 → Fin 1024 → EReal
  wr : Fin 1024 → Fin 16 → EReal

/-- The arguments of the arrays that hold them. -/
def Args.of (a0 : (⟨3, ![4, 8192, 768]⟩ : Shape).Idx → EReal) (a1 : (⟨3, ![4, 8192, 512]⟩ : Shape).Idx → EReal)
    (a2 a3 : (⟨1, ![256]⟩ : Shape).Idx → EReal) (a4 : (⟨3, ![4, 128, 128]⟩ : Shape).Idx → EReal)
    (a5 : (⟨2, ![4, 128]⟩ : Shape).Idx → EReal) (a6 : (⟨2, ![1024, 1024]⟩ : Shape).Idx → EReal)
    (a7 : (⟨3, ![4, 8192, 1024]⟩ : Shape).Idx → EReal) (a8 : (⟨3, ![4, 1, 1024]⟩ : Shape).Idx → EReal)
    (a9 a10 : (⟨1, ![1024]⟩ : Shape).Idx → EReal) (a11 a12 : (⟨3, ![4, 1, 1024]⟩ : Shape).Idx → EReal)
    (a13 : (⟨2, ![1024, 16]⟩ : Shape).Idx → EReal) : Args where
  att i n l := a0 (ix3 i n l)
  p i n l := a1 (ix3 i n l)
  g j := a2 (ix1 j)
  b j := a3 (ix1 j)
  ws g r q := a4 (ix3 g r q)
  bs g r := a5 (ix2 g r)
  w l k := a6 (ix2 l k)
  x i n k := a7 (ix3 i n k)
  gm i k := a8 (ix3 i 0 k)
  lg k := a9 (ix1 k)
  lb k := a10 (ix1 k)
  sc i k := a11 (ix3 i 0 k)
  sh i k := a12 (ix3 i 0 k)
  wr k e := a13 (ix2 k e)

/-- The number one, as the programs write it. -/
def one : EReal := Ideal.ofBits .f32 0x3F800000#32

/-- The number 256. -/
def d256 : EReal := Ideal.ofBits .f32 0x43800000#32

/-- The number 1024. -/
def d1024 : EReal := Ideal.ofBits .f32 0x44800000#32

/-- The number added to a variance. -/
def eps : EReal := Ideal.ofBits .f32 0x3727C5AC#32

/-- The activation: half of a number times one plus the error function of it over the root of two. -/
def gelu (x : EReal) : EReal :=
  Ideal.ofBits .f32 0x3F000000#32 * x * (one + Ideal.erf (x * Ideal.ofBits .f32 0x3F3504F3#32))

/-- A row less its mean. -/
def centre {n : ℕ} (d : EReal) (z : Fin n → EReal) (j : Fin n) : EReal := z j - Ideal.div (∑ k, z k) d

/-- A row's norm, with its gain and offset. -/
def normal {n : ℕ} (d : EReal) (z g b : Fin n → EReal) (j : Fin n) : EReal :=
  centre d z j * Ideal.rsqrt (Ideal.div (∑ k, centre d z k * centre d z k) d + eps) * g j + b j

/-- The exponentials of a row less its largest, over their sum. -/
def soft {n : ℕ} (l : Fin n → EReal) (e : Fin n) : EReal :=
  Ideal.div (Ideal.exp (l e - top1 l)) (∑ k, Ideal.exp (l k - top1 l))

/-- The group of a gated column. -/
def grp (j : Fin 256) : Fin 4 := ⟨j.val / 64, by omega⟩

/-- A row's place in its run of 128. -/
def place (n : Fin 8192) : Fin 128 := ⟨n.val % 128, Nat.mod_lt _ (by decide)⟩

/-- Row `q` of the run of 128 that a row stands in. -/
def near (n : Fin 8192) (q : Fin 128) : Fin 8192 := ⟨128 * (n.val / 128) + q.val, by omega⟩

/-- The normed half of the activated columns. -/
def value (A : Args) (i : Fin 4) (n : Fin 8192) (j : Fin 256) : EReal :=
  normal d256 (fun l : Fin 256 => gelu (A.p i n ⟨256 + l.val, by omega⟩)) A.g A.b j

/-- A gated column: an activated one times the run's mix of the normed ones. -/
def gate (A : Args) (i : Fin 4) (n : Fin 8192) (j : Fin 256) : EReal :=
  gelu (A.p i n ⟨j.val, by omega⟩)
    * ((∑ q : Fin 128, A.ws (grp j) (place n) q * value A i (near n q) j) + A.bs (grp j) (place n))

/-- The residual stream before its norm. -/
def stream (A : Args) (i : Fin 4) (n : Fin 8192) (k : Fin 1024) : EReal :=
  Ideal.ofBits .f32 0x3FD744FD#32 * A.x i n k
    + A.gm i k * ((∑ l : Fin 768, A.att i n l * A.w ⟨l.val, by omega⟩ k)
        + ∑ j : Fin 256, gate A i n j * A.w ⟨768 + j.val, by omega⟩ k)

/-- The residual stream. -/
def normed (A : Args) (i : Fin 4) (n : Fin 8192) (k : Fin 1024) : EReal := normal d1024 (stream A i n) A.lg A.lb k

/-- The row the experts read. -/
def hidden (A : Args) (i : Fin 4) (n : Fin 8192) (k : Fin 1024) : EReal :=
  normed A i n k * (one + A.sc i k) + A.sh i k

/-- A row's weight of an expert. -/
def routed (A : Args) (i : Fin 4) (n : Fin 8192) (e : Fin 16) : EReal :=
  soft (fun e => ∑ k : Fin 1024, hidden A i n k * A.wr k e) e

/-! ## Where the normed columns are real numbers -/

theorem one_word : one = ((1 : ℝ) : EReal) := by
  unfold one
  simp [Ideal.ofBits, Ideal.ieee, -EReal.coe_mul]; norm_num

theorem d256_word : d256 = ((256 : ℝ) : EReal) := by
  unfold d256
  simp [Ideal.ofBits, Ideal.ieee, -EReal.coe_mul]; norm_num

theorem eps_word : ∃ e : ℝ, 0 < e ∧ eps = (e : EReal) := by
  refine ⟨10995116 / 2 ^ 40, by norm_num, ?_⟩
  unfold eps
  simp [Ideal.ofBits, Ideal.ieee, -EReal.coe_mul]; norm_num

theorem div_real (x d : ℝ) (h : d ≠ 0) : Ideal.div (x : EReal) (d : EReal) = ((x / d : ℝ) : EReal) := by
  unfold Ideal.div
  rw [if_neg (by exact_mod_cast h), ← EReal.coe_inv, ← EReal.coe_mul, div_eq_mul_inv]

/-- A sum of numbers that are not all real is infinite. -/
theorem sum_inf {n : ℕ} (z : Fin n → EReal) (h : ¬ ∀ j, ∃ r : ℝ, z j = (r : EReal)) : ∑ k, z k = ⊥ ∨ ∑ k, z k = ⊤ := by
  by_cases hb : ∃ j, z j = ⊥
  · obtain ⟨j, hj⟩ := hb
    left
    rw [← Finset.add_sum_erase _ _ (Finset.mem_univ j), hj, EReal.bot_add]
  · obtain ⟨j, hj⟩ := not_forall.mp h
    have hb' : ∀ k, z k ≠ ⊥ := fun k hk => hb ⟨k, hk⟩
    have ht : z j = ⊤ := by
      have hn := hb' j
      revert hj hn
      induction z j with
      | bot => exact fun _ hn => absurd rfl hn
      | top => exact fun _ _ => rfl
      | coe r => exact fun hj _ => absurd ⟨r, rfl⟩ hj
    right
    rw [← Finset.add_sum_erase _ _ (Finset.mem_univ j), ht]
    refine EReal.top_add_of_ne_bot (Finset.sum_induction z (· ≠ ⊥) (fun a b ha hb => ?_) EReal.zero_ne_bot fun k _ => hb' k)
    simp [EReal.add_eq_bot_iff, ha, hb]

/-- An infinite number over 256 is itself. -/
theorem div_inf (x : EReal) (h : x = ⊥ ∨ x = ⊤) : Ideal.div x d256 = x := by
  rw [d256_word]
  unfold Ideal.div
  rw [if_neg (by exact_mod_cast (by norm_num : (256 : ℝ) ≠ 0)), ← EReal.coe_inv]
  rcases h with rfl | rfl
  · exact EReal.bot_mul_coe_of_pos (by norm_num)
  · exact EReal.top_mul_coe_of_pos (by norm_num)

/-- A row that is not all real has infinite distances from its mean, so its norm is its offset. -/
theorem normal_inf {n : ℕ} (z g b : Fin n → EReal) (h : ¬ ∀ j, ∃ r : ℝ, z j = (r : EReal)) (j : Fin n) :
    normal d256 z g b j = b j := by
  have hc : ∀ k, centre d256 z k = ⊥ ∨ centre d256 z k = ⊤ := fun k => by
    unfold centre
    rw [div_inf _ (sum_inf z h)]
    rcases sum_inf z h with hs | hs <;> rw [hs]
    · induction z k with
      | bot => exact Or.inl rfl
      | top => exact Or.inr rfl
      | coe r => exact Or.inr rfl
    · exact Or.inl (by rw [sub_eq_add_neg, EReal.neg_top, EReal.add_bot])
  have hq : ∀ k, centre d256 z k * centre d256 z k = ⊤ := fun k => by
    rcases hc k with hk | hk <;> rw [hk]
    · exact EReal.bot_mul_bot
    · exact EReal.top_mul_top
  have hs : ∑ k, centre d256 z k * centre d256 z k = ⊤ := by
    rcases sum_inf (fun k => centre d256 z k * centre d256 z k) (fun hr => by
      obtain ⟨r, hr⟩ := hr j
      rw [hq j] at hr
      exact EReal.coe_ne_top r hr.symm) with hb | ht
    · exfalso
      have h0 : 0 ≤ ∑ k, centre d256 z k * centre d256 z k := Finset.sum_nonneg fun k _ => by rw [hq k]; exact le_top
      rw [hb] at h0
      exact absurd h0 (by simp)
    · exact ht
  obtain ⟨e, he, hee⟩ := eps_word
  unfold normal
  rw [hs, div_inf _ (Or.inr rfl), hee, EReal.top_add_coe]
  show centre d256 z j * 0 * g j + b j = b j
  rw [mul_zero, zero_mul, zero_add]

/-- The norm of any row is a row of real numbers where its gain and offset are. -/
theorem normal_real {n : ℕ} (z g b : Fin n → EReal)
    (hg : ∀ j, ∃ r : ℝ, g j = (r : EReal)) (hb : ∀ j, ∃ r : ℝ, b j = (r : EReal)) (j : Fin n) :
    ∃ r : ℝ, normal d256 z g b j = (r : EReal) := by
  by_cases hz : ∀ j, ∃ r : ℝ, z j = (r : EReal)
  swap
  · obtain ⟨r, hr⟩ := hb j
    exact ⟨r, (normal_inf z g b hz j).trans hr⟩
  choose z' hz using hz
  choose g' hg using hg
  choose b' hb using hb
  obtain ⟨e, he, hee⟩ := eps_word
  have hc : ∀ j, centre d256 z j = ((z' j - (∑ k, z' k) / 256 : ℝ) : EReal) := fun j => by
    unfold centre
    simp only [hz]
    rw [← coe_sum, d256_word, div_real _ _ (by norm_num), ← EReal.coe_sub]
  unfold normal
  simp only [hc, hg, hb, ← EReal.coe_mul]
  rw [← coe_sum, d256_word, div_real _ _ (by norm_num), hee, ← EReal.coe_add]
  have hp : 0 < (∑ k, (z' k - (∑ k, z' k) / 256) * (z' k - (∑ k, z' k) / 256)) / 256 + e :=
    add_pos_of_nonneg_of_pos (div_nonneg (Finset.sum_nonneg fun k _ => mul_self_nonneg _) (by norm_num)) he
  generalize (∑ k, (z' k - (∑ k, z' k) / 256) * (z' k - (∑ k, z' k) / 256)) / 256 + e = s at hp
  have hr : Ideal.rsqrt (s : EReal) = (((Real.sqrt s)⁻¹ : ℝ) : EReal) := by
    show (if s < 0 then (⊥ : EReal) else if s = 0 then ⊤ else (((Real.sqrt s)⁻¹ : ℝ) : EReal)) = _
    rw [if_neg (not_lt.mpr hp.le), if_neg hp.ne']
  rw [hr, ← EReal.coe_mul, ← EReal.coe_mul, ← EReal.coe_add]
  exact ⟨_, rfl⟩

/-- The normed columns are real numbers. -/
theorem value_real (A : Args) (hg : ∀ j, ∃ r : ℝ, A.g j = (r : EReal)) (hb : ∀ j, ∃ r : ℝ, A.b j = (r : EReal))
    (i : Fin 4) (n : Fin 8192) (j : Fin 256) : ∃ r : ℝ, value A i n j = (r : EReal) := normal_real _ _ _ hg hb j

/-- Two products, one with the entries kept and one with what keeping them left out, are the one of them
    that the entries went to. -/
theorem split_mix (w1 w2 v : Fin 128 → EReal) (hv : ∀ q, ∃ r : ℝ, v q = (r : EReal)) (k : Prop) [Decidable k] (s : EReal)
    (hs : s = if k then 1 else 0) :
    (∑ q, w1 q * (v q * s)) + (∑ q, w2 q * (v q - v q * s)) = ∑ q, (if k then w1 q else w2 q) * v q := by
  have hz : ∀ q, v q - v q = 0 := fun q => by
    obtain ⟨r, hr⟩ := hv q
    rw [hr, ← EReal.coe_sub, sub_self]; rfl
  subst hs
  by_cases h : k
  · simp [h, hz]
  · simp [h]

end Cert.Route

end
-- ==== Proof.RouteReference.lean ====
module

public import proofs.«01_k».proof.Proof.Route
public import proofs.«01_k».proof.Proof.Reference
public import proofs.«01_k».proof.Proof.Gen.Reference5Ideal.Run
public import Idealize.ShloMosaic.Lib.Pointwise

@[expose] public section

/-! # What the reference of the odd layers' output computes

The reference's results as a chain of stages, each read at an index. -/

set_option maxRecDepth 16384

noncomputable section

namespace Cert.Reference5Ideal.Stages

open Cert.Reference5Ideal Cert.Reference5Ideal.Gen Idealize.ShloMosaic Idealize.ShloMosaic.TcCoe Cert.Attn Cert.Route

/-- The activated columns. -/
def geluT (p : FVec Ideal S4x8192x512 .f32) : FVec Ideal S4x8192x512 .f32 :=
  mulf (mulf (broadcastInDim S4x8192x512 ![] bcast_S_S4x8192x512 (constant S_ .f32 0x3F000000#32)) p)
    (Host.erfc (mulf (Host.negf p) (broadcastInDim S4x8192x512 ![] bcast_S_S4x8192x512 (constant S_ .f32 0x3F3504F3#32))))

/-- The columns to be normed. -/
def rightT (p : FVec Ideal S4x8192x512 .f32) : FVec Ideal S4x8192x256 .f32 :=
  extractStridedSlice S4x8192x256 ![0, 0, 256] (geluT p) slices_S4x8192x512_S4x8192x256_0_0_256

/-- The mean of 256 columns. -/
def meanT (v : FVec Ideal S4x8192x256 .f32) : FVec Ideal S4x8192x1 .f32 :=
  Host.divf (broadcastInDim S4x8192x1 ![0, 1] bcast_S4x8192_S4x8192x1_0_1
      (Host.reduceAdd v (constant S_ .f32 0x00000000#32) reducesTo_S4x8192x256_S4x8192_d2 h_S_))
    (broadcastInDim S4x8192x1 ![] bcast_S_S4x8192x1 (constant S_ .f32 0x43800000#32))

/-- The columns less their mean. -/
def centreT (v : FVec Ideal S4x8192x256 .f32) : FVec Ideal S4x8192x256 .f32 :=
  subf v (broadcastInDim S4x8192x256 ![0, 1, 2] bcast_S4x8192x1_S4x8192x256_0_1_2 (meanT v))

/-- The normed columns. -/
def normT (v : FVec Ideal S4x8192x256 .f32) (g b : FVec Ideal S256 .f32) : FVec Ideal S4x8192x256 .f32 :=
  addf (mulf (mulf (centreT v) (broadcastInDim S4x8192x256 ![0, 1, 2] bcast_S4x8192x1_S4x8192x256_0_1_2
      (Host.rsqrt (addf (meanT (mulf (centreT v) (centreT v)))
        (broadcastInDim S4x8192x1 ![] bcast_S_S4x8192x1 (constant S_ .f32 0x3727C5AC#32))))))
    (broadcastInDim S4x8192x256 ![0, 1, 2] bcast_S1x1x256_S4x8192x256_0_1_2 (broadcastInDim S1x1x256 ![2] bcast_S256_S1x1x256_2 g)))
    (broadcastInDim S4x8192x256 ![0, 1, 2] bcast_S1x1x256_S4x8192x256_0_1_2 (broadcastInDim S1x1x256 ![2] bcast_S256_S1x1x256_2 b))

/-- The mix of each run of 128 rows, by runs and groups. -/
def mixT (v : FVec Ideal S4x8192x256 .f32) (ws : FVec Ideal S4x128x128 .f32) : FVec Ideal S4x64x128x4x64 .f32 :=
  transpose S4x64x128x4x64 [1, 2, 4, 0, 3]
    (Host.dotGeneral dot_S4x64x128x4x64_S4x128x128_S4x4x64x64x128_2_2_014_1_3_0 none
      (shapeCast _ v shapeCasts_S4x8192x256_S4x64x128x4x64) ws)
    transposes_S4x4x64x64x128_S4x64x128x4x64_1_2_4_0_3

/-- The offset of each place and group. -/
def biasT (bs : FVec Ideal S4x128 .f32) : FVec Ideal S4x64x128x4x64 .f32 :=
  broadcastInDim S4x64x128x4x64 ![0, 1, 2, 3, 4] bcast_S1x1x128x4x1_S4x64x128x4x64_0_1_2_3_4
    (broadcastInDim S1x1x128x4x1 ![2, 3] bcast_S128x4_S1x1x128x4x1_2_3 (transpose S128x4 [1, 0] bs transposes_S4x128_S128x4_1_0))

/-- The gated columns. -/
def gateT (p : FVec Ideal S4x8192x512 .f32) (g b : FVec Ideal S256 .f32) (ws : FVec Ideal S4x128x128 .f32)
    (bs : FVec Ideal S4x128 .f32) : FVec Ideal S4x8192x256 .f32 :=
  mulf (extractStridedSlice S4x8192x256 ![0, 0, 0] (geluT p) slices_S4x8192x512_S4x8192x256_0_0_0)
    (shapeCast _ (addf (mixT (normT (rightT p) g b) ws) (biasT bs)) shapeCasts_S4x64x128x4x64_S4x8192x256)

/-- The residual stream before its norm, of the gated columns. -/
def streamT (att : FVec Ideal S4x8192x768 .f32) (gt : FVec Ideal S4x8192x256 .f32) (w : FVec Ideal S1024x1024 .f32)
    (x : FVec Ideal S4x8192x1024 .f32) (gm : FVec Ideal S4x1x1024 .f32) : FVec Ideal S4x8192x1024 .f32 :=
  addf (mulf (broadcastInDim S4x8192x1024 ![] bcast_S_S4x8192x1024 (constant S_ .f32 0x3FD744FD#32)) x)
    (mulf (broadcastInDim S4x8192x1024 ![0, 1, 2] bcast_S4x1x1024_S4x8192x1024_0_1_2 gm)
      (Host.dotGeneral dot_S4x8192x1024_S1024x1024_S4x8192x1024_2_0_01_1_n_n none
        (concatenate S4x8192x1024 2 [⟨S4x8192x768, att⟩, ⟨S4x8192x256, gt⟩] concatenates_S4x8192x768_S4x8192x256_S4x8192x1024_d2) w))

/-- The mean of 1024 columns. -/
def meanS (v : FVec Ideal S4x8192x1024 .f32) : FVec Ideal S4x8192x1 .f32 :=
  Host.divf (broadcastInDim S4x8192x1 ![0, 1] bcast_S4x8192_S4x8192x1_0_1
      (Host.reduceAdd v (constant S_ .f32 0x00000000#32) reducesTo_S4x8192x1024_S4x8192_d2 h_S_))
    (broadcastInDim S4x8192x1 ![] bcast_S_S4x8192x1 (constant S_ .f32 0x44800000#32))

/-- The stream less its mean. -/
def centreS (v : FVec Ideal S4x8192x1024 .f32) : FVec Ideal S4x8192x1024 .f32 :=
  subf v (broadcastInDim S4x8192x1024 ![0, 1, 2] bcast_S4x8192x1_S4x8192x1024_0_1_2 (meanS v))

/-- The residual stream. -/
def normS (v : FVec Ideal S4x8192x1024 .f32) (g b : FVec Ideal S1024 .f32) : FVec Ideal S4x8192x1024 .f32 :=
  addf (mulf (mulf (centreS v) (broadcastInDim S4x8192x1024 ![0, 1, 2] bcast_S4x8192x1_S4x8192x1024_0_1_2
      (Host.rsqrt (addf (meanS (mulf (centreS v) (centreS v)))
        (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

/-- The rows the experts read. -/
def hiddenT (xn : FVec Ideal S4x8192x1024 .f32) (sc sh : FVec Ideal S4x1x1024 .f32) : FVec Ideal S4x8192x1024 .f32 :=
  addf (mulf xn (broadcastInDim S4x8192x1024 ![0, 1, 2] bcast_S4x1x1024_S4x8192x1024_0_1_2
      (addf (broadcastInDim S4x1x1024 ![] bcast_S_S4x1x1024 (constant S_ .f32 0x3F800000#32)) sc)))
    (broadcastInDim S4x8192x1024 ![0, 1, 2] bcast_S4x1x1024_S4x8192x1024_0_1_2 sh)

/-- The rows' scores of the experts. -/
def logitT (h : FVec Ideal S4x8192x1024 .f32) (wr : FVec Ideal S1024x16 .f32) : FVec Ideal S4x8192x16 .f32 :=
  Host.dotGeneral dot_S4x8192x1024_S1024x16_S4x8192x16_2_0_01_1_n_n none h wr

/-- The largest score of each row. -/
def topT (l : FVec Ideal S4x8192x16 .f32) : FVec Ideal S4x8192 .f32 :=
  maximumf (broadcastInDim S4x8192 ![] bcast_S_S4x8192 (constant S_ .f32 0xFF800000#32))
    (Host.reduce FloatOps.maximumf l (constant S_ .f32 0xFF800000#32) reducesTo_S4x8192x16_S4x8192_d2 h_S_)

/-- The exponentials of the scores less the row's largest. -/
def expT (l : FVec Ideal S4x8192x16 .f32) : FVec Ideal S4x8192x16 .f32 :=
  Host.exp (subf l (broadcastInDim S4x8192x16 ![0, 1, 2] bcast_S4x8192x1_S4x8192x16_0_1_2
    (broadcastInDim S4x8192x1 ![0, 1] bcast_S4x8192_S4x8192x1_0_1 (topT l))))

/-- The experts' weights, by expert and row. -/
def softT (e : FVec Ideal S4x8192x16 .f32) : FVec Ideal S4x16x8192 .f32 :=
  transpose S4x16x8192 [0, 2, 1] (Host.divf e (broadcastInDim S4x8192x16 ![0, 1, 2] bcast_S4x8192x1_S4x8192x16_0_1_2
    (broadcastInDim S4x8192x1 ![0, 1] bcast_S4x8192_S4x8192x1_0_1
      (Host.reduceAdd e (constant S_ .f32 0x00000000#32) reducesTo_S4x8192x16_S4x8192_d2 h_S_))))
    transposes_S4x8192x16_S4x16x8192_0_2_1

theorem geluT_at (p : FVec Ideal S4x8192x512 .f32) (i : S4x8192x512.Idx) : geluT p i = gelu (p i) := by
  show Ideal.ofBits .f32 0x3F000000#32 * p i * Ideal.erfc (-(p i) * Ideal.ofBits .f32 0x3F3504F3#32) = _
  rw [EReal.neg_mul, Ideal.erfc_neg]
  unfold gelu
  rw [one_word]
  rfl

theorem rightT_at (p : FVec Ideal S4x8192x512 .f32) (i : Fin 4) (n : Fin 8192) (j : Fin 256) :
    rightT p (ix3 i n j) = gelu (p (ix3 i n ⟨256 + j.val, by omega⟩)) := by
  rw [← geluT_at]
  pointwise [rightT]

theorem leftT_at (p : FVec Ideal S4x8192x512 .f32) (i : Fin 4) (n : Fin 8192) (j : Fin 256) :
    extractStridedSlice S4x8192x256 ![0, 0, 0] (geluT p) slices_S4x8192x512_S4x8192x256_0_0_0 (ix3 i n j)
      = gelu (p (ix3 i n ⟨j.val, by omega⟩)) := by
  rw [← geluT_at]
  pointwise

theorem meanT_at (v : FVec Ideal S4x8192x256 .f32) (i : Fin 4) (n : Fin 8192) :
    meanT v (ix3 i n 0) = Ideal.div (∑ k : Fin 256, v (ix3 i n k)) d256 := by
  pointwise [meanT, d256]

theorem centreT_at (v : FVec Ideal S4x8192x256 .f32) (i : Fin 4) (n : Fin 8192) (j : Fin 256) :
    centreT v (ix3 i n j) = centre d256 (fun k => v (ix3 i n k)) j := by
  unfold centre
  rw [← meanT_at]
  pointwise [centreT]

theorem normT_at (v : FVec Ideal S4x8192x256 .f32) (g b : FVec Ideal S256 .f32) (i : Fin 4) (n : Fin 8192) (j : Fin 256) :
    normT v g b (ix3 i n j) = normal d256 (fun k => v (ix3 i n k)) (fun k => g (ix1 k)) (fun k => b (ix1 k)) j := by
  have h : meanT (mulf (centreT v) (centreT v)) (ix3 i n 0)
      = Ideal.div (∑ k, centre d256 (fun k => v (ix3 i n k)) k * centre d256 (fun k => v (ix3 i n k)) k) d256 := by
    rw [meanT_at]
    simp only [← centreT_at]
    rfl
  unfold normal
  rw [← h, ← centreT_at]
  pointwise [normT, eps]

theorem meanS_at (v : FVec Ideal S4x8192x1024 .f32) (i : Fin 4) (n : Fin 8192) :
    meanS v (ix3 i n 0) = Ideal.div (∑ k : Fin 1024, v (ix3 i n k)) d1024 := by
  pointwise [meanS, d1024]

theorem centreS_at (v : FVec Ideal S4x8192x1024 .f32) (i : Fin 4) (n : Fin 8192) (j : Fin 1024) :
    centreS v (ix3 i n j) = centre d1024 (fun k => v (ix3 i n k)) j := by
  unfold centre
  rw [← meanS_at]
  pointwise [centreS]

theorem normS_at (v : FVec Ideal S4x8192x1024 .f32) (g b : FVec Ideal S1024 .f32) (i : Fin 4) (n : Fin 8192) (j : Fin 1024) :
    normS v g b (ix3 i n j) = normal d1024 (fun k => v (ix3 i n k)) (fun k => g (ix1 k)) (fun k => b (ix1 k)) j := by
  have h : meanS (mulf (centreS v) (centreS v)) (ix3 i n 0)
      = Ideal.div (∑ k, centre d1024 (fun k => v (ix3 i n k)) k * centre d1024 (fun k => v (ix3 i n k)) k) d1024 := by
    rw [meanS_at]
    simp only [← centreS_at]
    rfl
  unfold normal
  rw [← h, ← centreS_at]
  pointwise [normS, eps]

theorem mixT_at (v : FVec Ideal S4x8192x256 .f32) (ws : FVec Ideal S4x128x128 .f32) (i : Fin 4) (c : Fin 64) (r : Fin 128)
    (g : Fin 4) (l : Fin 64) :
    mixT v ws (ix5 i c r g l)
      = ∑ q : Fin 128, ws (ix3 g r q) * v (ix3 i ⟨128 * c.val + q.val, by omega⟩ ⟨64 * g.val + l.val, by omega⟩) := by
  pointwise [mixT]
  refine Finset.sum_congr rfl fun q _ => ?_
  rw [mul_comm]
  congr 2
  · congr 1 <;> ext <;> show _ = _ <;> simp <;> omega

theorem biasT_at (bs : FVec Ideal S4x128 .f32) (i : Fin 4) (c : Fin 64) (r : Fin 128)
    (g : Fin 4) (l : Fin 64) : biasT bs (ix5 i c r g l) = bs (ix2 g r) := by
  pointwise [biasT]

theorem hiddenT_at (xn : FVec Ideal S4x8192x1024 .f32) (sc sh : FVec Ideal S4x1x1024 .f32) (i : Fin 4) (n : Fin 8192)
    (k : Fin 1024) : hiddenT xn sc sh (ix3 i n k) = xn (ix3 i n k) * (one + sc (ix3 i 0 k)) + sh (ix3 i 0 k) := by
  pointwise [hiddenT, one]

theorem logitT_at (h : FVec Ideal S4x8192x1024 .f32) (wr : FVec Ideal S1024x16 .f32) (i : Fin 4) (n : Fin 8192) (e : Fin 16) :
    logitT h wr (ix3 i n e) = ∑ k : Fin 1024, h (ix3 i n k) * wr (ix2 k e) := by
  pointwise [logitT]

/-- A maximum over the last of three axes. -/
theorem max_row (l : FVec Ideal S4x8192x16 .f32) (i : Fin 4) (n : Fin 8192) :
    topT l (ix2 i n) = top1 fun e : Fin 16 => l (ix3 i n e) := by
  have h : Host.reduce (FloatOps.maximumf : Ideal .f32 → Ideal .f32 → Ideal .f32) l (constant S_ .f32 0xFF800000#32)
      reducesTo_S4x8192x16_S4x8192_d2 h_S_ (ix2 i n) = top1 fun e : Fin 16 => l (ix3 i n e) := by
    rw [Host.reduce_eq_fold]
    refine (Shape.ReducesTo.fold_fiber_r3_a2 _ (ix2 i n) max _ l).trans ?_
    rw [← fold_max_eq, ← Cert.ReferenceIdeal.Stages.bot_word]
    rfl
  show max (Ideal.ofBits .f32 0xFF800000#32 : EReal) _ = _
  rw [Cert.ReferenceIdeal.Stages.bot_word, h]
  exact max_eq_right bot_le

theorem expT_at (l : FVec Ideal S4x8192x16 .f32) (i : Fin 4) (n : Fin 8192) (e : Fin 16) :
    expT l (ix3 i n e) = Ideal.exp (l (ix3 i n e) - top1 fun e : Fin 16 => l (ix3 i n e)) := by
  rw [← max_row]
  pointwise [expT]

theorem softT_at (l : FVec Ideal S4x8192x16 .f32) (i : Fin 4) (n : Fin 8192) (e : Fin 16) :
    softT (expT l) (ix3 i e n) = soft (fun e : Fin 16 => l (ix3 i n e)) e := by
  unfold soft
  simp only [← expT_at]
  pointwise [softT]

theorem gateT_at (p : FVec Ideal S4x8192x512 .f32) (g b : FVec Ideal S256 .f32) (ws : FVec Ideal S4x128x128 .f32)
    (bs : FVec Ideal S4x128 .f32) (i : Fin 4) (n : Fin 8192) (j : Fin 256) :
    gateT p g b ws bs (ix3 i n j)
      = gelu (p (ix3 i n ⟨j.val, by omega⟩))
        * ((∑ q : Fin 128, ws (ix3 (grp j) (place n) q)
            * normal d256 (fun l : Fin 256 => gelu (p (ix3 i (near n q) ⟨256 + l.val, by omega⟩))) (fun k => g (ix1 k))
              (fun k => b (ix1 k)) j) + bs (ix2 (grp j) (place n))) := by
  have hm := mixT_at (normT (rightT p) g b) ws i ⟨n.val / 128, by omega⟩ (place n) (grp j) ⟨j.val % 64, Nat.mod_lt _ (by decide)⟩
  have hb := biasT_at bs i ⟨n.val / 128, by omega⟩ (place n) (grp j) ⟨j.val % 64, Nat.mod_lt _ (by decide)⟩
  have hj : (⟨64 * (grp j).val + j.val % 64, by have := (grp j).isLt; omega⟩ : Fin 256) = j := Fin.ext (Nat.div_add_mod j.val 64)
  have hs : shapeCast S4x8192x256 (addf (mixT (normT (rightT p) g b) ws) (biasT bs)) shapeCasts_S4x64x128x4x64_S4x8192x256 (ix3 i n j)
      = addf (mixT (normT (rightT p) g b) ws) (biasT bs)
        (ix5 i ⟨n.val / 128, by omega⟩ (place n) (grp j) ⟨j.val % 64, Nat.mod_lt _ (by decide)⟩) := by
    generalize addf (mixT (normT (rightT p) g b) ws) (biasT bs) = z
    pointwise [place, grp]
  show extractStridedSlice S4x8192x256 ![0, 0, 0] (geluT p) slices_S4x8192x512_S4x8192x256_0_0_0 (ix3 i n j)
    * shapeCast S4x8192x256 (addf (mixT (normT (rightT p) g b) ws) (biasT bs)) shapeCasts_S4x64x128x4x64_S4x8192x256 (ix3 i n j) = _
  rw [leftT_at, hs]
  show _ * (mixT (normT (rightT p) g b) ws _ + biasT bs _) = _
  rw [hm, hb]
  congr 2
  refine Finset.sum_congr rfl fun q _ => ?_
  rw [hj, normT_at]
  simp only [rightT_at]
  rfl

theorem streamT_at (att : FVec Ideal S4x8192x768 .f32) (gt : FVec Ideal S4x8192x256 .f32) (w : FVec Ideal S1024x1024 .f32)
    (x : FVec Ideal S4x8192x1024 .f32) (gm : FVec Ideal S4x1x1024 .f32) (i : Fin 4) (n : Fin 8192) (k : Fin 1024) :
    streamT att gt w x gm (ix3 i n k)
      = Ideal.ofBits .f32 0x3FD744FD#32 * x (ix3 i n k)
        + gm (ix3 i 0 k) * ((∑ l : Fin 768, att (ix3 i n l) * w (ix2 ⟨l.val, by omega⟩ k))
            + ∑ j : Fin 256, gt (ix3 i n j) * w (ix2 ⟨768 + j.val, by omega⟩ k)) := by
  have h : Host.dotGeneral dot_S4x8192x1024_S1024x1024_S4x8192x1024_2_0_01_1_n_n none
        (concatenate S4x8192x1024 2 [⟨S4x8192x768, att⟩, ⟨S4x8192x256, gt⟩] concatenates_S4x8192x768_S4x8192x256_S4x8192x1024_d2) w
        (ix3 i n k)
      = (∑ l : Fin 768, att (ix3 i n l) * w (ix2 ⟨l.val, by omega⟩ k))
            + ∑ j : Fin 256, gt (ix3 i n j) * w (ix2 ⟨768 + j.val, by omega⟩ k) := by
    pointwise
  have hb : broadcastInDim S4x8192x1024 ![0, 1, 2] bcast_S4x1x1024_S4x8192x1024_0_1_2 gm (ix3 i n k) = gm (ix3 i 0 k) := by
    pointwise
  rw [← h, ← hb]
  rfl
variable (a0 : FVec Ideal S4x8192x768 .f32) (a1 : FVec Ideal S4x8192x512 .f32) (a2 a3 : FVec Ideal S256 .f32)
  (a4 : FVec Ideal S4x128x128 .f32) (a5 : FVec Ideal S4x128 .f32) (a6 : FVec Ideal S1024x1024 .f32)
  (a7 : FVec Ideal S4x8192x1024 .f32) (a8 : FVec Ideal S4x1x1024 .f32) (a9 a10 : FVec Ideal S1024 .f32)
  (a11 a12 : FVec Ideal S4x1x1024 .f32) (a13 : FVec Ideal S1024x16 .f32)

/-- The first result. -/
def firstT : FVec Ideal S4x8192x1024 .f32 := normS (streamT a0 (gateT a1 a2 a3 a4 a5) a6 a7 a8) a9 a10

/-- The rows the experts read, before they are stored. -/
def secondT : FVec Ideal S4x8192x1024 .f32 := hiddenT (firstT a0 a1 a2 a3 a4 a5 a6 a7 a8 a9 a10) a11 a12

/-- The third result. -/
def thirdT : FVec Ideal S4x16x8192 .f32 := softT (expT (logitT (secondT a0 a1 a2 a3 a4 a5 a6 a7 a8 a9 a10 a11 a12) a13))

theorem firstT_at (i : Fin 4) (n : Fin 8192) (k : Fin 1024) :
    firstT a0 a1 a2 a3 a4 a5 a6 a7 a8 a9 a10 (ix3 i n k)
      = normed (Args.of a0 a1 a2 a3 a4 a5 a6 a7 a8 a9 a10 a11 a12 a13) i n k := by
  unfold firstT
  rw [normS_at]
  simp only [streamT_at, gateT_at]
  rfl

theorem secondT_at (i : Fin 4) (n : Fin 8192) (k : Fin 1024) :
    secondT a0 a1 a2 a3 a4 a5 a6 a7 a8 a9 a10 a11 a12 (ix3 i n k)
      = hidden (Args.of a0 a1 a2 a3 a4 a5 a6 a7 a8 a9 a10 a11 a12 a13) i n k := by
  unfold secondT
  rw [hiddenT_at, firstT_at a0 a1 a2 a3 a4 a5 a6 a7 a8 a9 a10 a11 a12 a13]
  rfl

theorem thirdT_at (i : Fin 4) (n : Fin 8192) (e : Fin 16) :
    thirdT a0 a1 a2 a3 a4 a5 a6 a7 a8 a9 a10 a11 a12 a13 (ix3 i e n)
      = routed (Args.of a0 a1 a2 a3 a4 a5 a6 a7 a8 a9 a10 a11 a12 a13) i n e := by
  unfold thirdT
  rw [softT_at]
  simp only [logitT_at, secondT_at a0 a1 a2 a3 a4 a5 a6 a7 a8 a9 a10 a11 a12 a13]
  rfl

end Cert.Reference5Ideal.Stages

namespace Cert.Reference5Ideal.Stages

open Cert.Reference5Ideal Cert.Reference5Ideal.Gen Idealize.ShloMosaic Idealize.ShloMosaic.TcCoe Idealize.SL.Sem Cert.Route

/-- The arguments a program's arrays hold. -/
def args (m : (ℓ : Loc nD τ sig) → Buf (Elt Ideal) ℓ) (c : Dev nD) : Args :=
  Args.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

/-- Three indices name every element of a three-axis array. -/
theorem ix3_all {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- The reference's run, its results entry by entry. -/
theorem run_entries (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72) = (fun i : S4x8192x1024.Idx => normed (args m c) (i 0) (i 1) (i 2))
      ∧ r.2.mem ((c.tc : Thread nD τ).loc main_v91) = (fun i : S4x8192x1024.Idx => hidden (args m c) (i 0) (i 1) (i 2))
      ∧ r.2.mem ((c.tc : Thread nD τ).loc main_v92) = (fun i : S4x16x8192.Idx => routed (args m c) (i 0) (i 2) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine (θ_run _ _ _).mono (fun r h c => ⟨(h c).1.trans ?_, (h c).2.1.trans ?_, (h c).2.2.1.trans ?_, (h c).2.2.2⟩) (Value.run m ρ)
  · refine Eq.trans (b := firstT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) rfl ?_
    funext i
    refine (congrArg _ (ix3_all i)).trans ?_
    exact firstT_at _ _ _ _ _ _ _ _ _ _ _ _ _ _ _ _ _
  · refine Eq.trans (b := secondT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12))) rfl ?_
    funext i
    refine (congrArg _ (ix3_all i)).trans ?_
    exact secondT_at _ _ _ _ _ _ _ _ _ _ _ _ _ _ _ _ _
  · refine Eq.trans (b := thirdT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))) rfl ?_
    funext i
    refine (congrArg _ (ix3_all i)).trans ?_
    exact thirdT_at _ _ _ _ _ _ _ _ _ _ _ _ _ _ _ _ _

end Cert.Reference5Ideal.Stages

end
-- ==== Proof.RouteBlock.lean ====
module

public import proofs.«01_k».proof.Proof.Route
public import proofs.«01_k».proof.Proof.Reference
public import proofs.«01_k».proof.Proof.Block
public import proofs.«01_k».proof.Proof.Gen.Kernel5Ideal.Frame
public import Idealize.ShloMosaic.Lib.Pointwise

@[expose] public section

/-! # What the odd layers' output kernel computes of a block

The body's values of one block of 512 rows, read at a row and a column: the activated and normed columns,
the mix of each run of 128 rows, the stream, its norm and the experts' weights. -/

set_option maxRecDepth 16384

noncomputable section

namespace Cert.Kernel5Ideal.Rows

open Cert.Kernel5Ideal Cert.Kernel5Ideal.Gen Idealize.ShloMosaic Idealize.ShloMosaic.TcCoe Cert.Attn Cert.Route

theorem gelu_at (p : Vec Ideal S1x512x512 .f32) (r : Fin 512) (j : Fin 512) : k0_pay2 p (ix2 r j) = gelu (p (ix3 0 r j)) := by
  pointwise [k0_pay2, gelu, one]
  rfl

theorem left_at (p : Vec Ideal S1x512x512 .f32) (r : Fin 512) (j : Fin 256) :
    k0_pay3 p (ix2 r j) = gelu (p (ix3 0 r ⟨j.val, by omega⟩)) := by
  rw [← gelu_at]
  pointwise [k0_pay3]

/-- The columns to be normed. -/
def rightV (p : Vec Ideal S1x512x512 .f32) : FVec Ideal S512x256 .f32 :=
  extractStridedSlice S512x256 ![0, 256] (k0_pay2 p) slices_S512x512_o0_256_S512x256

/-- The mean of 256 columns. -/
def meanV (v : FVec Ideal S512x256 .f32) : FVec Ideal S512x1 .f32 :=
  divf (shapeCast S512x1 (multiReduction .add [1] S512 v 0x00000000#32 reduces_S512x256_S512 (.inl rfl) rfl) shapeCasts_S512_S512x1)
    (broadcast S512x1 (Scalar.ofBits .f32 0x43800000#32))

/-- The columns less their mean. -/
def centreV (v : FVec Ideal S512x256 .f32) : FVec Ideal S512x256 .f32 :=
  subf v (broadcastTo S512x256 (meanV v) broadcasts_S512x1_S512x256)

/-- The normed columns. -/
def normV (v : FVec Ideal S512x256 .f32) (g b : Vec Ideal S1x256 .f32) : FVec Ideal S512x256 .f32 :=
  addf (mulf (mulf (centreV v) (broadcastTo S512x256
      (rsqrt (addf (meanV (mulf (centreV v) (centreV v))) (broadcast S512x1 (Scalar.ofBits .f32 0x3727C5AC#32))))
      broadcasts_S512x1_S512x256))
    (broadcastTo S512x256 (shapeCast S1x256 g shapeCasts_S1x256_S1x256) broadcasts_S1x256_S512x256))
    (broadcastTo S512x256 (shapeCast S1x256 b shapeCasts_S1x256_S1x256) broadcasts_S1x256_S512x256)

theorem rightV_at (p : Vec Ideal S1x512x512 .f32) (r : Fin 512) (j : Fin 256) :
    rightV p (ix2 r j) = gelu (p (ix3 0 r ⟨256 + j.val, by omega⟩)) := by
  rw [← gelu_at]
  pointwise [rightV]

theorem meanV_at (v : FVec Ideal S512x256 .f32) (r : Fin 512) :
    meanV v (ix2 r 0) = Ideal.div (∑ k : Fin 256, v (ix2 r k)) d256 := by
  pointwise [meanV, d256]

theorem centreV_at (v : FVec Ideal S512x256 .f32) (r : Fin 512) (j : Fin 256) :
    centreV v (ix2 r j) = centre d256 (fun k => v (ix2 r k)) j := by
  unfold centre
  rw [← meanV_at]
  pointwise [centreV]

theorem normV_at (v : FVec Ideal S512x256 .f32) (g b : Vec Ideal S1x256 .f32) (r : Fin 512) (j : Fin 256) :
    normV v g b (ix2 r j) = normal d256 (fun k => v (ix2 r k)) (fun k => g (ix2 0 k)) (fun k => b (ix2 0 k)) j := by
  have h : meanV (mulf (centreV v) (centreV v)) (ix2 r 0)
      = Ideal.div (∑ k, centre d256 (fun k => v (ix2 r k)) k * centre d256 (fun k => v (ix2 r k)) k) d256 := by
    rw [meanV_at]
    simp only [← centreV_at]
    rfl
  unfold normal
  rw [← h, ← centreV_at]
  pointwise [normV, eps]

theorem value_at (p : Vec Ideal S1x512x512 .f32) (g b : Vec Ideal S1x256 .f32) (r : Fin 512) (j : Fin 256) :
    k0_pay4 p g b (ix2 r j)
      = normal d256 (fun l : Fin 256 => gelu (p (ix3 0 r ⟨256 + l.val, by omega⟩))) (fun k => g (ix2 0 k)) (fun k => b (ix2 0 k)) j := by
  have h : k0_pay4 p g b = normV (rightV p) g b := rfl
  rw [h, normV_at]
  simp only [rightV_at]

/-- The mask of the lanes of the first of two groups. -/
theorem mask_at (r j : Fin 128) : k0_pay5 (F := Ideal) (ix2 r j) = if j.val < 64 then (1 : EReal) else 0 := by
  pointwise [k0_pay5]
  show (((BitVec.setWidth 32 (IntOp.cmpi CmpIPredicate.slt (BitVec.ofNat 32 j.val) 64#32)).toInt : ℝ) : EReal) = _
  rw [Cert.KernelIdeal.Trips.mask_word]
  split <;> simp

/-- A run's mix: its normed columns split by the mask, each part mixed by its group's weights. -/
def mix (v m : FVec Ideal S128x128 .f32) (w1 w2 : Vec Ideal S1x128x128 .f32) (b : Vec Ideal S128x128 .f32) :
    FVec Ideal S128x128 .f32 :=
  addf (addf
    (matmul dot_S128x128_S128x128_S128x128_1_0_0_1_n_n none
      (truncf .bf16 (shapeCast S128x128 w1 shapeCasts_S1x128x128_S128x128) bitsLt_bf16_f32)
      (truncf .bf16 (mulf v m) bitsLt_bf16_f32) (constant S128x128 .f32 0x00000000#32))
    (matmul dot_S128x128_S128x128_S128x128_1_0_0_1_n_n none
      (truncf .bf16 (shapeCast S128x128 w2 shapeCasts_S1x128x128_S128x128) bitsLt_bf16_f32)
      (truncf .bf16 (subf v (mulf v m)) bitsLt_bf16_f32) (constant S128x128 .f32 0x00000000#32)))
    (shapeCast S128x128 b shapeCasts_S128x128_S128x128)

/-- A run's gated columns. -/
def gated (u v m : FVec Ideal S128x128 .f32) (w1 w2 : Vec Ideal S1x128x128 .f32) (b : Vec Ideal S128x128 .f32) :
    FVec Ideal S128x128 .bf16 :=
  truncf .bf16 (mulf u (mix v m w1 w2 b)) bitsLt_bf16_f32

theorem gated_at (u v m : FVec Ideal S128x128 .f32) (w1 w2 : Vec Ideal S1x128x128 .f32) (b : Vec Ideal S128x128 .f32)
    (r j : Fin 128) :
    gated u v m w1 w2 b (ix2 r j)
      = u (ix2 r j) * ((∑ q : Fin 128, w1 (ix3 0 r q) * (v (ix2 q j) * m (ix2 q j)))
          + (∑ q : Fin 128, w2 (ix3 0 r q) * (v (ix2 q j) - v (ix2 q j) * m (ix2 q j))) + b (ix2 r j)) := by
  pointwise [gated, mix]

/-- A run of 128 rows of 128 columns. -/
theorem slice_at (v : FVec Ideal S512x256 .f32) (o0 o1 : ℕ) (h : S512x256.Slices ![o0, o1] S128x128) (h0 : o0 ≤ 384)
    (h1 : o1 ≤ 128) (q j : Fin 128) :
    extractStridedSlice S128x128 ![o0, o1] v h (ix2 q j) = v (ix2 ⟨o0 + q.val, by omega⟩ ⟨o1 + j.val, by omega⟩) := by
  show v _ = v _
  congr 1
  funext a
  match a with
  | ⟨0, _⟩ => rfl
  | ⟨1, _⟩ => rfl

/-- Two readings of the same element of the same run are the same. -/
theorem pick (A : Fin 4 → Fin 2 → FVec Ideal S128x128 .bf16) {c c' : Fin 4} {h h' : Fin 2} {a a' b b' : Fin 128}
    (e1 : c.val = c'.val) (e2 : h.val = h'.val) (e3 : a.val = a'.val) (e4 : b.val = b'.val) :
    A c h (ix2 a b) = A c' h' (ix2 a' b') := by
  obtain rfl := Fin.ext e1
  obtain rfl := Fin.ext e2
  obtain rfl := Fin.ext e3
  obtain rfl := Fin.ext e4
  rfl

/-- Four runs of two halves, joined. -/
def joined (A : Fin 4 → Fin 2 → FVec Ideal S128x128 .bf16) : FVec Ideal S512x256 .bf16 :=
  concatenate S512x256 0
    [⟨S128x256, concatenate S128x256 1 [⟨S128x128, A 0 0⟩, ⟨S128x128, A 0 1⟩] concatenates_S128x128_S128x128_S128x256_d1⟩,
     ⟨S128x256, concatenate S128x256 1 [⟨S128x128, A 1 0⟩, ⟨S128x128, A 1 1⟩] concatenates_S128x128_S128x128_S128x256_d1⟩,
     ⟨S128x256, concatenate S128x256 1 [⟨S128x128, A 2 0⟩, ⟨S128x128, A 2 1⟩] concatenates_S128x128_S128x128_S128x256_d1⟩,
     ⟨S128x256, concatenate S128x256 1 [⟨S128x128, A 3 0⟩, ⟨S128x128, A 3 1⟩] concatenates_S128x128_S128x128_S128x256_d1⟩]
    concatenates_S128x256_S128x256_S128x256_S128x256_S512x256_d0

theorem joined_at (A : Fin 4 → Fin 2 → FVec Ideal S128x128 .bf16) (r : Fin 512) (j : Fin 256) :
    joined A (ix2 r j)
      = A ⟨r.val / 128, by omega⟩ ⟨j.val / 128, by omega⟩
          (ix2 ⟨r.val % 128, Nat.mod_lt _ (by decide)⟩ ⟨j.val % 128, Nat.mod_lt _ (by decide)⟩) := by
  pointwise [joined]
  split_ifs <;> refine pick A ?_ ?_ ?_ ?_ <;> simp <;> omega

/-- The runs of a block, each half of its columns by the weights of its two groups. -/
def runs (u v : FVec Ideal S512x256 .f32) (ws : Vec Ideal S4x128x128 .f32) (b : Vec Ideal S128x256 .f32) :
    Fin 4 → Fin 2 → FVec Ideal S128x128 .bf16 :=
  ![![gated (extractStridedSlice S128x128 ![0, 0] u slices_S512x256_o0_0_S128x128)
        (extractStridedSlice S128x128 ![0, 0] v slices_S512x256_o0_0_S128x128) k0_pay5 (View.ld ws r0_2) (View.ld ws r0_3) (View.ld b r0_4),
      gated (extractStridedSlice S128x128 ![0, 128] u slices_S512x256_o0_128_S128x128)
        (extractStridedSlice S128x128 ![0, 128] v slices_S512x256_o0_128_S128x128) k0_pay5 (View.ld ws r0_5) (View.ld ws r0_6) (View.ld b r0_7)],
    ![gated (extractStridedSlice S128x128 ![128, 0] u slices_S512x256_o128_0_S128x128)
        (extractStridedSlice S128x128 ![128, 0] v slices_S512x256_o128_0_S128x128) k0_pay5 (View.ld ws r0_2) (View.ld ws r0_3) (View.ld b r0_4),
      gated (extractStridedSlice S128x128 ![128, 128] u slices_S512x256_o128_128_S128x128)
        (extractStridedSlice S128x128 ![128, 128] v slices_S512x256_o128_128_S128x128) k0_pay5 (View.ld ws r0_5) (View.ld ws r0_6) (View.ld b r0_7)],
    ![gated (extractStridedSlice S128x128 ![256, 0] u slices_S512x256_o256_0_S128x128)
        (extractStridedSlice S128x128 ![256, 0] v slices_S512x256_o256_0_S128x128) k0_pay5 (View.ld ws r0_2) (View.ld ws r0_3) (View.ld b r0_4),
      gated (extractStridedSlice S128x128 ![256, 128] u slices_S512x256_o256_128_S128x128)
        (extractStridedSlice S128x128 ![256, 128] v slices_S512x256_o256_128_S128x128) k0_pay5 (View.ld ws r0_5) (View.ld ws r0_6) (View.ld b r0_7)],
    ![gated (extractStridedSlice S128x128 ![384, 0] u slices_S512x256_o384_0_S128x128)
        (extractStridedSlice S128x128 ![384, 0] v slices_S512x256_o384_0_S128x128) k0_pay5 (View.ld ws r0_2) (View.ld ws r0_3) (View.ld b r0_4),
      gated (extractStridedSlice S128x128 ![384, 128] u slices_S512x256_o384_128_S128x128)
        (extractStridedSlice S128x128 ![384, 128] v slices_S512x256_o384_128_S128x128) k0_pay5 (View.ld ws r0_5) (View.ld ws r0_6) (View.ld b r0_7)]]

theorem weights_0 (ws : Vec Ideal S4x128x128 .f32) (r q : Fin 128) : View.ld ws r0_2 (ix3 0 r q) = ws (ix3 0 r q) := by
  show ws _ = ws _
  congr 1
  funext a
  match a with
  | ⟨0, _⟩ => exact Fin.ext (by show 0 + 1 * 0 = 0; rfl)
  | ⟨1, _⟩ => exact Fin.ext (by show 0 + 1 * r.val = r.val; omega)
  | ⟨2, _⟩ => exact Fin.ext (by show 0 + 1 * q.val = q.val; omega)

theorem weights_1 (ws : Vec Ideal S4x128x128 .f32) (r q : Fin 128) : View.ld ws r0_3 (ix3 0 r q) = ws (ix3 1 r q) := by
  show ws _ = ws _
  congr 1
  funext a
  match a with
  | ⟨0, _⟩ => exact Fin.ext (by show 1 + 1 * 0 = 1; rfl)
  | ⟨1, _⟩ => exact Fin.ext (by show 0 + 1 * r.val = r.val; omega)
  | ⟨2, _⟩ => exact Fin.ext (by show 0 + 1 * q.val = q.val; omega)

theorem weights_2 (ws : Vec Ideal S4x128x128 .f32) (r q : Fin 128) : View.ld ws r0_5 (ix3 0 r q) = ws (ix3 2 r q) := by
  show ws _ = ws _
  congr 1
  funext a
  match a with
  | ⟨0, _⟩ => exact Fin.ext (by show 2 + 1 * 0 = 2; rfl)
  | ⟨1, _⟩ => exact Fin.ext (by show 0 + 1 * r.val = r.val; omega)
  | ⟨2, _⟩ => exact Fin.ext (by show 0 + 1 * q.val = q.val; omega)

theorem weights_3 (ws : Vec Ideal S4x128x128 .f32) (r q : Fin 128) : View.ld ws r0_6 (ix3 0 r q) = ws (ix3 3 r q) := by
  show ws _ = ws _
  congr 1
  funext a
  match a with
  | ⟨0, _⟩ => exact Fin.ext (by show 3 + 1 * 0 = 3; rfl)
  | ⟨1, _⟩ => exact Fin.ext (by show 0 + 1 * r.val = r.val; omega)
  | ⟨2, _⟩ => exact Fin.ext (by show 0 + 1 * q.val = q.val; omega)

theorem bias_0 (b : Vec Ideal S128x256 .f32) (r j : Fin 128) : View.ld b r0_4 (ix2 r j) = b (ix2 r ⟨j.val, by omega⟩) := by
  show b _ = b _
  congr 1
  funext a
  match a with
  | ⟨0, _⟩ => exact Fin.ext (by show 0 + 1 * r.val = r.val; omega)
  | ⟨1, _⟩ => exact Fin.ext (by show 0 + 1 * j.val = j.val; omega)

theorem bias_1 (b : Vec Ideal S128x256 .f32) (r j : Fin 128) : View.ld b r0_7 (ix2 r j) = b (ix2 r ⟨128 + j.val, by omega⟩) := by
  show b _ = b _
  congr 1
  funext a
  match a with
  | ⟨0, _⟩ => exact Fin.ext (by show 0 + 1 * r.val = r.val; omega)
  | ⟨1, _⟩ => exact Fin.ext (by show 128 + 1 * j.val = 128 + j.val; omega)

/-- One run's half, whatever run and half it is. -/
theorem run_at (u v : FVec Ideal S512x256 .f32) (hv : ∀ r j, ∃ x : ℝ, v (ix2 r j) = (x : EReal))
    (w1 w2 : Vec Ideal S1x128x128 .f32) (bb : Vec Ideal S128x128 .f32)
    (ws : Vec Ideal S4x128x128 .f32) (b : Vec Ideal S128x256 .f32) (o0 o1 : ℕ)
    (h : S512x256.Slices ![o0, o1] S128x128) (h0 : o0 ≤ 384) (h1 : o1 ≤ 128) (g1 g2 : Fin 4)
    (hg1 : ∀ r q, w1 (ix3 0 r q) = ws (ix3 g1 r q)) (hg2 : ∀ r q, w2 (ix3 0 r q) = ws (ix3 g2 r q))
    (hb : ∀ r (j : Fin 128), bb (ix2 r j) = b (ix2 r ⟨o1 + j.val, by omega⟩))
    (e1 : 64 * g1.val = o1) (e2 : 64 * g2.val = o1 + 64) (r j : Fin 128) :
    gated (extractStridedSlice S128x128 ![o0, o1] u h) (extractStridedSlice S128x128 ![o0, o1] v h) k0_pay5 w1 w2 bb (ix2 r j)
      = u (ix2 ⟨o0 + r.val, by omega⟩ ⟨o1 + j.val, by omega⟩)
        * ((∑ q : Fin 128, ws (ix3 (grp ⟨o1 + j.val, by omega⟩) r q) * v (ix2 ⟨o0 + q.val, by omega⟩ ⟨o1 + j.val, by omega⟩))
            + b (ix2 r ⟨o1 + j.val, by omega⟩)) := by
  rw [gated_at]
  simp only [slice_at _ o0 o1 h h0 h1, hg1, hg2, hb, mask_at]
  rw [split_mix (fun q => ws (ix3 g1 r q)) (fun q => ws (ix3 g2 r q))
    (fun q => v (ix2 ⟨o0 + q.val, by omega⟩ ⟨o1 + j.val, by omega⟩)) (fun q => hv _ _) (j.val < 64) _ rfl]
  congr 2
  refine Finset.sum_congr rfl fun q _ => ?_
  congr 1
  have hgrp : grp ⟨o1 + j.val, by omega⟩ = if j.val < 64 then g1 else g2 := by
    refine Fin.ext ?_
    show (o1 + j.val) / 64 = _
    split <;> omega
  rw [hgrp]
  split <;> rfl

/-- A block's gated columns. -/
theorem runs_at (u v : FVec Ideal S512x256 .f32) (hv : ∀ r j, ∃ x : ℝ, v (ix2 r j) = (x : EReal))
    (ws : Vec Ideal S4x128x128 .f32) (b : Vec Ideal S128x256 .f32) (c : Fin 4) (h : Fin 2) (r j : Fin 128) :
    runs u v ws b c h (ix2 r j)
      = u (ix2 ⟨128 * c.val + r.val, by omega⟩ ⟨128 * h.val + j.val, by omega⟩)
        * ((∑ q : Fin 128, ws (ix3 (grp ⟨128 * h.val + j.val, by omega⟩) r q)
              * v (ix2 ⟨128 * c.val + q.val, by omega⟩ ⟨128 * h.val + j.val, by omega⟩))
            + b (ix2 r ⟨128 * h.val + j.val, by omega⟩)) := by
  have b0 : ∀ r (j : Fin 128), View.ld b r0_4 (ix2 r j) = b (ix2 r ⟨0 + j.val, by omega⟩) := fun r j => by
    rw [bias_0]; congr 2; exact Fin.ext (Nat.zero_add _).symm
  have left : ∀ o0 (hs : S512x256.Slices ![o0, 0] S128x128) (h0 : o0 ≤ 384), _ := fun o0 hs h0 =>
    run_at u v hv (View.ld ws r0_2) (View.ld ws r0_3) (View.ld b r0_4) ws b o0 0 hs h0 (by decide) 0 1 (weights_0 ws) (weights_1 ws)
      b0 rfl rfl r j
  have right : ∀ o0 (hs : S512x256.Slices ![o0, 128] S128x128) (h0 : o0 ≤ 384), _ := fun o0 hs h0 =>
    run_at u v hv (View.ld ws r0_5) (View.ld ws r0_6) (View.ld b r0_7) ws b o0 128 hs h0 (by decide) 2 3 (weights_2 ws) (weights_3 ws)
      (bias_1 b) rfl rfl r j
  match c, h with
  | ⟨0, _⟩, ⟨0, _⟩ => exact left 0 _ (by decide)
  | ⟨1, _⟩, ⟨0, _⟩ => exact left 128 _ (by decide)
  | ⟨2, _⟩, ⟨0, _⟩ => exact left 256 _ (by decide)
  | ⟨3, _⟩, ⟨0, _⟩ => exact left 384 _ (by decide)
  | ⟨0, _⟩, ⟨1, _⟩ => exact right 0 _ (by decide)
  | ⟨1, _⟩, ⟨1, _⟩ => exact right 128 _ (by decide)
  | ⟨2, _⟩, ⟨1, _⟩ => exact right 256 _ (by decide)
  | ⟨3, _⟩, ⟨1, _⟩ => exact right 384 _ (by decide)

theorem block_gate_at (u v : FVec Ideal S512x256 .f32) (hv : ∀ r j, ∃ x : ℝ, v (ix2 r j) = (x : EReal))
    (ws : Vec Ideal S4x128x128 .f32) (b : Vec Ideal S128x256 .f32) (r : Fin 512) (j : Fin 256) :
    joined (runs u v ws b) (ix2 r j)
      = u (ix2 r j)
        * ((∑ q : Fin 128, ws (ix3 (grp j) ⟨r.val % 128, Nat.mod_lt _ (by decide)⟩ q)
              * v (ix2 ⟨128 * (r.val / 128) + q.val, by omega⟩ j))
            + b (ix2 ⟨r.val % 128, Nat.mod_lt _ (by decide)⟩ j)) := by
  have hr : (⟨128 * (r.val / 128) + r.val % 128, by omega⟩ : Fin 512) = r := Fin.ext (Nat.div_add_mod r.val 128)
  have hj : (⟨128 * (j.val / 128) + j.val % 128, by omega⟩ : Fin 256) = j := Fin.ext (Nat.div_add_mod j.val 128)
  rw [joined_at, runs_at u v hv]
  simp only [hr, hj]

/-! ## The stream, its norm and the experts' weights -/

/-- The stream before its norm. -/
def streamV (gt : FVec Ideal S512x256 .bf16) (a : Vec Ideal S1x512x768 .bf16) (wa : Vec Ideal S768x1024 .bf16)
    (wb : Vec Ideal S256x1024 .bf16) (x : Vec Ideal S1x512x1024 .f32) (gm : Vec Ideal S1x1x1024 .f32) : FVec Ideal S512x1024 .f32 :=
  addf (mulf (broadcast S512x1024 (Scalar.ofBits .f32 0x3FD744FD#32)) (shapeCast S512x1024 x shapeCasts_S1x512x1024_S512x1024))
    (mulf (broadcastTo S512x1024 (shapeCast S1x1024 gm shapeCasts_S1x1x1024_S1x1024) broadcasts_S1x1024_S512x1024)
      (addf (matmul (φ₁ := .bf16) (φ₂ := .bf16) dot_S512x768_S768x1024_S512x1024_1_0_0_1_n_n none (shapeCast S512x768 a shapeCasts_S1x512x768_S512x768)
          (shapeCast S768x1024 wa shapeCasts_S768x1024_S768x1024) (constant S512x1024 .f32 0x00000000#32))
        (matmul (φ₁ := .bf16) (φ₂ := .bf16) dot_S512x256_S256x1024_S512x1024_1_0_0_1_n_n none gt (shapeCast S256x1024 wb shapeCasts_S256x1024_S256x1024)
          (constant S512x1024 .f32 0x00000000#32))))

theorem streamV_at (gt : FVec Ideal S512x256 .bf16) (a : Vec Ideal S1x512x768 .bf16) (wa : Vec Ideal S768x1024 .bf16)
    (wb : Vec Ideal S256x1024 .bf16) (x : Vec Ideal S1x512x1024 .f32) (gm : Vec Ideal S1x1x1024 .f32) (r : Fin 512) (k : Fin 1024) :
    streamV gt a wa wb x gm (ix2 r k)
      = Ideal.ofBits .f32 0x3FD744FD#32 * x (ix3 0 r k)
        + gm (ix3 0 0 k) * ((∑ l : Fin 768, a (ix3 0 r l) * wa (ix2 l k)) + ∑ j : Fin 256, gt (ix2 r j) * wb (ix2 j k)) := by
  pointwise [streamV]

/-- The mean of 1024 columns. -/
def meanZ (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- The stream less its mean. -/
def centreZ (z : FVec Ideal S512x1024 .f32) : FVec Ideal S512x1024 .f32 :=
  subf z (broadcastTo S512x1024 (meanZ z) broadcasts_S512x1_S512x1024)

/-- The stream after its norm. -/
def normZ (z : FVec Ideal S512x1024 .f32) (g b : Vec Ideal S1x1024 .f32) : FVec Ideal S512x1024 .f32 :=
  addf (mulf (mulf (centreZ z) (broadcastTo S512x1024
      (rsqrt (addf (meanZ (mulf (centreZ z) (centreZ z))) (broadcast S512x1 (Scalar.ofBits .f32 0x3727C5AC#32))))
      broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem meanZ_at (z : FVec Ideal S512x1024 .f32) (r : Fin 512) :
    meanZ z (ix2 r 0) = Ideal.div (∑ k : Fin 1024, z (ix2 r k)) d1024 := by
  pointwise [meanZ, d1024]

theorem centreZ_at (z : FVec Ideal S512x1024 .f32) (r : Fin 512) (j : Fin 1024) :
    centreZ z (ix2 r j) = centre d1024 (fun k => z (ix2 r k)) j := by
  unfold centre
  rw [← meanZ_at]
  pointwise [centreZ]

theorem normZ_at (z : FVec Ideal S512x1024 .f32) (g b : Vec Ideal S1x1024 .f32) (r : Fin 512) (j : Fin 1024) :
    normZ z g b (ix2 r j) = normal d1024 (fun k => z (ix2 r k)) (fun k => g (ix2 0 k)) (fun k => b (ix2 0 k)) j := by
  have h : meanZ (mulf (centreZ z) (centreZ z)) (ix2 r 0)
      = Ideal.div (∑ k, centre d1024 (fun k => z (ix2 r k)) k * centre d1024 (fun k => z (ix2 r k)) k) d1024 := by
    rw [meanZ_at]
    simp only [← centreZ_at]
    rfl
  unfold normal
  rw [← h, ← centreZ_at]
  pointwise [normZ, eps]

/-- The rows the experts read. -/
def hiddenZ (xn : FVec Ideal S512x1024 .f32) (sc sh : Vec Ideal S1x1x1024 .f32) : FVec Ideal S512x1024 .f32 :=
  addf (mulf xn (broadcastTo S512x1024 (addf (broadcast S1x1024 (Scalar.ofBits .f32 0x3F800000#32))
      (shapeCast S1x1024 sc shapeCasts_S1x1x1024_S1x1024)) broadcasts_S1x1024_S512x1024))
    (broadcastTo S512x1024 (shapeCast S1x1024 sh shapeCasts_S1x1x1024_S1x1024) broadcasts_S1x1024_S512x1024)

theorem hiddenZ_at (xn : FVec Ideal S512x1024 .f32) (sc sh : Vec Ideal S1x1x1024 .f32) (r : Fin 512) (k : Fin 1024) :
    hiddenZ xn sc sh (ix2 r k) = xn (ix2 r k) * (one + sc (ix3 0 0 k)) + sh (ix3 0 0 k) := by
  pointwise [hiddenZ, one]

/-- The scores of the experts, by expert and row. -/
def logitZ (h : FVec Ideal S512x1024 .f32) (wr : Vec Ideal S16x1024 .f32) : FVec Ideal S16x512 .f32 :=
  matmul (φ₁ := .f32) (φ₂ := .f32) dot_S16x1024_S512x1024_S16x512_1_1_0_0_n_n (some .fp32) (shapeCast S16x1024 wr shapeCasts_S16x1024_S16x1024) h
    (constant S16x512 .f32 0x00000000#32)

theorem logitZ_at (h : FVec Ideal S512x1024 .f32) (wr : Vec Ideal S16x1024 .f32) (e : Fin 16) (r : Fin 512) :
    logitZ h wr (ix2 e r) = ∑ k : Fin 1024, h (ix2 r k) * wr (ix2 e k) := by
  pointwise [logitZ]
  exact Finset.sum_congr rfl fun k _ => mul_comm _ _

/-- The largest score of each row. -/
def topZ (l : FVec Ideal S16x512 .f32) : FVec Ideal S512 .f32 :=
  multiReduction .maximumf [0] S512 l 0xFF800000#32 reduces_S16x512_S512 (.inl rfl) rfl

theorem topZ_at (l : FVec Ideal S16x512 .f32) (r : Fin 512) : topZ l (ix1 r) = top1 fun e : Fin 16 => l (ix2 e r) := by
  unfold topZ
  refine (Idealize.ShloMosaic.multiReduction_maximumf_eq_fold l _ _ _ _ _).trans ?_
  refine (Shape.Reduces.fold_fiber_r2_a0 _ (ix1 r) max _ l).trans ?_
  rw [← fold_max_eq, ← Cert.ReferenceIdeal.Stages.bot_word]
  rfl

/-- The exponentials of the scores less the row's largest. -/
def expZ (l : FVec Ideal S16x512 .f32) : FVec Ideal S16x512 .f32 :=
  exp (subf l (broadcastTo S16x512 (shapeCast S1x512 (topZ l) shapeCasts_S512_S1x512) broadcasts_S1x512_S16x512))

theorem expZ_at (l : FVec Ideal S16x512 .f32) (e : Fin 16) (r : Fin 512) :
    expZ l (ix2 e r) = Ideal.exp (l (ix2 e r) - top1 fun e : Fin 16 => l (ix2 e r)) := by
  rw [← topZ_at]
  pointwise [expZ]

/-- The experts' weights. -/
def softZ (x : FVec Ideal S16x512 .f32) : FVec Ideal S1x16x512 .f32 :=
  shapeCast S1x16x512 (divf x (broadcastTo S16x512 (shapeCast S1x512
    (multiReduction .add [0] S512 x 0x00000000#32 reduces_S16x512_S512 (.inl rfl) rfl) shapeCasts_S512_S1x512)
    broadcasts_S1x512_S16x512)) shapeCasts_S16x512_S1x16x512

theorem softZ_at (l : FVec Ideal S16x512 .f32) (e : Fin 16) (r : Fin 512) :
    softZ (expZ l) (ix3 0 e r) = soft (fun e : Fin 16 => l (ix2 e r)) e := by
  unfold soft
  simp only [← expZ_at]
  pointwise [softZ]

end Cert.Kernel5Ideal.Rows

end
-- ==== Proof.RouteStored.lean ====
module

public import proofs.«01_k».proof.Proof.RouteBlock

@[expose] public section

/-! # What the odd layers' output kernel stores of a block

The three stored blocks, as the values of the block they are computed from. -/

set_option maxRecDepth 16384

noncomputable section

namespace Cert.Kernel5Ideal.Rows

open Cert.Kernel5Ideal Cert.Kernel5Ideal.Gen Idealize.ShloMosaic Idealize.ShloMosaic.TcCoe Cert.Route

/-! A load of a whole block is the block. -/

theorem load_0 (x : Vec Ideal S1x512x512 .f32) : View.ld x r0_0 = x :=
  View.ld_unit_zero (S := S1x512x512) (off := ![0, 0, 0]) (by funext a; fin_cases a <;> rfl) _ x
theorem load_1 (x : Vec Ideal S1x256 .f32) : View.ld x r0_1 = x :=
  View.ld_unit_zero (S := S1x256) (off := ![0, 0]) (by funext a; fin_cases a <;> rfl) _ x
theorem load_8 (x : Vec Ideal S1x512x768 .bf16) : View.ld x r0_8 = x :=
  View.ld_unit_zero (S := S1x512x768) (off := ![0, 0, 0]) (by funext a; fin_cases a <;> rfl) _ x
theorem load_9 (x : Vec Ideal S768x1024 .bf16) : View.ld x r0_9 = x :=
  View.ld_unit_zero (S := S768x1024) (off := ![0, 0]) (by funext a; fin_cases a <;> rfl) _ x
theorem load_10 (x : Vec Ideal S256x1024 .bf16) : View.ld x r0_10 = x :=
  View.ld_unit_zero (S := S256x1024) (off := ![0, 0]) (by funext a; fin_cases a <;> rfl) _ x
theorem load_11 (x : Vec Ideal S1x512x1024 .f32) : View.ld x r0_11 = x :=
  View.ld_unit_zero (S := S1x512x1024) (off := ![0, 0, 0]) (by funext a; fin_cases a <;> rfl) _ x
theorem load_12 (x : Vec Ideal S1x1x1024 .f32) : View.ld x r0_12 = x :=
  View.ld_unit_zero (S := S1x1x1024) (off := ![0, 0, 0]) (by funext a; fin_cases a <;> rfl) _ x
theorem load_13 (x : Vec Ideal S1x1024 .f32) : View.ld x r0_13 = x :=
  View.ld_unit_zero (S := S1x1024) (off := ![0, 0]) (by funext a; fin_cases a <;> rfl) _ x
theorem load_14 (x : Vec Ideal S16x1024 .f32) : View.ld x r0_14 = x :=
  View.ld_unit_zero (S := S16x1024) (off := ![0, 0]) (by funext a; fin_cases a <;> rfl) _ x

variable (x0 : Vec Ideal S1x512x768 .bf16) (x1 : Vec Ideal S1x512x512 .f32) (x2 x3 : Vec Ideal S1x256 .f32)
  (x4 : Vec Ideal S4x128x128 .f32) (x5 : Vec Ideal S128x256 .f32) (x6 : Vec Ideal S768x1024 .bf16)
  (x7 : Vec Ideal S256x1024 .bf16) (x8 : Vec Ideal S1x512x1024 .f32) (x9 : Vec Ideal S1x1x1024 .f32)
  (x10 x11 : Vec Ideal S1x1024 .f32) (x12 x13 : Vec Ideal S1x1x1024 .f32) (x14 : Vec Ideal S16x1024 .f32)

/-- The block's gated columns. -/
def gateB : FVec Ideal S512x256 .bf16 := joined (runs (k0_pay3 x1) (k0_pay4 x1 x2 x3) x4 x5)

/-- The block's stream before its norm. -/
def streamB : FVec Ideal S512x1024 .f32 := streamV (gateB x1 x2 x3 x4 x5) x0 x6 x7 x8 x9

/-- The block's stream. -/
def normB : FVec Ideal S512x1024 .f32 := normZ (streamB x0 x1 x2 x3 x4 x5 x6 x7 x8 x9) x10 x11

/-- The block's rows for the experts. -/
def hiddenB : FVec Ideal S512x1024 .f32 := hiddenZ (normB x0 x1 x2 x3 x4 x5 x6 x7 x8 x9 x10 x11) x12 x13

/-- The stored stream. -/
theorem stored_norm : out0_15 x0 x1 x2 x3 x4 x5 x6 x7 x8 x9 x10 x11 x12 x13 x14
    = shapeCast S1x512x1024 (normB x0 x1 x2 x3 x4 x5 x6 x7 x8 x9 x10 x11) shapeCasts_S512x1024_S1x512x1024 := by
  unfold out0_15
  rw [View.canon_unit_zero (by funext a; fin_cases a <;> rfl)]
  refine Eq.trans (b := shapeCast S1x512x1024 (normB (View.ld x0 r0_8) (View.ld x1 r0_0) (View.ld x2 r0_1) (View.ld x3 r0_1) x4 x5
    (View.ld x6 r0_9) (View.ld x7 r0_10) (View.ld x8 r0_11) (View.ld x9 r0_12) (View.ld x10 r0_13) (View.ld x11 r0_13))
    shapeCasts_S512x1024_S1x512x1024) rfl ?_
  rw [load_8, load_0, load_1, load_1, load_9, load_10, load_11, load_12, load_13, load_13]

/-- The stored rows for the experts. -/
theorem stored_hidden : out0_16 x0 x1 x2 x3 x4 x5 x6 x7 x8 x9 x10 x11 x12 x13 x14
    = shapeCast S1x512x1024 (truncf .bf16 (hiddenB x0 x1 x2 x3 x4 x5 x6 x7 x8 x9 x10 x11 x12 x13) bitsLt_bf16_f32)
        shapeCasts_S512x1024_S1x512x1024 := by
  unfold out0_16
  rw [View.canon_unit_zero (by funext a; fin_cases a <;> rfl)]
  refine Eq.trans (b := shapeCast S1x512x1024 (truncf .bf16 (hiddenB (View.ld x0 r0_8) (View.ld x1 r0_0) (View.ld x2 r0_1) (View.ld x3 r0_1) x4 x5
    (View.ld x6 r0_9) (View.ld x7 r0_10) (View.ld x8 r0_11) (View.ld x9 r0_12) (View.ld x10 r0_13) (View.ld x11 r0_13)
    (View.ld x12 r0_12) (View.ld x13 r0_12)) bitsLt_bf16_f32) shapeCasts_S512x1024_S1x512x1024) rfl ?_
  rw [load_8, load_0, load_1, load_1, load_9, load_10, load_11, load_12, load_13, load_13, load_12, load_12]

/-- The stored experts' weights. -/
theorem stored_routed : out0_17 x0 x1 x2 x3 x4 x5 x6 x7 x8 x9 x10 x11 x12 x13 x14
    = softZ (expZ (logitZ (hiddenB x0 x1 x2 x3 x4 x5 x6 x7 x8 x9 x10 x11 x12 x13) x14)) := by
  unfold out0_17
  rw [View.canon_unit_zero (by funext a; fin_cases a <;> rfl)]
  refine Eq.trans (b := softZ (expZ (logitZ (hiddenB (View.ld x0 r0_8) (View.ld x1 r0_0) (View.ld x2 r0_1) (View.ld x3 r0_1) x4 x5
    (View.ld x6 r0_9) (View.ld x7 r0_10) (View.ld x8 r0_11) (View.ld x9 r0_12) (View.ld x10 r0_13) (View.ld x11 r0_13)
    (View.ld x12 r0_12) (View.ld x13 r0_12)) (View.ld x14 r0_14)))) rfl ?_
  rw [load_8, load_0, load_1, load_1, load_9, load_10, load_11, load_12, load_13, load_13, load_12, load_12, load_14]

/-- A block with an axis of one element in front, read past it. -/
theorem front_at (v : FVec Ideal S512x1024 .f32) (r : Fin 512) (k : Fin 1024) :
    shapeCast S1x512x1024 v shapeCasts_S512x1024_S1x512x1024 (ix3 0 r k) = v (ix2 r k) := by
  pointwise []

theorem front_half_at (v : FVec Ideal S512x1024 .f32) (r : Fin 512) (k : Fin 1024) :
    shapeCast S1x512x1024 (truncf .bf16 v bitsLt_bf16_f32) shapeCasts_S512x1024_S1x512x1024 (ix3 0 r k) = v (ix2 r k) := by
  pointwise []

end Cert.Kernel5Ideal.Rows

end
-- ==== Proof.RouteWindows.lean ====
module

public import proofs.«01_k».proof.Proof.RouteBlock
public import Idealize.ShloMosaic.Lib.Pipeline.ValueKit
public import Idealize.ShloMosaic.Lib.StableHlo.RunRead

@[expose] public section

/-! # The blocks the odd layers' output kernel reads

At the point of batch `b` and row block `j` the kernel reads rows `512 j + r` of batch `b`, the batch's
vectors and the whole weights: the launched arguments, some of them reshaped, sliced or transposed first. -/

set_option maxRecDepth 16384

noncomputable section

namespace Cert.Kernel5Ideal.Rows

open Cert.Kernel5Ideal Cert.Kernel5Ideal.Gen Idealize.ShloMosaic Idealize.ShloMosaic.TcCoe Cert.Route

/-- The batch of a grid point. -/
def bt (t : Fin cfg0.N) : Fin 4 := ⟨(grid0.coords t 0).val, (grid0.coords t 0).isLt⟩

/-- Row `r` of a grid point's block, counted in the array. -/
def rw_ (t : Fin cfg0.N) (r : Fin 512) : Fin 8192 :=
  ⟨512 * (grid0.coords t 1).val + r.val, by
    have h : (grid0.coords t 1).val < 16 := (grid0.coords t 1).isLt
    have := r.isLt
    omega⟩

/-- The block a grid point's windows stand at, along each axis. -/
theorem idx (t : Fin cfg0.N) :
    win0_0.index t = ![(grid0.coords t 0).val, (grid0.coords t 1).val, 0]
    ∧ win0_1.index t = ![(grid0.coords t 0).val, (grid0.coords t 1).val, 0]
    ∧ win0_2.index t = ![0, 0]
    ∧ win0_3.index t = ![0, 0]
    ∧ win0_4.index t = ![0, 0, 0]
    ∧ win0_5.index t = ![0, 0]
    ∧ win0_6.index t = ![0, 0]
    ∧ win0_7.index t = ![0, 0]
    ∧ win0_8.index t = ![(grid0.coords t 0).val, (grid0.coords t 1).val, 0]
    ∧ win0_9.index t = ![(grid0.coords t 0).val, 0, 0]
    ∧ win0_10.index t = ![0, 0]
    ∧ win0_11.index t = ![0, 0]
    ∧ win0_12.index t = ![(grid0.coords t 0).val, 0, 0]
    ∧ win0_13.index t = ![(grid0.coords t 0).val, 0, 0]
    ∧ win0_14.index t = ![0, 0]
    ∧ win0_15.index t = ![(grid0.coords t 0).val, (grid0.coords t 1).val, 0]
    ∧ win0_16.index t = ![(grid0.coords t 0).val, (grid0.coords t 1).val, 0]
    ∧ win0_17.index t = ![(grid0.coords t 0).val, 0, (grid0.coords t 1).val] := by
  have h0 : ((grid0.coords t 0).val : ℕ) % 2 ^ 32 = (grid0.coords t 0).val :=
    Nat.mod_eq_of_lt (lt_of_lt_of_le (grid0.coords t 0).isLt (by decide))
  have h1 : ((grid0.coords t 1).val : ℕ) % 2 ^ 32 = (grid0.coords t 1).val :=
    Nat.mod_eq_of_lt (lt_of_lt_of_le (grid0.coords t 1).isLt (by decide))
  refine ⟨?_, ?_, ?_, ?_, ?_, ?_, ?_, ?_, ?_, ?_, ?_, ?_, ?_, ?_, ?_, ?_, ?_, ?_⟩ <;> (funext a; fin_cases a)
  all_goals (first | rfl | exact h0 | exact h1)

variable (m : (ℓ : Loc nD τ sig) → Buf (Elt Ideal) ℓ) (c : Dev nD) (t : Fin cfg0.N)

/-- The kernel's arguments, by their indices. -/
def args : Args :=
  Args.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13))

theorem v0_eq : V m c main_v0 = truncf (F := Ideal) .bf16 (m ((c : Thread nD τ).loc main_arg0)) bitsLt_bf16_f32 := by
  show StableHlo.after hostOps0 (fun b => m (c, b)) (Proc.devRef .tc main_v0) = _
  after_reads_simp
theorem v2_eq : V m c main_v2 = transpose S16x1024 [1, 0] (m ((c : Thread nD τ).loc main_arg13) : S1024x16.Idx → EReal)
    transposes_S1024x16_S16x1024_1_0 := by
  show StableHlo.after hostOps0 (fun b => m (c, b)) (Proc.devRef .tc main_v2) = _
  after_reads_simp
theorem v3_eq : V m c main_v3 = extractStridedSlice S768x1024 ![0, 0]
    (truncf (F := Ideal) .bf16 (m ((c : Thread nD τ).loc main_arg6)) bitsLt_bf16_f32) slices_S1024x1024_S768x1024_0_0 := by
  show StableHlo.after hostOps0 (fun b => m (c, b)) (Proc.devRef .tc main_v3) = _
  after_reads_simp
theorem v4_eq : V m c main_v4 = extractStridedSlice S256x1024 ![768, 0]
    (truncf (F := Ideal) .bf16 (m ((c : Thread nD τ).loc main_arg6)) bitsLt_bf16_f32) slices_S1024x1024_S256x1024_768_0 := by
  show StableHlo.after hostOps0 (fun b => m (c, b)) (Proc.devRef .tc main_v4) = _
  after_reads_simp
theorem v5_eq : V m c main_v5 = shapeCast S1x256 (m ((c : Thread nD τ).loc main_arg2) : S256.Idx → EReal) shapeCasts_S256_S1x256 := by
  show StableHlo.after hostOps0 (fun b => m (c, b)) (Proc.devRef .tc main_v5) = _
  after_reads_simp; rfl
theorem v6_eq : V m c main_v6 = shapeCast S1x256 (m ((c : Thread nD τ).loc main_arg3) : S256.Idx → EReal) shapeCasts_S256_S1x256 := by
  show StableHlo.after hostOps0 (fun b => m (c, b)) (Proc.devRef .tc main_v6) = _
  after_reads_simp; rfl
theorem v7_eq : V m c main_v7 = shapeCast S1x1024 (m ((c : Thread nD τ).loc main_arg9) : S1024.Idx → EReal) shapeCasts_S1024_S1x1024 := by
  show StableHlo.after hostOps0 (fun b => m (c, b)) (Proc.devRef .tc main_v7) = _
  after_reads_simp; rfl
theorem v8_eq : V m c main_v8 = shapeCast S1x1024 (m ((c : Thread nD τ).loc main_arg10) : S1024.Idx → EReal) shapeCasts_S1024_S1x1024 := by
  show StableHlo.after hostOps0 (fun b => m (c, b)) (Proc.devRef .tc main_v8) = _
  after_reads_simp; rfl
theorem v11_eq : V m c main_v11 = shapeCast S128x256 (broadcastInDim S128x4x64 ![0, 1] bcast_S128x4_S128x4x64_0_1
    (transpose S128x4 [1, 0] (m ((c : Thread nD τ).loc main_arg5) : S4x128.Idx → EReal) transposes_S4x128_S128x4_1_0))
    shapeCasts_S128x4x64_S128x256 := by
  show StableHlo.after hostOps0 (fun b => m (c, b)) (Proc.devRef .tc main_v11) = _
  after_reads_simp; rfl

theorem att_at (r : Fin 512) (l : Fin 768) :
    (iblk m c 0 t : S1x512x768.Idx → EReal) (ix3 0 r l) = (args m c).att (bt t) (rw_ t r) l := by
  have e : (iblk m c 0 t : S1x512x768.Idx → EReal) (ix3 0 r l) = (V m c main_v0 : S4x8192x768.Idx → EReal) (ix3 (bt t) (rw_ t r) l) := by
    blk_ext! [iblk, idx t, bt, rw_]
  rw [e, v0_eq]; rfl

theorem cols_at (r : Fin 512) (l : Fin 512) :
    (iblk m c 1 t : S1x512x512.Idx → EReal) (ix3 0 r l) = (args m c).p (bt t) (rw_ t r) l := by
  have e : (iblk m c 1 t : S1x512x512.Idx → EReal) (ix3 0 r l) = (m ((c : Thread nD τ).loc main_arg1) : S4x8192x512.Idx → EReal) (ix3 (bt t) (rw_ t r) l) := by
    blk_ext! [iblk, V, idx t, bt, rw_]
  exact e

theorem gain_at (j : Fin 256) : (iblk m c 2 t : S1x256.Idx → EReal) (ix2 0 j) = (args m c).g j := by
  have e : (iblk m c 2 t : S1x256.Idx → EReal) (ix2 0 j) = (V m c main_v5 : S1x256.Idx → EReal) (ix2 0 j) := by
    blk_ext! [iblk, idx t]
  rw [e, v5_eq]
  pointwise []
  rfl

theorem offset_at (j : Fin 256) : (iblk m c 3 t : S1x256.Idx → EReal) (ix2 0 j) = (args m c).b j := by
  have e : (iblk m c 3 t : S1x256.Idx → EReal) (ix2 0 j) = (V m c main_v6 : S1x256.Idx → EReal) (ix2 0 j) := by
    blk_ext! [iblk, idx t]
  rw [e, v6_eq]
  pointwise []
  rfl

theorem mixes_at (g : Fin 4) (r q : Fin 128) : (iblk m c 4 t : S4x128x128.Idx → EReal) (ix3 g r q) = (args m c).ws g r q := by
  have e : (iblk m c 4 t : S4x128x128.Idx → EReal) (ix3 g r q) = (m ((c : Thread nD τ).loc main_arg4) : S4x128x128.Idx → EReal) (ix3 g r q) := by
    blk_ext! [iblk, V, idx t]
  exact e

/-- The bias, spread over the columns of its group. -/
theorem spread_at (x : S4x128.Idx → EReal) (r : Fin 128) (j : Fin 256) :
    shapeCast S128x256 (broadcastInDim S128x4x64 ![0, 1] bcast_S128x4_S128x4x64_0_1
      (transpose S128x4 [1, 0] x transposes_S4x128_S128x4_1_0)) shapeCasts_S128x4x64_S128x256 (ix2 r j) = x (ix2 (grp j) r) := by
  pointwise [grp]

theorem biases_at (r : Fin 128) (j : Fin 256) : (iblk m c 5 t : S128x256.Idx → EReal) (ix2 r j) = (args m c).bs (grp j) r := by
  have e : (iblk m c 5 t : S128x256.Idx → EReal) (ix2 r j) = (V m c main_v11 : S128x256.Idx → EReal) (ix2 r j) := by
    blk_ext! [iblk, idx t]
  rw [e, v11_eq]
  exact spread_at _ r j

theorem upper_at (l : Fin 768) (k : Fin 1024) :
    (iblk m c 6 t : S768x1024.Idx → EReal) (ix2 l k) = (args m c).w ⟨l.val, by omega⟩ k := by
  have e : (iblk m c 6 t : S768x1024.Idx → EReal) (ix2 l k) = (V m c main_v3 : S768x1024.Idx → EReal) (ix2 l k) := by
    blk_ext! [iblk, idx t]
  rw [e, v3_eq]
  pointwise []
  rfl

theorem lower_at (j : Fin 256) (k : Fin 1024) :
    (iblk m c 7 t : S256x1024.Idx → EReal) (ix2 j k) = (args m c).w ⟨768 + j.val, by omega⟩ k := by
  have e : (iblk m c 7 t : S256x1024.Idx → EReal) (ix2 j k) = (V m c main_v4 : S256x1024.Idx → EReal) (ix2 j k) := by
    blk_ext! [iblk, idx t]
  rw [e, v4_eq]
  pointwise []
  rfl

theorem rows_at (r : Fin 512) (k : Fin 1024) :
    (iblk m c 8 t : S1x512x1024.Idx → EReal) (ix3 0 r k) = (args m c).x (bt t) (rw_ t r) k := by
  have e : (iblk m c 8 t : S1x512x1024.Idx → EReal) (ix3 0 r k) = (m ((c : Thread nD τ).loc main_arg7) : S4x8192x1024.Idx → EReal) (ix3 (bt t) (rw_ t r) k) := by
    blk_ext! [iblk, V, idx t, bt, rw_]
  exact e

theorem factor_at (k : Fin 1024) : (iblk m c 9 t : S1x1x1024.Idx → EReal) (ix3 0 0 k) = (args m c).gm (bt t) k := by
  have e : (iblk m c 9 t : S1x1x1024.Idx → EReal) (ix3 0 0 k) = (m ((c : Thread nD τ).loc main_arg8) : S4x1x1024.Idx → EReal) (ix3 (bt t) 0 k) := by
    blk_ext! [iblk, V, idx t, bt]
  exact e

theorem normGain_at (k : Fin 1024) : (iblk m c 10 t : S1x1024.Idx → EReal) (ix2 0 k) = (args m c).lg k := by
  have e : (iblk m c 10 t : S1x1024.Idx → EReal) (ix2 0 k) = (V m c main_v7 : S1x1024.Idx → EReal) (ix2 0 k) := by
    blk_ext! [iblk, idx t]
  rw [e, v7_eq]
  pointwise []
  rfl

theorem normOffset_at (k : Fin 1024) : (iblk m c 11 t : S1x1024.Idx → EReal) (ix2 0 k) = (args m c).lb k := by
  have e : (iblk m c 11 t : S1x1024.Idx → EReal) (ix2 0 k) = (V m c main_v8 : S1x1024.Idx → EReal) (ix2 0 k) := by
    blk_ext! [iblk, idx t]
  rw [e, v8_eq]
  pointwise []
  rfl

theorem scale_at (k : Fin 1024) : (iblk m c 12 t : S1x1x1024.Idx → EReal) (ix3 0 0 k) = (args m c).sc (bt t) k := by
  have e : (iblk m c 12 t : S1x1x1024.Idx → EReal) (ix3 0 0 k) = (m ((c : Thread nD τ).loc main_arg11) : S4x1x1024.Idx → EReal) (ix3 (bt t) 0 k) := by
    blk_ext! [iblk, V, idx t, bt]
  exact e

theorem shift_at (k : Fin 1024) : (iblk m c 13 t : S1x1x1024.Idx → EReal) (ix3 0 0 k) = (args m c).sh (bt t) k := by
  have e : (iblk m c 13 t : S1x1x1024.Idx → EReal) (ix3 0 0 k) = (m ((c : Thread nD τ).loc main_arg12) : S4x1x1024.Idx → EReal) (ix3 (bt t) 0 k) := by
    blk_ext! [iblk, V, idx t, bt]
  exact e

theorem router_at (e : Fin 16) (k : Fin 1024) : (iblk m c 14 t : S16x1024.Idx → EReal) (ix2 e k) = (args m c).wr k e := by
  have h : (iblk m c 14 t : S16x1024.Idx → EReal) (ix2 e k) = (V m c main_v2 : S16x1024.Idx → EReal) (ix2 e k) := by
    blk_ext! [iblk, idx t]
  rw [h, v2_eq]
  pointwise []
  rfl

end Cert.Kernel5Ideal.Rows

end
-- ==== Proof.RouteValue.lean ====
module

public import proofs.«01_k».proof.Defs
public import proofs.«01_k».proof.Proof.RouteReference
public import proofs.«01_k».proof.Proof.RouteStored
public import proofs.«01_k».proof.Proof.RouteWindows
public import proofs.«01_k».proof.Proof.Gen.Pre_gate_finite
public import Idealize.ShloMosaic.Lib.Pipeline.ValueKit
public import Idealize.ShloMosaic.Lib.Pipeline.Covers
public import Idealize.ShloMosaic.Lib.Claim

@[expose] public section

/-! # The odd layers' output kernel's three arrays

The blocks the grid points store are the residual stream, the rows for the experts and their weights, block
by block; so the arrays are the reference's. -/

set_option maxRecDepth 16384

noncomputable section

namespace Cert.Kernel5Ideal.Rows

open Cert.Kernel5Ideal Cert.Kernel5Ideal.Gen Idealize.ShloMosaic Idealize.ShloMosaic.TcCoe Idealize.SL.Sem Cert.Route

variable (m : (ℓ : Loc nD τ sig) → Buf (Elt Ideal) ℓ) (c : Dev nD)

/-- What the precondition gives: the gain and offset of the gate's norm are real numbers. -/
def Reals : Prop :=
  (∀ j, ∃ r : ℝ, (args m c).g j = (r : EReal)) ∧ ∀ j, ∃ r : ℝ, (args m c).b j = (r : EReal)

theorem reals (h : Cert.Pre_Kernel5Ideal_gate_finite m) : Reals m c := by
  obtain ⟨h2, h3⟩ := h c
  exact ⟨fun j => Cert.Attn.real_of _ h2 (ix1 j), fun j => Cert.Attn.real_of _ h3 (ix1 j)⟩

variable {m c}

/-- A row's place in its run, counted in the block. -/
theorem place_block (t : Fin cfg0.N) (r : Fin 512) : place (rw_ t r) = ⟨r.val % 128, Nat.mod_lt _ (by decide)⟩ := by
  refine Fin.ext ?_
  show (512 * (grid0.coords t 1).val + r.val) % 128 = r.val % 128
  omega

/-- A run's row, counted in the block. -/
theorem near_block (t : Fin cfg0.N) (r : Fin 512) (q : Fin 128) :
    near (rw_ t r) q = rw_ t ⟨128 * (r.val / 128) + q.val, by omega⟩ := by
  refine Fin.ext ?_
  show 128 * ((512 * (grid0.coords t 1).val + r.val) / 128) + q.val = 512 * (grid0.coords t 1).val + (128 * (r.val / 128) + q.val)
  omega

theorem value_block (t : Fin cfg0.N) (r : Fin 512) (j : Fin 256) :
    k0_pay4 (iblk m c 1 t) (iblk m c 2 t) (iblk m c 3 t) (ix2 r j) = value (args m c) (bt t) (rw_ t r) j := by
  rw [value_at]
  simp only [cols_at, gain_at, offset_at]
  rfl

theorem gate_block (h : Reals m c) (t : Fin cfg0.N) (r : Fin 512) (j : Fin 256) :
    gateB (iblk m c 1 t) (iblk m c 2 t) (iblk m c 3 t) (iblk m c 4 t) (iblk m c 5 t) (ix2 r j)
      = gate (args m c) (bt t) (rw_ t r) j := by
  unfold gateB
  rw [block_gate_at _ _ (fun r j => by
    rw [value_block]
    exact value_real _ h.1 h.2 _ _ _)]
  unfold gate
  simp only [left_at, cols_at, mixes_at, biases_at, value_block, place_block, near_block]

theorem stream_block (h : Reals m c) (t : Fin cfg0.N) (r : Fin 512) (k : Fin 1024) :
    streamB (iblk m c 0 t) (iblk m c 1 t) (iblk m c 2 t) (iblk m c 3 t) (iblk m c 4 t) (iblk m c 5 t) (iblk m c 6 t) (iblk m c 7 t)
        (iblk m c 8 t) (iblk m c 9 t) (ix2 r k)
      = stream (args m c) (bt t) (rw_ t r) k := by
  unfold streamB
  rw [streamV_at]
  unfold stream
  simp only [rows_at, factor_at, att_at, upper_at, gate_block h, lower_at]

theorem norm_block (h : Reals m c) (t : Fin cfg0.N) (r : Fin 512) (k : Fin 1024) :
    normB (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 r k)
      = normed (args m c) (bt t) (rw_ t r) k := by
  unfold normB
  rw [normZ_at]
  unfold normed
  simp only [stream_block h, normGain_at, normOffset_at]

theorem hidden_block (h : Reals m c) (t : Fin cfg0.N) (r : Fin 512) (k : Fin 1024) :
    hiddenB (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 r k)
      = hidden (args m c) (bt t) (rw_ t r) k := by
  unfold hiddenB
  rw [hiddenZ_at, norm_block h, scale_at, shift_at]
  rfl

/-- What a grid point leaves in its block of the stream. -/
theorem norm_left (h : Reals m c) (t : Fin cfg0.N) (r : Fin 512) (k : Fin 1024) :
    out0_15 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix3 0 r k)
      = normed (args m c) (bt t) (rw_ t r) k := by
  rw [stored_norm, front_at]
  exact norm_block h t r k

/-- What a grid point leaves in its block of the rows for the experts. -/
theorem hidden_left (h : Reals m c) (t : Fin cfg0.N) (r : Fin 512) (k : Fin 1024) :
    out0_16 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix3 0 r k)
      = hidden (args m c) (bt t) (rw_ t r) k := by
  rw [stored_hidden, front_half_at]
  exact hidden_block h t r k

/-- What a grid point leaves in its block of the experts' weights. -/
theorem routed_left (h : Reals m c) (t : Fin cfg0.N) (e : Fin 16) (r : Fin 512) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix3 0 e r)
      = routed (args m c) (bt t) (rw_ t r) e := by
  rw [stored_routed, softZ_at]
  simp only [logitZ_at, hidden_block h, router_at]
  rfl

/-- The point whose blocks are the `i`, `j`-th of the results. -/
def point (i : Fin 4) (j : Fin 16) : grid0.Coords
  | ⟨0, _⟩ => ⟨i.val, i.isLt⟩
  | ⟨1, _⟩ => ⟨j.val, j.isLt⟩

/-- The stream's blocks are all stored. -/
theorem covers_norm : (cfg0.win 15).Covers :=
  (cfg0.win 15).covers_of_indexMap_surj rfl (by decide) fun β =>
    ⟨point ⟨(β ⟨0, by decide⟩).val, lt_of_lt_of_eq (β ⟨0, by decide⟩).isLt (by decide : (cfg0.win 15).nblk ⟨0, by decide⟩ = 4)⟩
      ⟨(β ⟨1, by decide⟩).val, lt_of_lt_of_eq (β ⟨1, by decide⟩).isLt (by decide : (cfg0.win 15).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 15).nblk ⟨2, by decide⟩ = 1))).symm⟩

/-- The blocks of the rows for the experts are all stored. -/
theorem covers_hidden : (cfg0.win 16).Covers :=
  (cfg0.win 16).covers_of_indexMap_surj rfl (by decide) fun β =>
    ⟨point ⟨(β ⟨0, by decide⟩).val, lt_of_lt_of_eq (β ⟨0, by decide⟩).isLt (by decide : (cfg0.win 16).nblk ⟨0, by decide⟩ = 4)⟩
      ⟨(β ⟨1, by decide⟩).val, lt_of_lt_of_eq (β ⟨1, by decide⟩).isLt (by decide : (cfg0.win 16).nblk ⟨1, by decide⟩ = 16)⟩,
     fun a => by
      match a with
      | ⟨0, _⟩ => exact Nat.mod_eq_of_lt (lt_of_lt_of_le (β ⟨0, by decide⟩).isLt (by decide))
      | ⟨1, _⟩ => exact Nat.mod_eq_of_lt (lt_of_lt_of_le (β ⟨1, by decide⟩).isLt (by decide))
      | ⟨2, _⟩ => exact (Nat.lt_one_iff.mp (lt_of_lt_of_eq (β ⟨2, by decide⟩).isLt (by decide : (cfg0.win 16).nblk ⟨2, by decide⟩ = 1))).symm⟩

/-- The blocks of the experts' weights are all stored. -/
theorem covers_routed : (cfg0.win 17).Covers :=
  (cfg0.win 17).covers_of_indexMap_surj rfl (by decide) fun β =>
    ⟨point ⟨(β ⟨0, by decide⟩).val, lt_of_lt_of_eq (β ⟨0, by decide⟩).isLt (by decide : (cfg0.win 17).nblk ⟨0, by decide⟩ = 4)⟩
      ⟨(β ⟨2, by decide⟩).val, lt_of_lt_of_eq (β ⟨2, by decide⟩).isLt (by decide : (cfg0.win 17).nblk ⟨2, by decide⟩ = 16)⟩,
     fun a => by
      match a with
      | ⟨0, _⟩ => exact Nat.mod_eq_of_lt (lt_of_lt_of_le (β ⟨0, by decide⟩).isLt (by decide))
      | ⟨1, _⟩ => exact (Nat.lt_one_iff.mp (lt_of_lt_of_eq (β ⟨1, by decide⟩).isLt (by decide : (cfg0.win 17).nblk ⟨1, by decide⟩ = 1))).symm
      | ⟨2, _⟩ => exact Nat.mod_eq_of_lt (lt_of_lt_of_le (β ⟨2, by decide⟩).isLt (by decide))⟩

variable (m c)

/-- The residual stream. -/
def normA : S4x8192x1024.Idx → EReal := fun i => normed (args m c) (i 0) (i 1) (i 2)

/-- The rows for the experts. -/
def hiddenA : S4x8192x1024.Idx → EReal := fun i => hidden (args m c) (i 0) (i 1) (i 2)

/-- The experts' weights. -/
def routedA : S4x16x8192.Idx → EReal := fun i => routed (args m c) (i 0) (i 2) (i 1)

variable {m c}

/-- Two indices name every element of a block of rows. -/
theorem block_idx {n1 n2 : ℕ} (y : (⟨3, ![1, n1, n2]⟩ : Shape).Idx) : y = ix3 0 (y 1) (y 2) := by
  funext a
  match a with
  | ⟨0, _⟩ => exact Subsingleton.elim (α := Fin 1) _ _
  | ⟨1, _⟩ => rfl
  | ⟨2, _⟩ => rfl

theorem final_norm (h : Reals m c) : (dats m 0 c).arrAt 15 cfg0.N = normA m c := by
  refine (dats m 0 c).arrAt_eq_of_covers 15 _ covers_norm fun t hf y => ?_
  blk_simp
  rw [after0_15]
  obtain ⟨r, k, rfl⟩ : ∃ (r : Fin 512) (k : Fin 1024), y = (ix3 0 r k : S1x512x1024.Idx) := ⟨_, _, block_idx (n1 := 512) (n2 := 1024) y⟩
  refine (norm_left h t r k).trans ?_
  have hp : (((cfg0.win 15).blk t).view.emb (ix3 0 r k : S1x512x1024.Idx) : S4x8192x1024.Idx) = ix3 (bt t) (rw_ t r) k := by
    blk_ext [idx t, bt, rw_]
  exact (congrArg (normA m c) hp).symm

theorem final_hidden (h : Reals m c) : (dats m 0 c).arrAt 16 cfg0.N = hiddenA m c := by
  refine (dats m 0 c).arrAt_eq_of_covers 16 _ covers_hidden fun t hf y => ?_
  blk_simp
  rw [after0_16]
  obtain ⟨r, k, rfl⟩ : ∃ (r : Fin 512) (k : Fin 1024), y = (ix3 0 r k : S1x512x1024.Idx) := ⟨_, _, block_idx (n1 := 512) (n2 := 1024) y⟩
  refine (hidden_left h t r k).trans ?_
  have hp : (((cfg0.win 16).blk t).view.emb (ix3 0 r k : S1x512x1024.Idx) : S4x8192x1024.Idx) = ix3 (bt t) (rw_ t r) k := by
    blk_ext [idx t, bt, rw_]
  exact (congrArg (hiddenA m c) hp).symm

theorem final_routed (h : Reals m c) : (dats m 0 c).arrAt 17 cfg0.N = routedA m c := by
  refine (dats m 0 c).arrAt_eq_of_covers 17 _ covers_routed fun t hf y => ?_
  blk_simp
  rw [after0_17]
  obtain ⟨e, r, rfl⟩ : ∃ (e : Fin 16) (r : Fin 512), y = (ix3 0 e r : S1x16x512.Idx) := ⟨_, _, block_idx (n1 := 16) (n2 := 512) y⟩
  refine (routed_left h t e r).trans ?_
  have hp : (((cfg0.win 17).blk t).view.emb (ix3 0 e r : S1x16x512.Idx) : S4x16x8192.Idx) = ix3 (bt t) e (rw_ t r) := by
    blk_ext [idx t, bt, rw_]
  exact (congrArg (routedA m c) hp).symm

end Cert.Kernel5Ideal.Rows

namespace Cert.Proof

open Idealize.ShloMosaic Idealize.ShloMosaic.TcCoe Idealize.SL.Sem Cert.Route

section

open Cert.Kernel5Ideal Cert.Kernel5Ideal.Gen Cert.Kernel5Ideal.Rows

/-- The kernel's run, its three arrays and its arguments. -/
theorem route_run (m : (ℓ : Loc nD τ sig) → Buf (Elt Ideal) ℓ) (ρ : Dev nD → PrngReg) (hr : ∀ c, Reals m c) :
    θ_run (defs (F := Ideal)) (onTc (τ := τ) (main (F := Ideal))) ⟨m, fun _ => 0, ρ⟩ fun r => ∀ c : Dev nD,
      r.2.mem ((c.tc : Thread nD τ).loc main_v12_0) = normA m c
      ∧ r.2.mem ((c.tc : Thread nD τ).loc main_v12_1) = hiddenA m c
      ∧ r.2.mem ((c.tc : Thread nD τ).loc main_v12_2) = routedA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run _ _ _).mono (fun _ h c => ⟨((h c).1 15).trans (final_norm (hr c)), ((h c).1 16).trans (final_hidden (hr c)),
      ((h c).1 17).trans (final_routed (hr c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 12).trans (((dats m 0 c).arrAt_in 12 rfl _).trans ((A_eq m c 12).trans (V_main_arg11 m c))),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c)⟩) (run_main m ρ)

end

/-- The kernel and the reference leave the same three arrays. -/
theorem algebraic_route : Cert.algebraic_Kernel5Ideal_Reference5Ideal_pre_gate_finite := by
  intro m g m' g' hpre hm
  refine ⟨fun c => Cert.Kernel5Ideal.Rows.normA m c, fun c => Cert.Kernel5Ideal.Rows.hiddenA m c,
    fun c => Cert.Kernel5Ideal.Rows.routedA m c, route_run m g fun c => Cert.Kernel5Ideal.Rows.reals m c hpre, ?_⟩
  refine θ_run_mono (Cert.Reference5Ideal.Stages.run_entries m' g') fun r h c => ?_
  have e : Cert.Reference5Ideal.Stages.args m' c = Cert.Kernel5Ideal.Rows.args m c := by
    obtain ⟨h0, h1, h2, h3, h4, h5, h6, h7, h8, h9, h10, h11, h12, h13⟩ := hm c
    unfold Cert.Reference5Ideal.Stages.args Cert.Kernel5Ideal.Rows.args
    rw [h0, h1, h2, h3, h4, h5, h6, h7, h8, h9, h10, h11, h12, h13]
  have hc := h c
  rw [e] at hc
  exact hc

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference2Ideal.Run
public import proofs.«01_k».proof.Proof.Gen.Reference3Ideal.Run
public import proofs.«01_k».proof.Proof.Gen.ReferenceIdeal.Run
public import proofs.«01_k».proof.Proof.Gen.ReferenceIdeal
public import proofs.«01_k».proof.Proof.Gen.Pre_finite
public import proofs.«01_k».proof.Proof.Gen.Pre_gate_finite
public import proofs.«01_k».proof.Proof.Final
public import proofs.«01_k».proof.Proof.Even
public import proofs.«01_k».proof.Proof.Odd
public import proofs.«01_k».proof.Proof.GatherBits
public import proofs.«01_k».proof.Proof.GatherReference
public import proofs.«01_k».proof.Proof.GatherValue
public import proofs.«01_k».proof.Proof.RouteValue
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The even projection's reference runs and leaves its arguments as they were. -/
theorem even_frame : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The odd projection's reference runs and leaves its arguments as they were. -/
theorem odd_frame : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The feed-forward's reference runs and leaves its arguments as they were. -/
theorem gather_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The odd layers' output's reference runs and leaves its arguments as they were. -/
theorem route_frame : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_starting.Gen.facts, Cert.Pre_routed.Gen.facts, Cert.Pre_gate_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  even_frame,
  fun m ρ _ => Cert.Kernel3.Gen.frame m ρ,
  fun m ρ _ => Cert.Kernel3Ideal.Gen.frame m ρ,
  odd_frame,
  Gather.quiescent_bits,
  Gather.quiescent_ideal,
  Gather.quiescent_routed,
  gather_frame,
  fun m ρ _ => gather_frame m ρ trivial,
  fun m ρ _ => Cert.Kernel5.Gen.frame m ρ,
  fun m ρ _ => Cert.Kernel5Ideal.Gen.frame m ρ,
  fun m ρ _ => Cert.Kernel5Ideal.Gen.frame m ρ,
  route_frame,
  fun m ρ _ => route_frame m ρ trivial,
  IdealRules.named_const.statement Cert.KernelIdeal.κ "qscale" .f32 0x3E38AA3B#32 (((8 * (Real.log 2))⁻¹ : ℝ) : EReal) rfl,
  algebraic,
  trivial,
  algebraic_even,
  trivial,
  algebraic_odd,
  trivial,
  algebraic_gather,
  trivial,
  algebraic_route⟩

end Cert.Proof

end
